-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxRefIdeal (m : (ℓ : Loc Cert.FfnInDxRefIdeal.nD Cert.FfnInDxRefIdeal.τ Cert.FfnInDxRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwRefIdeal (m : (ℓ : Loc Cert.FfnOutDwRefIdeal.nD Cert.FfnOutDwRefIdeal.τ Cert.FfnOutDwRefIdeal.sig) → Buf (Elt Ideal) ℓ) : Prop :=
  True

def Pre_FfnOutDx (m : (ℓ : Loc Cert.FfnOutDx.nD Cert.FfnOutDx.τ Cert.FfnOutDx.sig) → Buf (Elt Bits) ℓ) : Prop :=
  True

def Pre_FfnOutDxIdeal (m : (ℓ : Loc Cert.FfnOutDxIdeal.nD Cert.FfnOutDxIdeal.τ Cert.FfnOutDxIdeal.sig) → Buf (Elt Ideal) ℓ) : Prop :=
  True

def Pre_FfnOutDxRefIdeal (m : (ℓ : Loc Cert.FfnOutDxRefIdeal.nD Cert.FfnOutDxRefIdeal.τ Cert.FfnOutDxRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_InZ (m : (ℓ : Loc Cert.InZ.nD Cert.InZ.τ Cert.InZ.sig) → Buf (Elt Bits) ℓ) : Prop :=
  True

def Pre_InZIdeal (m : (ℓ : Loc Cert.InZIdeal.nD Cert.InZIdeal.τ Cert.InZIdeal.sig) → Buf (Elt Ideal) ℓ) : Prop :=
  True

def Pre_InZRefIdeal (m : (ℓ : Loc Cert.InZRefIdeal.nD Cert.InZRefIdeal.τ Cert.InZRefIdeal.sig) → Buf (Elt Ideal) ℓ) : Prop :=
  True

def Pre_InXbc (m : (ℓ : Loc Cert.InXbc.nD Cert.InXbc.τ Cert.InXbc.sig) → Buf (Elt Bits) ℓ) : Prop :=
  True

def Pre_InXbcIdeal (m : (ℓ : Loc Cert.InXbcIdeal.nD Cert.InXbcIdeal.τ Cert.InXbcIdeal.sig) → Buf (Elt Ideal) ℓ) : Prop :=
  True

def Pre_InXbcRefIdeal (m : (ℓ : Loc Cert.InXbcRefIdeal.nD Cert.InXbcRefIdeal.τ Cert.InXbcRefIdeal.sig) → Buf (Elt Ideal) ℓ) : Prop :=
  True

def Pre_InQkv (m : (ℓ : Loc Cert.InQkv.nD Cert.InQkv.τ Cert.InQkv.sig) → Buf (Elt Bits) ℓ) : Prop :=
  True

def Pre_InQkvIdeal (m : (ℓ : Loc Cert.InQkvIdeal.nD Cert.InQkvIdeal.τ Cert.InQkvIdeal.sig) → Buf (Elt Ideal) ℓ) : Prop :=
  True

def Pre_InQkvRefIdeal (m : (ℓ : Loc Cert.InQkvRefIdeal.nD Cert.InQkvRefIdeal.τ Cert.InQkvRefIdeal.sig) → Buf (Elt Ideal) ℓ) : Prop :=
  True

def Pre_InU (m : (ℓ : Loc Cert.InU.nD Cert.InU.τ Cert.InU.sig) → Buf (Elt Bits) ℓ) : Prop :=
  True

def Pre_InUIdeal (m : (ℓ : Loc Cert.InUIdeal.nD Cert.InUIdeal.τ Cert.InUIdeal.sig) → Buf (Elt Ideal) ℓ) : Prop :=
  True

def Pre_InURefIdeal (m : (ℓ : Loc Cert.InURefIdeal.nD Cert.InURefIdeal.τ Cert.InURefIdeal.sig) → Buf (Elt Ideal) ℓ) : Prop :=
  True

def Pre_InG (m : (ℓ : Loc Cert.InG.nD Cert.InG.τ Cert.InG.sig) → Buf (Elt Bits) ℓ) : Prop :=
  True

def Pre_InGIdeal (m : (ℓ : Loc Cert.InGIdeal.nD Cert.InGIdeal.τ Cert.InGIdeal.sig) → Buf (Elt Ideal) ℓ) : Prop :=
  True

def Pre_InGRefIdeal (m : (ℓ : Loc Cert.InGRefIdeal.nD Cert.InGRefIdeal.τ Cert.InGRefIdeal.sig) → Buf (Elt Ideal) ℓ) : Prop :=
  True

def Pre_InSm (m : (ℓ : Loc Cert.InSm.nD Cert.InSm.τ Cert.InSm.sig) → Buf (Elt Bits) ℓ) : Prop :=
  True

def Pre_InSmIdeal (m : (ℓ : Loc Cert.InSmIdeal.nD Cert.InSmIdeal.τ Cert.InSmIdeal.sig) → Buf (Elt Ideal) ℓ) : Prop :=
  True

def Pre_InSmRefIdeal (m : (ℓ : Loc Cert.InSmRefIdeal.nD Cert.InSmRefIdeal.τ Cert.InSmRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_BranchDx (m : (ℓ : Loc Cert.BranchDx.nD Cert.BranchDx.τ Cert.BranchDx.sig) → Buf (Elt Bits) ℓ) : Prop :=
  True

def Pre_BranchDxIdeal (m : (ℓ : Loc Cert.BranchDxIdeal.nD Cert.BranchDxIdeal.τ Cert.BranchDxIdeal.sig) → Buf (Elt Ideal) ℓ) : Prop :=
  True

def Pre_BranchDxRefIdeal (m : (ℓ : Loc Cert.BranchDxRefIdeal.nD Cert.BranchDxRefIdeal.τ Cert.BranchDxRefIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwRefIdeal (m : (ℓ : Loc Cert.BranchDwRefIdeal.nD Cert.BranchDwRefIdeal.τ Cert.BranchDwRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxRefIdeal (m : (ℓ : Loc Cert.OutProjDxRefIdeal.nD Cert.OutProjDxRefIdeal.τ Cert.OutProjDxRefIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwRefIdeal (m : (ℓ : Loc Cert.OutProjDwRefIdeal.nD Cert.OutProjDwRefIdeal.τ Cert.OutProjDwRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ r.2.sem = fun _ => 0)

def quiescent_FfnInDxRefIdeal [hFfnInDxRefIdeal : Cert.FfnInDxRefIdeal.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ r.2.sem = fun _ => 0)

def quiescent_FfnOutDwRefIdeal [hFfnOutDwRefIdeal : Cert.FfnOutDwRefIdeal.Facts] : Prop :=
  ∀ (m : (ℓ : Loc Cert.FfnOutDwRefIdeal.nD Cert.FfnOutDwRefIdeal.τ Cert.FfnOutDwRefIdeal.sig) → Buf (Elt Ideal) ℓ) (g : Dev Cert.FfnOutDwRefIdeal.nD → PrngReg), Pre_FfnOutDwRefIdeal m →
    θ_run (Cert.FfnOutDwRefIdeal.defs (F := Ideal)) (onTc (τ := Cert.FfnOutDwRefIdeal.τ) (Cert.FfnOutDwRefIdeal.main (F := Ideal))) ⟨m, fun _ => 0, g⟩ (fun r => (∀ c : Dev Cert.FfnOutDwRefIdeal.nD,
      r.2.mem ((c.tc : Thread Cert.FfnOutDwRefIdeal.nD Cert.FfnOutDwRefIdeal.τ).loc Cert.FfnOutDwRefIdeal.main_arg0) = m ((c.tc : Thread Cert.FfnOutDwRefIdeal.nD Cert.FfnOutDwRefIdeal.τ).loc Cert.FfnOutDwRefIdeal.main_arg0)
      ∧ r.2.mem ((c.tc : Thread Cert.FfnOutDwRefIdeal.nD Cert.FfnOutDwRefIdeal.τ).loc Cert.FfnOutDwRefIdeal.main_arg1) = m ((c.tc : Thread Cert.FfnOutDwRefIdeal.nD Cert.FfnOutDwRefIdeal.τ).loc Cert.FfnOutDwRefIdeal.main_arg1))
      ∧ r.2.sem = fun _ => 0)

def quiescent_FfnOutDx [hFfnOutDx : Cert.FfnOutDx.Facts] : Prop :=
  ∀ (m : (ℓ : Loc Cert.FfnOutDx.nD Cert.FfnOutDx.τ Cert.FfnOutDx.sig) → Buf (Elt Bits) ℓ) (g : Dev Cert.FfnOutDx.nD → PrngReg), Pre_FfnOutDx m →
    θ_run (Cert.FfnOutDx.defs (F := Bits)) (onTc (τ := Cert.FfnOutDx.τ) (Cert.FfnOutDx.main (F := Bits))) ⟨m, fun _ => 0, g⟩ (fun r => (∀ c : Dev Cert.FfnOutDx.nD,
      r.2.mem ((c.tc : Thread Cert.FfnOutDx.nD Cert.FfnOutDx.τ).loc Cert.FfnOutDx.main_arg0) = m ((c.tc : Thread Cert.FfnOutDx.nD Cert.FfnOutDx.τ).loc Cert.FfnOutDx.main_arg0)
      ∧ r.2.mem ((c.tc : Thread Cert.FfnOutDx.nD Cert.FfnOutDx.τ).loc Cert.FfnOutDx.main_arg1) = m ((c.tc : Thread Cert.FfnOutDx.nD Cert.FfnOutDx.τ).loc Cert.FfnOutDx.main_arg1))
      ∧ r.2.sem = fun _ => 0)

def quiescent_FfnOutDxIdeal [hFfnOutDxIdeal : Cert.FfnOutDxIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg), Pre_FfnOutDxIdeal m →
    θ_run (Cert.FfnOutDxIdeal.defs (F := Ideal)) (onTc (τ := Cert.FfnOutDxIdeal.τ) (Cert.FfnOutDxIdeal.main (F := Ideal))) ⟨m, fun _ => 0, g⟩ (fun r => (∀ c : Dev Cert.FfnOutDxIdeal.nD,
      r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
      ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1))
      ∧ r.2.sem = fun _ => 0)

def quiescent_FfnOutDxRefIdeal [hFfnOutDxRefIdeal : Cert.FfnOutDxRefIdeal.Facts] : Prop :=
  ∀ (m : (ℓ : Loc Cert.FfnOutDxRefIdeal.nD Cert.FfnOutDxRefIdeal.τ Cert.FfnOutDxRefIdeal.sig) → Buf (Elt Ideal) ℓ) (g : Dev Cert.FfnOutDxRefIdeal.nD → PrngReg), Pre_FfnOutDxRefIdeal m →
    θ_run (Cert.FfnOutDxRefIdeal.defs (F := Ideal)) (onTc (τ := Cert.FfnOutDxRefIdeal.τ) (Cert.FfnOutDxRefIdeal.main (F := Ideal))) ⟨m, fun _ => 0, g⟩ (fun r => (∀ c : Dev Cert.FfnOutDxRefIdeal.nD,
      r.2.mem ((c.tc : Thread Cert.FfnOutDxRefIdeal.nD Cert.FfnOutDxRefIdeal.τ).loc Cert.FfnOutDxRefIdeal.main_arg0) = m ((c.tc : Thread Cert.FfnOutDxRefIdeal.nD Cert.FfnOutDxRefIdeal.τ).loc Cert.FfnOutDxRefIdeal.main_arg0)
      ∧ r.2.mem ((c.tc : Thread Cert.FfnOutDxRefIdeal.nD Cert.FfnOutDxRefIdeal.τ).loc Cert.FfnOutDxRefIdeal.main_arg1) = m ((c.tc : Thread Cert.FfnOutDxRefIdeal.nD Cert.FfnOutDxRefIdeal.τ).loc Cert.FfnOutDxRefIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2))
      ∧ r.2.sem = fun _ => 0)

def quiescent_InZ [hInZ : Cert.InZ.Facts] : Prop :=
  ∀ (m : (ℓ : Loc Cert.InZ.nD Cert.InZ.τ Cert.InZ.sig) → Buf (Elt Bits) ℓ) (g : Dev Cert.InZ.nD → PrngReg), Pre_InZ m →
    θ_run (Cert.InZ.defs (F := Bits)) (onTc (τ := Cert.InZ.τ) (Cert.InZ.main (F := Bits))) ⟨m, fun _ => 0, g⟩ (fun r => (∀ c : Dev Cert.InZ.nD,
      r.2.mem ((c.tc : Thread Cert.InZ.nD Cert.InZ.τ).loc Cert.InZ.main_arg0) = m ((c.tc : Thread Cert.InZ.nD Cert.InZ.τ).loc Cert.InZ.main_arg0)
      ∧ r.2.mem ((c.tc : Thread Cert.InZ.nD Cert.InZ.τ).loc Cert.InZ.main_arg1) = m ((c.tc : Thread Cert.InZ.nD Cert.InZ.τ).loc Cert.InZ.main_arg1))
      ∧ r.2.sem = fun _ => 0)

def quiescent_InZIdeal [hInZIdeal : Cert.InZIdeal.Facts] : Prop :=
  ∀ (m : (ℓ : Loc Cert.InZIdeal.nD Cert.InZIdeal.τ Cert.InZIdeal.sig) → Buf (Elt Ideal) ℓ) (g : Dev Cert.InZIdeal.nD → PrngReg), Pre_InZIdeal m →
    θ_run (Cert.InZIdeal.defs (F := Ideal)) (onTc (τ := Cert.InZIdeal.τ) (Cert.InZIdeal.main (F := Ideal))) ⟨m, fun _ => 0, g⟩ (fun r => (∀ c : Dev Cert.InZIdeal.nD,
      r.2.mem ((c.tc : Thread Cert.InZIdeal.nD Cert.InZIdeal.τ).loc Cert.InZIdeal.main_arg0) = m ((c.tc : Thread Cert.InZIdeal.nD Cert.InZIdeal.τ).loc Cert.InZIdeal.main_arg0)
      ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ r.2.sem = fun _ => 0)

def quiescent_InZRefIdeal [hInZRefIdeal : Cert.InZRefIdeal.Facts] : Prop :=
  ∀ (m : (ℓ : Loc Cert.InZRefIdeal.nD Cert.InZRefIdeal.τ Cert.InZRefIdeal.sig) → Buf (Elt Ideal) ℓ) (g : Dev Cert.InZRefIdeal.nD → PrngReg), Pre_InZRefIdeal m →
    θ_run (Cert.InZRefIdeal.defs (F := Ideal)) (onTc (τ := Cert.InZRefIdeal.τ) (Cert.InZRefIdeal.main (F := Ideal))) ⟨m, fun _ => 0, g⟩ (fun r => (∀ c : Dev Cert.InZRefIdeal.nD,
      r.2.mem ((c.tc : Thread Cert.InZRefIdeal.nD Cert.InZRefIdeal.τ).loc Cert.InZRefIdeal.main_arg0) = m ((c.tc : Thread Cert.InZRefIdeal.nD Cert.InZRefIdeal.τ).loc Cert.InZRefIdeal.main_arg0)
      ∧ r.2.mem ((c.tc : Thread Cert.InZRefIdeal.nD Cert.InZRefIdeal.τ).loc Cert.InZRefIdeal.main_arg1) = m ((c.tc : Thread Cert.InZRefIdeal.nD Cert.InZRefIdeal.τ).loc Cert.InZRefIdeal.main_arg1))
      ∧ r.2.sem = fun _ => 0)

def quiescent_InXbc [hInXbc : Cert.InXbc.Facts] : Prop :=
  ∀ (m : (ℓ : Loc Cert.InXbc.nD Cert.InXbc.τ Cert.InXbc.sig) → Buf (Elt Bits) ℓ) (g : Dev Cert.InXbc.nD → PrngReg), Pre_InXbc m →
    θ_run (Cert.InXbc.defs (F := Bits)) (onTc (τ := Cert.InXbc.τ) (Cert.InXbc.main (F := Bits))) ⟨m, fun _ => 0, g⟩ (fun r => (∀ c : Dev Cert.InXbc.nD,
      r.2.mem ((c.tc : Thread Cert.InXbc.nD Cert.InXbc.τ).loc Cert.InXbc.main_arg0) = m ((c.tc : Thread Cert.InXbc.nD Cert.InXbc.τ).loc Cert.InXbc.main_arg0)
      ∧ r.2.mem ((c.tc : Thread Cert.InXbc.nD Cert.InXbc.τ).loc Cert.InXbc.main_arg1) = m ((c.tc : Thread Cert.InXbc.nD Cert.InXbc.τ).loc Cert.InXbc.main_arg1))
      ∧ r.2.sem = fun _ => 0)

def quiescent_InXbcIdeal [hInXbcIdeal : Cert.InXbcIdeal.Facts] : Prop :=
  ∀ (m : (ℓ : Loc Cert.InXbcIdeal.nD Cert.InXbcIdeal.τ Cert.InXbcIdeal.sig) → Buf (Elt Ideal) ℓ) (g : Dev Cert.InXbcIdeal.nD → PrngReg), Pre_InXbcIdeal m →
    θ_run (Cert.InXbcIdeal.defs (F := Ideal)) (onTc (τ := Cert.InXbcIdeal.τ) (Cert.InXbcIdeal.main (F := Ideal))) ⟨m, fun _ => 0, g⟩ (fun r => (∀ c : Dev Cert.InXbcIdeal.nD,
      r.2.mem ((c.tc : Thread Cert.InXbcIdeal.nD Cert.InXbcIdeal.τ).loc Cert.InXbcIdeal.main_arg0) = m ((c.tc : Thread Cert.InXbcIdeal.nD Cert.InXbcIdeal.τ).loc Cert.InXbcIdeal.main_arg0)
      ∧ r.2.mem ((c.tc : Thread Cert.InXbcIdeal.nD Cert.InXbcIdeal.τ).loc Cert.InXbcIdeal.main_arg1) = m ((c.tc : Thread Cert.InXbcIdeal.nD Cert.InXbcIdeal.τ).loc Cert.InXbcIdeal.main_arg1))
      ∧ r.2.sem = fun _ => 0)

def quiescent_InXbcRefIdeal [hInXbcRefIdeal : Cert.InXbcRefIdeal.Facts] : Prop :=
  ∀ (m : (ℓ : Loc Cert.InXbcRefIdeal.nD Cert.InXbcRefIdeal.τ Cert.InXbcRefIdeal.sig) → Buf (Elt Ideal) ℓ) (g : Dev Cert.InXbcRefIdeal.nD → PrngReg), Pre_InXbcRefIdeal m →
    θ_run (Cert.InXbcRefIdeal.defs (F := Ideal)) (onTc (τ := Cert.InXbcRefIdeal.τ) (Cert.InXbcRefIdeal.main (F := Ideal))) ⟨m, fun _ => 0, g⟩ (fun r => (∀ c : Dev Cert.InXbcRefIdeal.nD,
      r.2.mem ((c.tc : Thread Cert.InXbcRefIdeal.nD Cert.InXbcRefIdeal.τ).loc Cert.InXbcRefIdeal.main_arg0) = m ((c.tc : Thread Cert.InXbcRefIdeal.nD Cert.InXbcRefIdeal.τ).loc Cert.InXbcRefIdeal.main_arg0)
      ∧ r.2.mem ((c.tc : Thread Cert.InXbcRefIdeal.nD Cert.InXbcRefIdeal.τ).loc Cert.InXbcRefIdeal.main_arg1) = m ((c.tc : Thread Cert.InXbcRefIdeal.nD Cert.InXbcRefIdeal.τ).loc Cert.InXbcRefIdeal.main_arg1))
      ∧ r.2.sem = fun _ => 0)

def quiescent_InQkv [hInQkv : Cert.InQkv.Facts] : Prop :=
  ∀ (m : (ℓ : Loc Cert.InQkv.nD Cert.InQkv.τ Cert.InQkv.sig) → Buf (Elt Bits) ℓ) (g : Dev Cert.InQkv.nD → PrngReg), Pre_InQkv m →
    θ_run (Cert.InQkv.defs (F := Bits)) (onTc (τ := Cert.InQkv.τ) (Cert.InQkv.main (F := Bits))) ⟨m, fun _ => 0, g⟩ (fun r => (∀ c : Dev Cert.InQkv.nD,
      r.2.mem ((c.tc : Thread Cert.InQkv.nD Cert.InQkv.τ).loc Cert.InQkv.main_arg0) = m ((c.tc : Thread Cert.InQkv.nD Cert.InQkv.τ).loc Cert.InQkv.main_arg0)
      ∧ r.2.mem ((c.tc : Thread Cert.InQkv.nD Cert.InQkv.τ).loc Cert.InQkv.main_arg1) = m ((c.tc : Thread Cert.InQkv.nD Cert.InQkv.τ).loc Cert.InQkv.main_arg1))
      ∧ r.2.sem = fun _ => 0)

def quiescent_InQkvIdeal [hInQkvIdeal : Cert.InQkvIdeal.Facts] : Prop :=
  ∀ (m : (ℓ : Loc Cert.InQkvIdeal.nD Cert.InQkvIdeal.τ Cert.InQkvIdeal.sig) → Buf (Elt Ideal) ℓ) (g : Dev Cert.InQkvIdeal.nD → PrngReg), Pre_InQkvIdeal m →
    θ_run (Cert.InQkvIdeal.defs (F := Ideal)) (onTc (τ := Cert.InQkvIdeal.τ) (Cert.InQkvIdeal.main (F := Ideal))) ⟨m, fun _ => 0, g⟩ (fun r => (∀ c : Dev Cert.InQkvIdeal.nD,
      r.2.mem ((c.tc : Thread Cert.InQkvIdeal.nD Cert.InQkvIdeal.τ).loc Cert.InQkvIdeal.main_arg0) = m ((c.tc : Thread Cert.InQkvIdeal.nD Cert.InQkvIdeal.τ).loc Cert.InQkvIdeal.main_arg0)
      ∧ r.2.mem ((c.tc : Thread Cert.InQkvIdeal.nD Cert.InQkvIdeal.τ).loc Cert.InQkvIdeal.main_arg1) = m ((c.tc : Thread Cert.InQkvIdeal.nD Cert.InQkvIdeal.τ).loc Cert.InQkvIdeal.main_arg1))
      ∧ r.2.sem = fun _ => 0)

def quiescent_InQkvRefIdeal [hInQkvRefIdeal : Cert.InQkvRefIdeal.Facts] : Prop :=
  ∀ (m : (ℓ : Loc Cert.InQkvRefIdeal.nD Cert.InQkvRefIdeal.τ Cert.InQkvRefIdeal.sig) → Buf (Elt Ideal) ℓ) (g : Dev Cert.InQkvRefIdeal.nD → PrngReg), Pre_InQkvRefIdeal m →
    θ_run (Cert.InQkvRefIdeal.defs (F := Ideal)) (onTc (τ := Cert.InQkvRefIdeal.τ) (Cert.InQkvRefIdeal.main (F := Ideal))) ⟨m, fun _ => 0, g⟩ (fun r => (∀ c : Dev Cert.InQkvRefIdeal.nD,
      r.2.mem ((c.tc : Thread Cert.InQkvRefIdeal.nD Cert.InQkvRefIdeal.τ).loc Cert.InQkvRefIdeal.main_arg0) = m ((c.tc : Thread Cert.InQkvRefIdeal.nD Cert.InQkvRefIdeal.τ).loc Cert.InQkvRefIdeal.main_arg0)
      ∧ r.2.mem ((c.tc : Thread Cert.InQkvRefIdeal.nD Cert.InQkvRefIdeal.τ).loc Cert.InQkvRefIdeal.main_arg1) = m ((c.tc : Thread Cert.InQkvRefIdeal.nD Cert.InQkvRefIdeal.τ).loc Cert.InQkvRefIdeal.main_arg1))
      ∧ r.2.sem = fun _ => 0)

def quiescent_InU [hInU : Cert.InU.Facts] : Prop :=
  ∀ (m : (ℓ : Loc Cert.InU.nD Cert.InU.τ Cert.InU.sig) → Buf (Elt Bits) ℓ) (g : Dev Cert.InU.nD → PrngReg), Pre_InU m →
    θ_run (Cert.InU.defs (F := Bits)) (onTc (τ := Cert.InU.τ) (Cert.InU.main (F := Bits))) ⟨m, fun _ => 0, g⟩ (fun r => (∀ c : Dev Cert.InU.nD,
      r.2.mem ((c.tc : Thread Cert.InU.nD Cert.InU.τ).loc Cert.InU.main_arg0) = m ((c.tc : Thread Cert.InU.nD Cert.InU.τ).loc Cert.InU.main_arg0)
      ∧ r.2.mem ((c.tc : Thread Cert.InU.nD Cert.InU.τ).loc Cert.InU.main_arg1) = m ((c.tc : Thread Cert.InU.nD Cert.InU.τ).loc Cert.InU.main_arg1))
      ∧ r.2.sem = fun _ => 0)

def quiescent_InUIdeal [hInUIdeal : Cert.InUIdeal.Facts] : Prop :=
  ∀ (m : (ℓ : Loc Cert.InUIdeal.nD Cert.InUIdeal.τ Cert.InUIdeal.sig) → Buf (Elt Ideal) ℓ) (g : Dev Cert.InUIdeal.nD → PrngReg), Pre_InUIdeal m →
    θ_run (Cert.InUIdeal.defs (F := Ideal)) (onTc (τ := Cert.InUIdeal.τ) (Cert.InUIdeal.main (F := Ideal))) ⟨m, fun _ => 0, g⟩ (fun r => (∀ c : Dev Cert.InUIdeal.nD,
      r.2.mem ((c.tc : Thread Cert.InUIdeal.nD Cert.InUIdeal.τ).loc Cert.InUIdeal.main_arg0) = m ((c.tc : Thread Cert.InUIdeal.nD Cert.InUIdeal.τ).loc Cert.InUIdeal.main_arg0)
      ∧ r.2.mem ((c.tc : Thread Cert.InUIdeal.nD Cert.InUIdeal.τ).loc Cert.InUIdeal.main_arg1) = m ((c.tc : Thread Cert.InUIdeal.nD Cert.InUIdeal.τ).loc Cert.InUIdeal.main_arg1))
      ∧ r.2.sem = fun _ => 0)

def quiescent_InURefIdeal [hInURefIdeal : Cert.InURefIdeal.Facts] : Prop :=
  ∀ (m : (ℓ : Loc Cert.InURefIdeal.nD Cert.InURefIdeal.τ Cert.InURefIdeal.sig) → Buf (Elt Ideal) ℓ) (g : Dev Cert.InURefIdeal.nD → PrngReg), Pre_InURefIdeal m →
    θ_run (Cert.InURefIdeal.defs (F := Ideal)) (onTc (τ := Cert.InURefIdeal.τ) (Cert.InURefIdeal.main (F := Ideal))) ⟨m, fun _ => 0, g⟩ (fun r => (∀ c : Dev Cert.InURefIdeal.nD,
      r.2.mem ((c.tc : Thread Cert.InURefIdeal.nD Cert.InURefIdeal.τ).loc Cert.InURefIdeal.main_arg0) = m ((c.tc : Thread Cert.InURefIdeal.nD Cert.InURefIdeal.τ).loc Cert.InURefIdeal.main_arg0)
      ∧ r.2.mem ((c.tc : Thread Cert.InURefIdeal.nD Cert.InURefIdeal.τ).loc Cert.InURefIdeal.main_arg1) = m ((c.tc : Thread Cert.InURefIdeal.nD Cert.InURefIdeal.τ).loc Cert.InURefIdeal.main_arg1))
      ∧ r.2.sem = fun _ => 0)

def quiescent_InG [hInG : Cert.InG.Facts] : Prop :=
  ∀ (m : (ℓ : Loc Cert.InG.nD Cert.InG.τ Cert.InG.sig) → Buf (Elt Bits) ℓ) (g : Dev Cert.InG.nD → PrngReg), Pre_InG m →
    θ_run (Cert.InG.defs (F := Bits)) (onTc (τ := Cert.InG.τ) (Cert.InG.main (F := Bits))) ⟨m, fun _ => 0, g⟩ (fun r => (∀ c : Dev Cert.InG.nD,
      r.2.mem ((c.tc : Thread Cert.InG.nD Cert.InG.τ).loc Cert.InG.main_arg0) = m ((c.tc : Thread Cert.InG.nD Cert.InG.τ).loc Cert.InG.main_arg0)
      ∧ r.2.mem ((c.tc : Thread Cert.InG.nD Cert.InG.τ).loc Cert.InG.main_arg1) = m ((c.tc : Thread Cert.InG.nD Cert.InG.τ).loc Cert.InG.main_arg1))
      ∧ r.2.sem = fun _ => 0)

def quiescent_InGIdeal [hInGIdeal : Cert.InGIdeal.Facts] : Prop :=
  ∀ (m : (ℓ : Loc Cert.InGIdeal.nD Cert.InGIdeal.τ Cert.InGIdeal.sig) → Buf (Elt Ideal) ℓ) (g : Dev Cert.InGIdeal.nD → PrngReg), Pre_InGIdeal m →
    θ_run (Cert.InGIdeal.defs (F := Ideal)) (onTc (τ := Cert.InGIdeal.τ) (Cert.InGIdeal.main (F := Ideal))) ⟨m, fun _ => 0, g⟩ (fun r => (∀ c : Dev Cert.InGIdeal.nD,
      r.2.mem ((c.tc : Thread Cert.InGIdeal.nD Cert.InGIdeal.τ).loc Cert.InGIdeal.main_arg0) = m ((c.tc : Thread Cert.InGIdeal.nD Cert.InGIdeal.τ).loc Cert.InGIdeal.main_arg0)
      ∧ r.2.mem ((c.tc : Thread Cert.InGIdeal.nD Cert.InGIdeal.τ).loc Cert.InGIdeal.main_arg1) = m ((c.tc : Thread Cert.InGIdeal.nD Cert.InGIdeal.τ).loc Cert.InGIdeal.main_arg1))
      ∧ r.2.sem = fun _ => 0)

def quiescent_InGRefIdeal [hInGRefIdeal : Cert.InGRefIdeal.Facts] : Prop :=
  ∀ (m : (ℓ : Loc Cert.InGRefIdeal.nD Cert.InGRefIdeal.τ Cert.InGRefIdeal.sig) → Buf (Elt Ideal) ℓ) (g : Dev Cert.InGRefIdeal.nD → PrngReg), Pre_InGRefIdeal m →
    θ_run (Cert.InGRefIdeal.defs (F := Ideal)) (onTc (τ := Cert.InGRefIdeal.τ) (Cert.InGRefIdeal.main (F := Ideal))) ⟨m, fun _ => 0, g⟩ (fun r => (∀ c : Dev Cert.InGRefIdeal.nD,
      r.2.mem ((c.tc : Thread Cert.InGRefIdeal.nD Cert.InGRefIdeal.τ).loc Cert.InGRefIdeal.main_arg0) = m ((c.tc : Thread Cert.InGRefIdeal.nD Cert.InGRefIdeal.τ).loc Cert.InGRefIdeal.main_arg0)
      ∧ r.2.mem ((c.tc : Thread Cert.InGRefIdeal.nD Cert.InGRefIdeal.τ).loc Cert.InGRefIdeal.main_arg1) = m ((c.tc : Thread Cert.InGRefIdeal.nD Cert.InGRefIdeal.τ).loc Cert.InGRefIdeal.main_arg1))
      ∧ r.2.sem = fun _ => 0)

def quiescent_InSm [hInSm : Cert.InSm.Facts] : Prop :=
  ∀ (m : (ℓ : Loc Cert.InSm.nD Cert.InSm.τ Cert.InSm.sig) → Buf (Elt Bits) ℓ) (g : Dev Cert.InSm.nD → PrngReg), Pre_InSm m →
    θ_run (Cert.InSm.defs (F := Bits)) (onTc (τ := Cert.InSm.τ) (Cert.InSm.main (F := Bits))) ⟨m, fun _ => 0, g⟩ (fun r => (∀ c : Dev Cert.InSm.nD,
      r.2.mem ((c.tc : Thread Cert.InSm.nD Cert.InSm.τ).loc Cert.InSm.main_arg0) = m ((c.tc : Thread Cert.InSm.nD Cert.InSm.τ).loc Cert.InSm.main_arg0)
      ∧ r.2.mem ((c.tc : Thread Cert.InSm.nD Cert.InSm.τ).loc Cert.InSm.main_arg1) = m ((c.tc : Thread Cert.InSm.nD Cert.InSm.τ).loc Cert.InSm.main_arg1))
      ∧ r.2.sem = fun _ => 0)

def quiescent_InSmIdeal [hInSmIdeal : Cert.InSmIdeal.Facts] : Prop :=
  ∀ (m : (ℓ : Loc Cert.InSmIdeal.nD Cert.InSmIdeal.τ Cert.InSmIdeal.sig) → Buf (Elt Ideal) ℓ) (g : Dev Cert.InSmIdeal.nD → PrngReg), Pre_InSmIdeal m →
    θ_run (Cert.InSmIdeal.defs (F := Ideal)) (onTc (τ := Cert.InSmIdeal.τ) (Cert.InSmIdeal.main (F := Ideal))) ⟨m, fun _ => 0, g⟩ (fun r => (∀ c : Dev Cert.InSmIdeal.nD,
      r.2.mem ((c.tc : Thread Cert.InSmIdeal.nD Cert.InSmIdeal.τ).loc Cert.InSmIdeal.main_arg0) = m ((c.tc : Thread Cert.InSmIdeal.nD Cert.InSmIdeal.τ).loc Cert.InSmIdeal.main_arg0)
      ∧ r.2.mem ((c.tc : Thread Cert.InSmIdeal.nD Cert.InSmIdeal.τ).loc Cert.InSmIdeal.main_arg1) = m ((c.tc : Thread Cert.InSmIdeal.nD Cert.InSmIdeal.τ).loc Cert.InSmIdeal.main_arg1))
      ∧ r.2.sem = fun _ => 0)

def quiescent_InSmRefIdeal [hInSmRefIdeal : Cert.InSmRefIdeal.Facts] : Prop :=
  ∀ (m : (ℓ : Loc Cert.InSmRefIdeal.nD Cert.InSmRefIdeal.τ Cert.InSmRefIdeal.sig) → Buf (Elt Ideal) ℓ) (g : Dev Cert.InSmRefIdeal.nD → PrngReg), Pre_InSmRefIdeal m →
    θ_run (Cert.InSmRefIdeal.defs (F := Ideal)) (onTc (τ := Cert.InSmRefIdeal.τ) (Cert.InSmRefIdeal.main (F := Ideal))) ⟨m, fun _ => 0, g⟩ (fun r => (∀ c : Dev Cert.InSmRefIdeal.nD,
      r.2.mem ((c.tc : Thread Cert.InSmRefIdeal.nD Cert.InSmRefIdeal.τ).loc Cert.InSmRefIdeal.main_arg0) = m ((c.tc : Thread Cert.InSmRefIdeal.nD Cert.InSmRefIdeal.τ).loc Cert.InSmRefIdeal.main_arg0)
      ∧ r.2.mem ((c.tc : Thread Cert.InSmRefIdeal.nD Cert.InSmRefIdeal.τ).loc Cert.InSmRefIdeal.main_arg1) = m ((c.tc : Thread Cert.InSmRefIdeal.nD Cert.InSmRefIdeal.τ).loc Cert.InSmRefIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0)

def quiescent_BranchDx [hBranchDx : Cert.BranchDx.Facts] : Prop :=
  ∀ (m : (ℓ : Loc Cert.BranchDx.nD Cert.BranchDx.τ Cert.BranchDx.sig) → Buf (Elt Bits) ℓ) (g : Dev Cert.BranchDx.nD → PrngReg), Pre_BranchDx m →
    θ_run (Cert.BranchDx.defs (F := Bits)) (onTc (τ := Cert.BranchDx.τ) (Cert.BranchDx.main (F := Bits))) ⟨m, fun _ => 0, g⟩ (fun r => (∀ c : Dev Cert.BranchDx.nD,
      r.2.mem ((c.tc : Thread Cert.BranchDx.nD Cert.BranchDx.τ).loc Cert.BranchDx.main_arg0) = m ((c.tc : Thread Cert.BranchDx.nD Cert.BranchDx.τ).loc Cert.BranchDx.main_arg0)
      ∧ r.2.mem ((c.tc : Thread Cert.BranchDx.nD Cert.BranchDx.τ).loc Cert.BranchDx.main_arg1) = m ((c.tc : Thread Cert.BranchDx.nD Cert.BranchDx.τ).loc Cert.BranchDx.main_arg1))
      ∧ r.2.sem = fun _ => 0)

def quiescent_BranchDxIdeal [hBranchDxIdeal : Cert.BranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg), Pre_BranchDxIdeal m →
    θ_run (Cert.BranchDxIdeal.defs (F := Ideal)) (onTc (τ := Cert.BranchDxIdeal.τ) (Cert.BranchDxIdeal.main (F := Ideal))) ⟨m, fun _ => 0, g⟩ (fun r => (∀ c : Dev Cert.BranchDxIdeal.nD,
      r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
      ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ r.2.sem = fun _ => 0)

def quiescent_BranchDxRefIdeal [hBranchDxRefIdeal : Cert.BranchDxRefIdeal.Facts] : Prop :=
  ∀ (m : (ℓ : Loc Cert.BranchDxRefIdeal.nD Cert.BranchDxRefIdeal.τ Cert.BranchDxRefIdeal.sig) → Buf (Elt Ideal) ℓ) (g : Dev Cert.BranchDxRefIdeal.nD → PrngReg), Pre_BranchDxRefIdeal m →
    θ_run (Cert.BranchDxRefIdeal.defs (F := Ideal)) (onTc (τ := Cert.BranchDxRefIdeal.τ) (Cert.BranchDxRefIdeal.main (F := Ideal))) ⟨m, fun _ => 0, g⟩ (fun r => (∀ c : Dev Cert.BranchDxRefIdeal.nD,
      r.2.mem ((c.tc : Thread Cert.BranchDxRefIdeal.nD Cert.BranchDxRefIdeal.τ).loc Cert.BranchDxRefIdeal.main_arg0) = m ((c.tc : Thread Cert.BranchDxRefIdeal.nD Cert.BranchDxRefIdeal.τ).loc Cert.BranchDxRefIdeal.main_arg0)
      ∧ r.2.mem ((c.tc : Thread Cert.BranchDxRefIdeal.nD Cert.BranchDxRefIdeal.τ).loc Cert.BranchDxRefIdeal.main_arg1) = m ((c.tc : Thread Cert.BranchDxRefIdeal.nD Cert.BranchDxRefIdeal.τ).loc Cert.BranchDxRefIdeal.main_arg1))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ r.2.sem = fun _ => 0)

def quiescent_BranchDwRefIdeal [hBranchDwRefIdeal : Cert.BranchDwRefIdeal.Facts] : Prop :=
  ∀ (m : (ℓ : Loc Cert.BranchDwRefIdeal.nD Cert.BranchDwRefIdeal.τ Cert.BranchDwRefIdeal.sig) → Buf (Elt Ideal) ℓ) (g : Dev Cert.BranchDwRefIdeal.nD → PrngReg), Pre_BranchDwRefIdeal m →
    θ_run (Cert.BranchDwRefIdeal.defs (F := Ideal)) (onTc (τ := Cert.BranchDwRefIdeal.τ) (Cert.BranchDwRefIdeal.main (F := Ideal))) ⟨m, fun _ => 0, g⟩ (fun r => (∀ c : Dev Cert.BranchDwRefIdeal.nD,
      r.2.mem ((c.tc : Thread Cert.BranchDwRefIdeal.nD Cert.BranchDwRefIdeal.τ).loc Cert.BranchDwRefIdeal.main_arg0) = m ((c.tc : Thread Cert.BranchDwRefIdeal.nD Cert.BranchDwRefIdeal.τ).loc Cert.BranchDwRefIdeal.main_arg0)
      ∧ r.2.mem ((c.tc : Thread Cert.BranchDwRefIdeal.nD Cert.BranchDwRefIdeal.τ).loc Cert.BranchDwRefIdeal.main_arg1) = m ((c.tc : Thread Cert.BranchDwRefIdeal.nD Cert.BranchDwRefIdeal.τ).loc Cert.BranchDwRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ r.2.sem = fun _ => 0)

def quiescent_OutProjDxRefIdeal [hOutProjDxRefIdeal : Cert.OutProjDxRefIdeal.Facts] : Prop :=
  ∀ (m : (ℓ : Loc Cert.OutProjDxRefIdeal.nD Cert.OutProjDxRefIdeal.τ Cert.OutProjDxRefIdeal.sig) → Buf (Elt Ideal) ℓ) (g : Dev Cert.OutProjDxRefIdeal.nD → PrngReg), Pre_OutProjDxRefIdeal m →
    θ_run (Cert.OutProjDxRefIdeal.defs (F := Ideal)) (onTc (τ := Cert.OutProjDxRefIdeal.τ) (Cert.OutProjDxRefIdeal.main (F := Ideal))) ⟨m, fun _ => 0, g⟩ (fun r => (∀ c : Dev Cert.OutProjDxRefIdeal.nD,
      r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0)
      ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ r.2.sem = fun _ => 0)

def quiescent_OutProjDwRefIdeal [hOutProjDwRefIdeal : Cert.OutProjDwRefIdeal.Facts] : Prop :=
  ∀ (m : (ℓ : Loc Cert.OutProjDwRefIdeal.nD Cert.OutProjDwRefIdeal.τ Cert.OutProjDwRefIdeal.sig) → Buf (Elt Ideal) ℓ) (g : Dev Cert.OutProjDwRefIdeal.nD → PrngReg), Pre_OutProjDwRefIdeal m →
    θ_run (Cert.OutProjDwRefIdeal.defs (F := Ideal)) (onTc (τ := Cert.OutProjDwRefIdeal.τ) (Cert.OutProjDwRefIdeal.main (F := Ideal))) ⟨m, fun _ => 0, g⟩ (fun r => (∀ c : Dev Cert.OutProjDwRefIdeal.nD,
      r.2.mem ((c.tc : Thread Cert.OutProjDwRefIdeal.nD Cert.OutProjDwRefIdeal.τ).loc Cert.OutProjDwRefIdeal.main_arg0) = m ((c.tc : Thread Cert.OutProjDwRefIdeal.nD Cert.OutProjDwRefIdeal.τ).loc Cert.OutProjDwRefIdeal.main_arg0)
      ∧ r.2.mem ((c.tc : Thread Cert.OutProjDwRefIdeal.nD Cert.OutProjDwRefIdeal.τ).loc Cert.OutProjDwRefIdeal.main_arg1) = m ((c.tc : Thread Cert.OutProjDwRefIdeal.nD Cert.OutProjDwRefIdeal.τ).loc Cert.OutProjDwRefIdeal.main_arg1))
      ∧ r.2.sem = fun _ => 0)

def preserves_Kernel_KernelIdeal : Prop :=
  IdealRules.named_const.Statement Cert.KernelIdeal.κ "masked" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v64_0)) (v1 : (c : Dev Cert.KernelIdeal.nD) → Buf (Elt Ideal) ((c.tc : Thread Cert.KernelIdeal.nD Cert.KernelIdeal.τ).loc Cert.KernelIdeal.main_v64_1)) (v2 : (c : Dev Cert.KernelIdeal.nD) → Buf (Elt Ideal) ((c.tc : Thread Cert.KernelIdeal.nD Cert.KernelIdeal.τ).loc Cert.KernelIdeal.main_v64_2)) (v3 : (c : Dev Cert.KernelIdeal.nD) → Buf (Elt Ideal) ((c.tc : Thread Cert.KernelIdeal.nD Cert.KernelIdeal.τ).loc Cert.KernelIdeal.main_v64_3)) (v4 : (c : Dev Cert.KernelIdeal.nD) → Buf (Elt Ideal) ((c.tc : Thread Cert.KernelIdeal.nD Cert.KernelIdeal.τ).loc Cert.KernelIdeal.main_v64_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_0) = v0 c
          ∧ r.2.mem ((c.tc : Thread Cert.KernelIdeal.nD Cert.KernelIdeal.τ).loc Cert.KernelIdeal.main_v64_1) = v1 c
          ∧ r.2.mem ((c.tc : Thread Cert.KernelIdeal.nD Cert.KernelIdeal.τ).loc Cert.KernelIdeal.main_v64_2) = v2 c
          ∧ r.2.mem ((c.tc : Thread Cert.KernelIdeal.nD Cert.KernelIdeal.τ).loc Cert.KernelIdeal.main_v64_3) = v3 c
          ∧ r.2.mem ((c.tc : Thread Cert.KernelIdeal.nD Cert.KernelIdeal.τ).loc Cert.KernelIdeal.main_v64_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_v104) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfnInDx_FfnInDxIdeal : Prop :=
  True

def algebraic_FfnInDxIdeal_FfnInDxRefIdeal [hFfnInDxIdeal : Cert.FfnInDxIdeal.Facts] [hFfnInDxRefIdeal : Cert.FfnInDxRefIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxRefIdeal.nD Cert.FfnInDxRefIdeal.τ Cert.FfnInDxRefIdeal.sig) → Buf (Elt Ideal) ℓ) (g' : Dev Cert.FfnInDxRefIdeal.nD → PrngReg), Pre_FfnInDxIdeal m →
    (∀ c : Dev Cert.FfnInDxIdeal.nD,
      m' ((c.tc : Thread Cert.FfnInDxRefIdeal.nD Cert.FfnInDxRefIdeal.τ).loc Cert.FfnInDxRefIdeal.main_arg0) = m ((c.tc : Thread Cert.FfnInDxIdeal.nD Cert.FfnInDxIdeal.τ).loc Cert.FfnInDxIdeal.main_arg0)
      ∧ m' ((c.tc : Thread Cert.FfnInDxRefIdeal.nD Cert.FfnInDxRefIdeal.τ).loc Cert.FfnInDxRefIdeal.main_arg1) = m ((c.tc : Thread Cert.FfnInDxIdeal.nD Cert.FfnInDxIdeal.τ).loc Cert.FfnInDxIdeal.main_arg1)) →
    ∃ (v0 : (c : Dev Cert.FfnInDxIdeal.nD) → Buf (Elt Ideal) ((c.tc : Thread Cert.FfnInDxIdeal.nD Cert.FfnInDxIdeal.τ).loc Cert.FfnInDxIdeal.main_v0)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v0) = v0 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ θ_run (Cert.FfnInDxRefIdeal.defs (F := Ideal)) (onTc (τ := Cert.FfnInDxRefIdeal.τ) (Cert.FfnInDxRefIdeal.main (F := Ideal))) ⟨m', fun _ => 0, g'⟩ (fun r => ∀ c : Dev Cert.FfnInDxRefIdeal.nD,
          r.2.mem ((c.tc : Thread Cert.FfnInDxRefIdeal.nD Cert.FfnInDxRefIdeal.τ).loc Cert.FfnInDxRefIdeal.main_v4) = v0 c
          ∧ r.2.mem ((c.tc : Thread Cert.FfnInDxRefIdeal.nD Cert.FfnInDxRefIdeal.τ).loc Cert.FfnInDxRefIdeal.main_arg0) = m' ((c.tc : Thread Cert.FfnInDxRefIdeal.nD Cert.FfnInDxRefIdeal.τ).loc Cert.FfnInDxRefIdeal.main_arg0)
          ∧ r.2.mem ((c.tc : Thread Cert.FfnInDxRefIdeal.nD Cert.FfnInDxRefIdeal.τ).loc Cert.FfnInDxRefIdeal.main_arg1) = m' ((c.tc : Thread Cert.FfnInDxRefIdeal.nD Cert.FfnInDxRefIdeal.τ).loc Cert.FfnInDxRefIdeal.main_arg1))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)) →
    ∃ (v0 : (c : Dev Cert.FfnInDwIdeal.nD) → Buf (Elt Ideal) ((c.tc : Thread Cert.FfnInDwIdeal.nD Cert.FfnInDwIdeal.τ).loc Cert.FfnInDwIdeal.main_v0)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v0) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v5) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v4) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v5) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_FfnOutDw_FfnOutDwIdeal : Prop :=
  True

def algebraic_FfnOutDwIdeal_FfnOutDwRefIdeal [hFfnOutDwIdeal : Cert.FfnOutDwIdeal.Facts] [hFfnOutDwRefIdeal : Cert.FfnOutDwRefIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwRefIdeal.nD Cert.FfnOutDwRefIdeal.τ Cert.FfnOutDwRefIdeal.sig) → Buf (Elt Ideal) ℓ) (g' : Dev Cert.FfnOutDwRefIdeal.nD → PrngReg), Pre_FfnOutDwIdeal m →
    (∀ c : Dev Cert.FfnOutDwIdeal.nD,
      m' ((c.tc : Thread Cert.FfnOutDwRefIdeal.nD Cert.FfnOutDwRefIdeal.τ).loc Cert.FfnOutDwRefIdeal.main_arg0) = m ((c.tc : Thread Cert.FfnOutDwIdeal.nD Cert.FfnOutDwIdeal.τ).loc Cert.FfnOutDwIdeal.main_arg0)
      ∧ m' ((c.tc : Thread Cert.FfnOutDwRefIdeal.nD Cert.FfnOutDwRefIdeal.τ).loc Cert.FfnOutDwRefIdeal.main_arg1) = m ((c.tc : Thread Cert.FfnOutDwIdeal.nD Cert.FfnOutDwIdeal.τ).loc Cert.FfnOutDwIdeal.main_arg1)) →
    ∃ (v0 : (c : Dev Cert.FfnOutDwIdeal.nD) → Buf (Elt Ideal) ((c.tc : Thread Cert.FfnOutDwIdeal.nD Cert.FfnOutDwIdeal.τ).loc Cert.FfnOutDwIdeal.main_v0)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v0) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ θ_run (Cert.FfnOutDwRefIdeal.defs (F := Ideal)) (onTc (τ := Cert.FfnOutDwRefIdeal.τ) (Cert.FfnOutDwRefIdeal.main (F := Ideal))) ⟨m', fun _ => 0, g'⟩ (fun r => ∀ c : Dev Cert.FfnOutDwRefIdeal.nD,
          r.2.mem ((c.tc : Thread Cert.FfnOutDwRefIdeal.nD Cert.FfnOutDwRefIdeal.τ).loc Cert.FfnOutDwRefIdeal.main_v4) = v0 c
          ∧ r.2.mem ((c.tc : Thread Cert.FfnOutDwRefIdeal.nD Cert.FfnOutDwRefIdeal.τ).loc Cert.FfnOutDwRefIdeal.main_arg0) = m' ((c.tc : Thread Cert.FfnOutDwRefIdeal.nD Cert.FfnOutDwRefIdeal.τ).loc Cert.FfnOutDwRefIdeal.main_arg0)
          ∧ r.2.mem ((c.tc : Thread Cert.FfnOutDwRefIdeal.nD Cert.FfnOutDwRefIdeal.τ).loc Cert.FfnOutDwRefIdeal.main_arg1) = m' ((c.tc : Thread Cert.FfnOutDwRefIdeal.nD Cert.FfnOutDwRefIdeal.τ).loc Cert.FfnOutDwRefIdeal.main_arg1))

def preserves_FfnOutDx_FfnOutDxIdeal : Prop :=
  True

def algebraic_FfnOutDxIdeal_FfnOutDxRefIdeal [hFfnOutDxIdeal : Cert.FfnOutDxIdeal.Facts] [hFfnOutDxRefIdeal : Cert.FfnOutDxRefIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg)
    (m' : (ℓ : Loc Cert.FfnOutDxRefIdeal.nD Cert.FfnOutDxRefIdeal.τ Cert.FfnOutDxRefIdeal.sig) → Buf (Elt Ideal) ℓ) (g' : Dev Cert.FfnOutDxRefIdeal.nD → PrngReg), Pre_FfnOutDxIdeal m →
    (∀ c : Dev Cert.FfnOutDxIdeal.nD,
      m' ((c.tc : Thread Cert.FfnOutDxRefIdeal.nD Cert.FfnOutDxRefIdeal.τ).loc Cert.FfnOutDxRefIdeal.main_arg0) = m ((c.tc : Thread Cert.FfnOutDxIdeal.nD Cert.FfnOutDxIdeal.τ).loc Cert.FfnOutDxIdeal.main_arg0)
      ∧ m' ((c.tc : Thread Cert.FfnOutDxRefIdeal.nD Cert.FfnOutDxRefIdeal.τ).loc Cert.FfnOutDxRefIdeal.main_arg1) = m ((c.tc : Thread Cert.FfnOutDxIdeal.nD Cert.FfnOutDxIdeal.τ).loc Cert.FfnOutDxIdeal.main_arg1)) →
    ∃ (v0 : (c : Dev Cert.FfnOutDxIdeal.nD) → Buf (Elt Ideal) ((c.tc : Thread Cert.FfnOutDxIdeal.nD Cert.FfnOutDxIdeal.τ).loc Cert.FfnOutDxIdeal.main_v0)),
      θ_run (Cert.FfnOutDxIdeal.defs (F := Ideal)) (onTc (τ := Cert.FfnOutDxIdeal.τ) (Cert.FfnOutDxIdeal.main (F := Ideal))) ⟨m, fun _ => 0, g⟩ (fun r => ∀ c : Dev Cert.FfnOutDxIdeal.nD,
          r.2.mem ((c.tc : Thread Cert.FfnOutDxIdeal.nD Cert.FfnOutDxIdeal.τ).loc Cert.FfnOutDxIdeal.main_v0) = v0 c
          ∧ r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
          ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1))
      ∧ θ_run (Cert.FfnOutDxRefIdeal.defs (F := Ideal)) (onTc (τ := Cert.FfnOutDxRefIdeal.τ) (Cert.FfnOutDxRefIdeal.main (F := Ideal))) ⟨m', fun _ => 0, g'⟩ (fun r => ∀ c : Dev Cert.FfnOutDxRefIdeal.nD,
          r.2.mem ((c.tc : Thread Cert.FfnOutDxRefIdeal.nD Cert.FfnOutDxRefIdeal.τ).loc Cert.FfnOutDxRefIdeal.main_v4) = v0 c
          ∧ r.2.mem ((c.tc : Thread Cert.FfnOutDxRefIdeal.nD Cert.FfnOutDxRefIdeal.τ).loc Cert.FfnOutDxRefIdeal.main_arg0) = m' ((c.tc : Thread Cert.FfnOutDxRefIdeal.nD Cert.FfnOutDxRefIdeal.τ).loc Cert.FfnOutDxRefIdeal.main_arg0)
          ∧ r.2.mem ((c.tc : Thread Cert.FfnOutDxRefIdeal.nD Cert.FfnOutDxRefIdeal.τ).loc Cert.FfnOutDxRefIdeal.main_arg1) = m' ((c.tc : Thread Cert.FfnOutDxRefIdeal.nD Cert.FfnOutDxRefIdeal.τ).loc Cert.FfnOutDxRefIdeal.main_arg1))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v3) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v3) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2))

def preserves_InZ_InZIdeal : Prop :=
  True

def algebraic_InZIdeal_InZRefIdeal [hInZIdeal : Cert.InZIdeal.Facts] [hInZRefIdeal : Cert.InZRefIdeal.Facts] : Prop :=
  ∀ (m : (ℓ : Loc Cert.InZIdeal.nD Cert.InZIdeal.τ Cert.InZIdeal.sig) → Buf (Elt Ideal) ℓ) (g : Dev Cert.InZIdeal.nD → PrngReg)
    (m' : (ℓ : Loc Cert.InZRefIdeal.nD Cert.InZRefIdeal.τ Cert.InZRefIdeal.sig) → Buf (Elt Ideal) ℓ) (g' : Dev Cert.InZRefIdeal.nD → PrngReg), Pre_InZIdeal m →
    (∀ c : Dev Cert.InZIdeal.nD,
      m' ((c.tc : Thread Cert.InZRefIdeal.nD Cert.InZRefIdeal.τ).loc Cert.InZRefIdeal.main_arg0) = m ((c.tc : Thread Cert.InZIdeal.nD Cert.InZIdeal.τ).loc Cert.InZIdeal.main_arg0)
      ∧ m' ((c.tc : Thread Cert.InZRefIdeal.nD Cert.InZRefIdeal.τ).loc Cert.InZRefIdeal.main_arg1) = m ((c.tc : Thread Cert.InZIdeal.nD Cert.InZIdeal.τ).loc Cert.InZIdeal.main_arg1)) →
    ∃ (v0 : (c : Dev Cert.InZIdeal.nD) → Buf (Elt Ideal) ((c.tc : Thread Cert.InZIdeal.nD Cert.InZIdeal.τ).loc Cert.InZIdeal.main_v0)),
      θ_run (Cert.InZIdeal.defs (F := Ideal)) (onTc (τ := Cert.InZIdeal.τ) (Cert.InZIdeal.main (F := Ideal))) ⟨m, fun _ => 0, g⟩ (fun r => ∀ c : Dev Cert.InZIdeal.nD,
          r.2.mem ((c.tc : Thread Cert.InZIdeal.nD Cert.InZIdeal.τ).loc Cert.InZIdeal.main_v0) = v0 c
          ∧ r.2.mem ((c.tc : Thread Cert.InZIdeal.nD Cert.InZIdeal.τ).loc Cert.InZIdeal.main_arg0) = m ((c.tc : Thread Cert.InZIdeal.nD Cert.InZIdeal.τ).loc Cert.InZIdeal.main_arg0)
          ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ θ_run (Cert.InZRefIdeal.defs (F := Ideal)) (onTc (τ := Cert.InZRefIdeal.τ) (Cert.InZRefIdeal.main (F := Ideal))) ⟨m', fun _ => 0, g'⟩ (fun r => ∀ c : Dev Cert.InZRefIdeal.nD,
          r.2.mem ((c.tc : Thread Cert.InZRefIdeal.nD Cert.InZRefIdeal.τ).loc Cert.InZRefIdeal.main_v4) = v0 c
          ∧ r.2.mem ((c.tc : Thread Cert.InZRefIdeal.nD Cert.InZRefIdeal.τ).loc Cert.InZRefIdeal.main_arg0) = m' ((c.tc : Thread Cert.InZRefIdeal.nD Cert.InZRefIdeal.τ).loc Cert.InZRefIdeal.main_arg0)
          ∧ r.2.mem ((c.tc : Thread Cert.InZRefIdeal.nD Cert.InZRefIdeal.τ).loc Cert.InZRefIdeal.main_arg1) = m' ((c.tc : Thread Cert.InZRefIdeal.nD Cert.InZRefIdeal.τ).loc Cert.InZRefIdeal.main_arg1))

def preserves_InXbc_InXbcIdeal : Prop :=
  True

def algebraic_InXbcIdeal_InXbcRefIdeal [hInXbcIdeal : Cert.InXbcIdeal.Facts] [hInXbcRefIdeal : Cert.InXbcRefIdeal.Facts] : Prop :=
  ∀ (m : (ℓ : Loc Cert.InXbcIdeal.nD Cert.InXbcIdeal.τ Cert.InXbcIdeal.sig) → Buf (Elt Ideal) ℓ) (g : Dev Cert.InXbcIdeal.nD → PrngReg)
    (m' : (ℓ : Loc Cert.InXbcRefIdeal.nD Cert.InXbcRefIdeal.τ Cert.InXbcRefIdeal.sig) → Buf (Elt Ideal) ℓ) (g' : Dev Cert.InXbcRefIdeal.nD → PrngReg), Pre_InXbcIdeal m →
    (∀ c : Dev Cert.InXbcIdeal.nD,
      m' ((c.tc : Thread Cert.InXbcRefIdeal.nD Cert.InXbcRefIdeal.τ).loc Cert.InXbcRefIdeal.main_arg0) = m ((c.tc : Thread Cert.InXbcIdeal.nD Cert.InXbcIdeal.τ).loc Cert.InXbcIdeal.main_arg0)
      ∧ m' ((c.tc : Thread Cert.InXbcRefIdeal.nD Cert.InXbcRefIdeal.τ).loc Cert.InXbcRefIdeal.main_arg1) = m ((c.tc : Thread Cert.InXbcIdeal.nD Cert.InXbcIdeal.τ).loc Cert.InXbcIdeal.main_arg1)) →
    ∃ (v0 : (c : Dev Cert.InXbcIdeal.nD) → Buf (Elt Ideal) ((c.tc : Thread Cert.InXbcIdeal.nD Cert.InXbcIdeal.τ).loc Cert.InXbcIdeal.main_v0)),
      θ_run (Cert.InXbcIdeal.defs (F := Ideal)) (onTc (τ := Cert.InXbcIdeal.τ) (Cert.InXbcIdeal.main (F := Ideal))) ⟨m, fun _ => 0, g⟩ (fun r => ∀ c : Dev Cert.InXbcIdeal.nD,
          r.2.mem ((c.tc : Thread Cert.InXbcIdeal.nD Cert.InXbcIdeal.τ).loc Cert.InXbcIdeal.main_v0) = v0 c
          ∧ r.2.mem ((c.tc : Thread Cert.InXbcIdeal.nD Cert.InXbcIdeal.τ).loc Cert.InXbcIdeal.main_arg0) = m ((c.tc : Thread Cert.InXbcIdeal.nD Cert.InXbcIdeal.τ).loc Cert.InXbcIdeal.main_arg0)
          ∧ r.2.mem ((c.tc : Thread Cert.InXbcIdeal.nD Cert.InXbcIdeal.τ).loc Cert.InXbcIdeal.main_arg1) = m ((c.tc : Thread Cert.InXbcIdeal.nD Cert.InXbcIdeal.τ).loc Cert.InXbcIdeal.main_arg1))
      ∧ θ_run (Cert.InXbcRefIdeal.defs (F := Ideal)) (onTc (τ := Cert.InXbcRefIdeal.τ) (Cert.InXbcRefIdeal.main (F := Ideal))) ⟨m', fun _ => 0, g'⟩ (fun r => ∀ c : Dev Cert.InXbcRefIdeal.nD,
          r.2.mem ((c.tc : Thread Cert.InXbcRefIdeal.nD Cert.InXbcRefIdeal.τ).loc Cert.InXbcRefIdeal.main_v3) = v0 c
          ∧ r.2.mem ((c.tc : Thread Cert.InXbcRefIdeal.nD Cert.InXbcRefIdeal.τ).loc Cert.InXbcRefIdeal.main_arg0) = m' ((c.tc : Thread Cert.InXbcRefIdeal.nD Cert.InXbcRefIdeal.τ).loc Cert.InXbcRefIdeal.main_arg0)
          ∧ r.2.mem ((c.tc : Thread Cert.InXbcRefIdeal.nD Cert.InXbcRefIdeal.τ).loc Cert.InXbcRefIdeal.main_arg1) = m' ((c.tc : Thread Cert.InXbcRefIdeal.nD Cert.InXbcRefIdeal.τ).loc Cert.InXbcRefIdeal.main_arg1))

def preserves_InQkv_InQkvIdeal : Prop :=
  True

def algebraic_InQkvIdeal_InQkvRefIdeal [hInQkvIdeal : Cert.InQkvIdeal.Facts] [hInQkvRefIdeal : Cert.InQkvRefIdeal.Facts] : Prop :=
  ∀ (m : (ℓ : Loc Cert.InQkvIdeal.nD Cert.InQkvIdeal.τ Cert.InQkvIdeal.sig) → Buf (Elt Ideal) ℓ) (g : Dev Cert.InQkvIdeal.nD → PrngReg)
    (m' : (ℓ : Loc Cert.InQkvRefIdeal.nD Cert.InQkvRefIdeal.τ Cert.InQkvRefIdeal.sig) → Buf (Elt Ideal) ℓ) (g' : Dev Cert.InQkvRefIdeal.nD → PrngReg), Pre_InQkvIdeal m →
    (∀ c : Dev Cert.InQkvIdeal.nD,
      m' ((c.tc : Thread Cert.InQkvRefIdeal.nD Cert.InQkvRefIdeal.τ).loc Cert.InQkvRefIdeal.main_arg0) = m ((c.tc : Thread Cert.InQkvIdeal.nD Cert.InQkvIdeal.τ).loc Cert.InQkvIdeal.main_arg0)
      ∧ m' ((c.tc : Thread Cert.InQkvRefIdeal.nD Cert.InQkvRefIdeal.τ).loc Cert.InQkvRefIdeal.main_arg1) = m ((c.tc : Thread Cert.InQkvIdeal.nD Cert.InQkvIdeal.τ).loc Cert.InQkvIdeal.main_arg1)) →
    ∃ (v0 : (c : Dev Cert.InQkvIdeal.nD) → Buf (Elt Ideal) ((c.tc : Thread Cert.InQkvIdeal.nD Cert.InQkvIdeal.τ).loc Cert.InQkvIdeal.main_v0)),
      θ_run (Cert.InQkvIdeal.defs (F := Ideal)) (onTc (τ := Cert.InQkvIdeal.τ) (Cert.InQkvIdeal.main (F := Ideal))) ⟨m, fun _ => 0, g⟩ (fun r => ∀ c : Dev Cert.InQkvIdeal.nD,
          r.2.mem ((c.tc : Thread Cert.InQkvIdeal.nD Cert.InQkvIdeal.τ).loc Cert.InQkvIdeal.main_v0) = v0 c
          ∧ r.2.mem ((c.tc : Thread Cert.InQkvIdeal.nD Cert.InQkvIdeal.τ).loc Cert.InQkvIdeal.main_arg0) = m ((c.tc : Thread Cert.InQkvIdeal.nD Cert.InQkvIdeal.τ).loc Cert.InQkvIdeal.main_arg0)
          ∧ r.2.mem ((c.tc : Thread Cert.InQkvIdeal.nD Cert.InQkvIdeal.τ).loc Cert.InQkvIdeal.main_arg1) = m ((c.tc : Thread Cert.InQkvIdeal.nD Cert.InQkvIdeal.τ).loc Cert.InQkvIdeal.main_arg1))
      ∧ θ_run (Cert.InQkvRefIdeal.defs (F := Ideal)) (onTc (τ := Cert.InQkvRefIdeal.τ) (Cert.InQkvRefIdeal.main (F := Ideal))) ⟨m', fun _ => 0, g'⟩ (fun r => ∀ c : Dev Cert.InQkvRefIdeal.nD,
          r.2.mem ((c.tc : Thread Cert.InQkvRefIdeal.nD Cert.InQkvRefIdeal.τ).loc Cert.InQkvRefIdeal.main_v4) = v0 c
          ∧ r.2.mem ((c.tc : Thread Cert.InQkvRefIdeal.nD Cert.InQkvRefIdeal.τ).loc Cert.InQkvRefIdeal.main_arg0) = m' ((c.tc : Thread Cert.InQkvRefIdeal.nD Cert.InQkvRefIdeal.τ).loc Cert.InQkvRefIdeal.main_arg0)
          ∧ r.2.mem ((c.tc : Thread Cert.InQkvRefIdeal.nD Cert.InQkvRefIdeal.τ).loc Cert.InQkvRefIdeal.main_arg1) = m' ((c.tc : Thread Cert.InQkvRefIdeal.nD Cert.InQkvRefIdeal.τ).loc Cert.InQkvRefIdeal.main_arg1))

def preserves_InU_InUIdeal : Prop :=
  True

def algebraic_InUIdeal_InURefIdeal [hInUIdeal : Cert.InUIdeal.Facts] [hInURefIdeal : Cert.InURefIdeal.Facts] : Prop :=
  ∀ (m : (ℓ : Loc Cert.InUIdeal.nD Cert.InUIdeal.τ Cert.InUIdeal.sig) → Buf (Elt Ideal) ℓ) (g : Dev Cert.InUIdeal.nD → PrngReg)
    (m' : (ℓ : Loc Cert.InURefIdeal.nD Cert.InURefIdeal.τ Cert.InURefIdeal.sig) → Buf (Elt Ideal) ℓ) (g' : Dev Cert.InURefIdeal.nD → PrngReg), Pre_InUIdeal m →
    (∀ c : Dev Cert.InUIdeal.nD,
      m' ((c.tc : Thread Cert.InURefIdeal.nD Cert.InURefIdeal.τ).loc Cert.InURefIdeal.main_arg0) = m ((c.tc : Thread Cert.InUIdeal.nD Cert.InUIdeal.τ).loc Cert.InUIdeal.main_arg0)
      ∧ m' ((c.tc : Thread Cert.InURefIdeal.nD Cert.InURefIdeal.τ).loc Cert.InURefIdeal.main_arg1) = m ((c.tc : Thread Cert.InUIdeal.nD Cert.InUIdeal.τ).loc Cert.InUIdeal.main_arg1)) →
    ∃ (v0 : (c : Dev Cert.InUIdeal.nD) → Buf (Elt Ideal) ((c.tc : Thread Cert.InUIdeal.nD Cert.InUIdeal.τ).loc Cert.InUIdeal.main_v0)),
      θ_run (Cert.InUIdeal.defs (F := Ideal)) (onTc (τ := Cert.InUIdeal.τ) (Cert.InUIdeal.main (F := Ideal))) ⟨m, fun _ => 0, g⟩ (fun r => ∀ c : Dev Cert.InUIdeal.nD,
          r.2.mem ((c.tc : Thread Cert.InUIdeal.nD Cert.InUIdeal.τ).loc Cert.InUIdeal.main_v0) = v0 c
          ∧ r.2.mem ((c.tc : Thread Cert.InUIdeal.nD Cert.InUIdeal.τ).loc Cert.InUIdeal.main_arg0) = m ((c.tc : Thread Cert.InUIdeal.nD Cert.InUIdeal.τ).loc Cert.InUIdeal.main_arg0)
          ∧ r.2.mem ((c.tc : Thread Cert.InUIdeal.nD Cert.InUIdeal.τ).loc Cert.InUIdeal.main_arg1) = m ((c.tc : Thread Cert.InUIdeal.nD Cert.InUIdeal.τ).loc Cert.InUIdeal.main_arg1))
      ∧ θ_run (Cert.InURefIdeal.defs (F := Ideal)) (onTc (τ := Cert.InURefIdeal.τ) (Cert.InURefIdeal.main (F := Ideal))) ⟨m', fun _ => 0, g'⟩ (fun r => ∀ c : Dev Cert.InURefIdeal.nD,
          r.2.mem ((c.tc : Thread Cert.InURefIdeal.nD Cert.InURefIdeal.τ).loc Cert.InURefIdeal.main_v4) = v0 c
          ∧ r.2.mem ((c.tc : Thread Cert.InURefIdeal.nD Cert.InURefIdeal.τ).loc Cert.InURefIdeal.main_arg0) = m' ((c.tc : Thread Cert.InURefIdeal.nD Cert.InURefIdeal.τ).loc Cert.InURefIdeal.main_arg0)
          ∧ r.2.mem ((c.tc : Thread Cert.InURefIdeal.nD Cert.InURefIdeal.τ).loc Cert.InURefIdeal.main_arg1) = m' ((c.tc : Thread Cert.InURefIdeal.nD Cert.InURefIdeal.τ).loc Cert.InURefIdeal.main_arg1))

def preserves_InG_InGIdeal : Prop :=
  True

def algebraic_InGIdeal_InGRefIdeal [hInGIdeal : Cert.InGIdeal.Facts] [hInGRefIdeal : Cert.InGRefIdeal.Facts] : Prop :=
  ∀ (m : (ℓ : Loc Cert.InGIdeal.nD Cert.InGIdeal.τ Cert.InGIdeal.sig) → Buf (Elt Ideal) ℓ) (g : Dev Cert.InGIdeal.nD → PrngReg)
    (m' : (ℓ : Loc Cert.InGRefIdeal.nD Cert.InGRefIdeal.τ Cert.InGRefIdeal.sig) → Buf (Elt Ideal) ℓ) (g' : Dev Cert.InGRefIdeal.nD → PrngReg), Pre_InGIdeal m →
    (∀ c : Dev Cert.InGIdeal.nD,
      m' ((c.tc : Thread Cert.InGRefIdeal.nD Cert.InGRefIdeal.τ).loc Cert.InGRefIdeal.main_arg0) = m ((c.tc : Thread Cert.InGIdeal.nD Cert.InGIdeal.τ).loc Cert.InGIdeal.main_arg0)
      ∧ m' ((c.tc : Thread Cert.InGRefIdeal.nD Cert.InGRefIdeal.τ).loc Cert.InGRefIdeal.main_arg1) = m ((c.tc : Thread Cert.InGIdeal.nD Cert.InGIdeal.τ).loc Cert.InGIdeal.main_arg1)) →
    ∃ (v0 : (c : Dev Cert.InGIdeal.nD) → Buf (Elt Ideal) ((c.tc : Thread Cert.InGIdeal.nD Cert.InGIdeal.τ).loc Cert.InGIdeal.main_v0)),
      θ_run (Cert.InGIdeal.defs (F := Ideal)) (onTc (τ := Cert.InGIdeal.τ) (Cert.InGIdeal.main (F := Ideal))) ⟨m, fun _ => 0, g⟩ (fun r => ∀ c : Dev Cert.InGIdeal.nD,
          r.2.mem ((c.tc : Thread Cert.InGIdeal.nD Cert.InGIdeal.τ).loc Cert.InGIdeal.main_v0) = v0 c
          ∧ r.2.mem ((c.tc : Thread Cert.InGIdeal.nD Cert.InGIdeal.τ).loc Cert.InGIdeal.main_arg0) = m ((c.tc : Thread Cert.InGIdeal.nD Cert.InGIdeal.τ).loc Cert.InGIdeal.main_arg0)
          ∧ r.2.mem ((c.tc : Thread Cert.InGIdeal.nD Cert.InGIdeal.τ).loc Cert.InGIdeal.main_arg1) = m ((c.tc : Thread Cert.InGIdeal.nD Cert.InGIdeal.τ).loc Cert.InGIdeal.main_arg1))
      ∧ θ_run (Cert.InGRefIdeal.defs (F := Ideal)) (onTc (τ := Cert.InGRefIdeal.τ) (Cert.InGRefIdeal.main (F := Ideal))) ⟨m', fun _ => 0, g'⟩ (fun r => ∀ c : Dev Cert.InGRefIdeal.nD,
          r.2.mem ((c.tc : Thread Cert.InGRefIdeal.nD Cert.InGRefIdeal.τ).loc Cert.InGRefIdeal.main_v4) = v0 c
          ∧ r.2.mem ((c.tc : Thread Cert.InGRefIdeal.nD Cert.InGRefIdeal.τ).loc Cert.InGRefIdeal.main_arg0) = m' ((c.tc : Thread Cert.InGRefIdeal.nD Cert.InGRefIdeal.τ).loc Cert.InGRefIdeal.main_arg0)
          ∧ r.2.mem ((c.tc : Thread Cert.InGRefIdeal.nD Cert.InGRefIdeal.τ).loc Cert.InGRefIdeal.main_arg1) = m' ((c.tc : Thread Cert.InGRefIdeal.nD Cert.InGRefIdeal.τ).loc Cert.InGRefIdeal.main_arg1))

def preserves_InSm_InSmIdeal : Prop :=
  True

def algebraic_InSmIdeal_InSmRefIdeal [hInSmIdeal : Cert.InSmIdeal.Facts] [hInSmRefIdeal : Cert.InSmRefIdeal.Facts] : Prop :=
  ∀ (m : (ℓ : Loc Cert.InSmIdeal.nD Cert.InSmIdeal.τ Cert.InSmIdeal.sig) → Buf (Elt Ideal) ℓ) (g : Dev Cert.InSmIdeal.nD → PrngReg)
    (m' : (ℓ : Loc Cert.InSmRefIdeal.nD Cert.InSmRefIdeal.τ Cert.InSmRefIdeal.sig) → Buf (Elt Ideal) ℓ) (g' : Dev Cert.InSmRefIdeal.nD → PrngReg), Pre_InSmIdeal m →
    (∀ c : Dev Cert.InSmIdeal.nD,
      m' ((c.tc : Thread Cert.InSmRefIdeal.nD Cert.InSmRefIdeal.τ).loc Cert.InSmRefIdeal.main_arg0) = m ((c.tc : Thread Cert.InSmIdeal.nD Cert.InSmIdeal.τ).loc Cert.InSmIdeal.main_arg0)
      ∧ m' ((c.tc : Thread Cert.InSmRefIdeal.nD Cert.InSmRefIdeal.τ).loc Cert.InSmRefIdeal.main_arg1) = m ((c.tc : Thread Cert.InSmIdeal.nD Cert.InSmIdeal.τ).loc Cert.InSmIdeal.main_arg1)) →
    ∃ (v0 : (c : Dev Cert.InSmIdeal.nD) → Buf (Elt Ideal) ((c.tc : Thread Cert.InSmIdeal.nD Cert.InSmIdeal.τ).loc Cert.InSmIdeal.main_v0)),
      θ_run (Cert.InSmIdeal.defs (F := Ideal)) (onTc (τ := Cert.InSmIdeal.τ) (Cert.InSmIdeal.main (F := Ideal))) ⟨m, fun _ => 0, g⟩ (fun r => ∀ c : Dev Cert.InSmIdeal.nD,
          r.2.mem ((c.tc : Thread Cert.InSmIdeal.nD Cert.InSmIdeal.τ).loc Cert.InSmIdeal.main_v0) = v0 c
          ∧ r.2.mem ((c.tc : Thread Cert.InSmIdeal.nD Cert.InSmIdeal.τ).loc Cert.InSmIdeal.main_arg0) = m ((c.tc : Thread Cert.InSmIdeal.nD Cert.InSmIdeal.τ).loc Cert.InSmIdeal.main_arg0)
          ∧ r.2.mem ((c.tc : Thread Cert.InSmIdeal.nD Cert.InSmIdeal.τ).loc Cert.InSmIdeal.main_arg1) = m ((c.tc : Thread Cert.InSmIdeal.nD Cert.InSmIdeal.τ).loc Cert.InSmIdeal.main_arg1))
      ∧ θ_run (Cert.InSmRefIdeal.defs (F := Ideal)) (onTc (τ := Cert.InSmRefIdeal.τ) (Cert.InSmRefIdeal.main (F := Ideal))) ⟨m', fun _ => 0, g'⟩ (fun r => ∀ c : Dev Cert.InSmRefIdeal.nD,
          r.2.mem ((c.tc : Thread Cert.InSmRefIdeal.nD Cert.InSmRefIdeal.τ).loc Cert.InSmRefIdeal.main_v3) = v0 c
          ∧ r.2.mem ((c.tc : Thread Cert.InSmRefIdeal.nD Cert.InSmRefIdeal.τ).loc Cert.InSmRefIdeal.main_arg0) = m' ((c.tc : Thread Cert.InSmRefIdeal.nD Cert.InSmRefIdeal.τ).loc Cert.InSmRefIdeal.main_arg0)
          ∧ r.2.mem ((c.tc : Thread Cert.InSmRefIdeal.nD Cert.InSmRefIdeal.τ).loc Cert.InSmRefIdeal.main_arg1) = m' ((c.tc : Thread Cert.InSmRefIdeal.nD Cert.InSmRefIdeal.τ).loc Cert.InSmRefIdeal.main_arg1))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v3) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1))

def preserves_BranchDx_BranchDxIdeal : Prop :=
  True

def algebraic_BranchDxIdeal_BranchDxRefIdeal [hBranchDxIdeal : Cert.BranchDxIdeal.Facts] [hBranchDxRefIdeal : Cert.BranchDxRefIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg)
    (m' : (ℓ : Loc Cert.BranchDxRefIdeal.nD Cert.BranchDxRefIdeal.τ Cert.BranchDxRefIdeal.sig) → Buf (Elt Ideal) ℓ) (g' : Dev Cert.BranchDxRefIdeal.nD → PrngReg), Pre_BranchDxIdeal m →
    (∀ c : Dev Cert.BranchDxIdeal.nD,
      m' ((c.tc : Thread Cert.BranchDxRefIdeal.nD Cert.BranchDxRefIdeal.τ).loc Cert.BranchDxRefIdeal.main_arg0) = m ((c.tc : Thread Cert.BranchDxIdeal.nD Cert.BranchDxIdeal.τ).loc Cert.BranchDxIdeal.main_arg0)
      ∧ m' ((c.tc : Thread Cert.BranchDxRefIdeal.nD Cert.BranchDxRefIdeal.τ).loc Cert.BranchDxRefIdeal.main_arg1) = m ((c.tc : Thread Cert.BranchDxIdeal.nD Cert.BranchDxIdeal.τ).loc Cert.BranchDxIdeal.main_arg1)) →
    ∃ (v0 : (c : Dev Cert.BranchDxIdeal.nD) → Buf (Elt Ideal) ((c.tc : Thread Cert.BranchDxIdeal.nD Cert.BranchDxIdeal.τ).loc Cert.BranchDxIdeal.main_v0)),
      θ_run (Cert.BranchDxIdeal.defs (F := Ideal)) (onTc (τ := Cert.BranchDxIdeal.τ) (Cert.BranchDxIdeal.main (F := Ideal))) ⟨m, fun _ => 0, g⟩ (fun r => ∀ c : Dev Cert.BranchDxIdeal.nD,
          r.2.mem ((c.tc : Thread Cert.BranchDxIdeal.nD Cert.BranchDxIdeal.τ).loc Cert.BranchDxIdeal.main_v0) = v0 c
          ∧ r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
          ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ θ_run (Cert.BranchDxRefIdeal.defs (F := Ideal)) (onTc (τ := Cert.BranchDxRefIdeal.τ) (Cert.BranchDxRefIdeal.main (F := Ideal))) ⟨m', fun _ => 0, g'⟩ (fun r => ∀ c : Dev Cert.BranchDxRefIdeal.nD,
          r.2.mem ((c.tc : Thread Cert.BranchDxRefIdeal.nD Cert.BranchDxRefIdeal.τ).loc Cert.BranchDxRefIdeal.main_v5) = v0 c
          ∧ r.2.mem ((c.tc : Thread Cert.BranchDxRefIdeal.nD Cert.BranchDxRefIdeal.τ).loc Cert.BranchDxRefIdeal.main_arg0) = m' ((c.tc : Thread Cert.BranchDxRefIdeal.nD Cert.BranchDxRefIdeal.τ).loc Cert.BranchDxRefIdeal.main_arg0)
          ∧ r.2.mem ((c.tc : Thread Cert.BranchDxRefIdeal.nD Cert.BranchDxRefIdeal.τ).loc Cert.BranchDxRefIdeal.main_arg1) = m' ((c.tc : Thread Cert.BranchDxRefIdeal.nD Cert.BranchDxRefIdeal.τ).loc Cert.BranchDxRefIdeal.main_arg1))

def preserves_BranchDw_BranchDwIdeal : Prop :=
  True

def algebraic_BranchDwIdeal_BranchDwRefIdeal [hBranchDwIdeal : Cert.BranchDwIdeal.Facts] [hBranchDwRefIdeal : Cert.BranchDwRefIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwRefIdeal.nD Cert.BranchDwRefIdeal.τ Cert.BranchDwRefIdeal.sig) → Buf (Elt Ideal) ℓ) (g' : Dev Cert.BranchDwRefIdeal.nD → PrngReg), Pre_BranchDwIdeal m →
    (∀ c : Dev Cert.BranchDwIdeal.nD,
      m' ((c.tc : Thread Cert.BranchDwRefIdeal.nD Cert.BranchDwRefIdeal.τ).loc Cert.BranchDwRefIdeal.main_arg0) = m ((c.tc : Thread Cert.BranchDwIdeal.nD Cert.BranchDwIdeal.τ).loc Cert.BranchDwIdeal.main_arg0)
      ∧ m' ((c.tc : Thread Cert.BranchDwRefIdeal.nD Cert.BranchDwRefIdeal.τ).loc Cert.BranchDwRefIdeal.main_arg1) = m ((c.tc : Thread Cert.BranchDwIdeal.nD Cert.BranchDwIdeal.τ).loc Cert.BranchDwIdeal.main_arg1)) →
    ∃ (v0 : (c : Dev Cert.BranchDwIdeal.nD) → Buf (Elt Ideal) ((c.tc : Thread Cert.BranchDwIdeal.nD Cert.BranchDwIdeal.τ).loc Cert.BranchDwIdeal.main_v0)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v0) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ θ_run (Cert.BranchDwRefIdeal.defs (F := Ideal)) (onTc (τ := Cert.BranchDwRefIdeal.τ) (Cert.BranchDwRefIdeal.main (F := Ideal))) ⟨m', fun _ => 0, g'⟩ (fun r => ∀ c : Dev Cert.BranchDwRefIdeal.nD,
          r.2.mem ((c.tc : Thread Cert.BranchDwRefIdeal.nD Cert.BranchDwRefIdeal.τ).loc Cert.BranchDwRefIdeal.main_v5) = v0 c
          ∧ r.2.mem ((c.tc : Thread Cert.BranchDwRefIdeal.nD Cert.BranchDwRefIdeal.τ).loc Cert.BranchDwRefIdeal.main_arg0) = m' ((c.tc : Thread Cert.BranchDwRefIdeal.nD Cert.BranchDwRefIdeal.τ).loc Cert.BranchDwRefIdeal.main_arg0)
          ∧ r.2.mem ((c.tc : Thread Cert.BranchDwRefIdeal.nD Cert.BranchDwRefIdeal.τ).loc Cert.BranchDwRefIdeal.main_arg1) = m' ((c.tc : Thread Cert.BranchDwRefIdeal.nD Cert.BranchDwRefIdeal.τ).loc Cert.BranchDwRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_OutProjDx_OutProjDxIdeal : Prop :=
  True

def algebraic_OutProjDxIdeal_OutProjDxRefIdeal [hOutProjDxIdeal : Cert.OutProjDxIdeal.Facts] [hOutProjDxRefIdeal : Cert.OutProjDxRefIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxRefIdeal.nD Cert.OutProjDxRefIdeal.τ Cert.OutProjDxRefIdeal.sig) → Buf (Elt Ideal) ℓ) (g' : Dev Cert.OutProjDxRefIdeal.nD → PrngReg), Pre_OutProjDxIdeal m →
    (∀ c : Dev Cert.OutProjDxIdeal.nD,
      m' ((c.tc : Thread Cert.OutProjDxRefIdeal.nD Cert.OutProjDxRefIdeal.τ).loc Cert.OutProjDxRefIdeal.main_arg0) = m ((c.tc : Thread Cert.OutProjDxIdeal.nD Cert.OutProjDxIdeal.τ).loc Cert.OutProjDxIdeal.main_arg0)
      ∧ m' ((c.tc : Thread Cert.OutProjDxRefIdeal.nD Cert.OutProjDxRefIdeal.τ).loc Cert.OutProjDxRefIdeal.main_arg1) = m ((c.tc : Thread Cert.OutProjDxIdeal.nD Cert.OutProjDxIdeal.τ).loc Cert.OutProjDxIdeal.main_arg1)) →
    ∃ (v0 : (c : Dev Cert.OutProjDxIdeal.nD) → Buf (Elt Ideal) ((c.tc : Thread Cert.OutProjDxIdeal.nD Cert.OutProjDxIdeal.τ).loc Cert.OutProjDxIdeal.main_v0)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v0) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ θ_run (Cert.OutProjDxRefIdeal.defs (F := Ideal)) (onTc (τ := Cert.OutProjDxRefIdeal.τ) (Cert.OutProjDxRefIdeal.main (F := Ideal))) ⟨m', fun _ => 0, g'⟩ (fun r => ∀ c : Dev Cert.OutProjDxRefIdeal.nD,
          r.2.mem ((c.tc : Thread Cert.OutProjDxRefIdeal.nD Cert.OutProjDxRefIdeal.τ).loc Cert.OutProjDxRefIdeal.main_v4) = v0 c
          ∧ r.2.mem ((c.tc : Thread Cert.OutProjDxRefIdeal.nD Cert.OutProjDxRefIdeal.τ).loc Cert.OutProjDxRefIdeal.main_arg0) = m' ((c.tc : Thread Cert.OutProjDxRefIdeal.nD Cert.OutProjDxRefIdeal.τ).loc Cert.OutProjDxRefIdeal.main_arg0)
          ∧ r.2.mem ((c.tc : Thread Cert.OutProjDxRefIdeal.nD Cert.OutProjDxRefIdeal.τ).loc Cert.OutProjDxRefIdeal.main_arg1) = m' ((c.tc : Thread Cert.OutProjDxRefIdeal.nD Cert.OutProjDxRefIdeal.τ).loc Cert.OutProjDxRefIdeal.main_arg1))

def preserves_OutProjDw_OutProjDwIdeal : Prop :=
  True

def algebraic_OutProjDwIdeal_OutProjDwRefIdeal [hOutProjDwIdeal : Cert.OutProjDwIdeal.Facts] [hOutProjDwRefIdeal : Cert.OutProjDwRefIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwRefIdeal.nD Cert.OutProjDwRefIdeal.τ Cert.OutProjDwRefIdeal.sig) → Buf (Elt Ideal) ℓ) (g' : Dev Cert.OutProjDwRefIdeal.nD → PrngReg), Pre_OutProjDwIdeal m →
    (∀ c : Dev Cert.OutProjDwIdeal.nD,
      m' ((c.tc : Thread Cert.OutProjDwRefIdeal.nD Cert.OutProjDwRefIdeal.τ).loc Cert.OutProjDwRefIdeal.main_arg0) = m ((c.tc : Thread Cert.OutProjDwIdeal.nD Cert.OutProjDwIdeal.τ).loc Cert.OutProjDwIdeal.main_arg0)
      ∧ m' ((c.tc : Thread Cert.OutProjDwRefIdeal.nD Cert.OutProjDwRefIdeal.τ).loc Cert.OutProjDwRefIdeal.main_arg1) = m ((c.tc : Thread Cert.OutProjDwIdeal.nD Cert.OutProjDwIdeal.τ).loc Cert.OutProjDwIdeal.main_arg1)) →
    ∃ (v0 : (c : Dev Cert.OutProjDwIdeal.nD) → Buf (Elt Ideal) ((c.tc : Thread Cert.OutProjDwIdeal.nD Cert.OutProjDwIdeal.τ).loc Cert.OutProjDwIdeal.main_v0)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ θ_run (Cert.OutProjDwRefIdeal.defs (F := Ideal)) (onTc (τ := Cert.OutProjDwRefIdeal.τ) (Cert.OutProjDwRefIdeal.main (F := Ideal))) ⟨m', fun _ => 0, g'⟩ (fun r => ∀ c : Dev Cert.OutProjDwRefIdeal.nD,
          r.2.mem ((c.tc : Thread Cert.OutProjDwRefIdeal.nD Cert.OutProjDwRefIdeal.τ).loc Cert.OutProjDwRefIdeal.main_v4) = v0 c
          ∧ r.2.mem ((c.tc : Thread Cert.OutProjDwRefIdeal.nD Cert.OutProjDwRefIdeal.τ).loc Cert.OutProjDwRefIdeal.main_arg0) = m' ((c.tc : Thread Cert.OutProjDwRefIdeal.nD Cert.OutProjDwRefIdeal.τ).loc Cert.OutProjDwRefIdeal.main_arg0)
          ∧ r.2.mem ((c.tc : Thread Cert.OutProjDwRefIdeal.nD Cert.OutProjDwRefIdeal.τ).loc Cert.OutProjDwRefIdeal.main_arg1) = m' ((c.tc : Thread Cert.OutProjDwRefIdeal.nD Cert.OutProjDwRefIdeal.τ).loc Cert.OutProjDwRefIdeal.main_arg1))

def Claim : Prop :=
  ∃ (hKernel : Cert.Kernel.Facts) (hKernelIdeal : Cert.KernelIdeal.Facts) (hReferenceIdeal : Cert.ReferenceIdeal.Facts) (hFfnInDx : Cert.FfnInDx.Facts) (hFfnInDxIdeal : Cert.FfnInDxIdeal.Facts) (hFfnInDxRefIdeal : Cert.FfnInDxRefIdeal.Facts) (hFfnInDw : Cert.FfnInDw.Facts) (hFfnInDwIdeal : Cert.FfnInDwIdeal.Facts) (hFfnInDwRefIdeal : Cert.FfnInDwRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hFfnOutDw : Cert.FfnOutDw.Facts) (hFfnOutDwIdeal : Cert.FfnOutDwIdeal.Facts) (hFfnOutDwRefIdeal : Cert.FfnOutDwRefIdeal.Facts) (hFfnOutDx : Cert.FfnOutDx.Facts) (hFfnOutDxIdeal : Cert.FfnOutDxIdeal.Facts) (hFfnOutDxRefIdeal : Cert.FfnOutDxRefIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hInZ : Cert.InZ.Facts) (hInZIdeal : Cert.InZIdeal.Facts) (hInZRefIdeal : Cert.InZRefIdeal.Facts) (hInXbc : Cert.InXbc.Facts) (hInXbcIdeal : Cert.InXbcIdeal.Facts) (hInXbcRefIdeal : Cert.InXbcRefIdeal.Facts) (hInQkv : Cert.InQkv.Facts) (hInQkvIdeal : Cert.InQkvIdeal.Facts) (hInQkvRefIdeal : Cert.InQkvRefIdeal.Facts) (hInU : Cert.InU.Facts) (hInUIdeal : Cert.InUIdeal.Facts) (hInURefIdeal : Cert.InURefIdeal.Facts) (hInG : Cert.InG.Facts) (hInGIdeal : Cert.InGIdeal.Facts) (hInGRefIdeal : Cert.InGRefIdeal.Facts) (hInSm : Cert.InSm.Facts) (hInSmIdeal : Cert.InSmIdeal.Facts) (hInSmRefIdeal : Cert.InSmRefIdeal.Facts) (hBranch : Cert.Branch.Facts) (hBranchIdeal : Cert.BranchIdeal.Facts) (hBranchRefIdeal : Cert.BranchRefIdeal.Facts) (hBranchDx : Cert.BranchDx.Facts) (hBranchDxIdeal : Cert.BranchDxIdeal.Facts) (hBranchDxRefIdeal : Cert.BranchDxRefIdeal.Facts) (hBranchDw : Cert.BranchDw.Facts) (hBranchDwIdeal : Cert.BranchDwIdeal.Facts) (hBranchDwRefIdeal : Cert.BranchDwRefIdeal.Facts) (hOutProj : Cert.OutProj.Facts) (hOutProjIdeal : Cert.OutProjIdeal.Facts) (hOutProjRefIdeal : Cert.OutProjRefIdeal.Facts) (hOutProjDx : Cert.OutProjDx.Facts) (hOutProjDxIdeal : Cert.OutProjDxIdeal.Facts) (hOutProjDxRefIdeal : Cert.OutProjDxRefIdeal.Facts) (hOutProjDw : Cert.OutProjDw.Facts) (hOutProjDwIdeal : Cert.OutProjDwIdeal.Facts) (hOutProjDwRefIdeal : Cert.OutProjDwRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnInDx (hFfnInDx := hFfnInDx)
    ∧ quiescent_FfnInDxIdeal (hFfnInDxIdeal := hFfnInDxIdeal)
    ∧ quiescent_FfnInDxRefIdeal (hFfnInDxRefIdeal := hFfnInDxRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_FfnOutDw (hFfnOutDw := hFfnOutDw)
    ∧ quiescent_FfnOutDwIdeal (hFfnOutDwIdeal := hFfnOutDwIdeal)
    ∧ quiescent_FfnOutDwRefIdeal (hFfnOutDwRefIdeal := hFfnOutDwRefIdeal)
    ∧ quiescent_FfnOutDx (hFfnOutDx := hFfnOutDx)
    ∧ quiescent_FfnOutDxIdeal (hFfnOutDxIdeal := hFfnOutDxIdeal)
    ∧ quiescent_FfnOutDxRefIdeal (hFfnOutDxRefIdeal := hFfnOutDxRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_InZ (hInZ := hInZ)
    ∧ quiescent_InZIdeal (hInZIdeal := hInZIdeal)
    ∧ quiescent_InZRefIdeal (hInZRefIdeal := hInZRefIdeal)
    ∧ quiescent_InXbc (hInXbc := hInXbc)
    ∧ quiescent_InXbcIdeal (hInXbcIdeal := hInXbcIdeal)
    ∧ quiescent_InXbcRefIdeal (hInXbcRefIdeal := hInXbcRefIdeal)
    ∧ quiescent_InQkv (hInQkv := hInQkv)
    ∧ quiescent_InQkvIdeal (hInQkvIdeal := hInQkvIdeal)
    ∧ quiescent_InQkvRefIdeal (hInQkvRefIdeal := hInQkvRefIdeal)
    ∧ quiescent_InU (hInU := hInU)
    ∧ quiescent_InUIdeal (hInUIdeal := hInUIdeal)
    ∧ quiescent_InURefIdeal (hInURefIdeal := hInURefIdeal)
    ∧ quiescent_InG (hInG := hInG)
    ∧ quiescent_InGIdeal (hInGIdeal := hInGIdeal)
    ∧ quiescent_InGRefIdeal (hInGRefIdeal := hInGRefIdeal)
    ∧ quiescent_InSm (hInSm := hInSm)
    ∧ quiescent_InSmIdeal (hInSmIdeal := hInSmIdeal)
    ∧ quiescent_InSmRefIdeal (hInSmRefIdeal := hInSmRefIdeal)
    ∧ quiescent_Branch (hBranch := hBranch)
    ∧ quiescent_BranchIdeal (hBranchIdeal := hBranchIdeal)
    ∧ quiescent_BranchRefIdeal (hBranchRefIdeal := hBranchRefIdeal)
    ∧ quiescent_BranchDx (hBranchDx := hBranchDx)
    ∧ quiescent_BranchDxIdeal (hBranchDxIdeal := hBranchDxIdeal)
    ∧ quiescent_BranchDxRefIdeal (hBranchDxRefIdeal := hBranchDxRefIdeal)
    ∧ quiescent_BranchDw (hBranchDw := hBranchDw)
    ∧ quiescent_BranchDwIdeal (hBranchDwIdeal := hBranchDwIdeal)
    ∧ quiescent_BranchDwRefIdeal (hBranchDwRefIdeal := hBranchDwRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutProjDx (hOutProjDx := hOutProjDx)
    ∧ quiescent_OutProjDxIdeal (hOutProjDxIdeal := hOutProjDxIdeal)
    ∧ quiescent_OutProjDxRefIdeal (hOutProjDxRefIdeal := hOutProjDxRefIdeal)
    ∧ quiescent_OutProjDw (hOutProjDw := hOutProjDw)
    ∧ quiescent_OutProjDwIdeal (hOutProjDwIdeal := hOutProjDwIdeal)
    ∧ quiescent_OutProjDwRefIdeal (hOutProjDwRefIdeal := hOutProjDwRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnInDx_FfnInDxIdeal
    ∧ algebraic_FfnInDxIdeal_FfnInDxRefIdeal (hFfnInDxIdeal := hFfnInDxIdeal) (hFfnInDxRefIdeal := hFfnInDxRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_FfnOutDw_FfnOutDwIdeal
    ∧ algebraic_FfnOutDwIdeal_FfnOutDwRefIdeal (hFfnOutDwIdeal := hFfnOutDwIdeal) (hFfnOutDwRefIdeal := hFfnOutDwRefIdeal)
    ∧ preserves_FfnOutDx_FfnOutDxIdeal
    ∧ algebraic_FfnOutDxIdeal_FfnOutDxRefIdeal (hFfnOutDxIdeal := hFfnOutDxIdeal) (hFfnOutDxRefIdeal := hFfnOutDxRefIdeal)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_InZ_InZIdeal
    ∧ algebraic_InZIdeal_InZRefIdeal (hInZIdeal := hInZIdeal) (hInZRefIdeal := hInZRefIdeal)
    ∧ preserves_InXbc_InXbcIdeal
    ∧ algebraic_InXbcIdeal_InXbcRefIdeal (hInXbcIdeal := hInXbcIdeal) (hInXbcRefIdeal := hInXbcRefIdeal)
    ∧ preserves_InQkv_InQkvIdeal
    ∧ algebraic_InQkvIdeal_InQkvRefIdeal (hInQkvIdeal := hInQkvIdeal) (hInQkvRefIdeal := hInQkvRefIdeal)
    ∧ preserves_InU_InUIdeal
    ∧ algebraic_InUIdeal_InURefIdeal (hInUIdeal := hInUIdeal) (hInURefIdeal := hInURefIdeal)
    ∧ preserves_InG_InGIdeal
    ∧ algebraic_InGIdeal_InGRefIdeal (hInGIdeal := hInGIdeal) (hInGRefIdeal := hInGRefIdeal)
    ∧ preserves_InSm_InSmIdeal
    ∧ algebraic_InSmIdeal_InSmRefIdeal (hInSmIdeal := hInSmIdeal) (hInSmRefIdeal := hInSmRefIdeal)
    ∧ preserves_Branch_BranchIdeal
    ∧ algebraic_BranchIdeal_BranchRefIdeal (hBranchIdeal := hBranchIdeal) (hBranchRefIdeal := hBranchRefIdeal)
    ∧ preserves_BranchDx_BranchDxIdeal
    ∧ algebraic_BranchDxIdeal_BranchDxRefIdeal (hBranchDxIdeal := hBranchDxIdeal) (hBranchDxRefIdeal := hBranchDxRefIdeal)
    ∧ preserves_BranchDw_BranchDwIdeal
    ∧ algebraic_BranchDwIdeal_BranchDwRefIdeal (hBranchDwIdeal := hBranchDwIdeal) (hBranchDwRefIdeal := hBranchDwRefIdeal)
    ∧ preserves_OutProj_OutProjIdeal
    ∧ algebraic_OutProjIdeal_OutProjRefIdeal (hOutProjIdeal := hOutProjIdeal) (hOutProjRefIdeal := hOutProjRefIdeal)
    ∧ preserves_OutProjDx_OutProjDxIdeal
    ∧ algebraic_OutProjDxIdeal_OutProjDxRefIdeal (hOutProjDxIdeal := hOutProjDxIdeal) (hOutProjDxRefIdeal := hOutProjDxRefIdeal)
    ∧ preserves_OutProjDw_OutProjDwIdeal
    ∧ algebraic_OutProjDwIdeal_OutProjDwRefIdeal (hOutProjDwIdeal := hOutProjDwIdeal) (hOutProjDwRefIdeal := hOutProjDwRefIdeal)
-- ==== Pre_finite.lean ====
abbrev S8448x3072 : Shape := ⟨2, ![8448, 3072]⟩
abbrev S2x8x4224 : Shape := ⟨3, ![2, 8, 4224]⟩
abbrev S2x4112x1024 : Shape := ⟨3, ![2, 4112, 1024]⟩
abbrev S_ : Shape := ⟨0, ![]⟩

class Facts : Prop where
  bcast_S_S8448x3072 : S_.BroadcastsInDim S8448x3072 (![] : Fin 0 → Fin S8448x3072.rank)
  bcast_S_S2x8x4224 : S_.BroadcastsInDim S2x8x4224 (![] : Fin 0 → Fin S2x8x4224.rank)
  bcast_S_S2x4112x1024 : S_.BroadcastsInDim S2x4112x1024 (![] : Fin 0 → Fin S2x4112x1024.rank)

variable [Facts]

def fn {F : FTy → Type} [FloatOps F] (main_arg0 : FVec F S8448x3072 .f32) (main_arg1 : FVec F S2x8x4224 .f32) (main_arg2 : FVec F S2x4112x1024 .f32) : IVec S8448x3072 1 × IVec S2x8x4224 1 × IVec S2x4112x1024 1 :=
  let main_v0 : FVec F S8448x3072 .f32 := Host.absf main_arg0
  let main_cst : FVec F S_ .f32 := constant S_ .f32 0x7F800000#32
  let main_v1 : FVec F S8448x3072 .f32 := broadcastInDim S8448x3072 ![] bcast_S_S8448x3072 main_cst
  let main_v2 : IVec S8448x3072 1 := cmpf .olt main_v0 main_v1
  let main_v3 : FVec F S2x8x4224 .f32 := Host.absf main_arg1
  let main_cst_0 : FVec F S_ .f32 := constant S_ .f32 0x7F800000#32
  let main_v4 : FVec F S2x8x4224 .f32 := broadcastInDim S2x8x4224 ![] bcast_S_S2x8x4224 main_cst_0
  let main_v5 : IVec S2x8x4224 1 := cmpf .olt main_v3 main_v4
  let main_v6 : FVec F S2x4112x1024 .f32 := Host.absf main_arg2
  let main_cst_1 : FVec F S_ .f32 := constant S_ .f32 0x7F800000#32
  let main_v7 : FVec F S2x4112x1024 .f32 := broadcastInDim S2x4112x1024 ![] bcast_S_S2x4112x1024 main_cst_1
  let main_v8 : IVec S2x4112x1024 1 := cmpf .olt main_v6 main_v7
  (main_v2, main_v5, main_v8)
-- ==== Kernel.lean ====
abbrev S8448x3072 : Shape := ⟨2, ![8448, 3072]⟩
abbrev S2x8x4224 : Shape := ⟨3, ![2, 8, 4224]⟩
abbrev S2x4112x1024 : Shape := ⟨3, ![2, 4112, 1024]⟩
abbrev S_ : Shape := ⟨0, ![]⟩
abbrev S8448x1024 : Shape := ⟨2, ![8448, 1024]⟩
abbrev S2x4224x8x128 : Shape := ⟨4, ![2, 4224, 8, 128]⟩
abbrev S2x4112x8x128 : Shape := ⟨4, ![2, 4112, 8, 128]⟩
abbrev S2x8x4112x4112 : Shape := ⟨4, ![2, 8, 4112, 4112]⟩
abbrev S2x8x4112 : Shape := ⟨3, ![2, 8, 4112]⟩
abbrev S2x8x4112x1 : Shape := ⟨4, ![2, 8, 4112, 1]⟩
abbrev S2x8x1x4112 : Shape := ⟨4, ![2, 8, 1, 4112]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S2x8x128x4112 : Shape := ⟨4, ![2, 8, 128, 4112]⟩
abbrev S16x1x4224 : Shape := ⟨3, ![16, 1, 4224]⟩
abbrev S2x4224x1024 : Shape := ⟨3, ![2, 4224, 1024]⟩
abbrev S2x8x4224x1 : Shape := ⟨4, ![2, 8, 4224, 1]⟩
abbrev S4224x128 : Shape := ⟨2, ![4224, 128]⟩
abbrev S384x128 : Shape := ⟨2, ![384, 128]⟩
abbrev S1x1x4224x1 : Shape := ⟨4, ![1, 1, 4224, 1]⟩
abbrev S1x1x384 : Shape := ⟨3, ![1, 1, 384]⟩
abbrev S4224x1 : Shape := ⟨2, ![4224, 1]⟩
abbrev S1x384 : Shape := ⟨2, ![1, 384]⟩
abbrev S384 : Shape := ⟨1, ![384]⟩
abbrev S384x1 : Shape := ⟨2, ![384, 1]⟩
abbrev S384x384 : Shape := ⟨2, ![384, 384]⟩
abbrev S1x1x384x1 : Shape := ⟨4, ![1, 1, 384, 1]⟩
abbrev S768x128 : Shape := ⟨2, ![768, 128]⟩
abbrev S768x384 : Shape := ⟨2, ![768, 384]⟩
abbrev S1x1x768x1 : Shape := ⟨4, ![1, 1, 768, 1]⟩
abbrev S768x1 : Shape := ⟨2, ![768, 1]⟩
abbrev S768 : Shape := ⟨1, ![768]⟩

abbrev nBuf : Space → Nat
  | .hbm => 93
  | .vmem => 25
  | .smem => 0
  | _ => 0

abbrev bufTy : (tb : Table) → Fin (tcTables nBuf tb) → BufTy
  | .hbm, ⟨0, _⟩ => ⟨S8448x3072, .f32⟩
  | .hbm, ⟨1, _⟩ => ⟨S2x8x4224, .f32⟩
  | .hbm, ⟨2, _⟩ => ⟨S2x4112x1024, .f32⟩
  | .hbm, ⟨3, _⟩ => ⟨S_, .f32⟩
  | .hbm, ⟨4, _⟩ => ⟨S2x8x4224, .f32⟩
  | .hbm, ⟨5, _⟩ => ⟨S8448x1024, .f32⟩
  | .hbm, ⟨6, _⟩ => ⟨S8448x1024, .f32⟩
  | .hbm, ⟨7, _⟩ => ⟨S8448x1024, .f32⟩
  | .hbm, ⟨8, _⟩ => ⟨S2x4224x8x128, .f32⟩
  | .hbm, ⟨9, _⟩ => ⟨S2x4112x8x128, .f32⟩
  | .hbm, ⟨10, _⟩ => ⟨S2x4224x8x128, .f32⟩
  | .hbm, ⟨11, _⟩ => ⟨S2x4112x8x128, .f32⟩
  | .hbm, ⟨12, _⟩ => ⟨S2x4224x8x128, .f32⟩
  | .hbm, ⟨13, _⟩ => ⟨S2x4112x8x128, .f32⟩
  | .hbm, ⟨14, _⟩ => ⟨S2x8x4112x4112, .f32⟩
  | .hbm, ⟨15, _⟩ => ⟨S_, .f32⟩
  | .hbm, ⟨16, _⟩ => ⟨S2x8x4112x4112, .f32⟩
  | .hbm, ⟨17, _⟩ => ⟨S2x8x4112x4112, .f32⟩
  | .hbm, ⟨18, _⟩ => ⟨S2x8x4112, .f32⟩
  | .hbm, ⟨19, _⟩ => ⟨S2x8x4112x1, .f32⟩
  | .hbm, ⟨20, _⟩ => ⟨S2x8x4112x4112, .f32⟩
  | .hbm, ⟨21, _⟩ => ⟨S2x8x4112x4112, .f32⟩
  | .hbm, ⟨22, _⟩ => ⟨S2x8x4112, .f32⟩
  | .hbm, ⟨23, _⟩ => ⟨S2x8x1x4112, .f32⟩
  | .hbm, ⟨24, _⟩ => ⟨S2x8x4112x4112, .f32⟩
  | .hbm, ⟨25, _⟩ => ⟨S2x8x4112x4112, .f32⟩
  | .hbm, ⟨26, _⟩ => ⟨S4112, .i32⟩
  | .hbm, ⟨27, _⟩ => ⟨S1x4112, .i32⟩
  | .hbm, ⟨28, _⟩ => ⟨S4112x1, .i32⟩
  | .hbm, ⟨29, _⟩ => ⟨S4112x4112, .i32⟩
  | .hbm, ⟨30, _⟩ => ⟨S4112x4112, .i32⟩
  | .hbm, ⟨31, _⟩ => ⟨S4112x4112, .i1⟩
  | .hbm, ⟨32, _⟩ => ⟨S_, .f32⟩
  | .hbm, ⟨33, _⟩ => ⟨S_, .f32⟩
  | .hbm, ⟨34, _⟩ => ⟨S2x8x4112x4112, .i1⟩
  | .hbm, ⟨35, _⟩ => ⟨S2x8x4112x4112, .f32⟩
  | .hbm, ⟨36, _⟩ => ⟨S2x8x4112x4112, .f32⟩
  | .hbm, ⟨37, _⟩ => ⟨S_, .f32⟩
  | .hbm, ⟨38, _⟩ => ⟨S2x8x4112, .f32⟩
  | .hbm, ⟨39, _⟩ => ⟨S2x8x4112x1, .f32⟩
  | .hbm, ⟨40, _⟩ => ⟨S2x8x4112x4112, .f32⟩
  | .hbm, ⟨41, _⟩ => ⟨S2x8x4112x4112, .f32⟩
  | .hbm, ⟨42, _⟩ => ⟨S2x8x4112x4112, .f32⟩
  | .hbm, ⟨43, _⟩ => ⟨S_, .f32⟩
  | .hbm, ⟨44, _⟩ => ⟨S2x8x4112, .f32⟩
  | .hbm, ⟨45, _⟩ => ⟨S2x8x4112x1, .f32⟩
  | .hbm, ⟨46, _⟩ => ⟨S2x8x4112x1, .f32⟩
  | .hbm, ⟨47, _⟩ => ⟨S2x8x4112x1, .f32⟩
  | .hbm, ⟨48, _⟩ => ⟨S_, .f32⟩
  | .hbm, ⟨49, _⟩ => ⟨S2x8x4112, .f32⟩
  | .hbm, ⟨50, _⟩ => ⟨S_, .f32⟩
  | .hbm, ⟨51, _⟩ => ⟨S2x8x4112, .f32⟩
  | .hbm, ⟨52, _⟩ => ⟨S2x8x4112, .f32⟩
  | .hbm, ⟨53, _⟩ => ⟨S2x8x4112x1, .f32⟩
  | .hbm, ⟨54, _⟩ => ⟨S2x8x4112x4112, .f32⟩
  | .hbm, ⟨55, _⟩ => ⟨S2x8x4112x4112, .f32⟩
  | .hbm, ⟨56, _⟩ => ⟨S2x8x4112x4112, .f32⟩
  | .hbm, ⟨57, _⟩ => ⟨S_, .f32⟩
  | .hbm, ⟨58, _⟩ => ⟨S2x8x4112, .f32⟩
  | .hbm, ⟨59, _⟩ => ⟨S2x8x4112x1, .f32⟩
  | .hbm, ⟨60, _⟩ => ⟨S2x8x4112x4112, .f32⟩
  | .hbm, ⟨61, _⟩ => ⟨S2x8x4112x4112, .f32⟩
  | .hbm, ⟨62, _⟩ => ⟨S2x8x128x4112, .f32⟩
  | .hbm, ⟨63, _⟩ => ⟨S2x4112x8x128, .f32⟩
  | .hbm, ⟨64, _⟩ => ⟨S2x4112x1024, .f32⟩
  | .hbm, ⟨65, _⟩ => ⟨S2x8x4224, .i32⟩
  | .hbm, ⟨66, _⟩ => ⟨S_, .i32⟩
  | .hbm, ⟨67, _⟩ => ⟨S2x8x4224, .i32⟩
  | .hbm, ⟨68, _⟩ => ⟨S2x8x4224, .i1⟩
  | .hbm, ⟨69, _⟩ => ⟨S_, .f32⟩
  | .hbm, ⟨70, _⟩ => ⟨S_, .f32⟩
  | .hbm, ⟨71, _⟩ => ⟨S2x8x4224, .f32⟩
  | .hbm, ⟨72, _⟩ => ⟨S2x8x4224, .f32⟩
  | .hbm, ⟨73, _⟩ => ⟨S16x1x4224, .f32⟩
  | .hbm, ⟨74, _⟩ => ⟨S8448x3072, .bf16⟩
  | .hbm, ⟨75, _⟩ => ⟨S_, .i32⟩
  | .hbm, ⟨76, _⟩ => ⟨S_, .f32⟩
  | .hbm, ⟨77, _⟩ => ⟨S2x4224x1024, .f32⟩
  | .hbm, ⟨78, _⟩ => ⟨S8448x1024, .f32⟩
  | .hbm, ⟨79, _⟩ => ⟨S8448x1024, .bf16⟩
  | .hbm, ⟨80, _⟩ => ⟨S_, .i32⟩
  | .hbm, ⟨81, _⟩ => ⟨S_, .f32⟩
  | .hbm, ⟨82, _⟩ => ⟨S2x4224x1024, .f32⟩
  | .hbm, ⟨83, _⟩ => ⟨S8448x1024, .f32⟩
  | .hbm, ⟨84, _⟩ => ⟨S8448x1024, .bf16⟩
  | .hbm, ⟨85, _⟩ => ⟨S_, .i32⟩
  | .hbm, ⟨86, _⟩ => ⟨S_, .f32⟩
  | .hbm, ⟨87, _⟩ => ⟨S2x8x4224x1, .f32⟩
  | .hbm, ⟨88, _⟩ => ⟨S8448x1024, .f32⟩
  | .hbm, ⟨89, _⟩ => ⟨S8448x1024, .bf16⟩
  | .hbm, ⟨90, _⟩ => ⟨S8448x1024, .bf16⟩
  | .hbm, ⟨91, _⟩ => ⟨S16x1x4224, .f32⟩
  | .hbm, ⟨92, _⟩ => ⟨S2x8x4224x1, .f32⟩
  | .local _ .vmem, ⟨0, _⟩ => ⟨S4224x128, .bf16⟩
  | .local _ .vmem, ⟨1, _⟩ => ⟨S4224x128, .bf16⟩
  | .local _ .vmem, ⟨2, _⟩ => ⟨S384x128, .bf16⟩
  | .local _ .vmem, ⟨3, _⟩ => ⟨S384x128, .bf16⟩
  | .local _ .vmem, ⟨4, _⟩ => ⟨S384x128, .bf16⟩
  | .local _ .vmem, ⟨5, _⟩ => ⟨S384x128, .bf16⟩
  | .local _ .vmem, ⟨6, _⟩ => ⟨S4224x128, .bf16⟩
  | .local _ .vmem, ⟨7, _⟩ => ⟨S4224x128, .bf16⟩
  | .local _ .vmem, ⟨8, _⟩ => ⟨S4224x128, .bf16⟩
  | .local _ .vmem, ⟨9, _⟩ => ⟨S4224x128, .bf16⟩
  | .local _ .vmem, ⟨10, _⟩ => ⟨S1x1x4224x1, .f32⟩
  | .local _ .vmem, ⟨11, _⟩ => ⟨S1x1x4224x1, .f32⟩
  | .local _ .vmem, ⟨12, _⟩ => ⟨S1x1x384, .f32⟩
  | .local _ .vmem, ⟨13, _⟩ => ⟨S1x1x384, .f32⟩
  | .local _ .vmem, ⟨14, _⟩ => ⟨S4224x128, .f32⟩
  | .local _ .vmem, ⟨15, _⟩ => ⟨S4224x128, .f32⟩
  | .local _ .vmem, ⟨16, _⟩ => ⟨S384x128, .bf16⟩
  | .local _ .vmem, ⟨17, _⟩ => ⟨S384x128, .bf16⟩
  | .local _ .vmem, ⟨18, _⟩ => ⟨S384x128, .bf16⟩
  | .local _ .vmem, ⟨19, _⟩ => ⟨S384x128, .bf16⟩
  | .local _ .vmem, ⟨20, _⟩ => ⟨S1x1x384, .f32⟩
  | .local _ .vmem, ⟨21, _⟩ => ⟨S1x1x384, .f32⟩
  | .local _ .vmem, ⟨22, _⟩ => ⟨S1x1x4224x1, .f32⟩
  | .local _ .vmem, ⟨23, _⟩ => ⟨S1x1x4224x1, .f32⟩
  | .local _ .vmem, ⟨24, _⟩ => ⟨S4224x1, .f32⟩
  | _, _ => ⟨S8448x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_call1_v0 : Ref sig .tc := ⟨.hbm, 70, rfl⟩
abbrev main_call1_v1 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c_8 : Ref sig .tc := ⟨.hbm, 75, rfl⟩
abbrev main_call2_v0 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_9 : Ref sig .tc := ⟨.hbm, 80, rfl⟩
abbrev main_call3_v0 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_10 : Ref sig .tc := ⟨.hbm, 85, rfl⟩
abbrev main_call4_v0 : Ref sig .tc := ⟨.hbm, 86, rfl⟩
abbrev main_v63 : Ref sig .tc := ⟨.hbm, 87, rfl⟩
abbrev main_v64_0 : Ref sig .tc := ⟨.hbm, 88, rfl⟩
abbrev main_v64_1 : Ref sig .tc := ⟨.hbm, 89, rfl⟩
abbrev main_v64_2 : Ref sig .tc := ⟨.hbm, 90, rfl⟩
abbrev main_v64_3 : Ref sig .tc := ⟨.hbm, 91, rfl⟩
abbrev main_v64_4 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![2, 8, 11], ![false, false, false]⟩

def k0_mult1 (i : grid0.Coords) : BitVec 32 :=
  let arg2 : BitVec 32 := BitVec.ofNat 32 (i 2).val
  let c384_i32 : BitVec 32 := 384#32
  let v11 : BitVec 32 := Scalar.muli arg2 c384_i32
  v11
def k0_off1 (i : grid0.Coords) : Fin 2 → Nat :=
  let arg2 : BitVec 32 := BitVec.ofNat 32 (i 2).val
  let c384_i32 : BitVec 32 := 384#32
  let v11 : BitVec 32 := Scalar.muli arg2 c384_i32
  let v12 : BitVec 32 := v11
  let v13 : Index := Scalar.indexCast v12
  let c0_8 : Index := 0#32
  ![v13.toNat, 0]
def k0_off2 (i : grid0.Coords) : Fin 4 → Nat :=
  let c0_12 : Index := 0#32
  let c0_13 : Index := 0#32
  let arg2 : BitVec 32 := BitVec.ofNat 32 (i 2).val
  let c384_i32 : BitVec 32 := 384#32
  let v11 : BitVec 32 := Scalar.muli arg2 c384_i32
  let v12 : BitVec 32 := v11
  let v24 : Index := Scalar.indexCast v12
  let c0_14 : Index := 0#32
  ![0, 0, v24.toNat, 0]
def k0_off3 (i : grid0.Coords) : Fin 2 → Nat :=
  let arg2 : BitVec 32 := BitVec.ofNat 32 (i 2).val
  let c384_i32 : BitVec 32 := 384#32
  let v11 : BitVec 32 := Scalar.muli arg2 c384_i32
  let v12 : BitVec 32 := v11
  let v39 : Index := Scalar.indexCast v12
  let c0_18 : Index := 0#32
  ![v39.toNat, 0]
@[reducible] def k0_t1_loop (i : grid0.Coords) : Scf.Loop 32 :=
  let c0_i32_37 : BitVec 32 := 0#32
  let c10_i32 : BitVec 32 := 10#32
  let arg2 : BitVec 32 := BitVec.ofNat 32 (i 2).val
  let v69 : BitVec 32 := Scalar.subi c10_i32 arg2
  let c0_i32_32 : BitVec 32 := 0#32
  let v71 : BitVec 1 := Scalar.cmpi .sgt v69 c0_i32_32
  let v72 : BitVec 32 := Scalar.extui v71
  let c0_i32_33 : BitVec 32 := 0#32
  let v73 : BitVec 1 := Scalar.cmpi .slt v69 c0_i32_33
  let v74 : BitVec 32 := Scalar.extui v73
  let v75 : BitVec 32 := Scalar.subi v72 v74
  let c2_i32 : BitVec 32 := 2#32
  let c0_i32_34 : BitVec 32 := 0#32
  let v76 : BitVec 1 := Scalar.cmpi .sgt c2_i32 c0_i32_34
  let v77 : BitVec 32 := Scalar.extui v76
  let c0_i32_35 : BitVec 32 := 0#32
  let v78 : BitVec 1 := Scalar.cmpi .slt c2_i32 c0_i32_35
  let v79 : BitVec 32 := Scalar.extui v78
  let v80 : BitVec 32 := Scalar.subi v77 v79
  let v81 : BitVec 1 := Scalar.cmpi .ne v75 v80
  let v82 : BitVec 32 := Scalar.remsi v69 c2_i32
  let c0_i32_36 : BitVec 32 := 0#32
  let v83 : BitVec 1 := Scalar.cmpi .ne v82 c0_i32_36
  let v84 : BitVec 1 := Scalar.andi v81 v83
  let v70 : BitVec 32 := Scalar.divsi v69 c2_i32
  let c1_i32 : BitVec 32 := 1#32
  let v85 : BitVec 32 := Scalar.subi v70 c1_i32
  let v86 : BitVec 32 := Scalar.select v84 v85 v70
  let v87 : BitVec 32 := Scalar.subi v86 c0_i32_37
  let c1_i32_38 : BitVec 32 := 1#32
  let v89 : BitVec 32 := Scalar.divsi v87 c1_i32_38
  let v90 : BitVec 32 := Scalar.muli v89 c1_i32_38
  let v91 : BitVec 32 := Scalar.addi c0_i32_37 v90
  let c1_i32_39 : BitVec 32 := 1#32
  ⟨c0_i32_37, v91, c1_i32_39⟩
def k0_mult2 (i : grid0.Coords) (k0_t1 : Fin (k0_t1_loop i).trips) : BitVec 32 :=
  let arg2 : BitVec 32 := BitVec.ofNat 32 (i 2).val
  let c1_i32_54 : BitVec 32 := 1#32
  let v113 : BitVec 32 := Scalar.addi arg2 c1_i32_54
  let c2_i32_55 : BitVec 32 := 2#32
  let c0_i32_37 : BitVec 32 := 0#32
  let c1_i32_39 : BitVec 32 := 1#32
  let arg16 : BitVec 32 := Scf.iv c0_i32_37 c1_i32_39 k0_t1
  let v114 : BitVec 32 := Scalar.muli c2_i32_55 arg16
  let v115 : BitVec 32 := Scalar.addi v113 v114
  let c384_i32_56 : BitVec 32 := 384#32
  let v116 : BitVec 32 := Scalar.muli v115 c384_i32_56
  v116
def k0_off4 (i : grid0.Coords) (k0_t1 : Fin (k0_t1_loop i).trips) : Fin 2 → Nat :=
  let arg2 : BitVec 32 := BitVec.ofNat 32 (i 2).val
  let c1_i32_54 : BitVec 32 := 1#32
  let v113 : BitVec 32 := Scalar.addi arg2 c1_i32_54
  let c2_i32_55 : BitVec 32 := 2#32
  let c0_i32_37 : BitVec 32 := 0#32
  let c1_i32_39 : BitVec 32 := 1#32
  let arg16 : BitVec 32 := Scf.iv c0_i32_37 c1_i32_39 k0_t1
  let v114 : BitVec 32 := Scalar.muli c2_i32_55 arg16
  let v115 : BitVec 32 := Scalar.addi v113 v114
  let c384_i32_56 : BitVec 32 := 384#32
  let v116 : BitVec 32 := Scalar.muli v115 c384_i32_56
  let v117 : BitVec 32 := v116
  let v118 : Index := Scalar.indexCast v117
  let c0_57 : Index := 0#32
  ![v118.toNat, 0]
def k0_off5 (i : grid0.Coords) (k0_t1 : Fin (k0_t1_loop i).trips) : Fin 4 → Nat :=
  let c0_61 : Index := 0#32
  let c0_62 : Index := 0#32
  let arg2 : BitVec 32 := BitVec.ofNat 32 (i 2).val
  let c1_i32_54 : BitVec 32 := 1#32
  let v113 : BitVec 32 := Scalar.addi arg2 c1_i32_54
  let c2_i32_55 : BitVec 32 := 2#32
  let c0_i32_37 : BitVec 32 := 0#32
  let c1_i32_39 : BitVec 32 := 1#32
  let arg16 : BitVec 32 := Scf.iv c0_i32_37 c1_i32_39 k0_t1
  let v114 : BitVec 32 := Scalar.muli c2_i32_55 arg16
  let v115 : BitVec 32 := Scalar.addi v113 v114
  let c384_i32_56 : BitVec 32 := 384#32
  let v116 : BitVec 32 := Scalar.muli v115 c384_i32_56
  let v117 : BitVec 32 := v116
  let v129 : Index := Scalar.indexCast v117
  let c0_63 : Index := 0#32
  ![0, 0, v129.toNat, 0]
def k0_off6 (i : grid0.Coords) (k0_t1 : Fin (k0_t1_loop i).trips) : Fin 2 → Nat :=
  let arg2 : BitVec 32 := BitVec.ofNat 32 (i 2).val
  let c1_i32_54 : BitVec 32 := 1#32
  let v113 : BitVec 32 := Scalar.addi arg2 c1_i32_54
  let c2_i32_55 : BitVec 32 := 2#32
  let c0_i32_37 : BitVec 32 := 0#32
  let c1_i32_39 : BitVec 32 := 1#32
  let arg16 : BitVec 32 := Scf.iv c0_i32_37 c1_i32_39 k0_t1
  let v114 : BitVec 32 := Scalar.muli c2_i32_55 arg16
  let v115 : BitVec 32 := Scalar.addi v113 v114
  let c384_i32_56 : BitVec 32 := 384#32
  let v116 : BitVec 32 := Scalar.muli v115 c384_i32_56
  let v117 : BitVec 32 := v116
  let v139 : Index := Scalar.indexCast v117
  let c0_66 : Index := 0#32
  ![v139.toNat, 0]
@[reducible] def k0_t2_loop (i : grid0.Coords) : Scf.Loop 32 :=
  let c0_i32_37 : BitVec 32 := 0#32
  let c10_i32 : BitVec 32 := 10#32
  let arg2 : BitVec 32 := BitVec.ofNat 32 (i 2).val
  let v69 : BitVec 32 := Scalar.subi c10_i32 arg2
  let c0_i32_32 : BitVec 32 := 0#32
  let v71 : BitVec 1 := Scalar.cmpi .sgt v69 c0_i32_32
  let v72 : BitVec 32 := Scalar.extui v71
  let c0_i32_33 : BitVec 32 := 0#32
  let v73 : BitVec 1 := Scalar.cmpi .slt v69 c0_i32_33
  let v74 : BitVec 32 := Scalar.extui v73
  let v75 : BitVec 32 := Scalar.subi v72 v74
  let c2_i32 : BitVec 32 := 2#32
  let c0_i32_34 : BitVec 32 := 0#32
  let v76 : BitVec 1 := Scalar.cmpi .sgt c2_i32 c0_i32_34
  let v77 : BitVec 32 := Scalar.extui v76
  let c0_i32_35 : BitVec 32 := 0#32
  let v78 : BitVec 1 := Scalar.cmpi .slt c2_i32 c0_i32_35
  let v79 : BitVec 32 := Scalar.extui v78
  let v80 : BitVec 32 := Scalar.subi v77 v79
  let v81 : BitVec 1 := Scalar.cmpi .ne v75 v80
  let v82 : BitVec 32 := Scalar.remsi v69 c2_i32
  let c0_i32_36 : BitVec 32 := 0#32
  let v83 : BitVec 1 := Scalar.cmpi .ne v82 c0_i32_36
  let v84 : BitVec 1 := Scalar.andi v81 v83
  let v70 : BitVec 32 := Scalar.divsi v69 c2_i32
  let c1_i32 : BitVec 32 := 1#32
  let v85 : BitVec 32 := Scalar.subi v70 c1_i32
  let v86 : BitVec 32 := Scalar.select v84 v85 v70
  let v87 : BitVec 32 := Scalar.subi v86 c0_i32_37
  let c1_i32_38 : BitVec 32 := 1#32
  let v89 : BitVec 32 := Scalar.divsi v87 c1_i32_38
  let v90 : BitVec 32 := Scalar.muli v89 c1_i32_38
  let v91 : BitVec 32 := Scalar.addi c0_i32_37 v90
  let v88 : BitVec 32 := Scalar.addi c0_i32_37 v87
  let c1_i32_40 : BitVec 32 := 1#32
  ⟨v91, v88, c1_i32_40⟩
def k0_mult3 (i : grid0.Coords) (k0_t2 : Fin (k0_t2_loop i).trips) : BitVec 32 :=
  let arg2 : BitVec 32 := BitVec.ofNat 32 (i 2).val
  let c1_i32_54 : BitVec 32 := 1#32
  let v113 : BitVec 32 := Scalar.addi arg2 c1_i32_54
  let c2_i32_55 : BitVec 32 := 2#32
  let c0_i32_37 : BitVec 32 := 0#32
  let c10_i32 : BitVec 32 := 10#32
  let v69 : BitVec 32 := Scalar.subi c10_i32 arg2
  let c0_i32_32 : BitVec 32 := 0#32
  let v71 : BitVec 1 := Scalar.cmpi .sgt v69 c0_i32_32
  let v72 : BitVec 32 := Scalar.extui v71
  let c0_i32_33 : BitVec 32 := 0#32
  let v73 : BitVec 1 := Scalar.cmpi .slt v69 c0_i32_33
  let v74 : BitVec 32 := Scalar.extui v73
  let v75 : BitVec 32 := Scalar.subi v72 v74
  let c2_i32 : BitVec 32 := 2#32
  let c0_i32_34 : BitVec 32 := 0#32
  let v76 : BitVec 1 := Scalar.cmpi .sgt c2_i32 c0_i32_34
  let v77 : BitVec 32 := Scalar.extui v76
  let c0_i32_35 : BitVec 32 := 0#32
  let v78 : BitVec 1 := Scalar.cmpi .slt c2_i32 c0_i32_35
  let v79 : BitVec 32 := Scalar.extui v78
  let v80 : BitVec 32 := Scalar.subi v77 v79
  let v81 : BitVec 1 := Scalar.cmpi .ne v75 v80
  let v82 : BitVec 32 := Scalar.remsi v69 c2_i32
  let c0_i32_36 : BitVec 32 := 0#32
  let v83 : BitVec 1 := Scalar.cmpi .ne v82 c0_i32_36
  let v84 : BitVec 1 := Scalar.andi v81 v83
  let v70 : BitVec 32 := Scalar.divsi v69 c2_i32
  let c1_i32 : BitVec 32 := 1#32
  let v85 : BitVec 32 := Scalar.subi v70 c1_i32
  let v86 : BitVec 32 := Scalar.select v84 v85 v70
  let v87 : BitVec 32 := Scalar.subi v86 c0_i32_37
  let c1_i32_38 : BitVec 32 := 1#32
  let v89 : BitVec 32 := Scalar.divsi v87 c1_i32_38
  let v90 : BitVec 32 := Scalar.muli v89 c1_i32_38
  let v91 : BitVec 32 := Scalar.addi c0_i32_37 v90
  let c1_i32_40 : BitVec 32 := 1#32
  let arg16 : BitVec 32 := Scf.iv v91 c1_i32_40 k0_t2
  let v114 : BitVec 32 := Scalar.muli c2_i32_55 arg16
  let v115 : BitVec 32 := Scalar.addi v113 v114
  let c384_i32_56 : BitVec 32 := 384#32
  let v116 : BitVec 32 := Scalar.muli v115 c384_i32_56
  v116
def k0_off7 (i : grid0.Coords) (k0_t2 : Fin (k0_t2_loop i).trips) : Fin 2 → Nat :=
  let arg2 : BitVec 32 := BitVec.ofNat 32 (i 2).val
  let c1_i32_54 : BitVec 32 := 1#32
  let v113 : BitVec 32 := Scalar.addi arg2 c1_i32_54
  let c2_i32_55 : BitVec 32 := 2#32
  let c0_i32_37 : BitVec 32 := 0#32
  let c10_i32 : BitVec 32 := 10#32
  let v69 : BitVec 32 := Scalar.subi c10_i32 arg2
  let c0_i32_32 : BitVec 32 := 0#32
  let v71 : BitVec 1 := Scalar.cmpi .sgt v69 c0_i32_32
  let v72 : BitVec 32 := Scalar.extui v71
  let c0_i32_33 : BitVec 32 := 0#32
  let v73 : BitVec 1 := Scalar.cmpi .slt v69 c0_i32_33
  let v74 : BitVec 32 := Scalar.extui v73
  let v75 : BitVec 32 := Scalar.subi v72 v74
  let c2_i32 : BitVec 32 := 2#32
  let c0_i32_34 : BitVec 32 := 0#32
  let v76 : BitVec 1 := Scalar.cmpi .sgt c2_i32 c0_i32_34
  let v77 : BitVec 32 := Scalar.extui v76
  let c0_i32_35 : BitVec 32 := 0#32
  let v78 : BitVec 1 := Scalar.cmpi .slt c2_i32 c0_i32_35
  let v79 : BitVec 32 := Scalar.extui v78
  let v80 : BitVec 32 := Scalar.subi v77 v79
  let v81 : BitVec 1 := Scalar.cmpi .ne v75 v80
  let v82 : BitVec 32 := Scalar.remsi v69 c2_i32
  let c0_i32_36 : BitVec 32 := 0#32
  let v83 : BitVec 1 := Scalar.cmpi .ne v82 c0_i32_36
  let v84 : BitVec 1 := Scalar.andi v81 v83
  let v70 : BitVec 32 := Scalar.divsi v69 c2_i32
  let c1_i32 : BitVec 32 := 1#32
  let v85 : BitVec 32 := Scalar.subi v70 c1_i32
  let v86 : BitVec 32 := Scalar.select v84 v85 v70
  let v87 : BitVec 32 := Scalar.subi v86 c0_i32_37
  let c1_i32_38 : BitVec 32 := 1#32
  let v89 : BitVec 32 := Scalar.divsi v87 c1_i32_38
  let v90 : BitVec 32 := Scalar.muli v89 c1_i32_38
  let v91 : BitVec 32 := Scalar.addi c0_i32_37 v90
  let c1_i32_40 : BitVec 32 := 1#32
  let arg16 : BitVec 32 := Scf.iv v91 c1_i32_40 k0_t2
  let v114 : BitVec 32 := Scalar.muli c2_i32_55 arg16
  let v115 : BitVec 32 := Scalar.addi v113 v114
  let c384_i32_56 : BitVec 32 := 384#32
  let v116 : BitVec 32 := Scalar.muli v115 c384_i32_56
  let v117 : BitVec 32 := v116
  let v118 : Index := Scalar.indexCast v117
  let c0_57 : Index := 0#32
  ![v118.toNat, 0]
def k0_off8 (i : grid0.Coords) (k0_t2 : Fin (k0_t2_loop i).trips) : Fin 4 → Nat :=
  let c0_61 : Index := 0#32
  let c0_62 : Index := 0#32
  let arg2 : BitVec 32 := BitVec.ofNat 32 (i 2).val
  let c1_i32_54 : BitVec 32 := 1#32
  let v113 : BitVec 32 := Scalar.addi arg2 c1_i32_54
  let c2_i32_55 : BitVec 32 := 2#32
  let c0_i32_37 : BitVec 32 := 0#32
  let c10_i32 : BitVec 32 := 10#32
  let v69 : BitVec 32 := Scalar.subi c10_i32 arg2
  let c0_i32_32 : BitVec 32 := 0#32
  let v71 : BitVec 1 := Scalar.cmpi .sgt v69 c0_i32_32
  let v72 : BitVec 32 := Scalar.extui v71
  let c0_i32_33 : BitVec 32 := 0#32
  let v73 : BitVec 1 := Scalar.cmpi .slt v69 c0_i32_33
  let v74 : BitVec 32 := Scalar.extui v73
  let v75 : BitVec 32 := Scalar.subi v72 v74
  let c2_i32 : BitVec 32 := 2#32
  let c0_i32_34 : BitVec 32 := 0#32
  let v76 : BitVec 1 := Scalar.cmpi .sgt c2_i32 c0_i32_34
  let v77 : BitVec 32 := Scalar.extui v76
  let c0_i32_35 : BitVec 32 := 0#32
  let v78 : BitVec 1 := Scalar.cmpi .slt c2_i32 c0_i32_35
  let v79 : BitVec 32 := Scalar.extui v78
  let v80 : BitVec 32 := Scalar.subi v77 v79
  let v81 : BitVec 1 := Scalar.cmpi .ne v75 v80
  let v82 : BitVec 32 := Scalar.remsi v69 c2_i32
  let c0_i32_36 : BitVec 32 := 0#32
  let v83 : BitVec 1 := Scalar.cmpi .ne v82 c0_i32_36
  let v84 : BitVec 1 := Scalar.andi v81 v83
  let v70 : BitVec 32 := Scalar.divsi v69 c2_i32
  let c1_i32 : BitVec 32 := 1#32
  let v85 : BitVec 32 := Scalar.subi v70 c1_i32
  let v86 : BitVec 32 := Scalar.select v84 v85 v70
  let v87 : BitVec 32 := Scalar.subi v86 c0_i32_37
  let c1_i32_38 : BitVec 32 := 1#32
  let v89 : BitVec 32 := Scalar.divsi v87 c1_i32_38
  let v90 : BitVec 32 := Scalar.muli v89 c1_i32_38
  let v91 : BitVec 32 := Scalar.addi c0_i32_37 v90
  let c1_i32_40 : BitVec 32 := 1#32
  let arg16 : BitVec 32 := Scf.iv v91 c1_i32_40 k0_t2
  let v114 : BitVec 32 := Scalar.muli c2_i32_55 arg16
  let v115 : BitVec 32 := Scalar.addi v113 v114
  let c384_i32_56 : BitVec 32 := 384#32
  let v116 : BitVec 32 := Scalar.muli v115 c384_i32_56
  let v117 : BitVec 32 := v116
  let v129 : Index := Scalar.indexCast v117
  let c0_63 : Index := 0#32
  ![0, 0, v129.toNat, 0]
def k0_off9 (i : grid0.Coords) (k0_t2 : Fin (k0_t2_loop i).trips) : Fin 2 → Nat :=
  let arg2 : BitVec 32 := BitVec.ofNat 32 (i 2).val
  let c1_i32_54 : BitVec 32 := 1#32
  let v113 : BitVec 32 := Scalar.addi arg2 c1_i32_54
  let c2_i32_55 : BitVec 32 := 2#32
  let c0_i32_37 : BitVec 32 := 0#32
  let c10_i32 : BitVec 32 := 10#32
  let v69 : BitVec 32 := Scalar.subi c10_i32 arg2
  let c0_i32_32 : BitVec 32 := 0#32
  let v71 : BitVec 1 := Scalar.cmpi .sgt v69 c0_i32_32
  let v72 : BitVec 32 := Scalar.extui v71
  let c0_i32_33 : BitVec 32 := 0#32
  let v73 : BitVec 1 := Scalar.cmpi .slt v69 c0_i32_33
  let v74 : BitVec 32 := Scalar.extui v73
  let v75 : BitVec 32 := Scalar.subi v72 v74
  let c2_i32 : BitVec 32 := 2#32
  let c0_i32_34 : BitVec 32 := 0#32
  let v76 : BitVec 1 := Scalar.cmpi .sgt c2_i32 c0_i32_34
  let v77 : BitVec 32 := Scalar.extui v76
  let c0_i32_35 : BitVec 32 := 0#32
  let v78 : BitVec 1 := Scalar.cmpi .slt c2_i32 c0_i32_35
  let v79 : BitVec 32 := Scalar.extui v78
  let v80 : BitVec 32 := Scalar.subi v77 v79
  let v81 : BitVec 1 := Scalar.cmpi .ne v75 v80
  let v82 : BitVec 32 := Scalar.remsi v69 c2_i32
  let c0_i32_36 : BitVec 32 := 0#32
  let v83 : BitVec 1 := Scalar.cmpi .ne v82 c0_i32_36
  let v84 : BitVec 1 := Scalar.andi v81 v83
  let v70 : BitVec 32 := Scalar.divsi v69 c2_i32
  let c1_i32 : BitVec 32 := 1#32
  let v85 : BitVec 32 := Scalar.subi v70 c1_i32
  let v86 : BitVec 32 := Scalar.select v84 v85 v70
  let v87 : BitVec 32 := Scalar.subi v86 c0_i32_37
  let c1_i32_38 : BitVec 32 := 1#32
  let v89 : BitVec 32 := Scalar.divsi v87 c1_i32_38
  let v90 : BitVec 32 := Scalar.muli v89 c1_i32_38
  let v91 : BitVec 32 := Scalar.addi c0_i32_37 v90
  let c1_i32_40 : BitVec 32 := 1#32
  let arg16 : BitVec 32 := Scf.iv v91 c1_i32_40 k0_t2
  let v114 : BitVec 32 := Scalar.muli c2_i32_55 arg16
  let v115 : BitVec 32 := Scalar.addi v113 v114
  let c384_i32_56 : BitVec 32 := 384#32
  let v116 : BitVec 32 := Scalar.muli v115 c384_i32_56
  let v117 : BitVec 32 := v116
  let v139 : Index := Scalar.indexCast v117
  let c0_66 : Index := 0#32
  ![v139.toNat, 0]
@[reducible] def k0_t3_loop (i : grid0.Coords) : Scf.Loop 32 :=
  let arg2 : BitVec 32 := BitVec.ofNat 32 (i 2).val
  let c1_i32_41 : BitVec 32 := 1#32
  let v94 : BitVec 32 := Scalar.addi arg2 c1_i32_41
  let c2_i32_42 : BitVec 32 := 2#32
  let c10_i32 : BitVec 32 := 10#32
  let v69 : BitVec 32 := Scalar.subi c10_i32 arg2
  let c0_i32_32 : BitVec 32 := 0#32
  let v71 : BitVec 1 := Scalar.cmpi .sgt v69 c0_i32_32
  let v72 : BitVec 32 := Scalar.extui v71
  let c0_i32_33 : BitVec 32 := 0#32
  let v73 : BitVec 1 := Scalar.cmpi .slt v69 c0_i32_33
  let v74 : BitVec 32 := Scalar.extui v73
  let v75 : BitVec 32 := Scalar.subi v72 v74
  let c2_i32 : BitVec 32 := 2#32
  let c0_i32_34 : BitVec 32 := 0#32
  let v76 : BitVec 1 := Scalar.cmpi .sgt c2_i32 c0_i32_34
  let v77 : BitVec 32 := Scalar.extui v76
  let c0_i32_35 : BitVec 32 := 0#32
  let v78 : BitVec 1 := Scalar.cmpi .slt c2_i32 c0_i32_35
  let v79 : BitVec 32 := Scalar.extui v78
  let v80 : BitVec 32 := Scalar.subi v77 v79
  let v81 : BitVec 1 := Scalar.cmpi .ne v75 v80
  let v82 : BitVec 32 := Scalar.remsi v69 c2_i32
  let c0_i32_36 : BitVec 32 := 0#32
  let v83 : BitVec 1 := Scalar.cmpi .ne v82 c0_i32_36
  let v84 : BitVec 1 := Scalar.andi v81 v83
  let v70 : BitVec 32 := Scalar.divsi v69 c2_i32
  let c1_i32 : BitVec 32 := 1#32
  let v85 : BitVec 32 := Scalar.subi v70 c1_i32
  let v86 : BitVec 32 := Scalar.select v84 v85 v70
  let v95 : BitVec 32 := Scalar.muli c2_i32_42 v86
  let v96 : BitVec 32 := Scalar.addi v94 v95
  let c11_i32 : BitVec 32 := 11#32
  let v97 : BitVec 32 := Scalar.subi c11_i32 v96
  let c1_i32_43 : BitVec 32 := 1#32
  let v99 : BitVec 32 := Scalar.divsi v97 c1_i32_43
  let v100 : BitVec 32 := Scalar.muli v99 c1_i32_43
  let v101 : BitVec 32 := Scalar.addi v96 v100
  let c1_i32_44 : BitVec 32 := 1#32
  ⟨v96, v101, c1_i32_44⟩
def k0_mult4 (i : grid0.Coords) (k0_t3 : Fin (k0_t3_loop i).trips) : BitVec 32 :=
  let arg2 : BitVec 32 := BitVec.ofNat 32 (i 2).val
  let c1_i32_41 : BitVec 32 := 1#32
  let v94 : BitVec 32 := Scalar.addi arg2 c1_i32_41
  let c2_i32_42 : BitVec 32 := 2#32
  let c10_i32 : BitVec 32 := 10#32
  let v69 : BitVec 32 := Scalar.subi c10_i32 arg2
  let c0_i32_32 : BitVec 32 := 0#32
  let v71 : BitVec 1 := Scalar.cmpi .sgt v69 c0_i32_32
  let v72 : BitVec 32 := Scalar.extui v71
  let c0_i32_33 : BitVec 32 := 0#32
  let v73 : BitVec 1 := Scalar.cmpi .slt v69 c0_i32_33
  let v74 : BitVec 32 := Scalar.extui v73
  let v75 : BitVec 32 := Scalar.subi v72 v74
  let c2_i32 : BitVec 32 := 2#32
  let c0_i32_34 : BitVec 32 := 0#32
  let v76 : BitVec 1 := Scalar.cmpi .sgt c2_i32 c0_i32_34
  let v77 : BitVec 32 := Scalar.extui v76
  let c0_i32_35 : BitVec 32 := 0#32
  let v78 : BitVec 1 := Scalar.cmpi .slt c2_i32 c0_i32_35
  let v79 : BitVec 32 := Scalar.extui v78
  let v80 : BitVec 32 := Scalar.subi v77 v79
  let v81 : BitVec 1 := Scalar.cmpi .ne v75 v80
  let v82 : BitVec 32 := Scalar.remsi v69 c2_i32
  let c0_i32_36 : BitVec 32 := 0#32
  let v83 : BitVec 1 := Scalar.cmpi .ne v82 c0_i32_36
  let v84 : BitVec 1 := Scalar.andi v81 v83
  let v70 : BitVec 32 := Scalar.divsi v69 c2_i32
  let c1_i32 : BitVec 32 := 1#32
  let v85 : BitVec 32 := Scalar.subi v70 c1_i32
  let v86 : BitVec 32 := Scalar.select v84 v85 v70
  let v95 : BitVec 32 := Scalar.muli c2_i32_42 v86
  let v96 : BitVec 32 := Scalar.addi v94 v95
  let c1_i32_44 : BitVec 32 := 1#32
  let arg16 : BitVec 32 := Scf.iv v96 c1_i32_44 k0_t3
  let c384_i32_54 : BitVec 32 := 384#32
  let v113 : BitVec 32 := Scalar.muli arg16 c384_i32_54
  v113
def k0_off10 (i : grid0.Coords) (k0_t3 : Fin (k0_t3_loop i).trips) : Fin 2 → Nat :=
  let arg2 : BitVec 32 := BitVec.ofNat 32 (i 2).val
  let c1_i32_41 : BitVec 32 := 1#32
  let v94 : BitVec 32 := Scalar.addi arg2 c1_i32_41
  let c2_i32_42 : BitVec 32 := 2#32
  let c10_i32 : BitVec 32 := 10#32
  let v69 : BitVec 32 := Scalar.subi c10_i32 arg2
  let c0_i32_32 : BitVec 32 := 0#32
  let v71 : BitVec 1 := Scalar.cmpi .sgt v69 c0_i32_32
  let v72 : BitVec 32 := Scalar.extui v71
  let c0_i32_33 : BitVec 32 := 0#32
  let v73 : BitVec 1 := Scalar.cmpi .slt v69 c0_i32_33
  let v74 : BitVec 32 := Scalar.extui v73
  let v75 : BitVec 32 := Scalar.subi v72 v74
  let c2_i32 : BitVec 32 := 2#32
  let c0_i32_34 : BitVec 32 := 0#32
  let v76 : BitVec 1 := Scalar.cmpi .sgt c2_i32 c0_i32_34
  let v77 : BitVec 32 := Scalar.extui v76
  let c0_i32_35 : BitVec 32 := 0#32
  let v78 : BitVec 1 := Scalar.cmpi .slt c2_i32 c0_i32_35
  let v79 : BitVec 32 := Scalar.extui v78
  let v80 : BitVec 32 := Scalar.subi v77 v79
  let v81 : BitVec 1 := Scalar.cmpi .ne v75 v80
  let v82 : BitVec 32 := Scalar.remsi v69 c2_i32
  let c0_i32_36 : BitVec 32 := 0#32
  let v83 : BitVec 1 := Scalar.cmpi .ne v82 c0_i32_36
  let v84 : BitVec 1 := Scalar.andi v81 v83
  let v70 : BitVec 32 := Scalar.divsi v69 c2_i32
  let c1_i32 : BitVec 32 := 1#32
  let v85 : BitVec 32 := Scalar.subi v70 c1_i32
  let v86 : BitVec 32 := Scalar.select v84 v85 v70
  let v95 : BitVec 32 := Scalar.muli c2_i32_42 v86
  let v96 : BitVec 32 := Scalar.addi v94 v95
  let c1_i32_44 : BitVec 32 := 1#32
  let arg16 : BitVec 32 := Scf.iv v96 c1_i32_44 k0_t3
  let c384_i32_54 : BitVec 32 := 384#32
  let v113 : BitVec 32 := Scalar.muli arg16 c384_i32_54
  let v114 : BitVec 32 := v113
  let v115 : Index := Scalar.indexCast v114
  let c0_55 : Index := 0#32
  ![v115.toNat, 0]
def k0_off11 (i : grid0.Coords) (k0_t3 : Fin (k0_t3_loop i).trips) : Fin 4 → Nat :=
  let c0_59 : Index := 0#32
  let c0_60 : Index := 0#32
  let arg2 : BitVec 32 := BitVec.ofNat 32 (i 2).val
  let c1_i32_41 : BitVec 32 := 1#32
  let v94 : BitVec 32 := Scalar.addi arg2 c1_i32_41
  let c2_i32_42 : BitVec 32 := 2#32
  let c10_i32 : BitVec 32 := 10#32
  let v69 : BitVec 32 := Scalar.subi c10_i32 arg2
  let c0_i32_32 : BitVec 32 := 0#32
  let v71 : BitVec 1 := Scalar.cmpi .sgt v69 c0_i32_32
  let v72 : BitVec 32 := Scalar.extui v71
  let c0_i32_33 : BitVec 32 := 0#32
  let v73 : BitVec 1 := Scalar.cmpi .slt v69 c0_i32_33
  let v74 : BitVec 32 := Scalar.extui v73
  let v75 : BitVec 32 := Scalar.subi v72 v74
  let c2_i32 : BitVec 32 := 2#32
  let c0_i32_34 : BitVec 32 := 0#32
  let v76 : BitVec 1 := Scalar.cmpi .sgt c2_i32 c0_i32_34
  let v77 : BitVec 32 := Scalar.extui v76
  let c0_i32_35 : BitVec 32 := 0#32
  let v78 : BitVec 1 := Scalar.cmpi .slt c2_i32 c0_i32_35
  let v79 : BitVec 32 := Scalar.extui v78
  let v80 : BitVec 32 := Scalar.subi v77 v79
  let v81 : BitVec 1 := Scalar.cmpi .ne v75 v80
  let v82 : BitVec 32 := Scalar.remsi v69 c2_i32
  let c0_i32_36 : BitVec 32 := 0#32
  let v83 : BitVec 1 := Scalar.cmpi .ne v82 c0_i32_36
  let v84 : BitVec 1 := Scalar.andi v81 v83
  let v70 : BitVec 32 := Scalar.divsi v69 c2_i32
  let c1_i32 : BitVec 32 := 1#32
  let v85 : BitVec 32 := Scalar.subi v70 c1_i32
  let v86 : BitVec 32 := Scalar.select v84 v85 v70
  let v95 : BitVec 32 := Scalar.muli c2_i32_42 v86
  let v96 : BitVec 32 := Scalar.addi v94 v95
  let c1_i32_44 : BitVec 32 := 1#32
  let arg16 : BitVec 32 := Scf.iv v96 c1_i32_44 k0_t3
  let c384_i32_54 : BitVec 32 := 384#32
  let v113 : BitVec 32 := Scalar.muli arg16 c384_i32_54
  let v114 : BitVec 32 := v113
  let v126 : Index := Scalar.indexCast v114
  let c0_61 : Index := 0#32
  ![0, 0, v126.toNat, 0]
def k0_off12 (i : grid0.Coords) (k0_t3 : Fin (k0_t3_loop i).trips) : Fin 2 → Nat :=
  let arg2 : BitVec 32 := BitVec.ofNat 32 (i 2).val
  let c1_i32_41 : BitVec 32 := 1#32
  let v94 : BitVec 32 := Scalar.addi arg2 c1_i32_41
  let c2_i32_42 : BitVec 32 := 2#32
  let c10_i32 : BitVec 32 := 10#32
  let v69 : BitVec 32 := Scalar.subi c10_i32 arg2
  let c0_i32_32 : BitVec 32 := 0#32
  let v71 : BitVec 1 := Scalar.cmpi .sgt v69 c0_i32_32
  let v72 : BitVec 32 := Scalar.extui v71
  let c0_i32_33 : BitVec 32 := 0#32
  let v73 : BitVec 1 := Scalar.cmpi .slt v69 c0_i32_33
  let v74 : BitVec 32 := Scalar.extui v73
  let v75 : BitVec 32 := Scalar.subi v72 v74
  let c2_i32 : BitVec 32 := 2#32
  let c0_i32_34 : BitVec 32 := 0#32
  let v76 : BitVec 1 := Scalar.cmpi .sgt c2_i32 c0_i32_34
  let v77 : BitVec 32 := Scalar.extui v76
  let c0_i32_35 : BitVec 32 := 0#32
  let v78 : BitVec 1 := Scalar.cmpi .slt c2_i32 c0_i32_35
  let v79 : BitVec 32 := Scalar.extui v78
  let v80 : BitVec 32 := Scalar.subi v77 v79
  let v81 : BitVec 1 := Scalar.cmpi .ne v75 v80
  let v82 : BitVec 32 := Scalar.remsi v69 c2_i32
  let c0_i32_36 : BitVec 32 := 0#32
  let v83 : BitVec 1 := Scalar.cmpi .ne v82 c0_i32_36
  let v84 : BitVec 1 := Scalar.andi v81 v83
  let v70 : BitVec 32 := Scalar.divsi v69 c2_i32
  let c1_i32 : BitVec 32 := 1#32
  let v85 : BitVec 32 := Scalar.subi v70 c1_i32
  let v86 : BitVec 32 := Scalar.select v84 v85 v70
  let v95 : BitVec 32 := Scalar.muli c2_i32_42 v86
  let v96 : BitVec 32 := Scalar.addi v94 v95
  let c1_i32_44 : BitVec 32 := 1#32
  let arg16 : BitVec 32 := Scf.iv v96 c1_i32_44 k0_t3
  let c384_i32_54 : BitVec 32 := 384#32
  let v113 : BitVec 32 := Scalar.muli arg16 c384_i32_54
  let v114 : BitVec 32 := v113
  let v136 : Index := Scalar.indexCast v114
  let c0_64 : Index := 0#32
  ![v136.toNat, 0]
@[reducible] def k0_t4_loop (i : grid0.Coords) : Scf.Loop 32 :=
  let arg2 : BitVec 32 := BitVec.ofNat 32 (i 2).val
  let c1_i32_41 : BitVec 32 := 1#32
  let v94 : BitVec 32 := Scalar.addi arg2 c1_i32_41
  let c2_i32_42 : BitVec 32 := 2#32
  let c10_i32 : BitVec 32 := 10#32
  let v69 : BitVec 32 := Scalar.subi c10_i32 arg2
  let c0_i32_32 : BitVec 32 := 0#32
  let v71 : BitVec 1 := Scalar.cmpi .sgt v69 c0_i32_32
  let v72 : BitVec 32 := Scalar.extui v71
  let c0_i32_33 : BitVec 32 := 0#32
  let v73 : BitVec 1 := Scalar.cmpi .slt v69 c0_i32_33
  let v74 : BitVec 32 := Scalar.extui v73
  let v75 : BitVec 32 := Scalar.subi v72 v74
  let c2_i32 : BitVec 32 := 2#32
  let c0_i32_34 : BitVec 32 := 0#32
  let v76 : BitVec 1 := Scalar.cmpi .sgt c2_i32 c0_i32_34
  let v77 : BitVec 32 := Scalar.extui v76
  let c0_i32_35 : BitVec 32 := 0#32
  let v78 : BitVec 1 := Scalar.cmpi .slt c2_i32 c0_i32_35
  let v79 : BitVec 32 := Scalar.extui v78
  let v80 : BitVec 32 := Scalar.subi v77 v79
  let v81 : BitVec 1 := Scalar.cmpi .ne v75 v80
  let v82 : BitVec 32 := Scalar.remsi v69 c2_i32
  let c0_i32_36 : BitVec 32 := 0#32
  let v83 : BitVec 1 := Scalar.cmpi .ne v82 c0_i32_36
  let v84 : BitVec 1 := Scalar.andi v81 v83
  let v70 : BitVec 32 := Scalar.divsi v69 c2_i32
  let c1_i32 : BitVec 32 := 1#32
  let v85 : BitVec 32 := Scalar.subi v70 c1_i32
  let v86 : BitVec 32 := Scalar.select v84 v85 v70
  let v95 : BitVec 32 := Scalar.muli c2_i32_42 v86
  let v96 : BitVec 32 := Scalar.addi v94 v95
  let c11_i32 : BitVec 32 := 11#32
  let v97 : BitVec 32 := Scalar.subi c11_i32 v96
  let c1_i32_43 : BitVec 32 := 1#32
  let v99 : BitVec 32 := Scalar.divsi v97 c1_i32_43
  let v100 : BitVec 32 := Scalar.muli v99 c1_i32_43
  let v101 : BitVec 32 := Scalar.addi v96 v100
  let v98 : BitVec 32 := Scalar.addi v96 v97
  let c1_i32_45 : BitVec 32 := 1#32
  ⟨v101, v98, c1_i32_45⟩
def k0_mult5 (i : grid0.Coords) (k0_t4 : Fin (k0_t4_loop i).trips) : BitVec 32 :=
  let arg2 : BitVec 32 := BitVec.ofNat 32 (i 2).val
  let c1_i32_41 : BitVec 32 := 1#32
  let v94 : BitVec 32 := Scalar.addi arg2 c1_i32_41
  let c2_i32_42 : BitVec 32 := 2#32
  let c10_i32 : BitVec 32 := 10#32
  let v69 : BitVec 32 := Scalar.subi c10_i32 arg2
  let c0_i32_32 : BitVec 32 := 0#32
  let v71 : BitVec 1 := Scalar.cmpi .sgt v69 c0_i32_32
  let v72 : BitVec 32 := Scalar.extui v71
  let c0_i32_33 : BitVec 32 := 0#32
  let v73 : BitVec 1 := Scalar.cmpi .slt v69 c0_i32_33
  let v74 : BitVec 32 := Scalar.extui v73
  let v75 : BitVec 32 := Scalar.subi v72 v74
  let c2_i32 : BitVec 32 := 2#32
  let c0_i32_34 : BitVec 32 := 0#32
  let v76 : BitVec 1 := Scalar.cmpi .sgt c2_i32 c0_i32_34
  let v77 : BitVec 32 := Scalar.extui v76
  let c0_i32_35 : BitVec 32 := 0#32
  let v78 : BitVec 1 := Scalar.cmpi .slt c2_i32 c0_i32_35
  let v79 : BitVec 32 := Scalar.extui v78
  let v80 : BitVec 32 := Scalar.subi v77 v79
  let v81 : BitVec 1 := Scalar.cmpi .ne v75 v80
  let v82 : BitVec 32 := Scalar.remsi v69 c2_i32
  let c0_i32_36 : BitVec 32 := 0#32
  let v83 : BitVec 1 := Scalar.cmpi .ne v82 c0_i32_36
  let v84 : BitVec 1 := Scalar.andi v81 v83
  let v70 : BitVec 32 := Scalar.divsi v69 c2_i32
  let c1_i32 : BitVec 32 := 1#32
  let v85 : BitVec 32 := Scalar.subi v70 c1_i32
  let v86 : BitVec 32 := Scalar.select v84 v85 v70
  let v95 : BitVec 32 := Scalar.muli c2_i32_42 v86
  let v96 : BitVec 32 := Scalar.addi v94 v95
  let c11_i32 : BitVec 32 := 11#32
  let v97 : BitVec 32 := Scalar.subi c11_i32 v96
  let c1_i32_43 : BitVec 32 := 1#32
  let v99 : BitVec 32 := Scalar.divsi v97 c1_i32_43
  let v100 : BitVec 32 := Scalar.muli v99 c1_i32_43
  let v101 : BitVec 32 := Scalar.addi v96 v100
  let c1_i32_45 : BitVec 32 := 1#32
  let arg16 : BitVec 32 := Scf.iv v101 c1_i32_45 k0_t4
  let c384_i32_54 : BitVec 32 := 384#32
  let v113 : BitVec 32 := Scalar.muli arg16 c384_i32_54
  v113
def k0_off13 (i : grid0.Coords) (k0_t4 : Fin (k0_t4_loop i).trips) : Fin 2 → Nat :=
  let arg2 : BitVec 32 := BitVec.ofNat 32 (i 2).val
  let c1_i32_41 : BitVec 32 := 1#32
  let v94 : BitVec 32 := Scalar.addi arg2 c1_i32_41
  let c2_i32_42 : BitVec 32 := 2#32
  let c10_i32 : BitVec 32 := 10#32
  let v69 : BitVec 32 := Scalar.subi c10_i32 arg2
  let c0_i32_32 : BitVec 32 := 0#32
  let v71 : BitVec 1 := Scalar.cmpi .sgt v69 c0_i32_32
  let v72 : BitVec 32 := Scalar.extui v71
  let c0_i32_33 : BitVec 32 := 0#32
  let v73 : BitVec 1 := Scalar.cmpi .slt v69 c0_i32_33
  let v74 : BitVec 32 := Scalar.extui v73
  let v75 : BitVec 32 := Scalar.subi v72 v74
  let c2_i32 : BitVec 32 := 2#32
  let c0_i32_34 : BitVec 32 := 0#32
  let v76 : BitVec 1 := Scalar.cmpi .sgt c2_i32 c0_i32_34
  let v77 : BitVec 32 := Scalar.extui v76
  let c0_i32_35 : BitVec 32 := 0#32
  let v78 : BitVec 1 := Scalar.cmpi .slt c2_i32 c0_i32_35
  let v79 : BitVec 32 := Scalar.extui v78
  let v80 : BitVec 32 := Scalar.subi v77 v79
  let v81 : BitVec 1 := Scalar.cmpi .ne v75 v80
  let v82 : BitVec 32 := Scalar.remsi v69 c2_i32
  let c0_i32_36 : BitVec 32 := 0#32
  let v83 : BitVec 1 := Scalar.cmpi .ne v82 c0_i32_36
  let v84 : BitVec 1 := Scalar.andi v81 v83
  let v70 : BitVec 32 := Scalar.divsi v69 c2_i32
  let c1_i32 : BitVec 32 := 1#32
  let v85 : BitVec 32 := Scalar.subi v70 c1_i32
  let v86 : BitVec 32 := Scalar.select v84 v85 v70
  let v95 : BitVec 32 := Scalar.muli c2_i32_42 v86
  let v96 : BitVec 32 := Scalar.addi v94 v95
  let c11_i32 : BitVec 32 := 11#32
  let v97 : BitVec 32 := Scalar.subi c11_i32 v96
  let c1_i32_43 : BitVec 32 := 1#32
  let v99 : BitVec 32 := Scalar.divsi v97 c1_i32_43
  let v100 : BitVec 32 := Scalar.muli v99 c1_i32_43
  let v101 : BitVec 32 := Scalar.addi v96 v100
  let c1_i32_45 : BitVec 32 := 1#32
  let arg16 : BitVec 32 := Scf.iv v101 c1_i32_45 k0_t4
  let c384_i32_54 : BitVec 32 := 384#32
  let v113 : BitVec 32 := Scalar.muli arg16 c384_i32_54
  let v114 : BitVec 32 := v113
  let v115 : Index := Scalar.indexCast v114
  let c0_55 : Index := 0#32
  ![v115.toNat, 0]
def k0_off14 (i : grid0.Coords) (k0_t4 : Fin (k0_t4_loop i).trips) : Fin 4 → Nat :=
  let c0_59 : Index := 0#32
  let c0_60 : Index := 0#32
  let arg2 : BitVec 32 := BitVec.ofNat 32 (i 2).val
  let c1_i32_41 : BitVec 32 := 1#32
  let v94 : BitVec 32 := Scalar.addi arg2 c1_i32_41
  let c2_i32_42 : BitVec 32 := 2#32
  let c10_i32 : BitVec 32 := 10#32
  let v69 : BitVec 32 := Scalar.subi c10_i32 arg2
  let c0_i32_32 : BitVec 32 := 0#32
  let v71 : BitVec 1 := Scalar.cmpi .sgt v69 c0_i32_32
  let v72 : BitVec 32 := Scalar.extui v71
  let c0_i32_33 : BitVec 32 := 0#32
  let v73 : BitVec 1 := Scalar.cmpi .slt v69 c0_i32_33
  let v74 : BitVec 32 := Scalar.extui v73
  let v75 : BitVec 32 := Scalar.subi v72 v74
  let c2_i32 : BitVec 32 := 2#32
  let c0_i32_34 : BitVec 32 := 0#32
  let v76 : BitVec 1 := Scalar.cmpi .sgt c2_i32 c0_i32_34
  let v77 : BitVec 32 := Scalar.extui v76
  let c0_i32_35 : BitVec 32 := 0#32
  let v78 : BitVec 1 := Scalar.cmpi .slt c2_i32 c0_i32_35
  let v79 : BitVec 32 := Scalar.extui v78
  let v80 : BitVec 32 := Scalar.subi v77 v79
  let v81 : BitVec 1 := Scalar.cmpi .ne v75 v80
  let v82 : BitVec 32 := Scalar.remsi v69 c2_i32
  let c0_i32_36 : BitVec 32 := 0#32
  let v83 : BitVec 1 := Scalar.cmpi .ne v82 c0_i32_36
  let v84 : BitVec 1 := Scalar.andi v81 v83
  let v70 : BitVec 32 := Scalar.divsi v69 c2_i32
  let c1_i32 : BitVec 32 := 1#32
  let v85 : BitVec 32 := Scalar.subi v70 c1_i32
  let v86 : BitVec 32 := Scalar.select v84 v85 v70
  let v95 : BitVec 32 := Scalar.muli c2_i32_42 v86
  let v96 : BitVec 32 := Scalar.addi v94 v95
  let c11_i32 : BitVec 32 := 11#32
  let v97 : BitVec 32 := Scalar.subi c11_i32 v96
  let c1_i32_43 : BitVec 32 := 1#32
  let v99 : BitVec 32 := Scalar.divsi v97 c1_i32_43
  let v100 : BitVec 32 := Scalar.muli v99 c1_i32_43
  let v101 : BitVec 32 := Scalar.addi v96 v100
  let c1_i32_45 : BitVec 32 := 1#32
  let arg16 : BitVec 32 := Scf.iv v101 c1_i32_45 k0_t4
  let c384_i32_54 : BitVec 32 := 384#32
  let v113 : BitVec 32 := Scalar.muli arg16 c384_i32_54
  let v114 : BitVec 32 := v113
  let v126 : Index := Scalar.indexCast v114
  let c0_61 : Index := 0#32
  ![0, 0, v126.toNat, 0]
def k0_off15 (i : grid0.Coords) (k0_t4 : Fin (k0_t4_loop i).trips) : Fin 2 → Nat :=
  let arg2 : BitVec 32 := BitVec.ofNat 32 (i 2).val
  let c1_i32_41 : BitVec 32 := 1#32
  let v94 : BitVec 32 := Scalar.addi arg2 c1_i32_41
  let c2_i32_42 : BitVec 32 := 2#32
  let c10_i32 : BitVec 32 := 10#32
  let v69 : BitVec 32 := Scalar.subi c10_i32 arg2
  let c0_i32_32 : BitVec 32 := 0#32
  let v71 : BitVec 1 := Scalar.cmpi .sgt v69 c0_i32_32
  let v72 : BitVec 32 := Scalar.extui v71
  let c0_i32_33 : BitVec 32 := 0#32
  let v73 : BitVec 1 := Scalar.cmpi .slt v69 c0_i32_33
  let v74 : BitVec 32 := Scalar.extui v73
  let v75 : BitVec 32 := Scalar.subi v72 v74
  let c2_i32 : BitVec 32 := 2#32
  let c0_i32_34 : BitVec 32 := 0#32
  let v76 : BitVec 1 := Scalar.cmpi .sgt c2_i32 c0_i32_34
  let v77 : BitVec 32 := Scalar.extui v76
  let c0_i32_35 : BitVec 32 := 0#32
  let v78 : BitVec 1 := Scalar.cmpi .slt c2_i32 c0_i32_35
  let v79 : BitVec 32 := Scalar.extui v78
  let v80 : BitVec 32 := Scalar.subi v77 v79
  let v81 : BitVec 1 := Scalar.cmpi .ne v75 v80
  let v82 : BitVec 32 := Scalar.remsi v69 c2_i32
  let c0_i32_36 : BitVec 32 := 0#32
  let v83 : BitVec 1 := Scalar.cmpi .ne v82 c0_i32_36
  let v84 : BitVec 1 := Scalar.andi v81 v83
  let v70 : BitVec 32 := Scalar.divsi v69 c2_i32
  let c1_i32 : BitVec 32 := 1#32
  let v85 : BitVec 32 := Scalar.subi v70 c1_i32
  let v86 : BitVec 32 := Scalar.select v84 v85 v70
  let v95 : BitVec 32 := Scalar.muli c2_i32_42 v86
  let v96 : BitVec 32 := Scalar.addi v94 v95
  let c11_i32 : BitVec 32 := 11#32
  let v97 : BitVec 32 := Scalar.subi c11_i32 v96
  let c1_i32_43 : BitVec 32 := 1#32
  let v99 : BitVec 32 := Scalar.divsi v97 c1_i32_43
  let v100 : BitVec 32 := Scalar.muli v99 c1_i32_43
  let v101 : BitVec 32 := Scalar.addi v96 v100
  let c1_i32_45 : BitVec 32 := 1#32
  let arg16 : BitVec 32 := Scf.iv v101 c1_i32_45 k0_t4
  let c384_i32_54 : BitVec 32 := 384#32
  let v113 : BitVec 32 := Scalar.muli arg16 c384_i32_54
  let v114 : BitVec 32 := v113
  let v136 : Index := Scalar.indexCast v114
  let c0_64 : Index := 0#32
  ![v136.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat, arg2.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4224x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4224x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4224x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x4224x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S4224x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S384x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S384x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x4224x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== KernelIdeal.lean ====
variable {F : FTy → Type} [FloatOps F] [Named F]
def κ : String → Option EReal := fun
  | "masked" => some ⊥
  | _ => none
-- ==== ReferenceIdeal.lean ====
abbrev S8448x3072 : Shape := ⟨2, ![8448, 3072]⟩
abbrev S2x8x4224 : Shape := ⟨3, ![2, 8, 4224]⟩
abbrev S2x4112x1024 : Shape := ⟨3, ![2, 4112, 1024]⟩
abbrev S8448x1024 : Shape := ⟨2, ![8448, 1024]⟩
abbrev S2x4224x8x128 : Shape := ⟨4, ![2, 4224, 8, 128]⟩
abbrev S2x4112x8x128 : Shape := ⟨4, ![2, 4112, 8, 128]⟩
abbrev S2x8x4112x4112 : Shape := ⟨4, ![2, 8, 4112, 4112]⟩
abbrev S_ : Shape := ⟨0, ![]⟩
abbrev S2x8x4112 : Shape := ⟨3, ![2, 8, 4112]⟩
abbrev S2x8x4112x1 : Shape := ⟨4, ![2, 8, 4112, 1]⟩
abbrev S2x8x1x4112 : Shape := ⟨4, ![2, 8, 1, 4112]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S2x8x128x4112 : Shape := ⟨4, ![2, 8, 128, 4112]⟩
abbrev S2x8x4112x128 : Shape := ⟨4, ![2, 8, 4112, 128]⟩
abbrev S16x1x4224 : Shape := ⟨3, ![16, 1, 4224]⟩
abbrev S2x8x4224x1 : Shape := ⟨4, ![2, 8, 4224, 1]⟩

abbrev nBuf : Space → Nat
  | .hbm => 139
  | .vmem => 0
  | .smem => 0
  | _ => 0

abbrev hbmTy0_0 (i : Nat) : BufTy := match i % 128 with
  | 0 => ⟨S8448x3072, .f32⟩
  | 1 => ⟨S2x8x4224, .f32⟩
  | 2 => ⟨S2x4112x1024, .f32⟩
  | 3 => ⟨S8448x1024, .f32⟩
  | 4 => ⟨S8448x1024, .f32⟩
  | 5 => ⟨S8448x1024, .f32⟩
  | 6 => ⟨S2x4224x8x128, .f32⟩
  | 7 => ⟨S2x4112x8x128, .f32⟩
  | 8 => ⟨S2x4224x8x128, .f32⟩
  | 9 => ⟨S2x4112x8x128, .f32⟩
  | 10 => ⟨S2x4224x8x128, .f32⟩
  | 11 => ⟨S2x4112x8x128, .f32⟩
  | 12 => ⟨S2x8x4112x4112, .f32⟩
  | 13 => ⟨S_, .f32⟩
  | 14 => ⟨S2x8x4112x4112, .f32⟩
  | 15 => ⟨S2x8x4112x4112, .f32⟩
  | 16 => ⟨S2x8x4112, .f32⟩
  | 17 => ⟨S2x8x4112x1, .f32⟩
  | 18 => ⟨S2x8x4112x4112, .f32⟩
  | 19 => ⟨S2x8x4112x4112, .f32⟩
  | 20 => ⟨S2x8x4112, .f32⟩
  | 21 => ⟨S2x8x1x4112, .f32⟩
  | 22 => ⟨S2x8x4112x4112, .f32⟩
  | 23 => ⟨S2x8x4112x4112, .f32⟩
  | 24 => ⟨S4112, .i32⟩
  | 25 => ⟨S1x4112, .i32⟩
  | 26 => ⟨S4112x1, .i32⟩
  | 27 => ⟨S4112x4112, .i32⟩
  | 28 => ⟨S4112x4112, .i32⟩
  | 29 => ⟨S4112x4112, .i1⟩
  | 30 => ⟨S_, .f32⟩
  | 31 => ⟨S_, .f32⟩
  | 32 => ⟨S2x8x4112x4112, .i1⟩
  | 33 => ⟨S2x8x4112x4112, .f32⟩
  | 34 => ⟨S2x8x4112x4112, .f32⟩
  | 35 => ⟨S_, .f32⟩
  | 36 => ⟨S2x8x4112x4112, .f32⟩
  | 37 => ⟨S_, .f32⟩
  | 38 => ⟨S2x8x4112, .f32⟩
  | 39 => ⟨S2x8x4112x1, .f32⟩
  | 40 => ⟨S2x8x4112x4112, .f32⟩
  | 41 => ⟨S2x8x4112x4112, .i1⟩
  | 42 => ⟨S2x8x4112x4112, .f32⟩
  | 43 => ⟨S_, .f32⟩
  | 44 => ⟨S2x8x4112, .f32⟩
  | 45 => ⟨S_, .f32⟩
  | 46 => ⟨S2x8x4112, .f32⟩
  | 47 => ⟨S2x8x4112, .f32⟩
  | 48 => ⟨S_, .f32⟩
  | 49 => ⟨S2x8x4112, .f32⟩
  | 50 => ⟨S2x8x4112, .i1⟩
  | 51 => ⟨S_, .f32⟩
  | 52 => ⟨S2x8x4112, .f32⟩
  | 53 => ⟨S2x8x4112, .i1⟩
  | 54 => ⟨S_, .f32⟩
  | 55 => ⟨S2x8x4112, .f32⟩
  | 56 => ⟨S_, .f32⟩
  | 57 => ⟨S2x8x4112, .f32⟩
  | 58 => ⟨S_, .f32⟩
  | 59 => ⟨S2x8x4112, .f32⟩
  | 60 => ⟨S2x8x4112, .f32⟩
  | 61 => ⟨S2x8x4112, .f32⟩
  | 62 => ⟨S2x8x4112x1, .f32⟩
  | 63 => ⟨S2x8x4112x4112, .f32⟩
  | 64 => ⟨S2x8x4112x4112, .f32⟩
  | 65 => ⟨S2x8x4112x4112, .f32⟩
  | 66 => ⟨S_, .f32⟩
  | 67 => ⟨S2x8x4112, .f32⟩
  | 68 => ⟨S2x8x4112x1, .f32⟩
  | 69 => ⟨S2x8x4112x4112, .f32⟩
  | 70 => ⟨S2x8x4112x4112, .f32⟩
  | 71 => ⟨S2x8x4112x1, .f32⟩
  | 72 => ⟨S_, .f32⟩
  | 73 => ⟨S2x8x4112x1, .f32⟩
  | 74 => ⟨S2x8x4112x1, .f32⟩
  | 75 => ⟨S2x8x128x4112, .f32⟩
  | 76 => ⟨S2x4112x8x128, .f32⟩
  | 77 => ⟨S2x4112x1024, .f32⟩
  | 78 => ⟨S2x4112x8x128, .f32⟩
  | 79 => ⟨S2x8x128x4112, .f32⟩
  | 80 => ⟨S2x8x4112x4112, .f32⟩
  | 81 => ⟨S2x8x128x4112, .f32⟩
  | 82 => ⟨S2x4112x8x128, .f32⟩
  | 83 => ⟨S2x8x4112x4112, .f32⟩
  | 84 => ⟨S2x8x4112x4112, .f32⟩
  | 85 => ⟨S2x8x4112x4112, .f32⟩
  | 86 => ⟨S_, .f32⟩
  | 87 => ⟨S2x8x4112, .f32⟩
  | 88 => ⟨S2x8x4112x1, .f32⟩
  | 89 => ⟨S2x8x4112x1, .f32⟩
  | 90 => ⟨S2x8x4112x4112, .f32⟩
  | 91 => ⟨S2x8x4112x4112, .f32⟩
  | 92 => ⟨S_, .f32⟩
  | 93 => ⟨S2x8x4112, .f32⟩
  | 94 => ⟨S2x8x4112x4112, .f32⟩
  | 95 => ⟨S2x8x4112x4112, .f32⟩
  | 96 => ⟨S2x8x4112x4112, .f32⟩
  | 97 => ⟨S_, .f32⟩
  | 98 => ⟨S2x8x4112x4112, .f32⟩
  | 99 => ⟨S2x8x4112x4112, .f32⟩
  | 100 => ⟨S2x8x4112x4112, .f32⟩
  | 101 => ⟨S_, .f32⟩
  | 102 => ⟨S2x8x4112, .f32⟩
  | 103 => ⟨S2x8x1x4112, .f32⟩
  | 104 => ⟨S_, .f32⟩
  | 105 => ⟨S2x8x4112, .f32⟩
  | 106 => ⟨S_, .f32⟩
  | 107 => ⟨S2x8x4224, .f32⟩
  | 108 => ⟨S_, .f32⟩
  | 109 => ⟨S2x8x4112, .f32⟩
  | 110 => ⟨S2x8x4112x1, .f32⟩
  | 111 => ⟨S_, .f32⟩
  | 112 => ⟨S2x8x4112, .f32⟩
  | 113 => ⟨S_, .f32⟩
  | 114 => ⟨S2x8x4224, .f32⟩
  | 115 => ⟨S_, .f32⟩
  | 116 => ⟨S2x8x4112x4112, .f32⟩
  | 117 => ⟨S2x8x4112x4112, .f32⟩
  | 118 => ⟨S2x8x4112x128, .f32⟩
  | 119 => ⟨S2x4112x8x128, .f32⟩
  | 120 => ⟨S2x8x4112x128, .f32⟩
  | 121 => ⟨S2x4112x8x128, .f32⟩
  | 122 => ⟨S_, .f32⟩
  | 123 => ⟨S2x4224x8x128, .f32⟩
  | 124 => ⟨S8448x1024, .f32⟩
  | 125 => ⟨S_, .f32⟩
  | 126 => ⟨S2x4224x8x128, .f32⟩
  | 127 => ⟨S8448x1024, .f32⟩
  | _ => ⟨S8448x3072, .f32⟩

abbrev hbmTy0_1 (i : Nat) : BufTy := match i % 128 with
  | 0 => ⟨S_, .f32⟩
  | 1 => ⟨S2x4224x8x128, .f32⟩
  | 2 => ⟨S8448x1024, .f32⟩
  | 3 => ⟨S8448x3072, .f32⟩
  | 4 => ⟨S8448x1024, .f32⟩
  | 5 => ⟨S8448x1024, .f32⟩
  | 6 => ⟨S8448x1024, .f32⟩
  | 7 => ⟨S8448x1024, .bf16⟩
  | 8 => ⟨S8448x1024, .bf16⟩
  | 9 => ⟨S16x1x4224, .f32⟩
  | 10 => ⟨S2x8x4224x1, .f32⟩
  | _ => ⟨S8448x3072, .f32⟩

abbrev hbmTy (i : Nat) : BufTy := match i / 128 with
  | 0 => hbmTy0_0 i
  | 1 => hbmTy0_1 i
  | _ => ⟨S8448x3072, .f32⟩

abbrev bufTy : (tb : Table) → Fin (tcTables nBuf tb) → BufTy
  | .hbm, ⟨i, _⟩ => hbmTy i
  | _, _ => ⟨S8448x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_v26_1 : Ref sig .tc := ⟨.hbm, 32, rfl⟩
abbrev main_call0_v2 : Ref sig .tc := ⟨.hbm, 33, rfl⟩
abbrev main_v26_0 : Ref sig .tc := ⟨.hbm, 34, rfl⟩
abbrev main_call0_cst : Ref sig .tc := ⟨.hbm, 35, rfl⟩
abbrev main_v26_2 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call1_cst : Ref sig .tc := ⟨.hbm, 97, rfl⟩
abbrev main_call1_v0 : Ref sig .tc := ⟨.hbm, 98, rfl⟩
abbrev main_v75 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_cst_14 : Ref sig .tc := ⟨.hbm, 104, rfl⟩
abbrev main_v79 : Ref sig .tc := ⟨.hbm, 105, rfl⟩
abbrev main_cst_15 : Ref sig .tc := ⟨.hbm, 106, rfl⟩
abbrev main_v80 : Ref sig .tc := ⟨.hbm, 107, rfl⟩
abbrev main_cst_16 : Ref sig .tc := ⟨.hbm, 108, rfl⟩
abbrev main_v81 : Ref sig .tc := ⟨.hbm, 109, rfl⟩
abbrev main_v82 : Ref sig .tc := ⟨.hbm, 110, rfl⟩
abbrev main_cst_17 : Ref sig .tc := ⟨.hbm, 111, rfl⟩
abbrev main_v83 : Ref sig .tc := ⟨.hbm, 112, rfl⟩
abbrev main_cst_18 : Ref sig .tc := ⟨.hbm, 113, rfl⟩
abbrev main_v84 : Ref sig .tc := ⟨.hbm, 114, rfl⟩
abbrev main_cst_19 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_20 : Ref sig .tc := ⟨.hbm, 122, rfl⟩
abbrev main_v91 : Ref sig .tc := ⟨.hbm, 123, rfl⟩
abbrev main_v92 : Ref sig .tc := ⟨.hbm, 124, rfl⟩
abbrev main_cst_21 : Ref sig .tc := ⟨.hbm, 125, rfl⟩
abbrev main_v93 : Ref sig .tc := ⟨.hbm, 126, rfl⟩
abbrev main_v94 : Ref sig .tc := ⟨.hbm, 127, rfl⟩
abbrev main_cst_22 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩

abbrev nD : Nat := 1
abbrev τ : Topo := Topo.v7x

variable {F : FTy → Type} [FloatOps F]
-- ==== FfnInDx.lean ====
abbrev S8448x5632 : Shape := ⟨2, ![8448, 5632]⟩
abbrev S1024x5632 : Shape := ⟨2, ![1024, 5632]⟩
abbrev S8448x1024 : Shape := ⟨2, ![8448, 1024]⟩
abbrev S1408x1408 : Shape := ⟨2, ![1408, 1408]⟩
abbrev S1024x1408 : Shape := ⟨2, ![1024, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S1024x5632, .bf16⟩
  | .hbm, ⟨2, _⟩ => ⟨S8448x1024, .f32⟩
  | .local _ .vmem, ⟨0, _⟩ => ⟨S1408x1408, .bf16⟩
  | .local _ .vmem, ⟨1, _⟩ => ⟨S1408x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDxRefIdeal.lean ====
abbrev S8448x5632 : Shape := ⟨2, ![8448, 5632]⟩
abbrev S1024x5632 : Shape := ⟨2, ![1024, 5632]⟩
abbrev S_ : Shape := ⟨0, ![]⟩
abbrev S8448x1024 : Shape := ⟨2, ![8448, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S1024x5632, .bf16⟩
  | .hbm, ⟨2, _⟩ => ⟨S_, .f32⟩
  | .hbm, ⟨3, _⟩ => ⟨S8448x1024, .f32⟩
  | .hbm, ⟨4, _⟩ => ⟨S1024x5632, .f32⟩
  | .hbm, ⟨5, _⟩ => ⟨S8448x5632, .f32⟩
  | .hbm, ⟨6, _⟩ => ⟨S8448x5632, .f32⟩
  | .hbm, ⟨7, _⟩ => ⟨S8448x1024, .f32⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnInDw.lean ====
abbrev S8448x1024 : Shape := ⟨2, ![8448, 1024]⟩
abbrev S8448x5632 : Shape := ⟨2, ![8448, 5632]⟩
abbrev S1024x5632 : Shape := ⟨2, ![1024, 5632]⟩
abbrev S1408x1024 : Shape := ⟨2, ![1408, 1024]⟩
abbrev S1408x1408 : Shape := ⟨2, ![1408, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x5632, .bf16⟩
  | .hbm, ⟨2, _⟩ => ⟨S1024x5632, .f32⟩
  | .local _ .vmem, ⟨0, _⟩ => ⟨S1408x1024, .bf16⟩
  | .local _ .vmem, ⟨1, _⟩ => ⟨S1408x1024, .bf16⟩
  | .local _ .vmem, ⟨2, _⟩ => ⟨S1408x1408, .bf16⟩
  | .local _ .vmem, ⟨3, _⟩ => ⟨S1408x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwRefIdeal.lean ====
abbrev S8448x1024 : Shape := ⟨2, ![8448, 1024]⟩
abbrev S8448x5632 : Shape := ⟨2, ![8448, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x5632, .bf16⟩
  | .hbm, ⟨2, _⟩ => ⟨S_, .f32⟩
  | .hbm, ⟨3, _⟩ => ⟨S1024x5632, .f32⟩
  | .hbm, ⟨4, _⟩ => ⟨S8448x1024, .f32⟩
  | .hbm, ⟨5, _⟩ => ⟨S8448x5632, .f32⟩
  | .hbm, ⟨6, _⟩ => ⟨S8448x5632, .f32⟩
  | .hbm, ⟨7, _⟩ => ⟨S5632x1024, .f32⟩
  | .hbm, ⟨8, _⟩ => ⟨S1024x5632, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDx.lean ====
abbrev S8448x9856 : Shape := ⟨2, ![8448, 9856]⟩
abbrev S1024x9856 : Shape := ⟨2, ![1024, 9856]⟩
abbrev S8448x1024 : Shape := ⟨2, ![8448, 1024]⟩
abbrev S1408x1408 : Shape := ⟨2, ![1408, 1408]⟩
abbrev S1024x1408 : Shape := ⟨2, ![1024, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x9856, .bf16⟩
  | .hbm, ⟨1, _⟩ => ⟨S1024x9856, .bf16⟩
  | .hbm, ⟨2, _⟩ => ⟨S8448x1024, .f32⟩
  | .local _ .vmem, ⟨0, _⟩ => ⟨S1408x1408, .bf16⟩
  | .local _ .vmem, ⟨1, _⟩ => ⟨S1408x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8448x9856, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 7], ![false, false, false]⟩

def k0_cond3 (i : grid0.Coords) : BitVec 1 :=
  let arg2 : BitVec 32 := BitVec.ofNat 32 (i 2).val
  let c6_i32 : BitVec 32 := 6#32
  let v9 : BitVec 1 := Scalar.cmpi .eq arg2 c6_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S8448x9856 : Shape := ⟨2, ![8448, 9856]⟩
abbrev S1024x9856 : Shape := ⟨2, ![1024, 9856]⟩
abbrev S_ : Shape := ⟨0, ![]⟩
abbrev S8448x1024 : Shape := ⟨2, ![8448, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8448x9856, .bf16⟩
  | .hbm, ⟨1, _⟩ => ⟨S1024x9856, .bf16⟩
  | .hbm, ⟨2, _⟩ => ⟨S_, .f32⟩
  | .hbm, ⟨3, _⟩ => ⟨S8448x1024, .f32⟩
  | .hbm, ⟨4, _⟩ => ⟨S1024x9856, .f32⟩
  | .hbm, ⟨5, _⟩ => ⟨S8448x9856, .f32⟩
  | .hbm, ⟨6, _⟩ => ⟨S8448x9856, .f32⟩
  | .hbm, ⟨7, _⟩ => ⟨S8448x1024, .f32⟩
  | _, _ => ⟨S8448x9856, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDw.lean ====
abbrev S8448x1024 : Shape := ⟨2, ![8448, 1024]⟩
abbrev S8448x9856 : Shape := ⟨2, ![8448, 9856]⟩
abbrev S1024x9856 : Shape := ⟨2, ![1024, 9856]⟩
abbrev S1408x1024 : Shape := ⟨2, ![1408, 1024]⟩
abbrev S1408x1408 : Shape := ⟨2, ![1408, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x9856, .bf16⟩
  | .hbm, ⟨2, _⟩ => ⟨S1024x9856, .f32⟩
  | .local _ .vmem, ⟨0, _⟩ => ⟨S1408x1024, .bf16⟩
  | .local _ .vmem, ⟨1, _⟩ => ⟨S1408x1024, .bf16⟩
  | .local _ .vmem, ⟨2, _⟩ => ⟨S1408x1408, .bf16⟩
  | .local _ .vmem, ⟨3, _⟩ => ⟨S1408x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8448x1024 : Shape := ⟨2, ![8448, 1024]⟩
abbrev S8448x9856 : Shape := ⟨2, ![8448, 9856]⟩
abbrev S_ : Shape := ⟨0, ![]⟩
abbrev S1024x9856 : Shape := ⟨2, ![1024, 9856]⟩
abbrev S9856x1024 : Shape := ⟨2, ![9856, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x9856, .bf16⟩
  | .hbm, ⟨2, _⟩ => ⟨S_, .f32⟩
  | .hbm, ⟨3, _⟩ => ⟨S1024x9856, .f32⟩
  | .hbm, ⟨4, _⟩ => ⟨S8448x1024, .f32⟩
  | .hbm, ⟨5, _⟩ => ⟨S8448x9856, .f32⟩
  | .hbm, ⟨6, _⟩ => ⟨S8448x9856, .f32⟩
  | .hbm, ⟨7, _⟩ => ⟨S9856x1024, .f32⟩
  | .hbm, ⟨8, _⟩ => ⟨S1024x9856, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnOutDw.lean ====
abbrev S8448x2816 : Shape := ⟨2, ![8448, 2816]⟩
abbrev S8448x1024 : Shape := ⟨2, ![8448, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .f32⟩
  | .hbm, ⟨2, _⟩ => ⟨S2816x1024, .f32⟩
  | .local _ .vmem, ⟨0, _⟩ => ⟨S1408x1408, .bf16⟩
  | .local _ .vmem, ⟨1, _⟩ => ⟨S1408x1408, .bf16⟩
  | .local _ .vmem, ⟨2, _⟩ => ⟨S1408x1024, .f32⟩
  | .local _ .vmem, ⟨3, _⟩ => ⟨S1408x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond3 (i : grid0.Coords) : BitVec 1 :=
  let arg2 : BitVec 32 := BitVec.ofNat 32 (i 2).val
  let c5_i32 : BitVec 32 := 5#32
  let v10 : BitVec 1 := Scalar.cmpi .eq arg2 c5_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwRefIdeal.lean ====
abbrev S8448x2816 : Shape := ⟨2, ![8448, 2816]⟩
abbrev S8448x1024 : Shape := ⟨2, ![8448, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .f32⟩
  | .hbm, ⟨2, _⟩ => ⟨S_, .f32⟩
  | .hbm, ⟨3, _⟩ => ⟨S2816x1024, .f32⟩
  | .hbm, ⟨4, _⟩ => ⟨S8448x2816, .f32⟩
  | .hbm, ⟨5, _⟩ => ⟨S8448x1024, .f32⟩
  | .hbm, ⟨6, _⟩ => ⟨S1024x2816, .f32⟩
  | .hbm, ⟨7, _⟩ => ⟨S2816x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnOutDx.lean ====
abbrev S8448x1024 : Shape := ⟨2, ![8448, 1024]⟩
abbrev S2816x1024 : Shape := ⟨2, ![2816, 1024]⟩
abbrev S8448x2816 : Shape := ⟨2, ![8448, 2816]⟩
abbrev S1408x1024 : Shape := ⟨2, ![1408, 1024]⟩
abbrev S1408x1408 : Shape := ⟨2, ![1408, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S2816x1024, .bf16⟩
  | .hbm, ⟨2, _⟩ => ⟨S8448x2816, .bf16⟩
  | .local _ .vmem, ⟨0, _⟩ => ⟨S1408x1024, .f32⟩
  | .local _ .vmem, ⟨1, _⟩ => ⟨S1408x1024, .f32⟩
  | .local _ .vmem, ⟨2, _⟩ => ⟨S1408x1024, .bf16⟩
  | .local _ .vmem, ⟨3, _⟩ => ⟨S1408x1024, .bf16⟩
  | .local _ .vmem, ⟨4, _⟩ => ⟨S1408x1408, .bf16⟩
  | .local _ .vmem, ⟨5, _⟩ => ⟨S1408x1408, .bf16⟩
  | .local _ .vmem, ⟨6, _⟩ => ⟨S1408x1408, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDxRefIdeal.lean ====
abbrev S8448x1024 : Shape := ⟨2, ![8448, 1024]⟩
abbrev S2816x1024 : Shape := ⟨2, ![2816, 1024]⟩
abbrev S_ : Shape := ⟨0, ![]⟩
abbrev S8448x2816 : Shape := ⟨2, ![8448, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S2816x1024, .bf16⟩
  | .hbm, ⟨2, _⟩ => ⟨S_, .f32⟩
  | .hbm, ⟨3, _⟩ => ⟨S8448x2816, .f32⟩
  | .hbm, ⟨4, _⟩ => ⟨S2816x1024, .f32⟩
  | .hbm, ⟨5, _⟩ => ⟨S8448x1024, .f32⟩
  | .hbm, ⟨6, _⟩ => ⟨S8448x2816, .f32⟩
  | .hbm, ⟨7, _⟩ => ⟨S8448x2816, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnIn.lean ====
abbrev S8448x1024 : Shape := ⟨2, ![8448, 1024]⟩
abbrev S1024x5632 : Shape := ⟨2, ![1024, 5632]⟩
abbrev S8448x5632 : Shape := ⟨2, ![8448, 5632]⟩
abbrev S1408x1024 : Shape := ⟨2, ![1408, 1024]⟩
abbrev S1024x1408 : Shape := ⟨2, ![1024, 1408]⟩
abbrev S1408x1408 : Shape := ⟨2, ![1408, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S1024x5632, .bf16⟩
  | .hbm, ⟨2, _⟩ => ⟨S8448x5632, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1408x1408, .bf16⟩
  | .local _ .vmem, ⟨5, _⟩ => ⟨S1408x1408, .bf16⟩
  | .local _ .vmem, ⟨6, _⟩ => ⟨S1408x1408, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInRefIdeal.lean ====
abbrev S8448x1024 : Shape := ⟨2, ![8448, 1024]⟩
abbrev S1024x5632 : Shape := ⟨2, ![1024, 5632]⟩
abbrev S8448x5632 : Shape := ⟨2, ![8448, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x5632, .bf16⟩
  | .hbm, ⟨2, _⟩ => ⟨S8448x1024, .f32⟩
  | .hbm, ⟨3, _⟩ => ⟨S1024x5632, .f32⟩
  | .hbm, ⟨4, _⟩ => ⟨S8448x5632, .f32⟩
  | .hbm, ⟨5, _⟩ => ⟨S8448x5632, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnOut.lean ====
abbrev S8448x2816 : Shape := ⟨2, ![8448, 2816]⟩
abbrev S2816x1024 : Shape := ⟨2, ![2816, 1024]⟩
abbrev S8448x1024 : Shape := ⟨2, ![8448, 1024]⟩
abbrev S1408x1408 : Shape := ⟨2, ![1408, 1408]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x1024, .f32⟩
  | .hbm, ⟨3, _⟩ => ⟨S8448x1024, .f32⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | .local _ .vmem, ⟨8, _⟩ => ⟨S1408x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnOutRefIdeal.lean ====
abbrev S8448x2816 : Shape := ⟨2, ![8448, 2816]⟩
abbrev S2816x1024 : Shape := ⟨2, ![2816, 1024]⟩
abbrev S8448x1024 : Shape := ⟨2, ![8448, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x1024, .f32⟩
  | .hbm, ⟨3, _⟩ => ⟨S8448x2816, .f32⟩
  | .hbm, ⟨4, _⟩ => ⟨S2816x1024, .f32⟩
  | .hbm, ⟨5, _⟩ => ⟨S8448x1024, .f32⟩
  | .hbm, ⟨6, _⟩ => ⟨S8448x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InZ.lean ====
abbrev S8448x1024 : Shape := ⟨2, ![8448, 1024]⟩
abbrev S1024x9856 : Shape := ⟨2, ![1024, 9856]⟩
abbrev S1408x1024 : Shape := ⟨2, ![1408, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x9856, .bf16⟩
  | .hbm, ⟨2, _⟩ => ⟨S8448x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InZRefIdeal.lean ====
abbrev S8448x1024 : Shape := ⟨2, ![8448, 1024]⟩
abbrev S1024x9856 : Shape := ⟨2, ![1024, 9856]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x9856, .bf16⟩
  | .hbm, ⟨2, _⟩ => ⟨S8448x1024, .f32⟩
  | .hbm, ⟨3, _⟩ => ⟨S1024x1024, .bf16⟩
  | .hbm, ⟨4, _⟩ => ⟨S1024x1024, .f32⟩
  | .hbm, ⟨5, _⟩ => ⟨S8448x1024, .f32⟩
  | .hbm, ⟨6, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InXbc.lean ====
abbrev S8448x1024 : Shape := ⟨2, ![8448, 1024]⟩
abbrev S1024x9856 : Shape := ⟨2, ![1024, 9856]⟩
abbrev S8448x1536 : Shape := ⟨2, ![8448, 1536]⟩
abbrev S1408x1024 : Shape := ⟨2, ![1408, 1024]⟩
abbrev S1024x512 : Shape := ⟨2, ![1024, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S1024x9856, .bf16⟩
  | .hbm, ⟨2, _⟩ => ⟨S8448x1536, .f32⟩
  | .local _ .vmem, ⟨0, _⟩ => ⟨S1408x1024, .bf16⟩
  | .local _ .vmem, ⟨1, _⟩ => ⟨S1408x1024, .bf16⟩
  | .local _ .vmem, ⟨2, _⟩ => ⟨S1024x512, .bf16⟩
  | .local _ .vmem, ⟨3, _⟩ => ⟨S1024x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 3, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InXbcRefIdeal.lean ====
abbrev S8448x1024 : Shape := ⟨2, ![8448, 1024]⟩
abbrev S1024x9856 : Shape := ⟨2, ![1024, 9856]⟩
abbrev S1024x1536 : Shape := ⟨2, ![1024, 1536]⟩
abbrev S8448x1536 : Shape := ⟨2, ![8448, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x9856, .bf16⟩
  | .hbm, ⟨2, _⟩ => ⟨S8448x1024, .f32⟩
  | .hbm, ⟨3, _⟩ => ⟨S1024x1536, .bf16⟩
  | .hbm, ⟨4, _⟩ => ⟨S1024x1536, .f32⟩
  | .hbm, ⟨5, _⟩ => ⟨S8448x1536, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InQkv.lean ====
abbrev S8448x1024 : Shape := ⟨2, ![8448, 1024]⟩
abbrev S1024x9856 : Shape := ⟨2, ![1024, 9856]⟩
abbrev S8448x3072 : Shape := ⟨2, ![8448, 3072]⟩
abbrev S1408x1024 : Shape := ⟨2, ![1408, 1024]⟩
abbrev S1024x512 : Shape := ⟨2, ![1024, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S1024x9856, .bf16⟩
  | .hbm, ⟨2, _⟩ => ⟨S8448x3072, .bf16⟩
  | .local _ .vmem, ⟨0, _⟩ => ⟨S1408x1024, .bf16⟩
  | .local _ .vmem, ⟨1, _⟩ => ⟨S1408x1024, .bf16⟩
  | .local _ .vmem, ⟨2, _⟩ => ⟨S1024x512, .bf16⟩
  | .local _ .vmem, ⟨3, _⟩ => ⟨S1024x512, .bf16⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 6, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg1 c5_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InQkvRefIdeal.lean ====
abbrev S8448x1024 : Shape := ⟨2, ![8448, 1024]⟩
abbrev S1024x9856 : Shape := ⟨2, ![1024, 9856]⟩
abbrev S1024x3072 : Shape := ⟨2, ![1024, 3072]⟩
abbrev S8448x3072 : Shape := ⟨2, ![8448, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x9856, .bf16⟩
  | .hbm, ⟨2, _⟩ => ⟨S8448x1024, .f32⟩
  | .hbm, ⟨3, _⟩ => ⟨S1024x3072, .bf16⟩
  | .hbm, ⟨4, _⟩ => ⟨S1024x3072, .f32⟩
  | .hbm, ⟨5, _⟩ => ⟨S8448x3072, .f32⟩
  | .hbm, ⟨6, _⟩ => ⟨S8448x3072, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InU.lean ====
abbrev S8448x1024 : Shape := ⟨2, ![8448, 1024]⟩
abbrev S1024x9856 : Shape := ⟨2, ![1024, 9856]⟩
abbrev S1408x1024 : Shape := ⟨2, ![1408, 1024]⟩
abbrev S1024x512 : Shape := ⟨2, ![1024, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S1024x9856, .bf16⟩
  | .hbm, ⟨2, _⟩ => ⟨S8448x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1024x512, .bf16⟩
  | .local _ .vmem, ⟨3, _⟩ => ⟨S1024x512, .bf16⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg1 c11_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InURefIdeal.lean ====
abbrev S8448x1024 : Shape := ⟨2, ![8448, 1024]⟩
abbrev S1024x9856 : Shape := ⟨2, ![1024, 9856]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x9856, .bf16⟩
  | .hbm, ⟨2, _⟩ => ⟨S8448x1024, .f32⟩
  | .hbm, ⟨3, _⟩ => ⟨S1024x1024, .bf16⟩
  | .hbm, ⟨4, _⟩ => ⟨S1024x1024, .f32⟩
  | .hbm, ⟨5, _⟩ => ⟨S8448x1024, .f32⟩
  | .hbm, ⟨6, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InG.lean ====
abbrev S8448x1024 : Shape := ⟨2, ![8448, 1024]⟩
abbrev S1024x9856 : Shape := ⟨2, ![1024, 9856]⟩
abbrev S8448x3072 : Shape := ⟨2, ![8448, 3072]⟩
abbrev S1408x1024 : Shape := ⟨2, ![1408, 1024]⟩
abbrev S1024x512 : Shape := ⟨2, ![1024, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S1024x9856, .bf16⟩
  | .hbm, ⟨2, _⟩ => ⟨S8448x3072, .bf16⟩
  | .local _ .vmem, ⟨0, _⟩ => ⟨S1408x1024, .bf16⟩
  | .local _ .vmem, ⟨1, _⟩ => ⟨S1408x1024, .bf16⟩
  | .local _ .vmem, ⟨2, _⟩ => ⟨S1024x512, .bf16⟩
  | .local _ .vmem, ⟨3, _⟩ => ⟨S1024x512, .bf16⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 6, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.addi arg1 c13_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGRefIdeal.lean ====
abbrev S8448x1024 : Shape := ⟨2, ![8448, 1024]⟩
abbrev S1024x9856 : Shape := ⟨2, ![1024, 9856]⟩
abbrev S1024x3072 : Shape := ⟨2, ![1024, 3072]⟩
abbrev S8448x3072 : Shape := ⟨2, ![8448, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x9856, .bf16⟩
  | .hbm, ⟨2, _⟩ => ⟨S8448x1024, .f32⟩
  | .hbm, ⟨3, _⟩ => ⟨S1024x3072, .bf16⟩
  | .hbm, ⟨4, _⟩ => ⟨S1024x3072, .f32⟩
  | .hbm, ⟨5, _⟩ => ⟨S8448x3072, .f32⟩
  | .hbm, ⟨6, _⟩ => ⟨S8448x3072, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InSm.lean ====
abbrev S8448x1024 : Shape := ⟨2, ![8448, 1024]⟩
abbrev S1024x9856 : Shape := ⟨2, ![1024, 9856]⟩
abbrev S8448x128 : Shape := ⟨2, ![8448, 128]⟩
abbrev S1408x1024 : Shape := ⟨2, ![1408, 1024]⟩
abbrev S1024x128 : Shape := ⟨2, ![1024, 128]⟩
abbrev S1408x128 : Shape := ⟨2, ![1408, 128]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x9856, .bf16⟩
  | .hbm, ⟨2, _⟩ => ⟨S8448x128, .f32⟩
  | .local _ .vmem, ⟨0, _⟩ => ⟨S1408x1024, .bf16⟩
  | .local _ .vmem, ⟨1, _⟩ => ⟨S1408x1024, .bf16⟩
  | .local _ .vmem, ⟨2, _⟩ => ⟨S1024x128, .bf16⟩
  | .local _ .vmem, ⟨3, _⟩ => ⟨S1408x128, .f32⟩
  | .local _ .vmem, ⟨4, _⟩ => ⟨S1408x128, .f32⟩
  | .local _ .vmem, ⟨5, _⟩ => ⟨S1408x128, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c76_i32 : BitVec 32 := 76#32
  let v0 : BitVec 32 := Scalar.addi arg1 c76_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InSmRefIdeal.lean ====
abbrev S8448x1024 : Shape := ⟨2, ![8448, 1024]⟩
abbrev S1024x9856 : Shape := ⟨2, ![1024, 9856]⟩
abbrev S1024x128 : Shape := ⟨2, ![1024, 128]⟩
abbrev S8448x128 : Shape := ⟨2, ![8448, 128]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x9856, .bf16⟩
  | .hbm, ⟨2, _⟩ => ⟨S8448x1024, .f32⟩
  | .hbm, ⟨3, _⟩ => ⟨S1024x128, .bf16⟩
  | .hbm, ⟨4, _⟩ => ⟨S1024x128, .f32⟩
  | .hbm, ⟨5, _⟩ => ⟨S8448x128, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Branch.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRefIdeal.lean ====
abbrev S8448x1024 : Shape := ⟨2, ![8448, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S1024x1024, .f32⟩
  | .hbm, ⟨4, _⟩ => ⟨S8448x1024, .f32⟩
  | .hbm, ⟨5, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BranchDx.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxRefIdeal.lean ====
abbrev S8448x1024 : Shape := ⟨2, ![8448, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S_, .f32⟩
  | .hbm, ⟨3, _⟩ => ⟨S8448x1024, .f32⟩
  | .hbm, ⟨4, _⟩ => ⟨S1024x1024, .f32⟩
  | .hbm, ⟨5, _⟩ => ⟨S8448x1024, .f32⟩
  | .hbm, ⟨6, _⟩ => ⟨S8448x1024, .f32⟩
  | .hbm, ⟨7, _⟩ => ⟨S8448x1024, .f32⟩
  | .hbm, ⟨8, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchDw.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchDwRefIdeal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S1024x1024, .f32⟩
  | .hbm, ⟨8, _⟩ => ⟨S1024x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutProj.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S8448x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![6, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S8448x1024 : Shape := ⟨2, ![8448, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S8448x1024, .f32⟩
  | .hbm, ⟨4, _⟩ => ⟨S1024x1024, .f32⟩
  | .hbm, ⟨5, _⟩ => ⟨S8448x1024, .f32⟩
  | .hbm, ⟨6, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutProjDx.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024x1024, .bf16⟩
  | .hbm, ⟨2, _⟩ => ⟨S8448x1024, .bf16⟩
  | .local _ .vmem, ⟨0, _⟩ => ⟨S1408x1024, .f32⟩
  | .local _ .vmem, ⟨1, _⟩ => ⟨S1408x1024, .f32⟩
  | .local _ .vmem, ⟨2, _⟩ => ⟨S1024x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDxRefIdeal.lean ====
abbrev S8448x1024 : Shape := ⟨2, ![8448, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x1024, .bf16⟩
  | .hbm, ⟨2, _⟩ => ⟨S_, .f32⟩
  | .hbm, ⟨3, _⟩ => ⟨S8448x1024, .f32⟩
  | .hbm, ⟨4, _⟩ => ⟨S1024x1024, .f32⟩
  | .hbm, ⟨5, _⟩ => ⟨S8448x1024, .f32⟩
  | .hbm, ⟨6, _⟩ => ⟨S8448x1024, .f32⟩
  | .hbm, ⟨7, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutProjDw.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .f32⟩
  | .hbm, ⟨2, _⟩ => ⟨S1024x1024, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .f32⟩
  | .local _ .vmem, ⟨3, _⟩ => ⟨S1408x1024, .f32⟩
  | .local _ .vmem, ⟨4, _⟩ => ⟨S1024x1024, .f32⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v10 : BitVec 1 := Scalar.cmpi .eq arg2 c5_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutProjDwRefIdeal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .f32⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S8448x1024, .f32⟩
  | .hbm, ⟨6, _⟩ => ⟨S1024x1024, .f32⟩
  | .hbm, ⟨7, _⟩ => ⟨S1024x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.BitsRuns.lean ====
/- The frame of the kernel at the hardware's own values, first part: what the two runs of its body share. The
   frame kit (`hmain`, `V`, `iblk`, `frame_of`), the branch conditions in closed form over the points, where the
   windows are idle, and the staging and scratch memrefs. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 11) — by arithmetic of the point. -/
theorem hcond0_0 : ∀ t : Fin cfg0.N, cond0_0 (grid0.coords t) ↔ t.val % 11 = 0 :=
  (fun t => by
    have ht : t.val < 176 := Nat.lt_of_lt_of_eq t.isLt N_0
    have e0 : (grid0.coords t 0).val = t.val / 88 % 2 := Pipeline.Grid.coords_val t 0 (by decide) rfl
    have e1 : (grid0.coords t 1).val = t.val / 11 % 8 := Pipeline.Grid.coords_val t 1 (by decide) rfl
    have e2 : (grid0.coords t 2).val = t.val / 1 % 11 := Pipeline.Grid.coords_val t 2 (by decide) rfl
    simp only [cond0_0, e0, e1, e2]
    word_cmp
   : ∀ t : Fin grid0.N, cond0_0 (grid0.coords t) ↔ t.val % 11 = 0)

/-! ## The kernel body on any staging memrefs: a subtype the run finds -/

/-- Each window's current staging memref at point `t`, spelled as the pipeline passes it (`bodyAt0`), and its wholeness. -/
abbrev ms0_0 (t : Fin cfg0.N) : Memref sig .tc .vmem S4224x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S384x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S384x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4224x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4224x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x4224x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x384 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4224x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S384x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S384x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x384 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x4224x1 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S4224x1 .f32 := Memref.whole cc0_scratch0
/-- The scratch `arg15` the kernel carries between points, as a view: what it holds is stated through it. -/
abbrev VS0_0 : View sig .tc .vmem S4224x1 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Gen

end
-- ==== Proof.BitsRunA.lean ====
/- The frame of the kernel at the hardware's own values, second part: the body's run at the points that open a head,
   where delta is computed and stored. Nothing is said of what the outputs hold. -/
module

public import proofs.«01_k».proof.Proof.BitsRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0, 11, … 165: 16 of 176), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8, 9, 10, 11) at anything, handed back at some contents nothing names. -/
noncomputable def kernelRun0_A (c : Dev nD) (i : grid0.Coords) (arg3 : Memref sig .tc .vmem S4224x128 .bf16) (harg3 : arg3.IsWhole) (arg4 : Memref sig .tc .vmem S384x128 .bf16) (harg4 : arg4.IsWhole) (arg5 : Memref sig .tc .vmem S384x128 .bf16) (harg5 : arg5.IsWhole) (arg6 : Memref sig .tc .vmem S4224x128 .bf16) (harg6 : arg6.IsWhole) (arg7 : Memref sig .tc .vmem S4224x128 .bf16) (harg7 : arg7.IsWhole) (arg8 : Memref sig .tc .vmem S1x1x4224x1 .f32) (harg8 : arg8.IsWhole) (arg9 : Memref sig .tc .vmem S1x1x384 .f32) (harg9 : arg9.IsWhole) (arg10 : Memref sig .tc .vmem S4224x128 .f32) (harg10 : arg10.IsWhole) (arg11 : Memref sig .tc .vmem S384x128 .bf16) (harg11 : arg11.IsWhole) (arg12 : Memref sig .tc .vmem S384x128 .bf16) (harg12 : arg12.IsWhole) (arg13 : Memref sig .tc .vmem S1x1x384 .f32) (harg13 : arg13.IsWhole) (arg14 : Memref sig .tc .vmem S1x1x4224x1 .f32) (harg14 : arg14.IsWhole) (arg15 : Memref sig .tc .vmem S4224x1 .f32) (harg15 : arg15.IsWhole) (hc0 : cond0_0 i)
    (x0 : Vec F S4224x128 .bf16) (x1 : Vec F S384x128 .bf16) (x2 : Vec F S384x128 .bf16) (x3 : Vec F S4224x128 .bf16) (x4 : Vec F S4224x128 .bf16) (x5 : Vec F S1x1x4224x1 .f32) (x6 : Vec F S1x1x384 .f32) :
    { LS0 : List (View.Piece (Elt F) S4224x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f LS0)) -∗ K ⟨⟩))
          ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_fox_bwd_eq_skeleton]; unfold cc0_fox_bwd_skel
    simp only [k0_part8_eq_skeleton, k0_part1_eq_skeleton, k0_part2_eq_skeleton, k0_part3_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _; iexact HS0

end Cert.Kernel.Gen

end
-- ==== Proof.BitsRunB.lean ====
/- The frame of the kernel at the hardware's own values, third part: the body's run at the points that find delta
   already stored. Nothing is said of what the outputs hold. -/
module

public import proofs.«01_k».proof.Proof.BitsRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 175: 160 of 176), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8, 9, 10, 11) at anything, handed back at some contents nothing names. -/
noncomputable def kernelRun0_B (c : Dev nD) (i : grid0.Coords) (arg3 : Memref sig .tc .vmem S4224x128 .bf16) (harg3 : arg3.IsWhole) (arg4 : Memref sig .tc .vmem S384x128 .bf16) (harg4 : arg4.IsWhole) (arg5 : Memref sig .tc .vmem S384x128 .bf16) (harg5 : arg5.IsWhole) (arg6 : Memref sig .tc .vmem S4224x128 .bf16) (harg6 : arg6.IsWhole) (arg7 : Memref sig .tc .vmem S4224x128 .bf16) (harg7 : arg7.IsWhole) (arg8 : Memref sig .tc .vmem S1x1x4224x1 .f32) (harg8 : arg8.IsWhole) (arg9 : Memref sig .tc .vmem S1x1x384 .f32) (harg9 : arg9.IsWhole) (arg10 : Memref sig .tc .vmem S4224x128 .f32) (harg10 : arg10.IsWhole) (arg11 : Memref sig .tc .vmem S384x128 .bf16) (harg11 : arg11.IsWhole) (arg12 : Memref sig .tc .vmem S384x128 .bf16) (harg12 : arg12.IsWhole) (arg13 : Memref sig .tc .vmem S1x1x384 .f32) (harg13 : arg13.IsWhole) (arg14 : Memref sig .tc .vmem S1x1x4224x1 .f32) (harg14 : arg14.IsWhole) (arg15 : Memref sig .tc .vmem S4224x1 .f32) (harg15 : arg15.IsWhole) (hc0 : ¬cond0_0 i)
    (x0 : Vec F S4224x128 .bf16) (x1 : Vec F S384x128 .bf16) (x2 : Vec F S384x128 .bf16) (x3 : Vec F S4224x128 .bf16) (x4 : Vec F S4224x128 .bf16) (x5 : Vec F S1x1x4224x1 .f32) (x6 : Vec F S1x1x384 .f32) (xs0 : Vec F S4224x1 .f32) :
    { LS0 : List (View.Piece (Elt F) S4224x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0) -∗ K ⟨⟩))
          ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13 arg14 harg14 arg15 harg15) K } := by
  refine ⟨[], fun E K => ?run⟩
  case run =>
    simp only [cc0_fox_bwd_eq_skeleton]; unfold cc0_fox_bwd_skel
    simp only [k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg15.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _; isplitr; · ipureintro; exact harg15.read_unread _
    iexact HS0

end Cert.Kernel.Gen

end
-- ==== Proof.BitsFrame.lean ====
/- The frame of the kernel at the hardware's own values, last part: what the carried scratch holds point by point, the
   proof data (the five outputs unnamed), the obligation of the body at every point, the launch, and `frame`. -/
module

public import proofs.«01_k».proof.Proof.BitsRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg15`, which the kernel carries between points, cover it: 11 pieces of `S384x1` tiling it (Lib/Ring.lean `Piece.tiledL`). -/
theorem scover0_A_0 (c : Dev nD) (i : grid0.Coords) (arg3 : Memref sig .tc .vmem S4224x128 .bf16) (harg3 : arg3.IsWhole) (arg4 : Memref sig .tc .vmem S384x128 .bf16) (harg4 : arg4.IsWhole) (arg5 : Memref sig .tc .vmem S384x128 .bf16) (harg5 : arg5.IsWhole) (arg6 : Memref sig .tc .vmem S4224x128 .bf16) (harg6 : arg6.IsWhole) (arg7 : Memref sig .tc .vmem S4224x128 .bf16) (harg7 : arg7.IsWhole) (arg8 : Memref sig .tc .vmem S1x1x4224x1 .f32) (harg8 : arg8.IsWhole) (arg9 : Memref sig .tc .vmem S1x1x384 .f32) (harg9 : arg9.IsWhole) (arg10 : Memref sig .tc .vmem S4224x128 .f32) (harg10 : arg10.IsWhole) (arg11 : Memref sig .tc .vmem S384x128 .bf16) (harg11 : arg11.IsWhole) (arg12 : Memref sig .tc .vmem S384x128 .bf16) (harg12 : arg12.IsWhole) (arg13 : Memref sig .tc .vmem S1x1x384 .f32) (harg13 : arg13.IsWhole) (arg14 : Memref sig .tc .vmem S1x1x4224x1 .f32) (harg14 : arg14.IsWhole) (arg15 : Memref sig .tc .vmem S4224x1 .f32) (harg15 : arg15.IsWhole) (hc0 : cond0_0 i)
    (x0 : Vec F S4224x128 .bf16) (x1 : Vec F S384x128 .bf16) (x2 : Vec F S384x128 .bf16) (x3 : Vec F S4224x128 .bf16) (x4 : Vec F S4224x128 .bf16) (x5 : Vec F S1x1x4224x1 .f32) (x6 : Vec F S1x1x384 .f32) (y : S4224x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).1 S384x1.size (by sl_kernel_rfl) y

/-- What case A leaves in scratch `arg15`: its pieces read back over junk. -/
def sout0_A_0 (c : Dev nD) (i : grid0.Coords) (arg3 : Memref sig .tc .vmem S4224x128 .bf16) (harg3 : arg3.IsWhole) (arg4 : Memref sig .tc .vmem S384x128 .bf16) (harg4 : arg4.IsWhole) (arg5 : Memref sig .tc .vmem S384x128 .bf16) (harg5 : arg5.IsWhole) (arg6 : Memref sig .tc .vmem S4224x128 .bf16) (harg6 : arg6.IsWhole) (arg7 : Memref sig .tc .vmem S4224x128 .bf16) (harg7 : arg7.IsWhole) (arg8 : Memref sig .tc .vmem S1x1x4224x1 .f32) (harg8 : arg8.IsWhole) (arg9 : Memref sig .tc .vmem S1x1x384 .f32) (harg9 : arg9.IsWhole) (arg10 : Memref sig .tc .vmem S4224x128 .f32) (harg10 : arg10.IsWhole) (arg11 : Memref sig .tc .vmem S384x128 .bf16) (harg11 : arg11.IsWhole) (arg12 : Memref sig .tc .vmem S384x128 .bf16) (harg12 : arg12.IsWhole) (arg13 : Memref sig .tc .vmem S1x1x384 .f32) (harg13 : arg13.IsWhole) (arg14 : Memref sig .tc .vmem S1x1x4224x1 .f32) (harg14 : arg14.IsWhole) (arg15 : Memref sig .tc .vmem S4224x1 .f32) (harg15 : arg15.IsWhole) (hc0 : cond0_0 i)
    (x0 : Vec F S4224x128 .bf16) (x1 : Vec F S384x128 .bf16) (x2 : Vec F S384x128 .bf16) (x3 : Vec F S4224x128 .bf16) (x4 : Vec F S4224x128 .bf16) (x5 : Vec F S1x1x4224x1 .f32) (x6 : Vec F S1x1x384 .f32) : Vec F S4224x1 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).1)

/-- Case B stores nothing into scratch `arg15`: it holds what the point before left. -/
def sout0_B_0 (c : Dev nD) (i : grid0.Coords) (arg3 : Memref sig .tc .vmem S4224x128 .bf16) (harg3 : arg3.IsWhole) (arg4 : Memref sig .tc .vmem S384x128 .bf16) (harg4 : arg4.IsWhole) (arg5 : Memref sig .tc .vmem S384x128 .bf16) (harg5 : arg5.IsWhole) (arg6 : Memref sig .tc .vmem S4224x128 .bf16) (harg6 : arg6.IsWhole) (arg7 : Memref sig .tc .vmem S4224x128 .bf16) (harg7 : arg7.IsWhole) (arg8 : Memref sig .tc .vmem S1x1x4224x1 .f32) (harg8 : arg8.IsWhole) (arg9 : Memref sig .tc .vmem S1x1x384 .f32) (harg9 : arg9.IsWhole) (arg10 : Memref sig .tc .vmem S4224x128 .f32) (harg10 : arg10.IsWhole) (arg11 : Memref sig .tc .vmem S384x128 .bf16) (harg11 : arg11.IsWhole) (arg12 : Memref sig .tc .vmem S384x128 .bf16) (harg12 : arg12.IsWhole) (arg13 : Memref sig .tc .vmem S1x1x384 .f32) (harg13 : arg13.IsWhole) (arg14 : Memref sig .tc .vmem S1x1x4224x1 .f32) (harg14 : arg14.IsWhole) (arg15 : Memref sig .tc .vmem S4224x1 .f32) (harg15 : arg15.IsWhole) (hc0 : ¬cond0_0 i)
    (x0 : Vec F S4224x128 .bf16) (x1 : Vec F S384x128 .bf16) (x2 : Vec F S384x128 .bf16) (x3 : Vec F S4224x128 .bf16) (x4 : Vec F S4224x128 .bf16) (x5 : Vec F S1x1x4224x1 .f32) (x6 : Vec F S1x1x384 .f32) (xs0 : Vec F S4224x1 .f32) : Vec F S4224x1 .f32 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S4224x1 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 11 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn))

/-- `outsAt0` at a point of case A: that case's contents. -/
theorem outsAt0_A (c : Dev nD) (t : Fin cfg0.N) (h0 : t.val % 11 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 11 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn))) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn))) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)))) ∗ (∃ r, prngReg c r)) := by
  cases n with
  | zero => exact absurd rfl hz
  | succ n => rfl

/-! ## The pipeline's proof data -/

/-- The output windows this certificate FORGETS (7, 8, 9, 10, 11): nothing reads what the kernel leaves in them, so nothing
    of it is named (Lib/Pipeline/Dat.lean `Dat.toRForget`). -/
def forgets0 : Fin 12 → Bool := fun w => w.val == 7 || w.val == 8 || w.val == 9 || w.val == 10 || w.val == 11

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 176 := lt_of_lt_of_eq t.isLt (show cfg0.N = 176 from N_0)
  by_cases h0 : t.val % 11 = 0
  · by_cases hz : t.val = 0
    · rw [PhiS_castSucc m c t, PhiS_zero m c _ _ hz, PhiA0_eq]
      rw [outsAt0_A m c t h0]
      unfold sout0_A_0
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [HS0]; · iexact HS0
      iintro ⟨H0, H1, H2, H3, H4, H5, H6, H7, H8, H9, H10, H11, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [PhiS_castSucc m c t, PhiS_pos m c _ _ hz]
      rw [outsAt0_A m c t h0]
      unfold sout0_A_0
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [HS0]; · iexists _; iexact HS0
      iintro ⟨H0, H1, H2, H3, H4, H5, H6, H7, H8, H9, H10, H11, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
  · by_cases hz : t.val = 0
    · exfalso; have hN : t.val < 176 := lt_of_lt_of_eq t.isLt (show cfg0.N = 176 from N_0); omega
    · rw [PhiS_castSucc m c t, PhiS_pos m c _ _ hz]
      rw [outsAt0_B m c t h0]
      unfold sout0_B_0
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [HS0]; · iexact HS0
      iintro ⟨H0, H1, H2, H3, H4, H5, H6, H7, H8, H9, H10, H11, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 176 := N_0; omega)

/-! ## The run and the frame -/

-- `θ_run_frame_track_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 7, 8, 9, 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.BodyPoints.lean ====
/- The condition of the body's one branch, and the buffers the body is called with -/

module

public import proofs.«01_k».proof.Proof.Gen.KernelIdeal.Frame
public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The branch's condition: the key block is the first. -/
abbrev firstBlock (i : grid0.Coords) : Prop :=
  (Scalar.cmpi .ne (Scalar.extui (Scalar.cmpi .eq (BitVec.ofNat 32 (i 2).val) 0#32)) 0#32) = 1#1

/-- The key block is the first at the points divisible by 11. -/
theorem firstBlock_iff (t : Fin cfg0.N) : firstBlock (grid0.coords t) ↔ t.val % 11 = 0 := by
  have ht : t.val < 176 := Nat.lt_of_lt_of_eq t.isLt N_0
  have e2 : (grid0.coords t 2).val = t.val / 1 % 11 := Pipeline.Grid.coords_val t 2 (by decide) rfl
  simp only [firstBlock, e2]
  word_cmp

/-! The buffer each window is on at a point, and that it is a whole one. -/

abbrev ms0_0 (t : Fin cfg0.N) : Memref sig .tc .vmem S4224x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S384x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S384x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4224x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4224x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x4224x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x384 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4224x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S384x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S384x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x384 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x4224x1 .f32 := win0_11.stage (cfg0.slots t 11)
abbrev hs0_11 (t : Fin cfg0.N) : (ms0_11 t).IsWhole := hstage0_11 ((cfg0.slots t 11).cast nbuf0_11)

/-- The buffer that keeps the rows' `delta` from one key block to the next. -/
abbrev scM0_0 : Memref sig .tc .vmem S4224x1 .f32 := Memref.whole cc0_scratch0

/-- What the region holds besides the windows: that buffer and the generator's register, at anything. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.BodyFirst.lean ====
/- One point's run, at the first key block -/

module

public import proofs.«01_k».proof.Proof.BodyPoints
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body leaves in the buffers it stores into, when the key block is the first, together with the proof that it
    does: from the inputs' buffers at `x0` … `x6` and the others at `y7` … `y12` the body ends with the
    inputs as they were and the others at the contents named. -/
noncomputable def runFirst (c : Dev nD) (i : grid0.Coords) (arg3 : Memref sig .tc .vmem S4224x128 .bf16) (harg3 : arg3.IsWhole) (arg4 : Memref sig .tc .vmem S384x128 .bf16) (harg4 : arg4.IsWhole) (arg5 : Memref sig .tc .vmem S384x128 .bf16) (harg5 : arg5.IsWhole) (arg6 : Memref sig .tc .vmem S4224x128 .bf16) (harg6 : arg6.IsWhole) (arg7 : Memref sig .tc .vmem S4224x128 .bf16) (harg7 : arg7.IsWhole) (arg8 : Memref sig .tc .vmem S1x1x4224x1 .f32) (harg8 : arg8.IsWhole) (arg9 : Memref sig .tc .vmem S1x1x384 .f32) (harg9 : arg9.IsWhole) (arg10 : Memref sig .tc .vmem S4224x128 .f32) (harg10 : arg10.IsWhole) (arg11 : Memref sig .tc .vmem S384x128 .bf16) (harg11 : arg11.IsWhole) (arg12 : Memref sig .tc .vmem S384x128 .bf16) (harg12 : arg12.IsWhole) (arg13 : Memref sig .tc .vmem S1x1x384 .f32) (harg13 : arg13.IsWhole) (arg14 : Memref sig .tc .vmem S1x1x4224x1 .f32) (harg14 : arg14.IsWhole) (arg15 : Memref sig .tc .vmem S4224x1 .f32) (harg15 : arg15.IsWhole) (hc0 : firstBlock i)
    (x0 : Vec F S4224x128 .bf16) (x1 : Vec F S384x128 .bf16) (x2 : Vec F S384x128 .bf16) (x3 : Vec F S4224x128 .bf16) (x4 : Vec F S4224x128 .bf16) (x5 : Vec F S1x1x4224x1 .f32) (x6 : Vec F S1x1x384 .f32)
    (y7 : Vec F S4224x128 .f32) (y8 : Vec F S384x128 .bf16) (y9 : Vec F S384x128 .bf16) (y10 : Vec F S1x1x384 .f32) (y11 : Vec F S1x1x4224x1 .f32) (y12 : Vec F S4224x1 .f32) :
    { W : Buf (Elt F) (arg10.view.loc (c : Thread nD τ)) × Buf (Elt F) (arg11.view.loc (c : Thread nD τ)) × Buf (Elt F) (arg12.view.loc (c : Thread nD τ)) × Buf (Elt F) (arg13.view.loc (c : Thread nD τ)) × Buf (Elt F) (arg14.view.loc (c : Thread nD τ)) × Buf (Elt F) (arg15.view.loc (c : Thread nD τ)) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare y11 ∗ owns (c : Thread nD τ) arg15 fullShare y12
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg10.view.loc (c : Thread nD τ) ↦[arg10.view.set]{fullShare} W.1) ∗ (arg11.view.loc (c : Thread nD τ) ↦[arg11.view.set]{fullShare} W.2.1) ∗ (arg12.view.loc (c : Thread nD τ) ↦[arg12.view.set]{fullShare} W.2.2.1) ∗ (arg13.view.loc (c : Thread nD τ) ↦[arg13.view.set]{fullShare} W.2.2.2.1) ∗ (arg14.view.loc (c : Thread nD τ) ↦[arg14.view.set]{fullShare} W.2.2.2.2.1) ∗ (arg15.view.loc (c : Thread nD τ) ↦[arg15.view.set]{fullShare} W.2.2.2.2.2)) -∗ K ⟨⟩))
          ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13 arg14 harg14 arg15 harg15) K } := by
  refine ⟨⟨?_, ?_, ?_, ?_, ?_, ?_⟩, fun E K => ?run⟩
  case run =>
    simp only [cc0_fox_bwd_eq_skeleton]; unfold cc0_fox_bwd_skel
    simp only [k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexact H7
    isplitl [H8]; · iexact H8
    isplitl [H9]; · iexact H9
    isplitl [H10]; · iexact H10
    isplitl [H11]; · iexact H11
    iexact H12

end Cert.KernelIdeal.Gen

end
-- ==== Proof.Model.lean ====
/- What one point of the attention's backward kernel computes, row by row, and how its loads and stores of whole
   rows read. -/
module

public import proofs.«01_k».proof.KernelIdeal
public import Idealize.ShloMosaic.Lib.Pointwise
public import Idealize.ShloMosaic.Lib.WritesUnit
public import Idealize.ShloMosaic.Lib.VecWindow

@[expose] public section

noncomputable section

namespace Cert.Fox

open Idealize.ShloMosaic

/-! ## Loads and stores of rows -/

section Rows

variable {sig : RefSig} {κ : Kind} {sp : Space} {e : EltTy} {Val : EltTy → Type}

/-- A load of `n` rows from row `a` on reads those rows. -/
theorem readAt_rows {N D n a : ℕ} (v : View sig κ sp ⟨2, ![N, D]⟩ e) (f : v.ty.Contents Val) {off : Fin 2 → ℕ}
    (h : off = ![a, 0]) (inb : ∀ x : Fin 2, off x + (![n, D] : Fin 2 → ℕ) x ≤ (![N, D] : Fin 2 → ℕ) x)
    (x : Fin n) (d : Fin D) (hx : a + x.val < N) :
    v.readAt Val (Rect.unit (s := ⟨2, ![N, D]⟩) off ![n, D] inb).toLoadRect f (ix2 x d)
      = v.read Val f (ix2 ⟨a + x.val, hx⟩ d) := by
  subst h
  refine congrArg (v.read Val f) (funext fun i => Fin.ext ?_)
  match i with
  | ⟨0, _⟩ => show a + 1 * x.val = a + x.val; omega
  | ⟨1, _⟩ => show 0 + 1 * d.val = d.val; omega

/-- The same of a column kept with two leading axes of one. -/
theorem readAt_col {N n a : ℕ} (v : View sig κ sp ⟨4, ![1, 1, N, 1]⟩ e) (f : v.ty.Contents Val) {off : Fin 4 → ℕ}
    (h : off = ![0, 0, a, 0])
    (inb : ∀ x : Fin 4, off x + (![1, 1, n, 1] : Fin 4 → ℕ) x ≤ (![1, 1, N, 1] : Fin 4 → ℕ) x)
    (x : Fin n) (hx : a + x.val < N) :
    v.readAt Val (Rect.unit (s := ⟨4, ![1, 1, N, 1]⟩) off ![1, 1, n, 1] inb).toLoadRect f (ix4 0 0 x 0)
      = v.read Val f (ix4 0 0 ⟨a + x.val, hx⟩ 0) := by
  subst h
  refine congrArg (v.read Val f) (funext fun i => Fin.ext ?_)
  match i with
  | ⟨0, _⟩ => rfl
  | ⟨1, _⟩ => rfl
  | ⟨2, _⟩ => show a + 1 * x.val = a + x.val; omega
  | ⟨3, _⟩ => rfl

/-- After a store of `n` rows from row `a` on, a row among them reads what was stored … -/
theorem read_store_rows {N D n a : ℕ} (v : View sig κ sp ⟨2, ![N, D]⟩ e) (f : v.ty.Contents Val) {off : Fin 2 → ℕ}
    (h : off = ![a, 0]) (inb : ∀ x : Fin 2, off x + (![n, D] : Fin 2 → ℕ) x ≤ (![N, D] : Fin 2 → ℕ) x)
    (w : (Rect.unit (s := ⟨2, ![N, D]⟩) off ![n, D] inb).shape.Idx → Val e)
    (L : List (View.Piece Val (⟨2, ![N, D]⟩ : Shape) e)) (r : Fin N) (d : Fin D) (x : Fin n) (hr : r.val = a + x.val) :
    v.read Val (v.writes Val f (⟨Rect.unit (s := ⟨2, ![N, D]⟩) off ![n, D] inb, w⟩ :: L)) (ix2 r d) = w (ix2 x d) :=
  View.read_writes_cons_rows_of_mem v f inb w L (ix2 r d) (ix2 x d) h hr rfl

/-- … and any other row what it held. -/
theorem read_store_rows_other {N D n a : ℕ} (v : View sig κ sp ⟨2, ![N, D]⟩ e) (f : v.ty.Contents Val) {off : Fin 2 → ℕ}
    (h : off = ![a, 0]) (inb : ∀ x : Fin 2, off x + (![n, D] : Fin 2 → ℕ) x ≤ (![N, D] : Fin 2 → ℕ) x)
    (w : (Rect.unit (s := ⟨2, ![N, D]⟩) off ![n, D] inb).shape.Idx → Val e)
    (L : List (View.Piece Val (⟨2, ![N, D]⟩ : Shape) e)) (r : Fin N) (d : Fin D)
    (hr : r.val < a ∨ a + n ≤ r.val) :
    v.read Val (v.writes Val f (⟨Rect.unit (s := ⟨2, ![N, D]⟩) off ![n, D] inb, w⟩ :: L)) (ix2 r d)
      = v.read Val (v.writes Val f L) (ix2 r d) :=
  View.read_writes_cons_rows_of_not_mem v f inb w L (ix2 r d) h rfl hr

/-- The two of a column. -/
theorem read_store_col {N n a : ℕ} (v : View sig κ sp ⟨4, ![1, 1, N, 1]⟩ e) (f : v.ty.Contents Val) {off : Fin 4 → ℕ}
    (h : off = ![0, 0, a, 0])
    (inb : ∀ x : Fin 4, off x + (![1, 1, n, 1] : Fin 4 → ℕ) x ≤ (![1, 1, N, 1] : Fin 4 → ℕ) x)
    (w : (Rect.unit (s := ⟨4, ![1, 1, N, 1]⟩) off ![1, 1, n, 1] inb).shape.Idx → Val e)
    (L : List (View.Piece Val (⟨4, ![1, 1, N, 1]⟩ : Shape) e)) (r : Fin N) (x : Fin n) (hr : r.val = a + x.val) :
    v.read Val (v.writes Val f (⟨Rect.unit (s := ⟨4, ![1, 1, N, 1]⟩) off ![1, 1, n, 1] inb, w⟩ :: L)) (ix4 0 0 r 0)
      = w (ix4 0 0 x 0) :=
  View.read_writes_cons_unit_of_mem v f inb w L (ix4 0 0 r 0) (ix4 0 0 x 0) h (by
    intro i
    match i with
    | ⟨0, _⟩ => rfl
    | ⟨1, _⟩ => rfl
    | ⟨2, _⟩ => exact hr
    | ⟨3, _⟩ => rfl)

theorem read_store_col_other {N n a : ℕ} (v : View sig κ sp ⟨4, ![1, 1, N, 1]⟩ e) (f : v.ty.Contents Val)
    {off : Fin 4 → ℕ} (h : off = ![0, 0, a, 0])
    (inb : ∀ x : Fin 4, off x + (![1, 1, n, 1] : Fin 4 → ℕ) x ≤ (![1, 1, N, 1] : Fin 4 → ℕ) x)
    (w : (Rect.unit (s := ⟨4, ![1, 1, N, 1]⟩) off ![1, 1, n, 1] inb).shape.Idx → Val e)
    (L : List (View.Piece Val (⟨4, ![1, 1, N, 1]⟩ : Shape) e)) (r : Fin N) (hr : r.val < a ∨ a + n ≤ r.val) :
    v.read Val (v.writes Val f (⟨Rect.unit (s := ⟨4, ![1, 1, N, 1]⟩) off ![1, 1, n, 1] inb, w⟩ :: L)) (ix4 0 0 r 0)
      = v.read Val (v.writes Val f L) (ix4 0 0 r 0) :=
  View.read_writes_cons_unit_of_not_mem v f inb w L (ix4 0 0 r 0) h (2 : Fin 4) hr

end Rows

/-! ## Sums over a stretch of rows -/

/-- The rows from `a` to before `b`. -/
def rows (a b : ℕ) : Finset (Fin 4224) := Finset.univ.filter fun r => a ≤ r.val ∧ r.val < b

theorem rows_empty (a : ℕ) : rows a a = ∅ := by
  ext r; simp only [rows, Finset.mem_filter, Finset.mem_univ, true_and, Finset.notMem_empty, iff_false]; omega

/-- Two neighbouring stretches add up. -/
theorem sum_rows_add {α : Type} [AddCommMonoid α] (f : Fin 4224 → α) {a b c : ℕ} (h : a ≤ b) (h' : b ≤ c) :
    ∑ r ∈ rows a b, f r + ∑ r ∈ rows b c, f r = ∑ r ∈ rows a c, f r := by
  rw [← Finset.sum_union]
  · refine Finset.sum_congr (Finset.ext fun r => ?_) fun _ _ => rfl
    simp only [rows, Finset.mem_union, Finset.mem_filter, Finset.mem_univ, true_and]; omega
  · refine Finset.disjoint_left.mpr fun r => ?_
    simp only [rows, Finset.mem_filter, Finset.mem_univ, true_and]; omega

/-- A sum over a block's own row numbers is the sum over the block's stretch. -/
theorem sum_block {α : Type} [AddCommMonoid α] (f : Fin 4224 → α) {a n : ℕ} (h : a + n ≤ 4224) :
    ∑ x : Fin n, f ⟨a + x.val, by have := x.isLt; omega⟩ = ∑ r ∈ rows a (a + n), f r := by
  refine Finset.sum_bij (fun (x : Fin n) _ => (⟨a + x.val, by have := x.isLt; omega⟩ : Fin 4224)) ?_ ?_ ?_ ?_
  · intro x _; simp only [rows, Finset.mem_filter, Finset.mem_univ, true_and]; have := x.isLt; omega
  · intro x _ y _ hxy; have := congrArg Fin.val hxy; exact Fin.ext (by simpa using this)
  · intro r hr
    simp only [rows, Finset.mem_filter, Finset.mem_univ, true_and] at hr
    exact ⟨⟨r.val - a, by omega⟩, Finset.mem_univ _, Fin.ext (by show a + (r.val - a) = r.val; omega)⟩
  · intro x _; rfl

/-- A sum over the rows from `a` on is the sum over all rows of what is nothing before `a`. -/
theorem sum_rows_all {α : Type} [AddCommMonoid α] (f : Fin 4224 → α) (a : ℕ) (h : ∀ r : Fin 4224, r.val < a → f r = 0) :
    ∑ r ∈ rows a 4224, f r = ∑ r, f r := by
  rw [rows]
  refine Finset.sum_filter_of_ne fun r _ hr => ⟨?_, r.isLt⟩
  by_contra hlt
  exact hr (h r (by omega))

attribute [irreducible] rows

/-! ## One point -/

/-- The scale of the scores. -/
abbrev scale : EReal := Ideal.ofBits .f32 1035273459#32

/-- The blocks a point is on: every row of the head's queries, of the gradient of the attention's result, of the
    scores' log-sum and of `delta`; and one block of keys and values with the keys' biases. -/
structure Blk where
  q : Fin 4224 → Fin 128 → EReal
  k : Fin 384 → Fin 128 → EReal
  v : Fin 384 → Fin 128 → EReal
  dy : Fin 4224 → Fin 128 → EReal
  lse : Fin 4224 → EReal
  ck : Fin 384 → EReal
  dl : Fin 4224 → EReal

namespace Blk

variable (B : Blk) (j : ℕ)

/-- The scores less the log-sum. -/
def score (r : Fin 4224) (c : Fin 384) : EReal := (∑ d, B.q r d * B.k c d) * scale - B.ck c - B.lse r

/-- The attention's weights of key block `j`: nothing past the query's own row. -/
def p (r : Fin 4224) (c : Fin 384) : EReal := Ideal.exp (if 384 * j + c.val ≤ r.val then B.score r c else ⊥)

/-- The gradient of the scores. -/
def ds (r : Fin 4224) (c : Fin 384) : EReal := B.p j r c * ((∑ d, B.dy r d * B.v c d) - B.dl r)

/-- What the key block adds to a query's gradient and to the gradient of its bias. -/
def dq (r : Fin 4224) (d : Fin 128) : EReal := (∑ c, B.ds j r c * B.k c d) * scale
def dcq (r : Fin 4224) : EReal := ∑ c, B.ds j r c

/-- The sums over the rows from `a` to before `b` for the gradients of the keys, the values and the keys' biases. -/
def dk (a b : ℕ) (c : Fin 384) (d : Fin 128) : EReal := ∑ r ∈ rows a b, B.ds j r c * B.q r d
def dv (a b : ℕ) (c : Fin 384) (d : Fin 128) : EReal := ∑ r ∈ rows a b, B.p j r c * B.dy r d
def dsum (a b : ℕ) (c : Fin 384) : EReal := ∑ r ∈ rows a b, B.ds j r c

/-! Neighbouring stretches add up, and a block's sum over its own row numbers is a stretch. -/

theorem dk_add (c : Fin 384) (d : Fin 128) {a b e : ℕ} (h : a ≤ b) (h' : b ≤ e) :
    B.dk j a b c d + B.dk j b e c d = B.dk j a e c d :=
  sum_rows_add (fun r => B.ds j r c * B.q r d) h h'
theorem dk_block (c : Fin 384) (d : Fin 128) {a n : ℕ} (h : a + n ≤ 4224) :
    ∑ x : Fin n, B.ds j ⟨a + x.val, by have := x.isLt; omega⟩ c * B.q ⟨a + x.val, by have := x.isLt; omega⟩ d = B.dk j a (a + n) c d :=
  sum_block (fun r => B.ds j r c * B.q r d) h
theorem dk_empty (c : Fin 384) (d : Fin 128) (a : ℕ) : B.dk j a a c d = 0 := by
  rw [dk, rows_empty, Finset.sum_empty]

theorem dv_add (c : Fin 384) (d : Fin 128) {a b e : ℕ} (h : a ≤ b) (h' : b ≤ e) :
    B.dv j a b c d + B.dv j b e c d = B.dv j a e c d :=
  sum_rows_add (fun r => B.p j r c * B.dy r d) h h'
theorem dv_block (c : Fin 384) (d : Fin 128) {a n : ℕ} (h : a + n ≤ 4224) :
    ∑ x : Fin n, B.p j ⟨a + x.val, by have := x.isLt; omega⟩ c * B.dy ⟨a + x.val, by have := x.isLt; omega⟩ d = B.dv j a (a + n) c d :=
  sum_block (fun r => B.p j r c * B.dy r d) h
theorem dv_empty (c : Fin 384) (d : Fin 128) (a : ℕ) : B.dv j a a c d = 0 := by
  rw [dv, rows_empty, Finset.sum_empty]

theorem dsum_add (c : Fin 384) {a b e : ℕ} (h : a ≤ b) (h' : b ≤ e) :
    B.dsum j a b c + B.dsum j b e c = B.dsum j a e c :=
  sum_rows_add (fun r => B.ds j r c) h h'
theorem dsum_block (c : Fin 384) {a n : ℕ} (h : a + n ≤ 4224) :
    ∑ x : Fin n, B.ds j ⟨a + x.val, by have := x.isLt; omega⟩ c = B.dsum j a (a + n) c :=
  sum_block (fun r => B.ds j r c) h
theorem dsum_empty (c : Fin 384) (a : ℕ) : B.dsum j a a c = 0 := by
  rw [dsum, rows_empty, Finset.sum_empty]

/-- The gradient of the keys' biases as it is taken: the diagonal block's sum off nothing, then the sum of each
    pair of row blocks below it off what is left. -/
def dck (c : Fin 384) : ℕ → EReal
  | 0 => 0 - B.dsum j (384 * j) (384 * (j + 1)) c
  | n + 1 => dck c n - B.dsum j (384 * (j + 1 + 2 * n)) (384 * (j + 1 + 2 * (n + 1))) c

/-- The same once every row block is through: the one the pairs leave over, where there is one, comes last. -/
def dckAll (c : Fin 384) : EReal :=
  if (10 - j) % 2 = 0 then B.dck j c ((10 - j) / 2) else B.dck j c ((10 - j) / 2) - B.dsum j 3840 4224 c

/-! Rows before the key block take no part. -/

theorem p_before {r : Fin 4224} (h : r.val < 384 * j) (c : Fin 384) : B.p j r c = 0 := by
  rw [p, if_neg (by omega)]; exact Ideal.exp_bot

theorem ds_before {r : Fin 4224} (h : r.val < 384 * j) (c : Fin 384) : B.ds j r c = 0 := by
  rw [ds, B.p_before j h, zero_mul]

theorem dq_before {r : Fin 4224} (h : r.val < 384 * j) (d : Fin 128) : B.dq j r d = 0 := by
  rw [dq, Finset.sum_eq_zero fun c _ => by rw [B.ds_before j h, zero_mul], zero_mul]

theorem dcq_before {r : Fin 4224} (h : r.val < 384 * j) : B.dcq j r = 0 := by
  rw [dcq, Finset.sum_eq_zero fun c _ => B.ds_before j h c]

theorem dk_all (c : Fin 384) (d : Fin 128) : B.dk j (384 * j) 4224 c d = ∑ r, B.ds j r c * B.q r d :=
  sum_rows_all _ _ fun r h => by rw [B.ds_before j h, zero_mul]

theorem dv_all (c : Fin 384) (d : Fin 128) : B.dv j (384 * j) 4224 c d = ∑ r, B.p j r c * B.dy r d :=
  sum_rows_all _ _ fun r h => by rw [B.p_before j h, zero_mul]

/-- The blocks as the body's buffers hold them, `delta` being `dl`. -/
def of (x0 : (⟨2, ![4224, 128]⟩ : Shape).Idx → EReal) (x1 x2 : (⟨2, ![384, 128]⟩ : Shape).Idx → EReal)
    (x3 : (⟨2, ![4224, 128]⟩ : Shape).Idx → EReal) (x5 : (⟨4, ![1, 1, 4224, 1]⟩ : Shape).Idx → EReal)
    (x6 : (⟨3, ![1, 1, 384]⟩ : Shape).Idx → EReal) (dl : Fin 4224 → EReal) : Blk where
  q r d := x0 (ix2 r d)
  k c d := x1 (ix2 c d)
  v c d := x2 (ix2 c d)
  dy r d := x3 (ix2 r d)
  lse r := x5 (ix4 0 0 r 0)
  ck c := x6 (ix3 0 0 c)
  dl := dl

end Blk

end Cert.Fox

end
-- ==== Proof.DiagBlock.lean ====
/- The diagonal block of a point -/
module

public import proofs.«01_k».proof.Proof.BodyPoints
public import proofs.«01_k».proof.Proof.Model
public import Idealize.ShloMosaic.Lib.WordCmp

@[expose] public section

set_option maxRecDepth 16384

noncomputable section

namespace Cert.KernelIdeal.Gen

open Idealize.ShloMosaic Idealize.ShloMosaic.TcCoe
open Cert.Fox

/-- Row `x` of the diagonal block. -/
def diagRow (t : Fin grid0.N) (x : Fin 384) : Fin 4224 :=
  ⟨384 * (t.val % 11) + x.val, by have := x.isLt; have := Nat.mod_lt t.val (show 0 < 11 by decide); omega⟩

theorem diag_fits (t : Fin grid0.N) : 384 * (t.val % 11) + 384 ≤ 4224 := by
  have := Nat.mod_lt t.val (show 0 < 11 by decide); omega

/-- The mask keeps a key where the query's row is not before it. -/
theorem mask_eq (a b : Fin 384) (x y : EReal) :
    Scalar.select (IntOp.cmpi CmpIPredicate.sge (BitVec.ofNat 32 a.val) (BitVec.ofNat 32 b.val)) x y
      = if b.val ≤ a.val then x else y := by
  have ha := a.isLt
  have hb := b.isLt
  rw [WordCmp.cmpi_sge_of_lt (by rw [BitVec.toNat_ofNat]; omega) (by rw [BitVec.toNat_ofNat]; omega),
    BitVec.toNat_ofNat, BitVec.toNat_ofNat, Nat.mod_eq_of_lt (by omega), Nat.mod_eq_of_lt (by omega)]
  by_cases h : b.val ≤ a.val
  · rw [if_pos h, decide_eq_true h]; rfl
  · rw [if_neg h, decide_eq_false h]; rfl

/-- What stands for a masked score is `⊥`. -/
theorem masked_eq : Named.named (F := Ideal) κ "masked" (φ := .f32) 4048155338#32 = (⊥ : EReal) := by
  first
    | exact IdealRules.named_eq _ _ _ _ rfl
    | simp [Named.named, κ]

section

variable (t : Fin grid0.N) (B : Blk) {v1 v3 v15 v18 : FVec Ideal S384x128 .bf16} {v34 : FVec Ideal S384x384 .f32}
  {v40 : Vec Ideal S384x1 .f32}
  (hk : ∀ c d, v1 (ix2 c d) = B.k c d) (hv : ∀ c d, v3 (ix2 c d) = B.v c d)
  (hq : ∀ x d, v15 (ix2 x d) = B.q (diagRow t x) d) (hdy : ∀ x d, v18 (ix2 x d) = B.dy (diagRow t x) d)
  (hp : ∀ x c, v34 (ix2 x c) = B.p (t.val % 11) (diagRow t x) c) (hd : ∀ x, v40 (ix2 x 0) = B.dl (diagRow t x))

/-- The diagonal block's weights. -/
theorem diag_p {v0 v14 : Vec Ideal S384x128 .bf16} {v4 : Vec Ideal S1x1x384 .f32} {v25 : Vec Ideal S1x1x384x1 .f32}
    (hk : ∀ c d, v0 (ix2 c d) = B.k c d) (hck : ∀ c, v4 (ix3 0 0 c) = B.ck c)
    (hq : ∀ x d, v14 (ix2 x d) = B.q (diagRow t x) d) (hl : ∀ x, v25 (ix4 0 0 x 0) = B.lse (diagRow t x))
    (x c : Fin 384) : k0_pay57 v0 v4 v14 v25 (ix2 x c) = B.p (t.val % 11) (diagRow t x) c := by
  unfold k0_pay57 k0_pay55 k0_pay47 k0_pay49
  pointwise
  rw [mask_eq, masked_eq, hck, hl, Finset.sum_congr rfl fun d _ => by rw [hk, hq], Blk.p]
  refine congrArg Ideal.exp (if_congr ?_ rfl rfl)
  show _ ↔ 384 * (t.val % 11) + c.val ≤ 384 * (t.val % 11) + x.val
  omega

include hv hdy hp hd in
theorem diag_ds (x c : Fin 384) : k0_pay60 v3 v18 v34 v40 (ix2 x c) = B.ds (t.val % 11) (diagRow t x) c := by
  unfold k0_pay60
  pointwise
  rw [hp, hd, Finset.sum_congr rfl fun d _ => by rw [hdy, hv]]
  rfl

include hv hdy hp hd in
theorem diag_ds' (x c : Fin 384) : k0_pay61 v3 v18 v34 v40 (ix2 x c) = B.ds (t.val % 11) (diagRow t x) c := by
  refine Eq.trans ?_ (diag_ds t B hv hdy hp hd x c)
  unfold k0_pay61
  pointwise

include hdy hp in
theorem diag_dv (v35 : FVec Ideal S384x384 .bf16) (h35 : ∀ x c, v35 (ix2 x c) = v34 (ix2 x c)) (c : Fin 384) (d : Fin 128) :
    k0_pay59 k0_pay53 v18 v35 (ix2 c d) = B.dv (t.val % 11) (384 * (t.val % 11)) (384 * (t.val % 11 + 1)) c d := by
  unfold k0_pay59 k0_pay53
  pointwise
  rw [Finset.sum_congr rfl fun x _ => by rw [h35, hp, hdy]]
  exact (B.dv_block (t.val % 11) c d (diag_fits t)).trans (by rw [Nat.mul_add, Nat.mul_one])

include hv hq hdy hp hd in
theorem diag_dk (c : Fin 384) (d : Fin 128) :
    k0_pay62 v3 k0_pay53 v15 v18 v34 v40 (ix2 c d)
      = B.dk (t.val % 11) (384 * (t.val % 11)) (384 * (t.val % 11 + 1)) c d := by
  unfold k0_pay62 k0_pay53
  pointwise
  rw [Finset.sum_congr rfl fun x _ => by rw [diag_ds' t B hv hdy hp hd, hq]]
  exact (B.dk_block (t.val % 11) c d (diag_fits t)).trans (by rw [Nat.mul_add, Nat.mul_one])

include hv hdy hp hd in
theorem diag_dck (c : Fin 384) : k0_pay65 v3 k0_pay54 v18 v34 v40 (ix2 0 c) = B.dck (t.val % 11) c 0 := by
  unfold k0_pay65 k0_pay54
  pointwise
  rw [Finset.sum_congr rfl fun x _ => by rw [diag_ds t B hv hdy hp hd], Blk.dck]
  refine congrArg (fun z => 0 - z) ((B.dsum_block (t.val % 11) c (diag_fits t)).trans (by rw [Nat.mul_add, Nat.mul_one]))

include hk hv hdy hp hd in
theorem diag_dq (a : Vec Ideal S384x128 .f32) (x : Fin 384) (d : Fin 128) :
    k0_pay63 v1 v3 v18 v34 v40 a (ix2 x d) = a (ix2 x d) + B.dq (t.val % 11) (diagRow t x) d := by
  unfold k0_pay63
  pointwise
  rw [Finset.sum_congr rfl fun c _ => by rw [diag_ds' t B hv hdy hp hd, hk]]
  rfl

include hv hdy hp hd in
theorem diag_dcq (a : Vec Ideal S1x1x384x1 .f32) (x : Fin 384) :
    k0_pay64 v3 v18 v34 v40 a (ix4 0 0 x 0) = a (ix4 0 0 x 0) + B.dcq (t.val % 11) (diagRow t x) := by
  unfold k0_pay64
  pointwise
  rw [Finset.sum_congr rfl fun c _ => by rw [diag_ds t B hv hdy hp hd]]
  rfl

end

end Cert.KernelIdeal.Gen

end
-- ==== Proof.Trips.lean ====
/- How often the body's loops go round, and the rows each trip is on. -/
module

public import proofs.«01_k».proof.Proof.BodyPoints

@[expose] public section

set_option maxRecDepth 16384

noncomputable section

namespace Cert.KernelIdeal.Gen

open Idealize.ShloMosaic

/-- A point's key block is its number modulo 11. -/
theorem block_of : ∀ t : Fin grid0.N, (grid0.coords t 2).val = t.val % 11 := by decide +kernel

/-- The diagonal block's rows start at 384 times the key block. -/
theorem off1_at : ∀ t : Fin grid0.N, k0_off1 (grid0.coords t) = ![384 * (t.val % 11), 0] := by decide +kernel
theorem off2_at : ∀ t : Fin grid0.N, k0_off2 (grid0.coords t) = ![0, 0, 384 * (t.val % 11), 0] := by decide +kernel
theorem off3_at : ∀ t : Fin grid0.N, k0_off3 (grid0.coords t) = ![384 * (t.val % 11), 0] := by decide +kernel

/-- The loop over pairs of row blocks below the diagonal goes round once per whole pair. -/
theorem trips1_at : ∀ t : Fin grid0.N, (k0_t1_loop (grid0.coords t)).trips = (10 - t.val % 11) / 2 := by decide +kernel
/-- Its remainder loop never goes round. -/
theorem trips2_at : ∀ t : Fin grid0.N, (k0_t2_loop (grid0.coords t)).trips = 0 := by decide +kernel
/-- The loop over the row block left over goes round once where their number is odd. -/
theorem trips3_at : ∀ t : Fin grid0.N, (k0_t3_loop (grid0.coords t)).trips = (10 - t.val % 11) % 2 := by decide +kernel
/-- Its remainder loop never goes round. -/
theorem trips4_at : ∀ t : Fin grid0.N, (k0_t4_loop (grid0.coords t)).trips = 0 := by decide +kernel

/-- A pair's rows follow the diagonal block and the pairs before. -/
theorem off4_at : ∀ (t : Fin grid0.N) (k : Fin (k0_t1_loop (grid0.coords t)).trips),
    k0_off4 (grid0.coords t) k = ![384 * (t.val % 11 + 1 + 2 * k.val), 0] := by decide +kernel
theorem off5_at : ∀ (t : Fin grid0.N) (k : Fin (k0_t1_loop (grid0.coords t)).trips),
    k0_off5 (grid0.coords t) k = ![0, 0, 384 * (t.val % 11 + 1 + 2 * k.val), 0] := by decide +kernel
theorem off6_at : ∀ (t : Fin grid0.N) (k : Fin (k0_t1_loop (grid0.coords t)).trips),
    k0_off6 (grid0.coords t) k = ![384 * (t.val % 11 + 1 + 2 * k.val), 0] := by decide +kernel

/-- The row block left over is the last. -/
theorem off10_at : ∀ (t : Fin grid0.N) (k : Fin (k0_t3_loop (grid0.coords t)).trips),
    k0_off10 (grid0.coords t) k = ![3840, 0] := by decide +kernel
theorem off11_at : ∀ (t : Fin grid0.N) (k : Fin (k0_t3_loop (grid0.coords t)).trips),
    k0_off11 (grid0.coords t) k = ![0, 0, 3840, 0] := by decide +kernel
theorem off12_at : ∀ (t : Fin grid0.N) (k : Fin (k0_t3_loop (grid0.coords t)).trips),
    k0_off12 (grid0.coords t) k = ![3840, 0] := by decide +kernel

end Cert.KernelIdeal.Gen

end
-- ==== Proof.BodyLoads.lean ====
/- What the body's loads read -/
module

public import proofs.«01_k».proof.Proof.DiagBlock
public import proofs.«01_k».proof.Proof.Trips

@[expose] public section

set_option maxRecDepth 16384

noncomputable section

namespace Cert.KernelIdeal.Gen

open Idealize.ShloMosaic Idealize.ShloMosaic.TcCoe
open Cert.Fox

section

variable {arg3 : Memref sig .tc .vmem S4224x128 .bf16} (harg3 : arg3.IsWhole) {arg4 : Memref sig .tc .vmem S384x128 .bf16} (harg4 : arg4.IsWhole)
  {arg5 : Memref sig .tc .vmem S384x128 .bf16} (harg5 : arg5.IsWhole) {arg6 : Memref sig .tc .vmem S4224x128 .bf16} (harg6 : arg6.IsWhole)
  {arg8 : Memref sig .tc .vmem S1x1x4224x1 .f32} (harg8 : arg8.IsWhole) {arg9 : Memref sig .tc .vmem S1x1x384 .f32} (harg9 : arg9.IsWhole)
  {arg15 : Memref sig .tc .vmem S4224x1 .f32}
  (x0 : Vec Ideal S4224x128 .bf16) (x1 x2 : Vec Ideal S384x128 .bf16) (x3 : Vec Ideal S4224x128 .bf16)
  (x5 : Vec Ideal S1x1x4224x1 .f32) (x6 : Vec Ideal S1x1x384 .f32)

/-! The key block's buffers are loaded whole. -/

theorem load_rows (x1 : Vec Ideal S384x128 .bf16) (c : Fin 384) (d : Fin 128) :
    arg4.view.readAt (Elt Ideal) (Rect.unit ![0, 0] S384x128.size inb_S384x128_S384x128_0_0).toLoadRect (harg4.unread x1) (ix2 c d)
      = x1 (ix2 c d) := by
  rw [readAt_rows arg4.view _ (a := 0) rfl inb_S384x128_S384x128_0_0 c d (by have := c.isLt; omega), harg4.read_unread]
  exact congrArg (fun r => x1 (ix2 r d)) (Fin.ext (Nat.zero_add _))

theorem load_k (c : Fin 384) (d : Fin 128) :
    k0_pay47 (arg4.view.readAt (Elt Ideal) (Rect.unit ![0, 0] S384x128.size inb_S384x128_S384x128_0_0).toLoadRect (harg4.unread x1)) (ix2 c d)
      = x1 (ix2 c d) := by
  rw [← load_rows harg4 x1 c d]
  unfold k0_pay47
  pointwise

theorem load_v (c : Fin 384) (d : Fin 128) :
    k0_pay48 (arg5.view.readAt (Elt Ideal) (Rect.unit ![0, 0] S384x128.size inb_S384x128_S384x128_0_0).toLoadRect (harg5.unread x2)) (ix2 c d)
      = x2 (ix2 c d) := by
  rw [← load_rows harg5 x2 c d]
  unfold k0_pay48
  pointwise

theorem load_bias (c : Fin 384) :
    arg9.view.readAt (Elt Ideal) (Rect.unit ![0, 0, 0] S1x1x384.size inb_S1x1x384_S1x1x384_0_0_0).toLoadRect (harg9.unread x6) (ix3 0 0 c)
      = x6 (ix3 0 0 c) := by
  refine Eq.trans ?_ (congrFun (harg9.read_unread (Val := Elt Ideal) x6) (ix3 0 0 c))
  refine congrArg (arg9.view.read (Elt Ideal) _) (funext fun i => Fin.ext ?_)
  match i with
  | ⟨0, _⟩ => rfl
  | ⟨1, _⟩ => rfl
  | ⟨2, _⟩ => show 0 + 1 * c.val = c.val; omega

theorem load_ck (c : Fin 384) :
    k0_pay49 (arg9.view.readAt (Elt Ideal) (Rect.unit ![0, 0, 0] S1x1x384.size inb_S1x1x384_S1x1x384_0_0_0).toLoadRect (harg9.unread x6)) (ix2 0 c)
      = x6 (ix3 0 0 c) := by
  rw [← load_bias harg9 x6 c]
  unfold k0_pay49
  pointwise

/-! The queries' buffers are loaded at the diagonal block's rows. -/

variable (t : Fin grid0.N)

theorem load_q_raw (x0 : Vec Ideal S4224x128 .bf16) (x : Fin 384) (d : Fin 128) :
    arg3.view.readAt (Elt Ideal) (Rect.unit (s := S4224x128) (k0_off1 (grid0.coords t)) S384x128.size (k0_off1_inb (grid0.coords t))).toLoadRect (harg3.unread x0) (ix2 x d)
      = x0 (ix2 (diagRow t x) d) := by
  rw [readAt_rows arg3.view _ (off1_at t) _ x d (diagRow t x).isLt, harg3.read_unread]
  rfl

theorem load_q (x : Fin 384) (d : Fin 128) :
    k0_pay55 (arg3.view.readAt (Elt Ideal) (Rect.unit (s := S4224x128) (k0_off1 (grid0.coords t)) S384x128.size (k0_off1_inb (grid0.coords t))).toLoadRect (harg3.unread x0)) (ix2 x d)
      = x0 (ix2 (diagRow t x) d) := by
  rw [← load_q_raw harg3 t x0 x d]
  unfold k0_pay55
  pointwise

theorem load_dy (x : Fin 384) (d : Fin 128) :
    k0_pay56 (arg6.view.readAt (Elt Ideal) (Rect.unit (s := S4224x128) (k0_off1 (grid0.coords t)) S384x128.size (k0_off1_inb (grid0.coords t))).toLoadRect (harg6.unread x3)) (ix2 x d)
      = x3 (ix2 (diagRow t x) d) := by
  rw [← load_q_raw harg6 t x3 x d]
  unfold k0_pay56
  pointwise

theorem load_lse (x : Fin 384) :
    arg8.view.readAt (Elt Ideal) (Rect.unit (s := S1x1x4224x1) (k0_off2 (grid0.coords t)) S1x1x384x1.size (k0_off2_inb (grid0.coords t))).toLoadRect (harg8.unread x5) (ix4 0 0 x 0)
      = x5 (ix4 0 0 (diagRow t x) 0) := by
  rw [readAt_col arg8.view _ (off2_at t) _ x (diagRow t x).isLt, harg8.read_unread]
  rfl

/-- The same loads from a buffer at any contents. -/
theorem load_dl (f : arg15.view.ty.Contents (Elt Ideal)) (x : Fin 384) :
    arg15.view.readAt (Elt Ideal) (Rect.unit (s := S4224x1) (k0_off3 (grid0.coords t)) S384x1.size (k0_off3_inb (grid0.coords t))).toLoadRect f (ix2 x 0)
      = arg15.view.read (Elt Ideal) f (ix2 (diagRow t x) 0) :=
  readAt_rows arg15.view _ (off3_at t) _ x 0 (diagRow t x).isLt

theorem load_dq {arg10 : Memref sig .tc .vmem S4224x128 .f32} (f : arg10.view.ty.Contents (Elt Ideal)) (x : Fin 384) (d : Fin 128) :
    arg10.view.readAt (Elt Ideal) (Rect.unit (s := S4224x128) (k0_off1 (grid0.coords t)) S384x128.size (k0_off1_inb (grid0.coords t))).toLoadRect f (ix2 x d)
      = arg10.view.read (Elt Ideal) f (ix2 (diagRow t x) d) :=
  readAt_rows arg10.view _ (off1_at t) _ x d (diagRow t x).isLt

theorem load_dcq {arg14 : Memref sig .tc .vmem S1x1x4224x1 .f32} (f : arg14.view.ty.Contents (Elt Ideal)) (x : Fin 384) :
    arg14.view.readAt (Elt Ideal) (Rect.unit (s := S1x1x4224x1) (k0_off2 (grid0.coords t)) S1x1x384x1.size (k0_off2_inb (grid0.coords t))).toLoadRect f (ix4 0 0 x 0)
      = arg14.view.read (Elt Ideal) f (ix4 0 0 (diagRow t x) 0) :=
  readAt_col arg14.view _ (off2_at t) _ x (diagRow t x).isLt

/-- The diagonal block's weights, of the loads. -/
theorem load_p (dl : Fin 4224 → EReal) (x c : Fin 384) :
    k0_pay57 (arg4.view.readAt (Elt Ideal) (Rect.unit ![0, 0] S384x128.size inb_S384x128_S384x128_0_0).toLoadRect (harg4.unread x1))
      (arg9.view.readAt (Elt Ideal) (Rect.unit ![0, 0, 0] S1x1x384.size inb_S1x1x384_S1x1x384_0_0_0).toLoadRect (harg9.unread x6))
      (arg3.view.readAt (Elt Ideal) (Rect.unit (s := S4224x128) (k0_off1 (grid0.coords t)) S384x128.size (k0_off1_inb (grid0.coords t))).toLoadRect (harg3.unread x0))
      (arg8.view.readAt (Elt Ideal) (Rect.unit (s := S1x1x4224x1) (k0_off2 (grid0.coords t)) S1x1x384x1.size (k0_off2_inb (grid0.coords t))).toLoadRect (harg8.unread x5)) (ix2 x c)
      = (Blk.of x0 x1 x2 x3 x5 x6 dl).p (t.val % 11) (diagRow t x) c :=
  diag_p t (Blk.of x0 x1 x2 x3 x5 x6 dl) (fun c d => load_rows harg4 x1 c d) (fun c => load_bias harg9 x6 c)
    (fun x d => load_q_raw harg3 t x0 x d) (fun x => load_lse harg8 x5 t x) x c

theorem cast_p {v0 v14 : Vec Ideal S384x128 .bf16} {v4 : Vec Ideal S1x1x384 .f32} {v25 : Vec Ideal S1x1x384x1 .f32} (x c : Fin 384) :
    k0_pay58 v0 v4 v14 v25 (ix2 x c) = k0_pay57 v0 v4 v14 v25 (ix2 x c) := by
  unfold k0_pay58
  pointwise

/-! What is stored of the key block's results. -/

/-- The keys' sums are scaled as they are stored. -/
theorem scaled_at (v : FVec Ideal S384x128 .f32) (c : Fin 384) (d : Fin 128) : k0_pay74 v (ix2 c d) = v (ix2 c d) * scale := by
  unfold k0_pay74
  pointwise

theorem cast_at (v : FVec Ideal S384x128 .f32) (c : Fin 384) (d : Fin 128) : k0_pay75 v (ix2 c d) = v (ix2 c d) := by
  unfold k0_pay75
  pointwise

theorem lane_at (v : FVec Ideal S1x384 .f32) (c : Fin 384) : k0_pay1 v (ix3 0 0 c) = v (ix2 0 c) := by
  unfold k0_pay1
  pointwise

/-- A lane stored whole reads back. -/
theorem read_store_lane (v : View sig .tc .vmem S1x1x384 .f32) (f : v.ty.Contents (Elt Ideal))
    (inb : ∀ x : Fin 3, (![0, 0, 0] : Fin 3 → ℕ) x + (![1, 1, 384] : Fin 3 → ℕ) x ≤ (![1, 1, 384] : Fin 3 → ℕ) x)
    (w : (Rect.unit (s := S1x1x384) ![0, 0, 0] ![1, 1, 384] inb).shape.Idx → Elt Ideal .f32)
    (L : List (View.Piece (Elt Ideal) S1x1x384 .f32)) (c : Fin 384) :
    v.read (Elt Ideal) (v.writes (Elt Ideal) f (⟨Rect.unit (s := S1x1x384) ![0, 0, 0] ![1, 1, 384] inb, w⟩ :: L)) (ix3 0 0 c)
      = w (ix3 0 0 c) :=
  View.read_writes_cons_unit_of_mem v f inb w L (ix3 0 0 c) (ix3 0 0 c) rfl (by
    intro i
    match i with
    | ⟨0, _⟩ => rfl
    | ⟨1, _⟩ => rfl
    | ⟨2, _⟩ => show c.val = 0 + c.val; omega)

end

end Cert.KernelIdeal.Gen

end
-- ==== Proof.LoopPairs.lean ====
/- The loop over the pairs of row blocks below the diagonal block -/
module

public import proofs.«01_k».proof.Proof.BodyPoints
public import proofs.«01_k».proof.Proof.Trips
public import proofs.«01_k».proof.Proof.Model

@[expose] public section

set_option maxRecDepth 16384

noncomputable section

namespace Cert.KernelIdeal.Gen

open Idealize.ShloMosaic Idealize.ShloMosaic.TcCoe
open Cert.Fox

section Trip

variable (t : Fin grid0.N) {arg3 arg6 : Memref sig .tc .vmem S4224x128 .bf16}
  {arg8 : Memref sig .tc .vmem S1x1x4224x1 .f32} {arg10 : Memref sig .tc .vmem S4224x128 .f32}
  {arg14 : Memref sig .tc .vmem S1x1x4224x1 .f32} {arg15 : Memref sig .tc .vmem S4224x1 .f32}
  {v1 v3 : FVec Ideal S384x128 .bf16} {v5 : FVec Ideal S1x384 .f32}
  {X3 : BufTy.Contents (Elt Ideal) arg3.view.ty} {X6 : BufTy.Contents (Elt Ideal) arg6.view.ty}
  {X8 : BufTy.Contents (Elt Ideal) arg8.view.ty} {X15 : BufTy.Contents (Elt Ideal) arg15.view.ty}
  (B : Blk) (hk : ∀ c d, v1 (ix2 c d) = B.k c d) (hv : ∀ c d, v3 (ix2 c d) = B.v c d) (hck : ∀ c, v5 (ix2 0 c) = B.ck c)
  (hq : ∀ r d, arg3.view.read (Elt Ideal) X3 (ix2 r d) = B.q r d)
  (hdy : ∀ r d, arg6.view.read (Elt Ideal) X6 (ix2 r d) = B.dy r d)
  (hl : ∀ r, arg8.view.read (Elt Ideal) X8 (ix4 0 0 r 0) = B.lse r)
  (hd : ∀ r, arg15.view.read (Elt Ideal) X15 (ix2 r 0) = B.dl r)
  (k : Fin (k0_t1_loop (grid0.coords t)).trips)

/-- The rows of a trip are rows of the block. -/
theorem pairRow_lt (x : Fin 768) : 384 * (t.val % 11 + 1 + 2 * k.val) + x.val < 4224 := by
  have hk := lt_of_lt_of_eq k.isLt (trips1_at t)
  have := x.isLt
  omega

/-- Row `x` of a trip. -/
def pairRow (x : Fin 768) : Fin 4224 := ⟨384 * (t.val % 11 + 1 + 2 * k.val) + x.val, pairRow_lt t k x⟩

/-- Its keys are all at or before it. -/
theorem pairRow_below (x : Fin 768) (c : Fin 384) : 384 * (t.val % 11) + c.val ≤ (pairRow t k x).val := by
  have hk := lt_of_lt_of_eq k.isLt (trips1_at t)
  show 384 * (t.val % 11) + c.val ≤ 384 * (t.val % 11 + 1 + 2 * k.val) + x.val
  have := c.isLt
  omega

include hk hck hq hl in
/-- The weights a trip works out. -/
theorem pairRow_p (x : Fin 768) (c : Fin 384) :
    trip_k0_t1.sl.v134 (grid0.coords t) arg3 arg8 v1 v5 X3 X8 k (ix2 x c) = B.p (t.val % 11) (pairRow t k x) c := by
  simp only [trip_k0_t1.sl.v134, trip_k0_t1.sl.v133, trip_k0_t1.sl.v132, trip_k0_t1.sl.v131, trip_k0_t1.sl.v128, trip_k0_t1.sl.v127, trip_k0_t1.sl.v126, trip_k0_t1.sl.v125, trip_k0_t1.sl.v124, trip_k0_t1.sl.v120, trip_k0_t1.sl.cst_59, trip_k0_t1.sl.cst_60]
  pointwise
  rw [readAt_col _ _ (off5_at t k) _ x (pairRow_lt t k x), hck, hl]
  rw [Finset.sum_congr rfl fun d _ => by rw [readAt_rows _ _ (off4_at t k) _ x d (pairRow_lt t k x), hq, hk]]
  rw [Blk.p, if_pos (pairRow_below t k x c)]
  rfl

include hk hv hck hq hdy hl hd in
/-- The gradient of the scores a trip works out. -/
theorem pairRow_ds (x : Fin 768) (c : Fin 384) :
    trip_k0_t1.sl.v143 (grid0.coords t) arg3 arg6 arg8 arg15 v1 v3 v5 X3 X6 X8 X15 k (ix2 x c)
      = B.ds (t.val % 11) (pairRow t k x) c := by
  unfold trip_k0_t1.sl.v143
  show trip_k0_t1.sl.v134 (grid0.coords t) arg3 arg8 v1 v5 X3 X8 k (ix2 x c) * _ = _
  rw [pairRow_p t B hk hck hq hl k x c]
  refine congrArg (B.p (t.val % 11) (pairRow t k x) c * ·) ?_
  simp only [trip_k0_t1.sl.v142, trip_k0_t1.sl.v141, trip_k0_t1.sl.v138, trip_k0_t1.sl.v123, trip_k0_t1.sl.cst_59]
  pointwise
  rw [readAt_rows _ _ (off6_at t k) _ x 0 (pairRow_lt t k x), hd]
  rw [Finset.sum_congr rfl fun d _ => by rw [readAt_rows _ _ (off4_at t k) _ x d (pairRow_lt t k x), hdy, hv]]
  rfl

include hk hck hq hdy hl in
/-- What a trip adds to the values' gradient. -/
theorem pairRow_dv (a : FVec Ideal S384x128 .f32 × FVec Ideal S384x128 .f32 × FVec Ideal S1x384 .f32) (c : Fin 384)
    (d : Fin 128) :
    trip_k0_t1.sl.v137 (grid0.coords t) arg3 arg6 arg8 v1 v5 X3 X6 X8 k a (ix2 c d)
      = a.2.1 (ix2 c d) + ∑ x : Fin 768, B.p (t.val % 11) (pairRow t k x) c * B.dy (pairRow t k x) d := by
  simp only [trip_k0_t1.sl.v137, trip_k0_t1.sl.v136, trip_k0_t1.sl.v135, trip_k0_t1.sl.v123, trip_k0_t1.sl.cst_64]
  pointwise
  rw [Finset.sum_congr rfl fun x _ => by
    rw [pairRow_p t B hk hck hq hl k x c, readAt_rows _ _ (off4_at t k) _ x d (pairRow_lt t k x), hdy]]
  rfl

include hk hv hck hq hdy hl hd in
/-- What a trip adds to the keys' gradient. -/
theorem pairRow_dk (a : FVec Ideal S384x128 .f32 × FVec Ideal S384x128 .f32 × FVec Ideal S1x384 .f32) (c : Fin 384)
    (d : Fin 128) :
    trip_k0_t1.sl.v146 (grid0.coords t) arg3 arg6 arg8 arg15 v1 v3 v5 X3 X6 X8 X15 k a (ix2 c d)
      = a.1 (ix2 c d) + ∑ x : Fin 768, B.ds (t.val % 11) (pairRow t k x) c * B.q (pairRow t k x) d := by
  simp only [trip_k0_t1.sl.v146, trip_k0_t1.sl.v145, trip_k0_t1.sl.v144, trip_k0_t1.sl.v120, trip_k0_t1.sl.cst_64]
  pointwise
  rw [Finset.sum_congr rfl fun x _ => by
    rw [pairRow_ds t B hk hv hck hq hdy hl hd k x c, readAt_rows _ _ (off4_at t k) _ x d (pairRow_lt t k x), hq]]
  rfl

include hk hv hck hq hdy hl hd in
/-- What a trip leaves of the queries' gradient. -/
theorem pairRow_dq (f : BufTy.Contents (Elt Ideal) arg10.view.ty) (x : Fin 768) (d : Fin 128) :
    trip_k0_t1.sl.v153 (grid0.coords t) arg3 arg6 arg8 arg10 arg15 v1 v3 v5 X3 X6 X8 X15 k f (ix2 x d)
      = arg10.view.read (Elt Ideal) f (ix2 (pairRow t k x) d) + B.dq (t.val % 11) (pairRow t k x) d := by
  simp only [trip_k0_t1.sl.v153, trip_k0_t1.sl.v152, trip_k0_t1.sl.v151, trip_k0_t1.sl.v150, trip_k0_t1.sl.v149, trip_k0_t1.sl.v144, trip_k0_t1.sl.cst_69, trip_k0_t1.sl.cst_60]
  pointwise
  rw [readAt_rows _ _ (off4_at t k) _ x d (pairRow_lt t k x)]
  rw [Finset.sum_congr rfl fun c _ => by rw [pairRow_ds t B hk hv hck hq hdy hl hd k x c, hk]]
  rfl

/-- The column sums of `ds` a trip takes off. -/
theorem pairRow_dck (a : FVec Ideal S1x384 .f32) (w : FVec Ideal S768x384 .f32) (c : Fin 384) :
    k0_pay67 a w (ix2 0 c) = a (ix2 0 c) - ∑ x : Fin 768, w (ix2 x c) := by
  unfold k0_pay67
  pointwise

/-- The row sums of `ds` a trip adds. -/
theorem pairRow_dcq (w : FVec Ideal S768x384 .f32) (a : Vec Ideal S1x1x768x1 .f32) (x : Fin 768) :
    k0_pay66 w a (ix4 0 0 x 0) = a (ix4 0 0 x 0) + ∑ c : Fin 384, w (ix2 x c) := by
  unfold k0_pay66
  pointwise

end Trip

set_option maxHeartbeats 2000000 in
/-- The state after `n` trips: the sums the loop carries, and the two buffers it stores into. -/
theorem loop1_value (t : Fin grid0.N) (𝒱 : Variants) (c : Dev nD) (bd : Option 𝒱.V)  (arg3 : Memref sig .tc .vmem S4224x128 .bf16) (harg3 : arg3.IsWhole) (arg4 : Memref sig .tc .vmem S384x128 .bf16) (harg4 : arg4.IsWhole) (arg5 : Memref sig .tc .vmem S384x128 .bf16) (harg5 : arg5.IsWhole) (arg6 : Memref sig .tc .vmem S4224x128 .bf16) (harg6 : arg6.IsWhole) (arg7 : Memref sig .tc .vmem S4224x128 .bf16) (harg7 : arg7.IsWhole) (arg8 : Memref sig .tc .vmem S1x1x4224x1 .f32) (harg8 : arg8.IsWhole) (arg9 : Memref sig .tc .vmem S1x1x384 .f32) (harg9 : arg9.IsWhole) (arg10 : Memref sig .tc .vmem S4224x128 .f32) (harg10 : arg10.IsWhole) (arg11 : Memref sig .tc .vmem S384x128 .bf16) (harg11 : arg11.IsWhole) (arg12 : Memref sig .tc .vmem S384x128 .bf16) (harg12 : arg12.IsWhole) (arg13 : Memref sig .tc .vmem S1x1x384 .f32) (harg13 : arg13.IsWhole) (arg14 : Memref sig .tc .vmem S1x1x4224x1 .f32) (harg14 : arg14.IsWhole) (arg15 : Memref sig .tc .vmem S4224x1 .f32) (harg15 : arg15.IsWhole) (arg2 : BitVec 32) (v1 : FVec Ideal S384x128 .bf16) (v3 : FVec Ideal S384x128 .bf16) (v5 : FVec Ideal S1x384 .f32) (v37 : FVec Ideal S384x128 .f32) (v46 : FVec Ideal S384x128 .f32) (v68 : FVec Ideal S1x384 .f32) (v69 : BitVec 32) (c2_i32 : BitVec 32) (v70 : BitVec 32) (v72 : BitVec 32) (v73 : BitVec 1) (X_arg3 : BufTy.Contents (Elt Ideal) arg3.view.ty) (X_arg6 : BufTy.Contents (Elt Ideal) arg6.view.ty) (X_arg8 : BufTy.Contents (Elt Ideal) arg8.view.ty) (X_arg15 : BufTy.Contents (Elt Ideal) arg15.view.ty) (G_arg10 : BufTy.Contents (Elt Ideal) arg10.view.ty) (G_arg14 : BufTy.Contents (Elt Ideal) arg14.view.ty) (init : FVec Ideal S384x128 .f32 × FVec Ideal S384x128 .f32 × FVec Ideal S1x384 .f32)
    (B : Blk) (hk : ∀ c d, v1 (ix2 c d) = B.k c d) (hv : ∀ c d, v3 (ix2 c d) = B.v c d) (hck : ∀ c, v5 (ix2 0 c) = B.ck c)
    (hq : ∀ r d, arg3.view.read (Elt Ideal) X_arg3 (ix2 r d) = B.q r d)
    (hdy : ∀ r d, arg6.view.read (Elt Ideal) X_arg6 (ix2 r d) = B.dy r d)
    (hl : ∀ r, arg8.view.read (Elt Ideal) X_arg8 (ix4 0 0 r 0) = B.lse r)
    (hd : ∀ r, arg15.view.read (Elt Ideal) X_arg15 (ix2 r 0) = B.dl r)
    (n : ℕ) (hn : n ≤ (k0_t1_loop (grid0.coords t)).trips) :
    let s := st_k0_t1 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 X_arg3 X_arg6 X_arg8 X_arg15 G_arg10 G_arg14 init n
    (∀ c d, s.1.1 (ix2 c d) = init.1 (ix2 c d) + B.dk (t.val % 11) (384 * (t.val % 11 + 1)) (384 * (t.val % 11 + 1 + 2 * n)) c d)
      ∧ (∀ c d, s.1.2.1 (ix2 c d) = init.2.1 (ix2 c d) + B.dv (t.val % 11) (384 * (t.val % 11 + 1)) (384 * (t.val % 11 + 1 + 2 * n)) c d)
      ∧ ((∀ c, init.2.2 (ix2 0 c) = B.dck (t.val % 11) c 0) → ∀ c, s.1.2.2 (ix2 0 c) = B.dck (t.val % 11) c n)
      ∧ (∀ r d, arg10.view.read (Elt Ideal) (arg10.view.writes (Elt Ideal) G_arg10 s.2.1) (ix2 r d)
          = if 384 * (t.val % 11 + 1) ≤ r.val ∧ r.val < 384 * (t.val % 11 + 1 + 2 * n)
            then arg10.view.read (Elt Ideal) G_arg10 (ix2 r d) + B.dq (t.val % 11) r d
            else arg10.view.read (Elt Ideal) G_arg10 (ix2 r d))
      ∧ (∀ r, arg14.view.read (Elt Ideal) (arg14.view.writes (Elt Ideal) G_arg14 s.2.2) (ix4 0 0 r 0)
          = if 384 * (t.val % 11 + 1) ≤ r.val ∧ r.val < 384 * (t.val % 11 + 1 + 2 * n)
            then arg14.view.read (Elt Ideal) G_arg14 (ix4 0 0 r 0) + B.dcq (t.val % 11) r
            else arg14.view.read (Elt Ideal) G_arg14 (ix4 0 0 r 0)) := by
  induction n with
  | zero =>
    refine ⟨fun c d => ?_, fun c d => ?_, fun h => h, fun r d => ?_, fun r => ?_⟩
    · rw [Nat.mul_zero, Nat.add_zero, B.dk_empty, add_zero]; rfl
    · rw [Nat.mul_zero, Nat.add_zero, B.dv_empty, add_zero]; rfl
    · rw [if_neg (by omega)]; rfl
    · rw [if_neg (by omega)]; rfl
  | succ n ih =>
    have ih := ih (Nat.le_of_succ_le hn)
    have hN := hn
    rw [trips1_at t] at hN
    rw [show n + 1 = (⟨n, hn⟩ : Fin (k0_t1_loop (grid0.coords t)).trips).val + 1 from rfl, st_k0_t1_succ]
    unfold tripR_k0_t1 tripL_k0_t1 trip_k0_t1
    dsimp only [List.cons_append, List.nil_append] at ih ⊢
    generalize st_k0_t1 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 X_arg3 X_arg6 X_arg8 X_arg15 G_arg10 G_arg14 init n = s at ih ⊢
    obtain ⟨ih1, ih2, ih3, ih4, ih5⟩ := ih
    have hb : 384 * (t.val % 11 + 1 + 2 * n) + 768 ≤ 4224 := by omega
    have he : 384 * (t.val % 11 + 1 + 2 * n) + 768 = 384 * (t.val % 11 + 1 + 2 * (n + 1)) := by omega
    refine ⟨fun c d => ?_, fun c d => ?_, fun h c => ?_, fun r d => ?_, fun r => ?_⟩
    · rw [pairRow_dk t B hk hv hck hq hdy hl hd, ih1, add_assoc]
      exact congrArg (init.1 (ix2 c d) + ·) ((congrArg (B.dk (t.val % 11) _ _ c d + ·) ((B.dk_block (t.val % 11) c d hb).trans
        (by rw [he]))).trans (B.dk_add (t.val % 11) c d (by omega) (by omega)))
    · rw [pairRow_dv t B hk hck hq hdy hl, ih2, add_assoc]
      exact congrArg (init.2.1 (ix2 c d) + ·) ((congrArg (B.dv (t.val % 11) _ _ c d + ·) ((B.dv_block (t.val % 11) c d hb).trans
        (by rw [he]))).trans (B.dv_add (t.val % 11) c d (by omega) (by omega)))
    · rw [pairRow_dck, Finset.sum_congr rfl fun x _ => by rw [pairRow_ds t B hk hv hck hq hdy hl hd], ih3 h c]
      exact congrArg (B.dck (t.val % 11) c n - ·) ((B.dsum_block (t.val % 11) c hb).trans (by rw [he]))
    · by_cases hr : 384 * (t.val % 11 + 1 + 2 * n) ≤ r.val ∧ r.val < 384 * (t.val % 11 + 1 + 2 * n) + 768
      · obtain ⟨x, hx⟩ : ∃ x : Fin 768, r = pairRow t ⟨n, hn⟩ x :=
          ⟨⟨r.val - 384 * (t.val % 11 + 1 + 2 * n), by omega⟩, Fin.ext (by
            show r.val = 384 * (t.val % 11 + 1 + 2 * n) + (r.val - 384 * (t.val % 11 + 1 + 2 * n)); omega)⟩
        rw [read_store_rows _ _ (off4_at t ⟨n, hn⟩) _ _ _ r d x (congrArg Fin.val hx), pairRow_dq t B hk hv hck hq hdy hl hd,
          ← hx, ih4, if_neg (by omega), if_pos (by omega)]
      · rw [read_store_rows_other _ _ (off4_at t ⟨n, hn⟩) _ _ _ r d (by dsimp only; omega), ih4]
        refine if_congr (by omega) rfl rfl
    · by_cases hr : 384 * (t.val % 11 + 1 + 2 * n) ≤ r.val ∧ r.val < 384 * (t.val % 11 + 1 + 2 * n) + 768
      · obtain ⟨x, hx⟩ : ∃ x : Fin 768, r = pairRow t ⟨n, hn⟩ x :=
          ⟨⟨r.val - 384 * (t.val % 11 + 1 + 2 * n), by omega⟩, Fin.ext (by
            show r.val = 384 * (t.val % 11 + 1 + 2 * n) + (r.val - 384 * (t.val % 11 + 1 + 2 * n)); omega)⟩
        rw [read_store_col _ _ (off5_at t ⟨n, hn⟩) _ _ _ r x (congrArg Fin.val hx)]
        rw [pairRow_dcq, readAt_col _ _ (off5_at t ⟨n, hn⟩) _ x (pairRow_lt t ⟨n, hn⟩ x),
          Finset.sum_congr rfl fun c _ => by rw [pairRow_ds t B hk hv hck hq hdy hl hd]]
        rw [show (⟨_, pairRow_lt t ⟨n, hn⟩ x⟩ : Fin 4224) = r from hx.symm, ← hx, ih5, if_neg (by omega), if_pos (by omega)]
        rfl
      · rw [read_store_col_other _ _ (off5_at t ⟨n, hn⟩) _ _ _ r (by dsimp only; omega), ih5]
        refine if_congr (by omega) rfl rfl

end Cert.KernelIdeal.Gen

end
-- ==== Proof.LoopLast.lean ====
/- The loop over the row block the pairs leave over, the last of the head -/
module

public import proofs.«01_k».proof.Proof.BodyPoints
public import proofs.«01_k».proof.Proof.Trips
public import proofs.«01_k».proof.Proof.Model

@[expose] public section

set_option maxRecDepth 16384

noncomputable section

namespace Cert.KernelIdeal.Gen

open Idealize.ShloMosaic Idealize.ShloMosaic.TcCoe
open Cert.Fox

section Trip

variable (t : Fin grid0.N) {arg3 arg6 : Memref sig .tc .vmem S4224x128 .bf16}
  {arg8 : Memref sig .tc .vmem S1x1x4224x1 .f32} {arg10 : Memref sig .tc .vmem S4224x128 .f32}
  {arg14 : Memref sig .tc .vmem S1x1x4224x1 .f32} {arg15 : Memref sig .tc .vmem S4224x1 .f32}
  {v1 v3 : FVec Ideal S384x128 .bf16} {v5 : FVec Ideal S1x384 .f32}
  {X3 : BufTy.Contents (Elt Ideal) arg3.view.ty} {X6 : BufTy.Contents (Elt Ideal) arg6.view.ty}
  {X8 : BufTy.Contents (Elt Ideal) arg8.view.ty} {X15 : BufTy.Contents (Elt Ideal) arg15.view.ty}
  (B : Blk) (hk : ∀ c d, v1 (ix2 c d) = B.k c d) (hv : ∀ c d, v3 (ix2 c d) = B.v c d) (hck : ∀ c, v5 (ix2 0 c) = B.ck c)
  (hq : ∀ r d, arg3.view.read (Elt Ideal) X3 (ix2 r d) = B.q r d)
  (hdy : ∀ r d, arg6.view.read (Elt Ideal) X6 (ix2 r d) = B.dy r d)
  (hl : ∀ r, arg8.view.read (Elt Ideal) X8 (ix4 0 0 r 0) = B.lse r)
  (hd : ∀ r, arg15.view.read (Elt Ideal) X15 (ix2 r 0) = B.dl r)
  (k : Fin (k0_t3_loop (grid0.coords t)).trips)

include t k in
/-- The rows of a trip are rows of the block. -/
theorem lastRow_lt (x : Fin 384) : 3840 + x.val < 4224 := by
  have hk := lt_of_lt_of_eq k.isLt (trips3_at t)
  have := x.isLt
  omega

/-- Row `x` of a trip. -/
def lastRow (t : Fin grid0.N) (k : Fin (k0_t3_loop (grid0.coords t)).trips) (x : Fin 384) : Fin 4224 := ⟨3840 + x.val, lastRow_lt t k x⟩

/-- Its keys are all at or before it. -/
theorem lastRow_below (x : Fin 384) (c : Fin 384) : 384 * (t.val % 11) + c.val ≤ (lastRow t k x).val := by
  have hk := lt_of_lt_of_eq k.isLt (trips3_at t)
  show 384 * (t.val % 11) + c.val ≤ 3840 + x.val
  have := c.isLt
  omega

include hk hck hq hl in
/-- The weights a trip works out. -/
theorem lastRow_p (x : Fin 384) (c : Fin 384) :
    trip_k0_t3.sl.v131 (grid0.coords t) arg3 arg8 v1 v5 X3 X8 k (ix2 x c) = B.p (t.val % 11) (lastRow t k x) c := by
  simp only [trip_k0_t3.sl.v131, trip_k0_t3.sl.v130, trip_k0_t3.sl.v129, trip_k0_t3.sl.v128, trip_k0_t3.sl.v125, trip_k0_t3.sl.v124, trip_k0_t3.sl.v123, trip_k0_t3.sl.v122, trip_k0_t3.sl.v121, trip_k0_t3.sl.v117, trip_k0_t3.sl.cst_57, trip_k0_t3.sl.cst_58]
  pointwise
  rw [readAt_col _ _ (off11_at t k) _ x (lastRow_lt t k x), hck, hl]
  rw [Finset.sum_congr rfl fun d _ => by rw [readAt_rows _ _ (off10_at t k) _ x d (lastRow_lt t k x), hq, hk]]
  rw [Blk.p, if_pos (lastRow_below t k x c)]
  rfl

include hk hv hck hq hdy hl hd in
/-- The gradient of the scores a trip works out. -/
theorem lastRow_ds (x : Fin 384) (c : Fin 384) :
    trip_k0_t3.sl.v140 (grid0.coords t) arg3 arg6 arg8 arg15 v1 v3 v5 X3 X6 X8 X15 k (ix2 x c)
      = B.ds (t.val % 11) (lastRow t k x) c := by
  unfold trip_k0_t3.sl.v140
  show trip_k0_t3.sl.v131 (grid0.coords t) arg3 arg8 v1 v5 X3 X8 k (ix2 x c) * _ = _
  rw [lastRow_p t B hk hck hq hl k x c]
  refine congrArg (B.p (t.val % 11) (lastRow t k x) c * ·) ?_
  simp only [trip_k0_t3.sl.v139, trip_k0_t3.sl.v138, trip_k0_t3.sl.v135, trip_k0_t3.sl.v120, trip_k0_t3.sl.cst_57]
  pointwise
  rw [readAt_rows _ _ (off12_at t k) _ x 0 (lastRow_lt t k x), hd]
  rw [Finset.sum_congr rfl fun d _ => by rw [readAt_rows _ _ (off10_at t k) _ x d (lastRow_lt t k x), hdy, hv]]
  rfl

include hk hck hq hdy hl in
/-- What a trip adds to the values' gradient. -/
theorem lastRow_dv (a : FVec Ideal S384x128 .f32 × FVec Ideal S384x128 .f32 × FVec Ideal S1x384 .f32) (c : Fin 384)
    (d : Fin 128) :
    trip_k0_t3.sl.v134 (grid0.coords t) arg3 arg6 arg8 v1 v5 X3 X6 X8 k a (ix2 c d)
      = a.2.1 (ix2 c d) + ∑ x : Fin 384, B.p (t.val % 11) (lastRow t k x) c * B.dy (lastRow t k x) d := by
  simp only [trip_k0_t3.sl.v134, trip_k0_t3.sl.v133, trip_k0_t3.sl.v132, trip_k0_t3.sl.v120, trip_k0_t3.sl.cst_62]
  pointwise
  rw [Finset.sum_congr rfl fun x _ => by
    rw [lastRow_p t B hk hck hq hl k x c, readAt_rows _ _ (off10_at t k) _ x d (lastRow_lt t k x), hdy]]
  rfl

include hk hv hck hq hdy hl hd in
/-- What a trip adds to the keys' gradient. -/
theorem lastRow_dk (a : FVec Ideal S384x128 .f32 × FVec Ideal S384x128 .f32 × FVec Ideal S1x384 .f32) (c : Fin 384)
    (d : Fin 128) :
    trip_k0_t3.sl.v143 (grid0.coords t) arg3 arg6 arg8 arg15 v1 v3 v5 X3 X6 X8 X15 k a (ix2 c d)
      = a.1 (ix2 c d) + ∑ x : Fin 384, B.ds (t.val % 11) (lastRow t k x) c * B.q (lastRow t k x) d := by
  simp only [trip_k0_t3.sl.v143, trip_k0_t3.sl.v142, trip_k0_t3.sl.v141, trip_k0_t3.sl.v117, trip_k0_t3.sl.cst_62]
  pointwise
  rw [Finset.sum_congr rfl fun x _ => by
    rw [lastRow_ds t B hk hv hck hq hdy hl hd k x c, readAt_rows _ _ (off10_at t k) _ x d (lastRow_lt t k x), hq]]
  rfl

include hk hv hck hq hdy hl hd in
/-- What a trip leaves of the queries' gradient. -/
theorem lastRow_dq (f : BufTy.Contents (Elt Ideal) arg10.view.ty) (x : Fin 384) (d : Fin 128) :
    trip_k0_t3.sl.v150 (grid0.coords t) arg3 arg6 arg8 arg10 arg15 v1 v3 v5 X3 X6 X8 X15 k f (ix2 x d)
      = arg10.view.read (Elt Ideal) f (ix2 (lastRow t k x) d) + B.dq (t.val % 11) (lastRow t k x) d := by
  simp only [trip_k0_t3.sl.v150, trip_k0_t3.sl.v149, trip_k0_t3.sl.v148, trip_k0_t3.sl.v147, trip_k0_t3.sl.v146, trip_k0_t3.sl.v141, trip_k0_t3.sl.cst_62, trip_k0_t3.sl.cst_58]
  pointwise
  rw [readAt_rows _ _ (off10_at t k) _ x d (lastRow_lt t k x)]
  rw [Finset.sum_congr rfl fun c _ => by rw [lastRow_ds t B hk hv hck hq hdy hl hd k x c, hk]]
  rfl

/-- The column sums of `ds` a trip takes off. -/
theorem lastRow_dck (a : FVec Ideal S1x384 .f32) (w : FVec Ideal S384x384 .f32) (c : Fin 384) :
    k0_pay71 a w (ix2 0 c) = a (ix2 0 c) - ∑ x : Fin 384, w (ix2 x c) := by
  unfold k0_pay71
  pointwise

/-- The row sums of `ds` a trip adds. -/
theorem lastRow_dcq (w : FVec Ideal S384x384 .f32) (a : Vec Ideal S1x1x384x1 .f32) (x : Fin 384) :
    k0_pay70 w a (ix4 0 0 x 0) = a (ix4 0 0 x 0) + ∑ c : Fin 384, w (ix2 x c) := by
  unfold k0_pay70
  pointwise

end Trip

set_option maxHeartbeats 2000000 in
/-- The state after `n` trips: the sums the loop carries, and the two buffers it stores into. -/
theorem loop3_value (t : Fin grid0.N) (𝒱 : Variants) (c : Dev nD) (bd : Option 𝒱.V)  (arg3 : Memref sig .tc .vmem S4224x128 .bf16) (harg3 : arg3.IsWhole) (arg4 : Memref sig .tc .vmem S384x128 .bf16) (harg4 : arg4.IsWhole) (arg5 : Memref sig .tc .vmem S384x128 .bf16) (harg5 : arg5.IsWhole) (arg6 : Memref sig .tc .vmem S4224x128 .bf16) (harg6 : arg6.IsWhole) (arg7 : Memref sig .tc .vmem S4224x128 .bf16) (harg7 : arg7.IsWhole) (arg8 : Memref sig .tc .vmem S1x1x4224x1 .f32) (harg8 : arg8.IsWhole) (arg9 : Memref sig .tc .vmem S1x1x384 .f32) (harg9 : arg9.IsWhole) (arg10 : Memref sig .tc .vmem S4224x128 .f32) (harg10 : arg10.IsWhole) (arg11 : Memref sig .tc .vmem S384x128 .bf16) (harg11 : arg11.IsWhole) (arg12 : Memref sig .tc .vmem S384x128 .bf16) (harg12 : arg12.IsWhole) (arg13 : Memref sig .tc .vmem S1x1x384 .f32) (harg13 : arg13.IsWhole) (arg14 : Memref sig .tc .vmem S1x1x4224x1 .f32) (harg14 : arg14.IsWhole) (arg15 : Memref sig .tc .vmem S4224x1 .f32) (harg15 : arg15.IsWhole) (arg2 : BitVec 32) (v1 : FVec Ideal S384x128 .bf16) (v3 : FVec Ideal S384x128 .bf16) (v5 : FVec Ideal S1x384 .f32) (v37 : FVec Ideal S384x128 .f32) (v46 : FVec Ideal S384x128 .f32) (v68 : FVec Ideal S1x384 .f32) (v69 : BitVec 32) (c2_i32 : BitVec 32) (v70 : BitVec 32) (v72 : BitVec 32) (v73 : BitVec 1) (v96 : BitVec 32) (X_arg3 : BufTy.Contents (Elt Ideal) arg3.view.ty) (X_arg6 : BufTy.Contents (Elt Ideal) arg6.view.ty) (X_arg8 : BufTy.Contents (Elt Ideal) arg8.view.ty) (X_arg15 : BufTy.Contents (Elt Ideal) arg15.view.ty) (G_arg10 : BufTy.Contents (Elt Ideal) arg10.view.ty) (G_arg14 : BufTy.Contents (Elt Ideal) arg14.view.ty) (init : FVec Ideal S384x128 .f32 × FVec Ideal S384x128 .f32 × FVec Ideal S1x384 .f32)
    (B : Blk) (hk : ∀ c d, v1 (ix2 c d) = B.k c d) (hv : ∀ c d, v3 (ix2 c d) = B.v c d) (hck : ∀ c, v5 (ix2 0 c) = B.ck c)
    (hq : ∀ r d, arg3.view.read (Elt Ideal) X_arg3 (ix2 r d) = B.q r d)
    (hdy : ∀ r d, arg6.view.read (Elt Ideal) X_arg6 (ix2 r d) = B.dy r d)
    (hl : ∀ r, arg8.view.read (Elt Ideal) X_arg8 (ix4 0 0 r 0) = B.lse r)
    (hd : ∀ r, arg15.view.read (Elt Ideal) X_arg15 (ix2 r 0) = B.dl r)
    (n : ℕ) (hn : n ≤ (k0_t3_loop (grid0.coords t)).trips) :
    let s := st_k0_t3 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 v96 X_arg3 X_arg6 X_arg8 X_arg15 G_arg10 G_arg14 init n
    (∀ c d, s.1.1 (ix2 c d) = init.1 (ix2 c d) + B.dk (t.val % 11) 3840 (3840 + 384 * n) c d)
      ∧ (∀ c d, s.1.2.1 (ix2 c d) = init.2.1 (ix2 c d) + B.dv (t.val % 11) 3840 (3840 + 384 * n) c d)
      ∧ (∀ c, s.1.2.2 (ix2 0 c) = if n = 0 then init.2.2 (ix2 0 c)
          else init.2.2 (ix2 0 c) - B.dsum (t.val % 11) 3840 4224 c)
      ∧ (∀ r d, arg10.view.read (Elt Ideal) (arg10.view.writes (Elt Ideal) G_arg10 s.2.1) (ix2 r d)
          = if 3840 ≤ r.val ∧ r.val < 3840 + 384 * n
            then arg10.view.read (Elt Ideal) G_arg10 (ix2 r d) + B.dq (t.val % 11) r d
            else arg10.view.read (Elt Ideal) G_arg10 (ix2 r d))
      ∧ (∀ r, arg14.view.read (Elt Ideal) (arg14.view.writes (Elt Ideal) G_arg14 s.2.2) (ix4 0 0 r 0)
          = if 3840 ≤ r.val ∧ r.val < 3840 + 384 * n
            then arg14.view.read (Elt Ideal) G_arg14 (ix4 0 0 r 0) + B.dcq (t.val % 11) r
            else arg14.view.read (Elt Ideal) G_arg14 (ix4 0 0 r 0)) := by
  induction n with
  | zero =>
    refine ⟨fun c d => ?_, fun c d => ?_, fun c => (if_pos rfl).symm, fun r d => ?_, fun r => ?_⟩
    · rw [Nat.mul_zero, Nat.add_zero, B.dk_empty, add_zero]; rfl
    · rw [Nat.mul_zero, Nat.add_zero, B.dv_empty, add_zero]; rfl
    · rw [if_neg (by omega)]; rfl
    · rw [if_neg (by omega)]; rfl
  | succ n ih =>
    have ih := ih (Nat.le_of_succ_le hn)
    have hN := hn
    rw [trips3_at t] at hN
    rw [show n + 1 = (⟨n, hn⟩ : Fin (k0_t3_loop (grid0.coords t)).trips).val + 1 from rfl, st_k0_t3_succ]
    unfold tripR_k0_t3 tripL_k0_t3 trip_k0_t3
    dsimp only [List.cons_append, List.nil_append] at ih ⊢
    generalize st_k0_t3 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 v96 X_arg3 X_arg6 X_arg8 X_arg15 G_arg10 G_arg14 init n = s at ih ⊢
    obtain ⟨ih1, ih2, ih3, ih4, ih5⟩ := ih
    obtain rfl : n = 0 := by omega
    have hb : 3840 + 384 ≤ 4224 := by omega
    refine ⟨fun c d => ?_, fun c d => ?_, fun c => ?_, fun r d => ?_, fun r => ?_⟩
    · rw [lastRow_dk t B hk hv hck hq hdy hl hd, ih1, Nat.mul_zero, Nat.add_zero, B.dk_empty, add_zero]
      exact congrArg (init.1 (ix2 c d) + ·) (B.dk_block (t.val % 11) c d hb)
    · rw [lastRow_dv t B hk hck hq hdy hl, ih2, Nat.mul_zero, Nat.add_zero, B.dv_empty, add_zero]
      exact congrArg (init.2.1 (ix2 c d) + ·) (B.dv_block (t.val % 11) c d hb)
    · rw [lastRow_dck, Finset.sum_congr rfl fun x _ => by rw [lastRow_ds t B hk hv hck hq hdy hl hd], ih3 c, if_pos rfl,
        if_neg (by omega)]
      exact congrArg (init.2.2 (ix2 0 c) - ·) (B.dsum_block (t.val % 11) c hb)
    · by_cases hr : 3840 ≤ r.val ∧ r.val < 3840 + 384
      · obtain ⟨x, hx⟩ : ∃ x : Fin 384, r = lastRow t ⟨0, hn⟩ x :=
          ⟨⟨r.val - 3840, by omega⟩, Fin.ext (by
            show r.val = 3840 + (r.val - 3840); omega)⟩
        rw [read_store_rows _ _ (off10_at t ⟨0, hn⟩) _ _ _ r d x (congrArg Fin.val hx), lastRow_dq t B hk hv hck hq hdy hl hd,
          ← hx, ih4, if_neg (by omega), if_pos (by omega)]
      · rw [read_store_rows_other _ _ (off10_at t ⟨0, hn⟩) _ _ _ r d (by omega), ih4]
        refine if_congr (by omega) rfl rfl
    · by_cases hr : 3840 ≤ r.val ∧ r.val < 3840 + 384
      · obtain ⟨x, hx⟩ : ∃ x : Fin 384, r = lastRow t ⟨0, hn⟩ x :=
          ⟨⟨r.val - 3840, by omega⟩, Fin.ext (by
            show r.val = 3840 + (r.val - 3840); omega)⟩
        rw [read_store_col _ _ (off11_at t ⟨0, hn⟩) _ _ _ r x (congrArg Fin.val hx)]
        rw [lastRow_dcq, readAt_col _ _ (off11_at t ⟨0, hn⟩) _ x (lastRow_lt t ⟨0, hn⟩ x),
          Finset.sum_congr rfl fun c _ => by rw [lastRow_ds t B hk hv hck hq hdy hl hd]]
        rw [show (⟨_, lastRow_lt t ⟨0, hn⟩ x⟩ : Fin 4224) = r from hx.symm, ← hx, ih5, if_neg (by omega), if_pos (by omega)]
        rfl
      · rw [read_store_col_other _ _ (off11_at t ⟨0, hn⟩) _ _ _ r (by omega), ih5]
        refine if_congr (by omega) rfl rfl

end Cert.KernelIdeal.Gen

end
-- ==== Proof.LoopChain.lean ====
/- The body's loops one after the other -/
module

public import proofs.«01_k».proof.Proof.LoopPairs
public import proofs.«01_k».proof.Proof.LoopLast

@[expose] public section

set_option maxRecDepth 16384

noncomputable section

namespace Cert.KernelIdeal.Gen

open Idealize.ShloMosaic Idealize.ShloMosaic.TcCoe
open Cert.Fox

set_option maxHeartbeats 2000000 in
/-- After the four loops the carried sums have taken in every row below the diagonal block, and so have the two buffers
    the loops store into. -/
theorem loops_value (t : Fin grid0.N) (𝒱 : Variants) (c : Dev nD) (bd : Option 𝒱.V)  (arg3 : Memref sig .tc .vmem S4224x128 .bf16) (harg3 : arg3.IsWhole) (arg4 : Memref sig .tc .vmem S384x128 .bf16) (harg4 : arg4.IsWhole) (arg5 : Memref sig .tc .vmem S384x128 .bf16) (harg5 : arg5.IsWhole) (arg6 : Memref sig .tc .vmem S4224x128 .bf16) (harg6 : arg6.IsWhole) (arg7 : Memref sig .tc .vmem S4224x128 .bf16) (harg7 : arg7.IsWhole) (arg8 : Memref sig .tc .vmem S1x1x4224x1 .f32) (harg8 : arg8.IsWhole) (arg9 : Memref sig .tc .vmem S1x1x384 .f32) (harg9 : arg9.IsWhole) (arg10 : Memref sig .tc .vmem S4224x128 .f32) (harg10 : arg10.IsWhole) (arg11 : Memref sig .tc .vmem S384x128 .bf16) (harg11 : arg11.IsWhole) (arg12 : Memref sig .tc .vmem S384x128 .bf16) (harg12 : arg12.IsWhole) (arg13 : Memref sig .tc .vmem S1x1x384 .f32) (harg13 : arg13.IsWhole) (arg14 : Memref sig .tc .vmem S1x1x4224x1 .f32) (harg14 : arg14.IsWhole) (arg15 : Memref sig .tc .vmem S4224x1 .f32) (harg15 : arg15.IsWhole) (arg2 : BitVec 32) (v1 : FVec Ideal S384x128 .bf16) (v3 : FVec Ideal S384x128 .bf16) (v5 : FVec Ideal S1x384 .f32) (v37 : FVec Ideal S384x128 .f32) (v46 : FVec Ideal S384x128 .f32) (v68 : FVec Ideal S1x384 .f32) (v69 : BitVec 32) (c2_i32 : BitVec 32) (v70 : BitVec 32) (v72 : BitVec 32) (v73 : BitVec 1) (X_arg3 : BufTy.Contents (Elt Ideal) arg3.view.ty) (X_arg6 : BufTy.Contents (Elt Ideal) arg6.view.ty) (X_arg8 : BufTy.Contents (Elt Ideal) arg8.view.ty) (X_arg15 : BufTy.Contents (Elt Ideal) arg15.view.ty) (v91 v96 v101 : BitVec 32)
    (f10 : BufTy.Contents (Elt Ideal) arg10.view.ty) (f14 : BufTy.Contents (Elt Ideal) arg14.view.ty)
    (L10 : List (View.Piece (Elt Ideal) S4224x128 .f32)) (L14 : List (View.Piece (Elt Ideal) S1x1x4224x1 .f32))
    (init : FVec Ideal S384x128 .f32 × FVec Ideal S384x128 .f32 × FVec Ideal S1x384 .f32) (n1 n2 n3 n4 : ℕ)
    (s1 s2 s3 s4 : (FVec Ideal S384x128 .f32 × FVec Ideal S384x128 .f32 × FVec Ideal S1x384 .f32) × List (View.Piece (Elt Ideal) S4224x128 .f32) × List (View.Piece (Elt Ideal) S1x1x4224x1 .f32))
    (hs1 : s1 = st_k0_t1 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 X_arg3 X_arg6 X_arg8 X_arg15 (arg10.view.writes (Elt Ideal) f10 L10) (arg14.view.writes (Elt Ideal) f14 L14) init n1) (hn1 : n1 = (k0_t1_loop (grid0.coords t)).trips)
    (hs2 : s2 = st_k0_t2 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 v91 X_arg3 X_arg6 X_arg8 X_arg15 (arg10.view.writes (Elt Ideal) f10 (s1.2.1 ++ L10)) (arg14.view.writes (Elt Ideal) f14 (s1.2.2 ++ L14)) (s1.1.1, s1.1.2.1, s1.1.2.2) n2) (hn2 : n2 = (k0_t2_loop (grid0.coords t)).trips)
    (hs3 : s3 = st_k0_t3 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 v96 X_arg3 X_arg6 X_arg8 X_arg15 (arg10.view.writes (Elt Ideal) f10 (s2.2.1 ++ (s1.2.1 ++ L10))) (arg14.view.writes (Elt Ideal) f14 (s2.2.2 ++ (s1.2.2 ++ L14))) (s2.1.1, s2.1.2.1, s2.1.2.2) n3) (hn3 : n3 = (k0_t3_loop (grid0.coords t)).trips)
    (hs4 : s4 = st_k0_t4 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 v101 X_arg3 X_arg6 X_arg8 X_arg15 (arg10.view.writes (Elt Ideal) f10 (s3.2.1 ++ (s2.2.1 ++ (s1.2.1 ++ L10)))) (arg14.view.writes (Elt Ideal) f14 (s3.2.2 ++ (s2.2.2 ++ (s1.2.2 ++ L14)))) (s3.1.1, s3.1.2.1, s3.1.2.2) n4) (hn4 : n4 = (k0_t4_loop (grid0.coords t)).trips)
    (B : Blk) (hk : ∀ c d, v1 (ix2 c d) = B.k c d) (hv : ∀ c d, v3 (ix2 c d) = B.v c d) (hck : ∀ c, v5 (ix2 0 c) = B.ck c)
    (hq : ∀ r d, arg3.view.read (Elt Ideal) X_arg3 (ix2 r d) = B.q r d)
    (hdy : ∀ r d, arg6.view.read (Elt Ideal) X_arg6 (ix2 r d) = B.dy r d)
    (hl : ∀ r, arg8.view.read (Elt Ideal) X_arg8 (ix4 0 0 r 0) = B.lse r)
    (hd : ∀ r, arg15.view.read (Elt Ideal) X_arg15 (ix2 r 0) = B.dl r)
    (hi : ∀ c, init.2.2 (ix2 0 c) = B.dck (t.val % 11) c 0) :
    (∀ c d, s4.1.1 (ix2 c d) = init.1 (ix2 c d) + B.dk (t.val % 11) (384 * (t.val % 11 + 1)) 4224 c d)
      ∧ (∀ c d, s4.1.2.1 (ix2 c d) = init.2.1 (ix2 c d) + B.dv (t.val % 11) (384 * (t.val % 11 + 1)) 4224 c d)
      ∧ (∀ c, s4.1.2.2 (ix2 0 c) = B.dckAll (t.val % 11) c)
      ∧ (∀ r d, arg10.view.read (Elt Ideal) (arg10.view.writes (Elt Ideal) f10 (s4.2.1 ++ (s3.2.1 ++ (s2.2.1 ++ (s1.2.1 ++ L10))))) (ix2 r d)
          = if 384 * (t.val % 11 + 1) ≤ r.val
            then arg10.view.read (Elt Ideal) (arg10.view.writes (Elt Ideal) f10 L10) (ix2 r d) + B.dq (t.val % 11) r d
            else arg10.view.read (Elt Ideal) (arg10.view.writes (Elt Ideal) f10 L10) (ix2 r d))
      ∧ (∀ r, arg14.view.read (Elt Ideal) (arg14.view.writes (Elt Ideal) f14 (s4.2.2 ++ (s3.2.2 ++ (s2.2.2 ++ (s1.2.2 ++ L14))))) (ix4 0 0 r 0)
          = if 384 * (t.val % 11 + 1) ≤ r.val
            then arg14.view.read (Elt Ideal) (arg14.view.writes (Elt Ideal) f14 L14) (ix4 0 0 r 0) + B.dcq (t.val % 11) r
            else arg14.view.read (Elt Ideal) (arg14.view.writes (Elt Ideal) f14 L14) (ix4 0 0 r 0)) := by
  have hj : t.val % 11 < 11 := Nat.mod_lt _ (by decide)
  rw [trips2_at t] at hn2
  rw [trips4_at t] at hn4
  subst hn2 hn4
  have e2 : s2 = (s1.1, [], []) := hs2
  have e4 : s4 = (s3.1, [], []) := hs4
  clear hs2 hs4
  subst e2 e4
  obtain ⟨a1, a2, a3, a4, a5⟩ := loop1_value t 𝒱 c bd arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73  X_arg3 X_arg6 X_arg8 X_arg15 _ _ init B hk hv hck hq hdy hl hd n1 hn1.le
  obtain ⟨b1, b2, b3, b4, b5⟩ := loop3_value t 𝒱 c bd arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 v96  X_arg3 X_arg6 X_arg8 X_arg15 _ _ _ B hk hv hck hq hdy hl hd n3 hn3.le
  rw [← hs1] at a1 a2 a3 a4 a5
  have a3 := a3 hi
  rw [← hs3] at b1 b2 b3 b4 b5
  clear hs1 hs3
  rw [trips1_at t] at hn1
  rw [trips3_at t] at hn3
  simp only [List.nil_append, View.writes_append] at a1 a2 a3 a4 a5 b1 b2 b3 b4 b5 ⊢
  by_cases hp : (10 - t.val % 11) % 2 = 0
  · obtain rfl : n3 = 0 := by omega
    have e : 384 * (t.val % 11 + 1 + 2 * n1) = 4224 := by omega
    rw [e] at a1 a2 a4 a5
    refine ⟨fun c d => ?_, fun c d => ?_, fun c => ?_, fun r d => ?_, fun r => ?_⟩
    · rw [b1, a1, Nat.mul_zero, Nat.add_zero, B.dk_empty, add_zero]
    · rw [b2, a2, Nat.mul_zero, Nat.add_zero, B.dv_empty, add_zero]
    · rw [b3, if_pos rfl, a3, Blk.dckAll, if_pos hp, hn1]
    · rw [b4, if_neg (by omega), a4]; exact if_congr (by have := r.isLt; omega) rfl rfl
    · rw [b5, if_neg (by omega), a5]; exact if_congr (by have := r.isLt; omega) rfl rfl
  · obtain rfl : n3 = 1 := by omega
    have e : 384 * (t.val % 11 + 1 + 2 * n1) = 3840 := by omega
    rw [e] at a1 a2 a4 a5
    refine ⟨fun c d => ?_, fun c d => ?_, fun c => ?_, fun r d => ?_, fun r => ?_⟩
    · rw [b1, a1, add_assoc, B.dk_add _ _ _ (by omega) (by omega)]
    · rw [b2, a2, add_assoc, B.dv_add _ _ _ (by omega) (by omega)]
    · rw [b3, if_neg (by omega), a3, Blk.dckAll, if_neg hp, hn1]
    · rw [b4, a4]
      have := r.isLt
      by_cases h1 : 3840 ≤ r.val
      · rw [if_pos (by omega), if_neg (by omega), if_pos (by omega)]
      · rw [if_neg (by omega)]; exact if_congr (by omega) rfl rfl
    · rw [b5, a5]
      have := r.isLt
      by_cases h1 : 3840 ≤ r.val
      · rw [if_pos (by omega), if_neg (by omega), if_pos (by omega)]
      · rw [if_neg (by omega)]; exact if_congr (by omega) rfl rfl

/-! Its parts. -/

theorem loops_dk (t : Fin grid0.N) (𝒱 : Variants) (c : Dev nD) (bd : Option 𝒱.V)  (arg3 : Memref sig .tc .vmem S4224x128 .bf16) (harg3 : arg3.IsWhole) (arg4 : Memref sig .tc .vmem S384x128 .bf16) (harg4 : arg4.IsWhole) (arg5 : Memref sig .tc .vmem S384x128 .bf16) (harg5 : arg5.IsWhole) (arg6 : Memref sig .tc .vmem S4224x128 .bf16) (harg6 : arg6.IsWhole) (arg7 : Memref sig .tc .vmem S4224x128 .bf16) (harg7 : arg7.IsWhole) (arg8 : Memref sig .tc .vmem S1x1x4224x1 .f32) (harg8 : arg8.IsWhole) (arg9 : Memref sig .tc .vmem S1x1x384 .f32) (harg9 : arg9.IsWhole) (arg10 : Memref sig .tc .vmem S4224x128 .f32) (harg10 : arg10.IsWhole) (arg11 : Memref sig .tc .vmem S384x128 .bf16) (harg11 : arg11.IsWhole) (arg12 : Memref sig .tc .vmem S384x128 .bf16) (harg12 : arg12.IsWhole) (arg13 : Memref sig .tc .vmem S1x1x384 .f32) (harg13 : arg13.IsWhole) (arg14 : Memref sig .tc .vmem S1x1x4224x1 .f32) (harg14 : arg14.IsWhole) (arg15 : Memref sig .tc .vmem S4224x1 .f32) (harg15 : arg15.IsWhole) (arg2 : BitVec 32) (v1 : FVec Ideal S384x128 .bf16) (v3 : FVec Ideal S384x128 .bf16) (v5 : FVec Ideal S1x384 .f32) (v37 : FVec Ideal S384x128 .f32) (v46 : FVec Ideal S384x128 .f32) (v68 : FVec Ideal S1x384 .f32) (v69 : BitVec 32) (c2_i32 : BitVec 32) (v70 : BitVec 32) (v72 : BitVec 32) (v73 : BitVec 1) (X_arg3 : BufTy.Contents (Elt Ideal) arg3.view.ty) (X_arg6 : BufTy.Contents (Elt Ideal) arg6.view.ty) (X_arg8 : BufTy.Contents (Elt Ideal) arg8.view.ty) (X_arg15 : BufTy.Contents (Elt Ideal) arg15.view.ty) (v91 v96 v101 : BitVec 32)
    (f10 : BufTy.Contents (Elt Ideal) arg10.view.ty) (f14 : BufTy.Contents (Elt Ideal) arg14.view.ty)
    (L10 : List (View.Piece (Elt Ideal) S4224x128 .f32)) (L14 : List (View.Piece (Elt Ideal) S1x1x4224x1 .f32))
    (init : FVec Ideal S384x128 .f32 × FVec Ideal S384x128 .f32 × FVec Ideal S1x384 .f32) (n1 n2 n3 n4 : ℕ)
    (s1 s2 s3 s4 : (FVec Ideal S384x128 .f32 × FVec Ideal S384x128 .f32 × FVec Ideal S1x384 .f32) × List (View.Piece (Elt Ideal) S4224x128 .f32) × List (View.Piece (Elt Ideal) S1x1x4224x1 .f32))
    (hs1 : s1 = st_k0_t1 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 X_arg3 X_arg6 X_arg8 X_arg15 (arg10.view.writes (Elt Ideal) f10 L10) (arg14.view.writes (Elt Ideal) f14 L14) init n1) (hn1 : n1 = (k0_t1_loop (grid0.coords t)).trips)
    (hs2 : s2 = st_k0_t2 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 v91 X_arg3 X_arg6 X_arg8 X_arg15 (arg10.view.writes (Elt Ideal) f10 (s1.2.1 ++ L10)) (arg14.view.writes (Elt Ideal) f14 (s1.2.2 ++ L14)) (s1.1.1, s1.1.2.1, s1.1.2.2) n2) (hn2 : n2 = (k0_t2_loop (grid0.coords t)).trips)
    (hs3 : s3 = st_k0_t3 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 v96 X_arg3 X_arg6 X_arg8 X_arg15 (arg10.view.writes (Elt Ideal) f10 (s2.2.1 ++ (s1.2.1 ++ L10))) (arg14.view.writes (Elt Ideal) f14 (s2.2.2 ++ (s1.2.2 ++ L14))) (s2.1.1, s2.1.2.1, s2.1.2.2) n3) (hn3 : n3 = (k0_t3_loop (grid0.coords t)).trips)
    (hs4 : s4 = st_k0_t4 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 v101 X_arg3 X_arg6 X_arg8 X_arg15 (arg10.view.writes (Elt Ideal) f10 (s3.2.1 ++ (s2.2.1 ++ (s1.2.1 ++ L10)))) (arg14.view.writes (Elt Ideal) f14 (s3.2.2 ++ (s2.2.2 ++ (s1.2.2 ++ L14)))) (s3.1.1, s3.1.2.1, s3.1.2.2) n4) (hn4 : n4 = (k0_t4_loop (grid0.coords t)).trips)
    (B : Blk) (hk : ∀ c d, v1 (ix2 c d) = B.k c d) (hv : ∀ c d, v3 (ix2 c d) = B.v c d) (hck : ∀ c, v5 (ix2 0 c) = B.ck c)
    (hq : ∀ r d, arg3.view.read (Elt Ideal) X_arg3 (ix2 r d) = B.q r d)
    (hdy : ∀ r d, arg6.view.read (Elt Ideal) X_arg6 (ix2 r d) = B.dy r d)
    (hl : ∀ r, arg8.view.read (Elt Ideal) X_arg8 (ix4 0 0 r 0) = B.lse r)
    (hd : ∀ r, arg15.view.read (Elt Ideal) X_arg15 (ix2 r 0) = B.dl r)
    (hi : ∀ c, init.2.2 (ix2 0 c) = B.dck (t.val % 11) c 0)
    (c1 : Fin 384) (d : Fin 128) :
    s4.1.1 (ix2 c1 d) = init.1 (ix2 c1 d) + B.dk (t.val % 11) (384 * (t.val % 11 + 1)) 4224 c1 d :=
  (loops_value t 𝒱 c bd arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 X_arg3 X_arg6 X_arg8 X_arg15 v91 v96 v101 f10 f14 L10 L14 init n1 n2 n3 n4 s1 s2 s3 s4 hs1 hn1 hs2 hn2 hs3 hn3 hs4 hn4 B hk hv hck hq hdy hl hd hi).1 c1 d

theorem loops_dv (t : Fin grid0.N) (𝒱 : Variants) (c : Dev nD) (bd : Option 𝒱.V)  (arg3 : Memref sig .tc .vmem S4224x128 .bf16) (harg3 : arg3.IsWhole) (arg4 : Memref sig .tc .vmem S384x128 .bf16) (harg4 : arg4.IsWhole) (arg5 : Memref sig .tc .vmem S384x128 .bf16) (harg5 : arg5.IsWhole) (arg6 : Memref sig .tc .vmem S4224x128 .bf16) (harg6 : arg6.IsWhole) (arg7 : Memref sig .tc .vmem S4224x128 .bf16) (harg7 : arg7.IsWhole) (arg8 : Memref sig .tc .vmem S1x1x4224x1 .f32) (harg8 : arg8.IsWhole) (arg9 : Memref sig .tc .vmem S1x1x384 .f32) (harg9 : arg9.IsWhole) (arg10 : Memref sig .tc .vmem S4224x128 .f32) (harg10 : arg10.IsWhole) (arg11 : Memref sig .tc .vmem S384x128 .bf16) (harg11 : arg11.IsWhole) (arg12 : Memref sig .tc .vmem S384x128 .bf16) (harg12 : arg12.IsWhole) (arg13 : Memref sig .tc .vmem S1x1x384 .f32) (harg13 : arg13.IsWhole) (arg14 : Memref sig .tc .vmem S1x1x4224x1 .f32) (harg14 : arg14.IsWhole) (arg15 : Memref sig .tc .vmem S4224x1 .f32) (harg15 : arg15.IsWhole) (arg2 : BitVec 32) (v1 : FVec Ideal S384x128 .bf16) (v3 : FVec Ideal S384x128 .bf16) (v5 : FVec Ideal S1x384 .f32) (v37 : FVec Ideal S384x128 .f32) (v46 : FVec Ideal S384x128 .f32) (v68 : FVec Ideal S1x384 .f32) (v69 : BitVec 32) (c2_i32 : BitVec 32) (v70 : BitVec 32) (v72 : BitVec 32) (v73 : BitVec 1) (X_arg3 : BufTy.Contents (Elt Ideal) arg3.view.ty) (X_arg6 : BufTy.Contents (Elt Ideal) arg6.view.ty) (X_arg8 : BufTy.Contents (Elt Ideal) arg8.view.ty) (X_arg15 : BufTy.Contents (Elt Ideal) arg15.view.ty) (v91 v96 v101 : BitVec 32)
    (f10 : BufTy.Contents (Elt Ideal) arg10.view.ty) (f14 : BufTy.Contents (Elt Ideal) arg14.view.ty)
    (L10 : List (View.Piece (Elt Ideal) S4224x128 .f32)) (L14 : List (View.Piece (Elt Ideal) S1x1x4224x1 .f32))
    (init : FVec Ideal S384x128 .f32 × FVec Ideal S384x128 .f32 × FVec Ideal S1x384 .f32) (n1 n2 n3 n4 : ℕ)
    (s1 s2 s3 s4 : (FVec Ideal S384x128 .f32 × FVec Ideal S384x128 .f32 × FVec Ideal S1x384 .f32) × List (View.Piece (Elt Ideal) S4224x128 .f32) × List (View.Piece (Elt Ideal) S1x1x4224x1 .f32))
    (hs1 : s1 = st_k0_t1 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 X_arg3 X_arg6 X_arg8 X_arg15 (arg10.view.writes (Elt Ideal) f10 L10) (arg14.view.writes (Elt Ideal) f14 L14) init n1) (hn1 : n1 = (k0_t1_loop (grid0.coords t)).trips)
    (hs2 : s2 = st_k0_t2 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 v91 X_arg3 X_arg6 X_arg8 X_arg15 (arg10.view.writes (Elt Ideal) f10 (s1.2.1 ++ L10)) (arg14.view.writes (Elt Ideal) f14 (s1.2.2 ++ L14)) (s1.1.1, s1.1.2.1, s1.1.2.2) n2) (hn2 : n2 = (k0_t2_loop (grid0.coords t)).trips)
    (hs3 : s3 = st_k0_t3 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 v96 X_arg3 X_arg6 X_arg8 X_arg15 (arg10.view.writes (Elt Ideal) f10 (s2.2.1 ++ (s1.2.1 ++ L10))) (arg14.view.writes (Elt Ideal) f14 (s2.2.2 ++ (s1.2.2 ++ L14))) (s2.1.1, s2.1.2.1, s2.1.2.2) n3) (hn3 : n3 = (k0_t3_loop (grid0.coords t)).trips)
    (hs4 : s4 = st_k0_t4 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 v101 X_arg3 X_arg6 X_arg8 X_arg15 (arg10.view.writes (Elt Ideal) f10 (s3.2.1 ++ (s2.2.1 ++ (s1.2.1 ++ L10)))) (arg14.view.writes (Elt Ideal) f14 (s3.2.2 ++ (s2.2.2 ++ (s1.2.2 ++ L14)))) (s3.1.1, s3.1.2.1, s3.1.2.2) n4) (hn4 : n4 = (k0_t4_loop (grid0.coords t)).trips)
    (B : Blk) (hk : ∀ c d, v1 (ix2 c d) = B.k c d) (hv : ∀ c d, v3 (ix2 c d) = B.v c d) (hck : ∀ c, v5 (ix2 0 c) = B.ck c)
    (hq : ∀ r d, arg3.view.read (Elt Ideal) X_arg3 (ix2 r d) = B.q r d)
    (hdy : ∀ r d, arg6.view.read (Elt Ideal) X_arg6 (ix2 r d) = B.dy r d)
    (hl : ∀ r, arg8.view.read (Elt Ideal) X_arg8 (ix4 0 0 r 0) = B.lse r)
    (hd : ∀ r, arg15.view.read (Elt Ideal) X_arg15 (ix2 r 0) = B.dl r)
    (hi : ∀ c, init.2.2 (ix2 0 c) = B.dck (t.val % 11) c 0)
    (c1 : Fin 384) (d : Fin 128) :
    s4.1.2.1 (ix2 c1 d) = init.2.1 (ix2 c1 d) + B.dv (t.val % 11) (384 * (t.val % 11 + 1)) 4224 c1 d :=
  (loops_value t 𝒱 c bd arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 X_arg3 X_arg6 X_arg8 X_arg15 v91 v96 v101 f10 f14 L10 L14 init n1 n2 n3 n4 s1 s2 s3 s4 hs1 hn1 hs2 hn2 hs3 hn3 hs4 hn4 B hk hv hck hq hdy hl hd hi).2.1 c1 d

theorem loops_dck (t : Fin grid0.N) (𝒱 : Variants) (c : Dev nD) (bd : Option 𝒱.V)  (arg3 : Memref sig .tc .vmem S4224x128 .bf16) (harg3 : arg3.IsWhole) (arg4 : Memref sig .tc .vmem S384x128 .bf16) (harg4 : arg4.IsWhole) (arg5 : Memref sig .tc .vmem S384x128 .bf16) (harg5 : arg5.IsWhole) (arg6 : Memref sig .tc .vmem S4224x128 .bf16) (harg6 : arg6.IsWhole) (arg7 : Memref sig .tc .vmem S4224x128 .bf16) (harg7 : arg7.IsWhole) (arg8 : Memref sig .tc .vmem S1x1x4224x1 .f32) (harg8 : arg8.IsWhole) (arg9 : Memref sig .tc .vmem S1x1x384 .f32) (harg9 : arg9.IsWhole) (arg10 : Memref sig .tc .vmem S4224x128 .f32) (harg10 : arg10.IsWhole) (arg11 : Memref sig .tc .vmem S384x128 .bf16) (harg11 : arg11.IsWhole) (arg12 : Memref sig .tc .vmem S384x128 .bf16) (harg12 : arg12.IsWhole) (arg13 : Memref sig .tc .vmem S1x1x384 .f32) (harg13 : arg13.IsWhole) (arg14 : Memref sig .tc .vmem S1x1x4224x1 .f32) (harg14 : arg14.IsWhole) (arg15 : Memref sig .tc .vmem S4224x1 .f32) (harg15 : arg15.IsWhole) (arg2 : BitVec 32) (v1 : FVec Ideal S384x128 .bf16) (v3 : FVec Ideal S384x128 .bf16) (v5 : FVec Ideal S1x384 .f32) (v37 : FVec Ideal S384x128 .f32) (v46 : FVec Ideal S384x128 .f32) (v68 : FVec Ideal S1x384 .f32) (v69 : BitVec 32) (c2_i32 : BitVec 32) (v70 : BitVec 32) (v72 : BitVec 32) (v73 : BitVec 1) (X_arg3 : BufTy.Contents (Elt Ideal) arg3.view.ty) (X_arg6 : BufTy.Contents (Elt Ideal) arg6.view.ty) (X_arg8 : BufTy.Contents (Elt Ideal) arg8.view.ty) (X_arg15 : BufTy.Contents (Elt Ideal) arg15.view.ty) (v91 v96 v101 : BitVec 32)
    (f10 : BufTy.Contents (Elt Ideal) arg10.view.ty) (f14 : BufTy.Contents (Elt Ideal) arg14.view.ty)
    (L10 : List (View.Piece (Elt Ideal) S4224x128 .f32)) (L14 : List (View.Piece (Elt Ideal) S1x1x4224x1 .f32))
    (init : FVec Ideal S384x128 .f32 × FVec Ideal S384x128 .f32 × FVec Ideal S1x384 .f32) (n1 n2 n3 n4 : ℕ)
    (s1 s2 s3 s4 : (FVec Ideal S384x128 .f32 × FVec Ideal S384x128 .f32 × FVec Ideal S1x384 .f32) × List (View.Piece (Elt Ideal) S4224x128 .f32) × List (View.Piece (Elt Ideal) S1x1x4224x1 .f32))
    (hs1 : s1 = st_k0_t1 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 X_arg3 X_arg6 X_arg8 X_arg15 (arg10.view.writes (Elt Ideal) f10 L10) (arg14.view.writes (Elt Ideal) f14 L14) init n1) (hn1 : n1 = (k0_t1_loop (grid0.coords t)).trips)
    (hs2 : s2 = st_k0_t2 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 v91 X_arg3 X_arg6 X_arg8 X_arg15 (arg10.view.writes (Elt Ideal) f10 (s1.2.1 ++ L10)) (arg14.view.writes (Elt Ideal) f14 (s1.2.2 ++ L14)) (s1.1.1, s1.1.2.1, s1.1.2.2) n2) (hn2 : n2 = (k0_t2_loop (grid0.coords t)).trips)
    (hs3 : s3 = st_k0_t3 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 v96 X_arg3 X_arg6 X_arg8 X_arg15 (arg10.view.writes (Elt Ideal) f10 (s2.2.1 ++ (s1.2.1 ++ L10))) (arg14.view.writes (Elt Ideal) f14 (s2.2.2 ++ (s1.2.2 ++ L14))) (s2.1.1, s2.1.2.1, s2.1.2.2) n3) (hn3 : n3 = (k0_t3_loop (grid0.coords t)).trips)
    (hs4 : s4 = st_k0_t4 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 v101 X_arg3 X_arg6 X_arg8 X_arg15 (arg10.view.writes (Elt Ideal) f10 (s3.2.1 ++ (s2.2.1 ++ (s1.2.1 ++ L10)))) (arg14.view.writes (Elt Ideal) f14 (s3.2.2 ++ (s2.2.2 ++ (s1.2.2 ++ L14)))) (s3.1.1, s3.1.2.1, s3.1.2.2) n4) (hn4 : n4 = (k0_t4_loop (grid0.coords t)).trips)
    (B : Blk) (hk : ∀ c d, v1 (ix2 c d) = B.k c d) (hv : ∀ c d, v3 (ix2 c d) = B.v c d) (hck : ∀ c, v5 (ix2 0 c) = B.ck c)
    (hq : ∀ r d, arg3.view.read (Elt Ideal) X_arg3 (ix2 r d) = B.q r d)
    (hdy : ∀ r d, arg6.view.read (Elt Ideal) X_arg6 (ix2 r d) = B.dy r d)
    (hl : ∀ r, arg8.view.read (Elt Ideal) X_arg8 (ix4 0 0 r 0) = B.lse r)
    (hd : ∀ r, arg15.view.read (Elt Ideal) X_arg15 (ix2 r 0) = B.dl r)
    (hi : ∀ c, init.2.2 (ix2 0 c) = B.dck (t.val % 11) c 0)
    (c1 : Fin 384) :
    s4.1.2.2 (ix2 0 c1) = B.dckAll (t.val % 11) c1 :=
  (loops_value t 𝒱 c bd arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 X_arg3 X_arg6 X_arg8 X_arg15 v91 v96 v101 f10 f14 L10 L14 init n1 n2 n3 n4 s1 s2 s3 s4 hs1 hn1 hs2 hn2 hs3 hn3 hs4 hn4 B hk hv hck hq hdy hl hd hi).2.2.1 c1

theorem loops_dq (t : Fin grid0.N) (𝒱 : Variants) (c : Dev nD) (bd : Option 𝒱.V)  (arg3 : Memref sig .tc .vmem S4224x128 .bf16) (harg3 : arg3.IsWhole) (arg4 : Memref sig .tc .vmem S384x128 .bf16) (harg4 : arg4.IsWhole) (arg5 : Memref sig .tc .vmem S384x128 .bf16) (harg5 : arg5.IsWhole) (arg6 : Memref sig .tc .vmem S4224x128 .bf16) (harg6 : arg6.IsWhole) (arg7 : Memref sig .tc .vmem S4224x128 .bf16) (harg7 : arg7.IsWhole) (arg8 : Memref sig .tc .vmem S1x1x4224x1 .f32) (harg8 : arg8.IsWhole) (arg9 : Memref sig .tc .vmem S1x1x384 .f32) (harg9 : arg9.IsWhole) (arg10 : Memref sig .tc .vmem S4224x128 .f32) (harg10 : arg10.IsWhole) (arg11 : Memref sig .tc .vmem S384x128 .bf16) (harg11 : arg11.IsWhole) (arg12 : Memref sig .tc .vmem S384x128 .bf16) (harg12 : arg12.IsWhole) (arg13 : Memref sig .tc .vmem S1x1x384 .f32) (harg13 : arg13.IsWhole) (arg14 : Memref sig .tc .vmem S1x1x4224x1 .f32) (harg14 : arg14.IsWhole) (arg15 : Memref sig .tc .vmem S4224x1 .f32) (harg15 : arg15.IsWhole) (arg2 : BitVec 32) (v1 : FVec Ideal S384x128 .bf16) (v3 : FVec Ideal S384x128 .bf16) (v5 : FVec Ideal S1x384 .f32) (v37 : FVec Ideal S384x128 .f32) (v46 : FVec Ideal S384x128 .f32) (v68 : FVec Ideal S1x384 .f32) (v69 : BitVec 32) (c2_i32 : BitVec 32) (v70 : BitVec 32) (v72 : BitVec 32) (v73 : BitVec 1) (X_arg3 : BufTy.Contents (Elt Ideal) arg3.view.ty) (X_arg6 : BufTy.Contents (Elt Ideal) arg6.view.ty) (X_arg8 : BufTy.Contents (Elt Ideal) arg8.view.ty) (X_arg15 : BufTy.Contents (Elt Ideal) arg15.view.ty) (v91 v96 v101 : BitVec 32)
    (f10 : BufTy.Contents (Elt Ideal) arg10.view.ty) (f14 : BufTy.Contents (Elt Ideal) arg14.view.ty)
    (L10 : List (View.Piece (Elt Ideal) S4224x128 .f32)) (L14 : List (View.Piece (Elt Ideal) S1x1x4224x1 .f32))
    (init : FVec Ideal S384x128 .f32 × FVec Ideal S384x128 .f32 × FVec Ideal S1x384 .f32) (n1 n2 n3 n4 : ℕ)
    (s1 s2 s3 s4 : (FVec Ideal S384x128 .f32 × FVec Ideal S384x128 .f32 × FVec Ideal S1x384 .f32) × List (View.Piece (Elt Ideal) S4224x128 .f32) × List (View.Piece (Elt Ideal) S1x1x4224x1 .f32))
    (hs1 : s1 = st_k0_t1 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 X_arg3 X_arg6 X_arg8 X_arg15 (arg10.view.writes (Elt Ideal) f10 L10) (arg14.view.writes (Elt Ideal) f14 L14) init n1) (hn1 : n1 = (k0_t1_loop (grid0.coords t)).trips)
    (hs2 : s2 = st_k0_t2 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 v91 X_arg3 X_arg6 X_arg8 X_arg15 (arg10.view.writes (Elt Ideal) f10 (s1.2.1 ++ L10)) (arg14.view.writes (Elt Ideal) f14 (s1.2.2 ++ L14)) (s1.1.1, s1.1.2.1, s1.1.2.2) n2) (hn2 : n2 = (k0_t2_loop (grid0.coords t)).trips)
    (hs3 : s3 = st_k0_t3 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 v96 X_arg3 X_arg6 X_arg8 X_arg15 (arg10.view.writes (Elt Ideal) f10 (s2.2.1 ++ (s1.2.1 ++ L10))) (arg14.view.writes (Elt Ideal) f14 (s2.2.2 ++ (s1.2.2 ++ L14))) (s2.1.1, s2.1.2.1, s2.1.2.2) n3) (hn3 : n3 = (k0_t3_loop (grid0.coords t)).trips)
    (hs4 : s4 = st_k0_t4 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 v101 X_arg3 X_arg6 X_arg8 X_arg15 (arg10.view.writes (Elt Ideal) f10 (s3.2.1 ++ (s2.2.1 ++ (s1.2.1 ++ L10)))) (arg14.view.writes (Elt Ideal) f14 (s3.2.2 ++ (s2.2.2 ++ (s1.2.2 ++ L14)))) (s3.1.1, s3.1.2.1, s3.1.2.2) n4) (hn4 : n4 = (k0_t4_loop (grid0.coords t)).trips)
    (B : Blk) (hk : ∀ c d, v1 (ix2 c d) = B.k c d) (hv : ∀ c d, v3 (ix2 c d) = B.v c d) (hck : ∀ c, v5 (ix2 0 c) = B.ck c)
    (hq : ∀ r d, arg3.view.read (Elt Ideal) X_arg3 (ix2 r d) = B.q r d)
    (hdy : ∀ r d, arg6.view.read (Elt Ideal) X_arg6 (ix2 r d) = B.dy r d)
    (hl : ∀ r, arg8.view.read (Elt Ideal) X_arg8 (ix4 0 0 r 0) = B.lse r)
    (hd : ∀ r, arg15.view.read (Elt Ideal) X_arg15 (ix2 r 0) = B.dl r)
    (hi : ∀ c, init.2.2 (ix2 0 c) = B.dck (t.val % 11) c 0)
    (r : Fin 4224) (d : Fin 128) :
    arg10.view.read (Elt Ideal) (arg10.view.writes (Elt Ideal) f10 (s4.2.1 ++ (s3.2.1 ++ (s2.2.1 ++ (s1.2.1 ++ L10))))) (ix2 r d)
          = if 384 * (t.val % 11 + 1) ≤ r.val
            then arg10.view.read (Elt Ideal) (arg10.view.writes (Elt Ideal) f10 L10) (ix2 r d) + B.dq (t.val % 11) r d
            else arg10.view.read (Elt Ideal) (arg10.view.writes (Elt Ideal) f10 L10) (ix2 r d) :=
  (loops_value t 𝒱 c bd arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 X_arg3 X_arg6 X_arg8 X_arg15 v91 v96 v101 f10 f14 L10 L14 init n1 n2 n3 n4 s1 s2 s3 s4 hs1 hn1 hs2 hn2 hs3 hn3 hs4 hn4 B hk hv hck hq hdy hl hd hi).2.2.2.1 r d

theorem loops_dcq (t : Fin grid0.N) (𝒱 : Variants) (c : Dev nD) (bd : Option 𝒱.V)  (arg3 : Memref sig .tc .vmem S4224x128 .bf16) (harg3 : arg3.IsWhole) (arg4 : Memref sig .tc .vmem S384x128 .bf16) (harg4 : arg4.IsWhole) (arg5 : Memref sig .tc .vmem S384x128 .bf16) (harg5 : arg5.IsWhole) (arg6 : Memref sig .tc .vmem S4224x128 .bf16) (harg6 : arg6.IsWhole) (arg7 : Memref sig .tc .vmem S4224x128 .bf16) (harg7 : arg7.IsWhole) (arg8 : Memref sig .tc .vmem S1x1x4224x1 .f32) (harg8 : arg8.IsWhole) (arg9 : Memref sig .tc .vmem S1x1x384 .f32) (harg9 : arg9.IsWhole) (arg10 : Memref sig .tc .vmem S4224x128 .f32) (harg10 : arg10.IsWhole) (arg11 : Memref sig .tc .vmem S384x128 .bf16) (harg11 : arg11.IsWhole) (arg12 : Memref sig .tc .vmem S384x128 .bf16) (harg12 : arg12.IsWhole) (arg13 : Memref sig .tc .vmem S1x1x384 .f32) (harg13 : arg13.IsWhole) (arg14 : Memref sig .tc .vmem S1x1x4224x1 .f32) (harg14 : arg14.IsWhole) (arg15 : Memref sig .tc .vmem S4224x1 .f32) (harg15 : arg15.IsWhole) (arg2 : BitVec 32) (v1 : FVec Ideal S384x128 .bf16) (v3 : FVec Ideal S384x128 .bf16) (v5 : FVec Ideal S1x384 .f32) (v37 : FVec Ideal S384x128 .f32) (v46 : FVec Ideal S384x128 .f32) (v68 : FVec Ideal S1x384 .f32) (v69 : BitVec 32) (c2_i32 : BitVec 32) (v70 : BitVec 32) (v72 : BitVec 32) (v73 : BitVec 1) (X_arg3 : BufTy.Contents (Elt Ideal) arg3.view.ty) (X_arg6 : BufTy.Contents (Elt Ideal) arg6.view.ty) (X_arg8 : BufTy.Contents (Elt Ideal) arg8.view.ty) (X_arg15 : BufTy.Contents (Elt Ideal) arg15.view.ty) (v91 v96 v101 : BitVec 32)
    (f10 : BufTy.Contents (Elt Ideal) arg10.view.ty) (f14 : BufTy.Contents (Elt Ideal) arg14.view.ty)
    (L10 : List (View.Piece (Elt Ideal) S4224x128 .f32)) (L14 : List (View.Piece (Elt Ideal) S1x1x4224x1 .f32))
    (init : FVec Ideal S384x128 .f32 × FVec Ideal S384x128 .f32 × FVec Ideal S1x384 .f32) (n1 n2 n3 n4 : ℕ)
    (s1 s2 s3 s4 : (FVec Ideal S384x128 .f32 × FVec Ideal S384x128 .f32 × FVec Ideal S1x384 .f32) × List (View.Piece (Elt Ideal) S4224x128 .f32) × List (View.Piece (Elt Ideal) S1x1x4224x1 .f32))
    (hs1 : s1 = st_k0_t1 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 X_arg3 X_arg6 X_arg8 X_arg15 (arg10.view.writes (Elt Ideal) f10 L10) (arg14.view.writes (Elt Ideal) f14 L14) init n1) (hn1 : n1 = (k0_t1_loop (grid0.coords t)).trips)
    (hs2 : s2 = st_k0_t2 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 v91 X_arg3 X_arg6 X_arg8 X_arg15 (arg10.view.writes (Elt Ideal) f10 (s1.2.1 ++ L10)) (arg14.view.writes (Elt Ideal) f14 (s1.2.2 ++ L14)) (s1.1.1, s1.1.2.1, s1.1.2.2) n2) (hn2 : n2 = (k0_t2_loop (grid0.coords t)).trips)
    (hs3 : s3 = st_k0_t3 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 v96 X_arg3 X_arg6 X_arg8 X_arg15 (arg10.view.writes (Elt Ideal) f10 (s2.2.1 ++ (s1.2.1 ++ L10))) (arg14.view.writes (Elt Ideal) f14 (s2.2.2 ++ (s1.2.2 ++ L14))) (s2.1.1, s2.1.2.1, s2.1.2.2) n3) (hn3 : n3 = (k0_t3_loop (grid0.coords t)).trips)
    (hs4 : s4 = st_k0_t4 (F := Ideal) 𝒱 c bd (grid0.coords t) arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 v101 X_arg3 X_arg6 X_arg8 X_arg15 (arg10.view.writes (Elt Ideal) f10 (s3.2.1 ++ (s2.2.1 ++ (s1.2.1 ++ L10)))) (arg14.view.writes (Elt Ideal) f14 (s3.2.2 ++ (s2.2.2 ++ (s1.2.2 ++ L14)))) (s3.1.1, s3.1.2.1, s3.1.2.2) n4) (hn4 : n4 = (k0_t4_loop (grid0.coords t)).trips)
    (B : Blk) (hk : ∀ c d, v1 (ix2 c d) = B.k c d) (hv : ∀ c d, v3 (ix2 c d) = B.v c d) (hck : ∀ c, v5 (ix2 0 c) = B.ck c)
    (hq : ∀ r d, arg3.view.read (Elt Ideal) X_arg3 (ix2 r d) = B.q r d)
    (hdy : ∀ r d, arg6.view.read (Elt Ideal) X_arg6 (ix2 r d) = B.dy r d)
    (hl : ∀ r, arg8.view.read (Elt Ideal) X_arg8 (ix4 0 0 r 0) = B.lse r)
    (hd : ∀ r, arg15.view.read (Elt Ideal) X_arg15 (ix2 r 0) = B.dl r)
    (hi : ∀ c, init.2.2 (ix2 0 c) = B.dck (t.val % 11) c 0)
    (r : Fin 4224) :
    arg14.view.read (Elt Ideal) (arg14.view.writes (Elt Ideal) f14 (s4.2.2 ++ (s3.2.2 ++ (s2.2.2 ++ (s1.2.2 ++ L14))))) (ix4 0 0 r 0)
          = if 384 * (t.val % 11 + 1) ≤ r.val
            then arg14.view.read (Elt Ideal) (arg14.view.writes (Elt Ideal) f14 L14) (ix4 0 0 r 0) + B.dcq (t.val % 11) r
            else arg14.view.read (Elt Ideal) (arg14.view.writes (Elt Ideal) f14 L14) (ix4 0 0 r 0) :=
  (loops_value t 𝒱 c bd arg3 harg3 arg4 harg4 arg5 harg5 arg6 harg6 arg7 harg7 arg8 harg8 arg9 harg9 arg10 harg10 arg11 harg11 arg12 harg12 arg13 harg13 arg14 harg14 arg15 harg15 arg2 v1 v3 v5 v37 v46 v68 v69 c2_i32 v70 v72 v73 X_arg3 X_arg6 X_arg8 X_arg15 v91 v96 v101 f10 f14 L10 L14 init n1 n2 n3 n4 s1 s2 s3 s4 hs1 hn1 hs2 hn2 hs3 hn3 hs4 hn4 B hk hv hck hq hdy hl hd hi).2.2.2.2 r

end Cert.KernelIdeal.Gen

end
-- ==== Proof.FirstValue.lean ====
/- What one point leaves, at the first key block -/
module

public import proofs.«01_k».proof.Proof.BodyFirst
public import proofs.«01_k».proof.Proof.BodyLoads
public import proofs.«01_k».proof.Proof.LoopChain

@[expose] public section

set_option maxRecDepth 16384

noncomputable section

namespace Cert.KernelIdeal.Gen

open Idealize.ShloMosaic Idealize.ShloMosaic.TcCoe
open Cert.Fox

/-- The row sums of the gradient against the output. -/
def deltaOf (x3 x4 : Vec Ideal S4224x128 .bf16) (r : Fin 4224) : EReal := ∑ d, x3 (ix2 r d) * x4 (ix2 r d)

/-- The point's blocks as the buffers hold them, `delta` from the gradient and the output. -/
def blkFirst (x0 : Vec Ideal S4224x128 .bf16) (x1 x2 : Vec Ideal S384x128 .bf16) (x3 x4 : Vec Ideal S4224x128 .bf16) (x5 : Vec Ideal S1x1x4224x1 .f32) (x6 : Vec Ideal S1x1x384 .f32) : Blk :=
  Blk.of x0 x1 x2 x3 x5 x6 (deltaOf x3 x4)

/-- One block's row sums. -/
theorem delta_piece {arg6 : Memref sig .tc .vmem S4224x128 .bf16} (harg6 : arg6.IsWhole) {arg7 : Memref sig .tc .vmem S4224x128 .bf16} (harg7 : arg7.IsWhole)
    (x3 x4 : Vec Ideal S4224x128 .bf16) (a : ℕ) (inb : ∀ x : Fin 2, (![a, 0] : Fin 2 → ℕ) x + (![384, 128] : Fin 2 → ℕ) x ≤ (![4224, 128] : Fin 2 → ℕ) x)
    (r : Fin 4224) (x : Fin 384) (h : r.val = a + x.val) :
    k0_pay52 (arg6.view.readAt (Elt Ideal) (Rect.unit (s := S4224x128) ![a, 0] S384x128.size inb).toLoadRect (harg6.unread x3))
      (arg7.view.readAt (Elt Ideal) (Rect.unit (s := S4224x128) ![a, 0] S384x128.size inb).toLoadRect (harg7.unread x4)) (ix2 x 0)
      = deltaOf x3 x4 r := by
  obtain ⟨r, hr⟩ := r
  obtain rfl : r = a + x.val := h
  have e6 : ∀ d, arg6.view.readAt (Elt Ideal) (Rect.unit (s := S4224x128) ![a, 0] S384x128.size inb).toLoadRect (harg6.unread x3) (ix2 x d) = x3 (ix2 ⟨a + x.val, hr⟩ d) :=
    fun d => (readAt_rows arg6.view _ rfl inb x d hr).trans (congrFun (harg6.read_unread (Val := Elt Ideal) x3) _)
  have e7 : ∀ d, arg7.view.readAt (Elt Ideal) (Rect.unit (s := S4224x128) ![a, 0] S384x128.size inb).toLoadRect (harg7.unread x4) (ix2 x d) = x4 (ix2 ⟨a + x.val, hr⟩ d) :=
    fun d => (readAt_rows arg7.view _ rfl inb x d hr).trans (congrFun (harg7.read_unread (Val := Elt Ideal) x4) _)
  unfold k0_pay52 deltaOf
  pointwise
  exact Finset.sum_congr rfl fun d _ => by rw [e6, e7]

/-- The scratch once every block's row sums are stored. -/
theorem delta_read (c : Dev nD) (arg6 : Memref sig .tc .vmem S4224x128 .bf16) (harg6 : arg6.IsWhole) (arg7 : Memref sig .tc .vmem S4224x128 .bf16) (harg7 : arg7.IsWhole)
    (arg15 : Memref sig .tc .vmem S4224x1 .f32) (x3 x4 : Vec Ideal S4224x128 .bf16) (r : Fin 4224) :
    arg15.view.read (Elt Ideal) (arg15.view.writes (Elt Ideal) arg15.view.junk (runFirst.sl.H12_11 c arg6 harg6 arg7 harg7 x3 x4)) (ix2 r 0)
      = deltaOf x3 x4 r := by
  have hr := r.isLt
  unfold runFirst.sl.H12_11
  by_cases h0 : 3840 ≤ r.val
  · refine (read_store_rows arg15.view _ (a := 3840) rfl _ _ _ r 0 ⟨r.val - 3840, by omega⟩ (by show r.val = 3840 + (r.val - 3840); omega)).trans ?_
    exact delta_piece harg6 harg7 x3 x4 3840 inb_S4224x128_S384x128_3840_0 r _ (by show r.val = 3840 + (r.val - 3840); omega)
  refine (read_store_rows_other arg15.view _ (a := 3840) rfl _ _ _ r 0 (.inl (by omega))).trans ?_
  by_cases h1 : 3456 ≤ r.val
  · refine (read_store_rows arg15.view _ (a := 3456) rfl _ _ _ r 0 ⟨r.val - 3456, by omega⟩ (by show r.val = 3456 + (r.val - 3456); omega)).trans ?_
    exact delta_piece harg6 harg7 x3 x4 3456 inb_S4224x128_S384x128_3456_0 r _ (by show r.val = 3456 + (r.val - 3456); omega)
  refine (read_store_rows_other arg15.view _ (a := 3456) rfl _ _ _ r 0 (.inl (by omega))).trans ?_
  by_cases h2 : 3072 ≤ r.val
  · refine (read_store_rows arg15.view _ (a := 3072) rfl _ _ _ r 0 ⟨r.val - 3072, by omega⟩ (by show r.val = 3072 + (r.val - 3072); omega)).trans ?_
    exact delta_piece harg6 harg7 x3 x4 3072 inb_S4224x128_S384x128_3072_0 r _ (by show r.val = 3072 + (r.val - 3072); omega)
  refine (read_store_rows_other arg15.view _ (a := 3072) rfl _ _ _ r 0 (.inl (by omega))).trans ?_
  by_cases h3 : 2688 ≤ r.val
  · refine (read_store_rows arg15.view _ (a := 2688) rfl _ _ _ r 0 ⟨r.val - 2688, by omega⟩ (by show r.val = 2688 + (r.val - 2688); omega)).trans ?_
    exact delta_piece harg6 harg7 x3 x4 2688 inb_S4224x128_S384x128_2688_0 r _ (by show r.val = 2688 + (r.val - 2688); omega)
  refine (read_store_rows_other arg15.view _ (a := 2688) rfl _ _ _ r 0 (.inl (by omega))).trans ?_
  by_cases h4 : 2304 ≤ r.val
  · refine (read_store_rows arg15.view _ (a := 2304) rfl _ _ _ r 0 ⟨r.val - 2304, by omega⟩ (by show r.val = 2304 + (r.val - 2304); omega)).trans ?_
    exact delta_piece harg6 harg7 x3 x4 2304 inb_S4224x128_S384x128_2304_0 r _ (by show r.val = 2304 + (r.val - 2304); omega)
  refine (read_store_rows_other arg15.view _ (a := 2304) rfl _ _ _ r 0 (.inl (by omega))).trans ?_
  by_cases h5 : 1920 ≤ r.val
  · refine (read_store_rows arg15.view _ (a := 1920) rfl _ _ _ r 0 ⟨r.val - 1920, by omega⟩ (by show r.val = 1920 + (r.val - 1920); omega)).trans ?_
    exact delta_piece harg6 harg7 x3 x4 1920 inb_S4224x128_S384x128_1920_0 r _ (by show r.val = 1920 + (r.val - 1920); omega)
  refine (read_store_rows_other arg15.view _ (a := 1920) rfl _ _ _ r 0 (.inl (by omega))).trans ?_
  by_cases h6 : 1536 ≤ r.val
  · refine (read_store_rows arg15.view _ (a := 1536) rfl _ _ _ r 0 ⟨r.val - 1536, by omega⟩ (by show r.val = 1536 + (r.val - 1536); omega)).trans ?_
    exact delta_piece harg6 harg7 x3 x4 1536 inb_S4224x128_S384x128_1536_0 r _ (by show r.val = 1536 + (r.val - 1536); omega)
  refine (read_store_rows_other arg15.view _ (a := 1536) rfl _ _ _ r 0 (.inl (by omega))).trans ?_
  by_cases h7 : 1152 ≤ r.val
  · refine (read_store_rows arg15.view _ (a := 1152) rfl _ _ _ r 0 ⟨r.val - 1152, by omega⟩ (by show r.val = 1152 + (r.val - 1152); omega)).trans ?_
    exact delta_piece harg6 harg7 x3 x4 1152 inb_S4224x128_S384x128_1152_0 r _ (by show r.val = 1152 + (r.val - 1152); omega)
  refine (read_store_rows_other arg15.view _ (a := 1152) rfl _ _ _ r 0 (.inl (by omega))).trans ?_
  by_cases h8 : 768 ≤ r.val
  · refine (read_store_rows arg15.view _ (a := 768) rfl _ _ _ r 0 ⟨r.val - 768, by omega⟩ (by show r.val = 768 + (r.val - 768); omega)).trans ?_
    exact delta_piece harg6 harg7 x3 x4 768 inb_S4224x128_S384x128_768_0 r _ (by show r.val = 768 + (r.val - 768); omega)
  refine (read_store_rows_other arg15.view _ (a := 768) rfl _ _ _ r 0 (.inl (by omega))).trans ?_
  by_cases h9 : 384 ≤ r.val
  · refine (read_store_rows arg15.view _ (a := 384) rfl _ _ _ r 0 ⟨r.val - 384, by omega⟩ (by show r.val = 384 + (r.val - 384); omega)).trans ?_
    exact delta_piece harg6 harg7 x3 x4 384 inb_S4224x128_S384x128_384_0 r _ (by show r.val = 384 + (r.val - 384); omega)
  refine (read_store_rows_other arg15.view _ (a := 384) rfl _ _ _ r 0 (.inl (by omega))).trans ?_
  refine (read_store_rows arg15.view _ (a := 0) rfl _ _ _ r 0 ⟨r.val - 0, by omega⟩ (by show r.val = 0 + (r.val - 0); omega)).trans ?_
  exact delta_piece harg6 harg7 x3 x4 0 inb_S4224x128_S384x128_0_0 r _ (by show r.val = 0 + (r.val - 0); omega)

/-- A buffer filled with zeros reads zero. -/
theorem zero_rows (v : View sig .tc .vmem S4224x128 .f32) (i : S4224x128.Idx) :
    v.read (Elt Ideal) (v.writes (Elt Ideal) v.junk runFirst.sl.H7_1) i = 0 := by
  unfold runFirst.sl.H7_1
  refine (congrFun (View.read_writes_full v v.junk (off := ![0, 0]) _ _ []) i).trans ?_
  exact Ideal.ofBits_zero_f32

theorem zero_col (v : View sig .tc .vmem S1x1x4224x1 .f32) (i : S1x1x4224x1.Idx) :
    v.read (Elt Ideal) (v.writes (Elt Ideal) v.junk runFirst.sl.H11_1) i = 0 := by
  unfold runFirst.sl.H11_1
  refine (congrFun (View.read_writes_full v v.junk (off := ![0, 0, 0, 0]) _ _ []) i).trans ?_
  exact Ideal.ofBits_zero_f32

section

variable (t : Fin grid0.N) (c : Dev nD) (arg3 : Memref sig .tc .vmem S4224x128 .bf16) (harg3 : arg3.IsWhole) (arg4 : Memref sig .tc .vmem S384x128 .bf16) (harg4 : arg4.IsWhole) (arg5 : Memref sig .tc .vmem S384x128 .bf16) (harg5 : arg5.IsWhole) (arg6 : Memref sig .tc .vmem S4224x128 .bf16) (harg6 : arg6.IsWhole) (arg7 : Memref sig .tc .vmem S4224x128 .bf16) (harg7 : arg7.IsWhole) (arg8 : Memref sig .tc .vmem S1x1x4224x1 .f32) (harg8 : arg8.IsWhole) (arg9 : Memref sig .tc .vmem S1x1x384 .f32) (harg9 : arg9.IsWhole) (arg10 : Memref sig .tc .vmem S4224x128 .f32) (harg10 : arg10.IsWhole) (arg11 : Memref sig .tc .vmem S384x128 .bf16) (harg11 : arg11.IsWhole) (arg12 : Memref sig .tc .vmem S384x128 .bf16) (harg12 : arg12.IsWhole) (arg13 : Memref sig .tc .vmem S1x1x384 .f32) (harg13 : arg13.IsWhole) (arg14 : Memref sig .tc .vmem S1x1x4224x1 .f32) (harg14 : arg14.IsWhole) (arg15 : Memref sig .tc .vmem S4224x1 .f32) (harg15 : arg15.IsWhole) (hc0 : firstBlock (grid0.coords t))
  (x0 : Vec Ideal S4224x128 .bf16) (x1 : Vec Ideal S384x128 .bf16) (x2 : Vec Ideal S384x128 .bf16) (x3 : Vec Ideal S4224x128 .bf16) (x4 : Vec Ideal S4224x128 .bf16) (x5 : Vec Ideal S1x1x4224x1 .f32) (x6 : Vec Ideal S1x1x384 .f32)
  (y7 : Vec Ideal S4224x128 .f32) (y8 : Vec Ideal S384x128 .bf16) (y9 : Vec Ideal S384x128 .bf16) (y10 : Vec Ideal S1x1x384 .f32) (y11 : Vec Ideal S1x1x4224x1 .f32) (y12 : Vec Ideal S4224x1 .f32)

/-- The queries' gradient. -/
theorem runFirst_dq (r : Fin 4224) (d : Fin 128) :
    arg10.view.read (Elt Ideal) (runFirst (F := Ideal) c (grid0.coords t) arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 y7 y8 y9 y10 y11 y12).1.1 (ix2 r d) = 0 + (blkFirst x0 x1 x2 x3 x4 x5 x6).dq (t.val % 11) r d := by
  unfold runFirst
  dsimp only
  have hr := r.isLt
  apply Eq.trans
  case h₁ =>
    apply loops_dq t (B := (blkFirst x0 x1 x2 x3 x4 x5 x6))
    case hs4 => with_reducible exact rfl
    case hs3 => with_reducible exact rfl
    case hs2 => with_reducible exact rfl
    case hs1 => with_reducible exact rfl
    case hn4 => with_reducible exact rfl
    case hn3 => with_reducible exact rfl
    case hn2 => with_reducible exact rfl
    case hn1 => with_reducible exact rfl
    case hk => exact fun c' d => load_k harg4 x1 c' d
    case hv => exact fun c' d => load_v harg5 x2 c' d
    case hck => exact fun c' => load_ck harg9 x6 c'
    case hq => exact fun r d => congrFun (harg3.read_unread (Val := Elt Ideal) x0) (ix2 r d)
    case hdy => exact fun r d => congrFun (harg6.read_unread (Val := Elt Ideal) x3) (ix2 r d)
    case hl => exact fun r => congrFun (harg8.read_unread (Val := Elt Ideal) x5) (ix4 0 0 r 0)
    case hd => exact fun r => delta_read c arg6 harg6 arg7 harg7 arg15 x3 x4 r
    case hi => exact fun c' => diag_dck t (blkFirst x0 x1 x2 x3 x4 x5 x6) (fun c' d => load_v harg5 x2 c' d) (fun x d => load_dy harg6 x3 t x d) (fun x c' => load_p harg3 harg4 harg8 harg9 x0 x1 x2 x3 x5 x6 t _ x c') (fun x => (load_dl t _ x).trans ((fun r => delta_read c arg6 harg6 arg7 harg7 arg15 x3 x4 r) (diagRow t x))) c'
  by_cases h1 : 384 * (t.val % 11 + 1) ≤ r.val
  · rw [if_pos h1]
    refine congrArg (· + (blkFirst x0 x1 x2 x3 x4 x5 x6).dq (t.val % 11) r d) ?_
    refine (read_store_rows_other arg10.view _ (off1_at t) _ _ _ r d (.inr (by omega))).trans ?_
    exact zero_rows arg10.view (ix2 r d)
  rw [if_neg h1]
  by_cases h2 : 384 * (t.val % 11) ≤ r.val
  · obtain ⟨x, rfl⟩ : ∃ x, r = diagRow t x := ⟨⟨r.val - 384 * (t.val % 11), by omega⟩, Fin.ext (by show r.val = 384 * (t.val % 11) + (r.val - 384 * (t.val % 11)); omega)⟩
    refine (read_store_rows arg10.view _ (off1_at t) _ _ _ (diagRow t x) d x rfl).trans ?_
    refine (diag_dq t (blkFirst x0 x1 x2 x3 x4 x5 x6) (fun c' d => load_k harg4 x1 c' d) (fun c' d => load_v harg5 x2 c' d) (fun x d => load_dy harg6 x3 t x d) (fun x c' => load_p harg3 harg4 harg8 harg9 x0 x1 x2 x3 x5 x6 t _ x c') (fun x => (load_dl t _ x).trans ((fun r => delta_read c arg6 harg6 arg7 harg7 arg15 x3 x4 r) (diagRow t x))) _ x d).trans ?_
    exact congrArg (· + (blkFirst x0 x1 x2 x3 x4 x5 x6).dq (t.val % 11) (diagRow t x) d) ((load_dq t _ x d).trans (zero_rows arg10.view (ix2 (diagRow t x) d)))
  · rw [(blkFirst x0 x1 x2 x3 x4 x5 x6).dq_before _ (by omega), add_zero]
    refine (read_store_rows_other arg10.view _ (off1_at t) _ _ _ r d (.inl (by omega))).trans ?_
    exact zero_rows arg10.view (ix2 r d)

/-- The gradient of the queries' biases. -/
theorem runFirst_dcq (r : Fin 4224) :
    arg14.view.read (Elt Ideal) (runFirst (F := Ideal) c (grid0.coords t) arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 y7 y8 y9 y10 y11 y12).1.2.2.2.2.1 (ix4 0 0 r 0) = 0 + (blkFirst x0 x1 x2 x3 x4 x5 x6).dcq (t.val % 11) r := by
  unfold runFirst
  dsimp only
  have hr := r.isLt
  apply Eq.trans
  case h₁ =>
    apply loops_dcq t (B := (blkFirst x0 x1 x2 x3 x4 x5 x6))
    case hs4 => with_reducible exact rfl
    case hs3 => with_reducible exact rfl
    case hs2 => with_reducible exact rfl
    case hs1 => with_reducible exact rfl
    case hn4 => with_reducible exact rfl
    case hn3 => with_reducible exact rfl
    case hn2 => with_reducible exact rfl
    case hn1 => with_reducible exact rfl
    case hk => exact fun c' d => load_k harg4 x1 c' d
    case hv => exact fun c' d => load_v harg5 x2 c' d
    case hck => exact fun c' => load_ck harg9 x6 c'
    case hq => exact fun r d => congrFun (harg3.read_unread (Val := Elt Ideal) x0) (ix2 r d)
    case hdy => exact fun r d => congrFun (harg6.read_unread (Val := Elt Ideal) x3) (ix2 r d)
    case hl => exact fun r => congrFun (harg8.read_unread (Val := Elt Ideal) x5) (ix4 0 0 r 0)
    case hd => exact fun r => delta_read c arg6 harg6 arg7 harg7 arg15 x3 x4 r
    case hi => exact fun c' => diag_dck t (blkFirst x0 x1 x2 x3 x4 x5 x6) (fun c' d => load_v harg5 x2 c' d) (fun x d => load_dy harg6 x3 t x d) (fun x c' => load_p harg3 harg4 harg8 harg9 x0 x1 x2 x3 x5 x6 t _ x c') (fun x => (load_dl t _ x).trans ((fun r => delta_read c arg6 harg6 arg7 harg7 arg15 x3 x4 r) (diagRow t x))) c'
  by_cases h1 : 384 * (t.val % 11 + 1) ≤ r.val
  · rw [if_pos h1]
    refine congrArg (· + (blkFirst x0 x1 x2 x3 x4 x5 x6).dcq (t.val % 11) r) ?_
    refine (read_store_col_other arg14.view _ (off2_at t) _ _ _ r (.inr (by omega))).trans ?_
    exact zero_col arg14.view (ix4 0 0 r 0)
  rw [if_neg h1]
  by_cases h2 : 384 * (t.val % 11) ≤ r.val
  · obtain ⟨x, rfl⟩ : ∃ x, r = diagRow t x := ⟨⟨r.val - 384 * (t.val % 11), by omega⟩, Fin.ext (by show r.val = 384 * (t.val % 11) + (r.val - 384 * (t.val % 11)); omega)⟩
    refine (read_store_col arg14.view _ (off2_at t) _ _ _ (diagRow t x) x rfl).trans ?_
    refine (diag_dcq t (blkFirst x0 x1 x2 x3 x4 x5 x6) (fun c' d => load_v harg5 x2 c' d) (fun x d => load_dy harg6 x3 t x d) (fun x c' => load_p harg3 harg4 harg8 harg9 x0 x1 x2 x3 x5 x6 t _ x c') (fun x => (load_dl t _ x).trans ((fun r => delta_read c arg6 harg6 arg7 harg7 arg15 x3 x4 r) (diagRow t x))) _ x).trans ?_
    exact congrArg (· + (blkFirst x0 x1 x2 x3 x4 x5 x6).dcq (t.val % 11) (diagRow t x)) ((load_dcq t _ x).trans (zero_col arg14.view (ix4 0 0 (diagRow t x) 0)))
  · rw [(blkFirst x0 x1 x2 x3 x4 x5 x6).dcq_before _ (by omega), add_zero]
    refine (read_store_col_other arg14.view _ (off2_at t) _ _ _ r (.inl (by omega))).trans ?_
    exact zero_col arg14.view (ix4 0 0 r 0)

/-- The keys' gradient. -/
theorem runFirst_dk (x : Fin 384) (d : Fin 128) :
    arg11.view.read (Elt Ideal) (runFirst (F := Ideal) c (grid0.coords t) arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 y7 y8 y9 y10 y11 y12).1.2.1 (ix2 x d)
      = (blkFirst x0 x1 x2 x3 x4 x5 x6).dk (t.val % 11) (384 * (t.val % 11)) 4224 x d * scale := by
  unfold runFirst
  dsimp only
  refine (read_store_rows arg11.view _ (a := 0) rfl inb_S384x128_S384x128_0_0 _ _ x d x (Nat.zero_add _).symm).trans ?_
  refine (scaled_at _ x d).trans (congrArg (· * scale) ?_)
  apply Eq.trans
  case h₁ =>
    apply loops_dk t (B := (blkFirst x0 x1 x2 x3 x4 x5 x6))
    case hs4 => with_reducible exact rfl
    case hs3 => with_reducible exact rfl
    case hs2 => with_reducible exact rfl
    case hs1 => with_reducible exact rfl
    case hn4 => with_reducible exact rfl
    case hn3 => with_reducible exact rfl
    case hn2 => with_reducible exact rfl
    case hn1 => with_reducible exact rfl
    case hk => exact fun c' d => load_k harg4 x1 c' d
    case hv => exact fun c' d => load_v harg5 x2 c' d
    case hck => exact fun c' => load_ck harg9 x6 c'
    case hq => exact fun r d => congrFun (harg3.read_unread (Val := Elt Ideal) x0) (ix2 r d)
    case hdy => exact fun r d => congrFun (harg6.read_unread (Val := Elt Ideal) x3) (ix2 r d)
    case hl => exact fun r => congrFun (harg8.read_unread (Val := Elt Ideal) x5) (ix4 0 0 r 0)
    case hd => exact fun r => delta_read c arg6 harg6 arg7 harg7 arg15 x3 x4 r
    case hi => exact fun c' => diag_dck t (blkFirst x0 x1 x2 x3 x4 x5 x6) (fun c' d => load_v harg5 x2 c' d) (fun x d => load_dy harg6 x3 t x d) (fun x c' => load_p harg3 harg4 harg8 harg9 x0 x1 x2 x3 x5 x6 t _ x c') (fun x => (load_dl t _ x).trans ((fun r => delta_read c arg6 harg6 arg7 harg7 arg15 x3 x4 r) (diagRow t x))) c'
  rw [← (blkFirst x0 x1 x2 x3 x4 x5 x6).dk_add (t.val % 11) x d (a := 384 * (t.val % 11)) (b := 384 * (t.val % 11 + 1)) (by omega) (by have := Nat.mod_lt t.val (show 0 < 11 by decide); omega)]
  exact congrArg (· + (blkFirst x0 x1 x2 x3 x4 x5 x6).dk (t.val % 11) (384 * (t.val % 11 + 1)) 4224 x d)
    (diag_dk t (blkFirst x0 x1 x2 x3 x4 x5 x6) (fun c' d => load_v harg5 x2 c' d) (fun x d => load_q harg3 x0 t x d) (fun x d => load_dy harg6 x3 t x d) (fun x c' => load_p harg3 harg4 harg8 harg9 x0 x1 x2 x3 x5 x6 t _ x c') (fun x => (load_dl t _ x).trans ((fun r => delta_read c arg6 harg6 arg7 harg7 arg15 x3 x4 r) (diagRow t x))) x d)

/-- The values' gradient. -/
theorem runFirst_dv (x : Fin 384) (d : Fin 128) :
    arg12.view.read (Elt Ideal) (runFirst (F := Ideal) c (grid0.coords t) arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 y7 y8 y9 y10 y11 y12).1.2.2.1 (ix2 x d)
      = (blkFirst x0 x1 x2 x3 x4 x5 x6).dv (t.val % 11) (384 * (t.val % 11)) 4224 x d := by
  unfold runFirst
  dsimp only
  refine (read_store_rows arg12.view _ (a := 0) rfl inb_S384x128_S384x128_0_0 _ _ x d x (Nat.zero_add _).symm).trans ?_
  refine (cast_at _ x d).trans ?_
  apply Eq.trans
  case h₁ =>
    apply loops_dv t (B := (blkFirst x0 x1 x2 x3 x4 x5 x6))
    case hs4 => with_reducible exact rfl
    case hs3 => with_reducible exact rfl
    case hs2 => with_reducible exact rfl
    case hs1 => with_reducible exact rfl
    case hn4 => with_reducible exact rfl
    case hn3 => with_reducible exact rfl
    case hn2 => with_reducible exact rfl
    case hn1 => with_reducible exact rfl
    case hk => exact fun c' d => load_k harg4 x1 c' d
    case hv => exact fun c' d => load_v harg5 x2 c' d
    case hck => exact fun c' => load_ck harg9 x6 c'
    case hq => exact fun r d => congrFun (harg3.read_unread (Val := Elt Ideal) x0) (ix2 r d)
    case hdy => exact fun r d => congrFun (harg6.read_unread (Val := Elt Ideal) x3) (ix2 r d)
    case hl => exact fun r => congrFun (harg8.read_unread (Val := Elt Ideal) x5) (ix4 0 0 r 0)
    case hd => exact fun r => delta_read c arg6 harg6 arg7 harg7 arg15 x3 x4 r
    case hi => exact fun c' => diag_dck t (blkFirst x0 x1 x2 x3 x4 x5 x6) (fun c' d => load_v harg5 x2 c' d) (fun x d => load_dy harg6 x3 t x d) (fun x c' => load_p harg3 harg4 harg8 harg9 x0 x1 x2 x3 x5 x6 t _ x c') (fun x => (load_dl t _ x).trans ((fun r => delta_read c arg6 harg6 arg7 harg7 arg15 x3 x4 r) (diagRow t x))) c'
  rw [← (blkFirst x0 x1 x2 x3 x4 x5 x6).dv_add (t.val % 11) x d (a := 384 * (t.val % 11)) (b := 384 * (t.val % 11 + 1)) (by omega) (by have := Nat.mod_lt t.val (show 0 < 11 by decide); omega)]
  exact congrArg (· + (blkFirst x0 x1 x2 x3 x4 x5 x6).dv (t.val % 11) (384 * (t.val % 11 + 1)) 4224 x d)
    (diag_dv t (blkFirst x0 x1 x2 x3 x4 x5 x6) (fun x d => load_dy harg6 x3 t x d) (fun x c' => load_p harg3 harg4 harg8 harg9 x0 x1 x2 x3 x5 x6 t _ x c') _ (fun x c' => cast_p x c') x d)

/-- The gradient of the keys' biases. -/
theorem runFirst_dck (x : Fin 384) :
    arg13.view.read (Elt Ideal) (runFirst (F := Ideal) c (grid0.coords t) arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 y7 y8 y9 y10 y11 y12).1.2.2.2.1 (ix3 0 0 x) = (blkFirst x0 x1 x2 x3 x4 x5 x6).dckAll (t.val % 11) x := by
  unfold runFirst
  dsimp only
  refine (read_store_lane arg13.view _ inb_S1x1x384_S1x1x384_0_0_0 _ _ x).trans ?_
  refine (lane_at _ x).trans ?_
  apply loops_dck t (B := (blkFirst x0 x1 x2 x3 x4 x5 x6))
  case hs4 => with_reducible exact rfl
  case hs3 => with_reducible exact rfl
  case hs2 => with_reducible exact rfl
  case hs1 => with_reducible exact rfl
  case hn4 => with_reducible exact rfl
  case hn3 => with_reducible exact rfl
  case hn2 => with_reducible exact rfl
  case hn1 => with_reducible exact rfl
  case hk => exact fun c' d => load_k harg4 x1 c' d
  case hv => exact fun c' d => load_v harg5 x2 c' d
  case hck => exact fun c' => load_ck harg9 x6 c'
  case hq => exact fun r d => congrFun (harg3.read_unread (Val := Elt Ideal) x0) (ix2 r d)
  case hdy => exact fun r d => congrFun (harg6.read_unread (Val := Elt Ideal) x3) (ix2 r d)
  case hl => exact fun r => congrFun (harg8.read_unread (Val := Elt Ideal) x5) (ix4 0 0 r 0)
  case hd => exact fun r => delta_read c arg6 harg6 arg7 harg7 arg15 x3 x4 r
  case hi => exact fun c' => diag_dck t (blkFirst x0 x1 x2 x3 x4 x5 x6) (fun c' d => load_v harg5 x2 c' d) (fun x d => load_dy harg6 x3 t x d) (fun x c' => load_p harg3 harg4 harg8 harg9 x0 x1 x2 x3 x5 x6 t _ x c') (fun x => (load_dl t _ x).trans ((fun r => delta_read c arg6 harg6 arg7 harg7 arg15 x3 x4 r) (diagRow t x))) c'

/-- The row sums, which the later key blocks read. -/
theorem runFirst_delta (r : Fin 4224) :
    arg15.view.read (Elt Ideal) (runFirst (F := Ideal) c (grid0.coords t) arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 y7 y8 y9 y10 y11 y12).1.2.2.2.2.2 (ix2 r 0) = deltaOf x3 x4 r := by
  unfold runFirst
  dsimp only
  exact delta_read c arg6 harg6 arg7 harg7 arg15 x3 x4 r

end

end Cert.KernelIdeal.Gen

end
-- ==== Proof.BodyLater.lean ====
/- One point's run, at a later key block -/

module

public import proofs.«01_k».proof.Proof.BodyFirst
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body leaves in the buffers it stores into, when the key block is not the first, together with the proof that it
    does: from the inputs' buffers at `x0` … `x6` and the others at `y7` … `y12` the body ends with the
    inputs as they were and the others at the contents named. -/
noncomputable def runLater (c : Dev nD) (i : grid0.Coords) (arg3 : Memref sig .tc .vmem S4224x128 .bf16) (harg3 : arg3.IsWhole) (arg4 : Memref sig .tc .vmem S384x128 .bf16) (harg4 : arg4.IsWhole) (arg5 : Memref sig .tc .vmem S384x128 .bf16) (harg5 : arg5.IsWhole) (arg6 : Memref sig .tc .vmem S4224x128 .bf16) (harg6 : arg6.IsWhole) (arg7 : Memref sig .tc .vmem S4224x128 .bf16) (harg7 : arg7.IsWhole) (arg8 : Memref sig .tc .vmem S1x1x4224x1 .f32) (harg8 : arg8.IsWhole) (arg9 : Memref sig .tc .vmem S1x1x384 .f32) (harg9 : arg9.IsWhole) (arg10 : Memref sig .tc .vmem S4224x128 .f32) (harg10 : arg10.IsWhole) (arg11 : Memref sig .tc .vmem S384x128 .bf16) (harg11 : arg11.IsWhole) (arg12 : Memref sig .tc .vmem S384x128 .bf16) (harg12 : arg12.IsWhole) (arg13 : Memref sig .tc .vmem S1x1x384 .f32) (harg13 : arg13.IsWhole) (arg14 : Memref sig .tc .vmem S1x1x4224x1 .f32) (harg14 : arg14.IsWhole) (arg15 : Memref sig .tc .vmem S4224x1 .f32) (harg15 : arg15.IsWhole) (hc0 : ¬ firstBlock i)
    (x0 : Vec F S4224x128 .bf16) (x1 : Vec F S384x128 .bf16) (x2 : Vec F S384x128 .bf16) (x3 : Vec F S4224x128 .bf16) (x4 : Vec F S4224x128 .bf16) (x5 : Vec F S1x1x4224x1 .f32) (x6 : Vec F S1x1x384 .f32)
    (y7 : Vec F S4224x128 .f32) (y8 : Vec F S384x128 .bf16) (y9 : Vec F S384x128 .bf16) (y10 : Vec F S1x1x384 .f32) (y11 : Vec F S1x1x4224x1 .f32) (y12 : Vec F S4224x1 .f32) :
    { W : Buf (Elt F) (arg10.view.loc (c : Thread nD τ)) × Buf (Elt F) (arg11.view.loc (c : Thread nD τ)) × Buf (Elt F) (arg12.view.loc (c : Thread nD τ)) × Buf (Elt F) (arg13.view.loc (c : Thread nD τ)) × Buf (Elt F) (arg14.view.loc (c : Thread nD τ)) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare y10 ∗ owns (c : Thread nD τ) arg14 fullShare y11 ∗ owns (c : Thread nD τ) arg15 fullShare y12
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg10.view.loc (c : Thread nD τ) ↦[arg10.view.set]{fullShare} W.1) ∗ (arg11.view.loc (c : Thread nD τ) ↦[arg11.view.set]{fullShare} W.2.1) ∗ (arg12.view.loc (c : Thread nD τ) ↦[arg12.view.set]{fullShare} W.2.2.1) ∗ (arg13.view.loc (c : Thread nD τ) ↦[arg13.view.set]{fullShare} W.2.2.2.1) ∗ (arg14.view.loc (c : Thread nD τ) ↦[arg14.view.set]{fullShare} W.2.2.2.2) ∗ owns (c : Thread nD τ) arg15 fullShare y12) -∗ K ⟨⟩))
          ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13 arg14 harg14 arg15 harg15) K } := by
  refine ⟨⟨?_, ?_, ?_, ?_, ?_⟩, fun E K => ?run⟩
  case run =>
    simp only [cc0_fox_bwd_eq_skeleton]; unfold cc0_fox_bwd_skel
    simp only [k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexact H7
    isplitl [H8]; · iexact H8
    isplitl [H9]; · iexact H9
    isplitl [H10]; · iexact H10
    isplitl [H11]; · iexact H11
    iexists _; isplitr; · ipureintro; exact harg15.read_unread _
    iexact H12

end Cert.KernelIdeal.Gen

end
-- ==== Proof.LaterValue.lean ====
/- What one point leaves, at a later key block -/
module

public import proofs.«01_k».proof.Proof.BodyLater
public import proofs.«01_k».proof.Proof.BodyLoads
public import proofs.«01_k».proof.Proof.LoopChain

@[expose] public section

set_option maxRecDepth 16384

noncomputable section

namespace Cert.KernelIdeal.Gen

open Idealize.ShloMosaic Idealize.ShloMosaic.TcCoe
open Cert.Fox

/-- The point's blocks as the buffers hold them, `delta` from the scratch. -/
def blkLater (x0 : Vec Ideal S4224x128 .bf16) (x1 x2 : Vec Ideal S384x128 .bf16) (x3 : Vec Ideal S4224x128 .bf16) (x5 : Vec Ideal S1x1x4224x1 .f32) (x6 : Vec Ideal S1x1x384 .f32) (y12 : Vec Ideal S4224x1 .f32) : Blk :=
  Blk.of x0 x1 x2 x3 x5 x6 (fun r => y12 (ix2 r 0))

section

variable (t : Fin grid0.N) (c : Dev nD) (arg3 : Memref sig .tc .vmem S4224x128 .bf16) (harg3 : arg3.IsWhole) (arg4 : Memref sig .tc .vmem S384x128 .bf16) (harg4 : arg4.IsWhole) (arg5 : Memref sig .tc .vmem S384x128 .bf16) (harg5 : arg5.IsWhole) (arg6 : Memref sig .tc .vmem S4224x128 .bf16) (harg6 : arg6.IsWhole) (arg7 : Memref sig .tc .vmem S4224x128 .bf16) (harg7 : arg7.IsWhole) (arg8 : Memref sig .tc .vmem S1x1x4224x1 .f32) (harg8 : arg8.IsWhole) (arg9 : Memref sig .tc .vmem S1x1x384 .f32) (harg9 : arg9.IsWhole) (arg10 : Memref sig .tc .vmem S4224x128 .f32) (harg10 : arg10.IsWhole) (arg11 : Memref sig .tc .vmem S384x128 .bf16) (harg11 : arg11.IsWhole) (arg12 : Memref sig .tc .vmem S384x128 .bf16) (harg12 : arg12.IsWhole) (arg13 : Memref sig .tc .vmem S1x1x384 .f32) (harg13 : arg13.IsWhole) (arg14 : Memref sig .tc .vmem S1x1x4224x1 .f32) (harg14 : arg14.IsWhole) (arg15 : Memref sig .tc .vmem S4224x1 .f32) (harg15 : arg15.IsWhole) (hc0 : ¬ firstBlock (grid0.coords t))
  (x0 : Vec Ideal S4224x128 .bf16) (x1 : Vec Ideal S384x128 .bf16) (x2 : Vec Ideal S384x128 .bf16) (x3 : Vec Ideal S4224x128 .bf16) (x4 : Vec Ideal S4224x128 .bf16) (x5 : Vec Ideal S1x1x4224x1 .f32) (x6 : Vec Ideal S1x1x384 .f32)
  (y7 : Vec Ideal S4224x128 .f32) (y8 : Vec Ideal S384x128 .bf16) (y9 : Vec Ideal S384x128 .bf16) (y10 : Vec Ideal S1x1x384 .f32) (y11 : Vec Ideal S1x1x4224x1 .f32) (y12 : Vec Ideal S4224x1 .f32)

/-- The queries' gradient. -/
theorem runLater_dq (r : Fin 4224) (d : Fin 128) :
    arg10.view.read (Elt Ideal) (runLater (F := Ideal) c (grid0.coords t) arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 y7 y8 y9 y10 y11 y12).1.1 (ix2 r d) = y7 (ix2 r d) + (blkLater x0 x1 x2 x3 x5 x6 y12).dq (t.val % 11) r d := by
  unfold runLater
  dsimp only
  have hr := r.isLt
  apply Eq.trans
  case h₁ =>
    apply loops_dq t (B := (blkLater x0 x1 x2 x3 x5 x6 y12))
    case hs4 => with_reducible exact rfl
    case hs3 => with_reducible exact rfl
    case hs2 => with_reducible exact rfl
    case hs1 => with_reducible exact rfl
    case hn4 => with_reducible exact rfl
    case hn3 => with_reducible exact rfl
    case hn2 => with_reducible exact rfl
    case hn1 => with_reducible exact rfl
    case hk => exact fun c' d => load_k harg4 x1 c' d
    case hv => exact fun c' d => load_v harg5 x2 c' d
    case hck => exact fun c' => load_ck harg9 x6 c'
    case hq => exact fun r d => congrFun (harg3.read_unread (Val := Elt Ideal) x0) (ix2 r d)
    case hdy => exact fun r d => congrFun (harg6.read_unread (Val := Elt Ideal) x3) (ix2 r d)
    case hl => exact fun r => congrFun (harg8.read_unread (Val := Elt Ideal) x5) (ix4 0 0 r 0)
    case hd => exact fun r => congrFun (harg15.read_unread (Val := Elt Ideal) y12) (ix2 r 0)
    case hi => exact fun c' => diag_dck t (blkLater x0 x1 x2 x3 x5 x6 y12) (fun c' d => load_v harg5 x2 c' d) (fun x d => load_dy harg6 x3 t x d) (fun x c' => load_p harg3 harg4 harg8 harg9 x0 x1 x2 x3 x5 x6 t _ x c') (fun x => (load_dl t _ x).trans ((fun r => congrFun (harg15.read_unread (Val := Elt Ideal) y12) (ix2 r 0)) (diagRow t x))) c'
  by_cases h1 : 384 * (t.val % 11 + 1) ≤ r.val
  · rw [if_pos h1]
    refine congrArg (· + (blkLater x0 x1 x2 x3 x5 x6 y12).dq (t.val % 11) r d) ?_
    refine (read_store_rows_other arg10.view _ (off1_at t) _ _ _ r d (.inr (by omega))).trans ?_
    exact congrFun (harg10.read_unread (Val := Elt Ideal) y7) (ix2 r d)
  rw [if_neg h1]
  by_cases h2 : 384 * (t.val % 11) ≤ r.val
  · obtain ⟨x, rfl⟩ : ∃ x, r = diagRow t x := ⟨⟨r.val - 384 * (t.val % 11), by omega⟩, Fin.ext (by show r.val = 384 * (t.val % 11) + (r.val - 384 * (t.val % 11)); omega)⟩
    refine (read_store_rows arg10.view _ (off1_at t) _ _ _ (diagRow t x) d x rfl).trans ?_
    refine (diag_dq t (blkLater x0 x1 x2 x3 x5 x6 y12) (fun c' d => load_k harg4 x1 c' d) (fun c' d => load_v harg5 x2 c' d) (fun x d => load_dy harg6 x3 t x d) (fun x c' => load_p harg3 harg4 harg8 harg9 x0 x1 x2 x3 x5 x6 t _ x c') (fun x => (load_dl t _ x).trans ((fun r => congrFun (harg15.read_unread (Val := Elt Ideal) y12) (ix2 r 0)) (diagRow t x))) _ x d).trans ?_
    exact congrArg (· + (blkLater x0 x1 x2 x3 x5 x6 y12).dq (t.val % 11) (diagRow t x) d) ((load_dq t _ x d).trans (congrFun (harg10.read_unread (Val := Elt Ideal) y7) (ix2 (diagRow t x) d)))
  · rw [(blkLater x0 x1 x2 x3 x5 x6 y12).dq_before _ (by omega), add_zero]
    refine (read_store_rows_other arg10.view _ (off1_at t) _ _ _ r d (.inl (by omega))).trans ?_
    exact congrFun (harg10.read_unread (Val := Elt Ideal) y7) (ix2 r d)

/-- The gradient of the queries' biases. -/
theorem runLater_dcq (r : Fin 4224) :
    arg14.view.read (Elt Ideal) (runLater (F := Ideal) c (grid0.coords t) arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 y7 y8 y9 y10 y11 y12).1.2.2.2.2 (ix4 0 0 r 0) = y11 (ix4 0 0 r 0) + (blkLater x0 x1 x2 x3 x5 x6 y12).dcq (t.val % 11) r := by
  unfold runLater
  dsimp only
  have hr := r.isLt
  apply Eq.trans
  case h₁ =>
    apply loops_dcq t (B := (blkLater x0 x1 x2 x3 x5 x6 y12))
    case hs4 => with_reducible exact rfl
    case hs3 => with_reducible exact rfl
    case hs2 => with_reducible exact rfl
    case hs1 => with_reducible exact rfl
    case hn4 => with_reducible exact rfl
    case hn3 => with_reducible exact rfl
    case hn2 => with_reducible exact rfl
    case hn1 => with_reducible exact rfl
    case hk => exact fun c' d => load_k harg4 x1 c' d
    case hv => exact fun c' d => load_v harg5 x2 c' d
    case hck => exact fun c' => load_ck harg9 x6 c'
    case hq => exact fun r d => congrFun (harg3.read_unread (Val := Elt Ideal) x0) (ix2 r d)
    case hdy => exact fun r d => congrFun (harg6.read_unread (Val := Elt Ideal) x3) (ix2 r d)
    case hl => exact fun r => congrFun (harg8.read_unread (Val := Elt Ideal) x5) (ix4 0 0 r 0)
    case hd => exact fun r => congrFun (harg15.read_unread (Val := Elt Ideal) y12) (ix2 r 0)
    case hi => exact fun c' => diag_dck t (blkLater x0 x1 x2 x3 x5 x6 y12) (fun c' d => load_v harg5 x2 c' d) (fun x d => load_dy harg6 x3 t x d) (fun x c' => load_p harg3 harg4 harg8 harg9 x0 x1 x2 x3 x5 x6 t _ x c') (fun x => (load_dl t _ x).trans ((fun r => congrFun (harg15.read_unread (Val := Elt Ideal) y12) (ix2 r 0)) (diagRow t x))) c'
  by_cases h1 : 384 * (t.val % 11 + 1) ≤ r.val
  · rw [if_pos h1]
    refine congrArg (· + (blkLater x0 x1 x2 x3 x5 x6 y12).dcq (t.val % 11) r) ?_
    refine (read_store_col_other arg14.view _ (off2_at t) _ _ _ r (.inr (by omega))).trans ?_
    exact congrFun (harg14.read_unread (Val := Elt Ideal) y11) (ix4 0 0 r 0)
  rw [if_neg h1]
  by_cases h2 : 384 * (t.val % 11) ≤ r.val
  · obtain ⟨x, rfl⟩ : ∃ x, r = diagRow t x := ⟨⟨r.val - 384 * (t.val % 11), by omega⟩, Fin.ext (by show r.val = 384 * (t.val % 11) + (r.val - 384 * (t.val % 11)); omega)⟩
    refine (read_store_col arg14.view _ (off2_at t) _ _ _ (diagRow t x) x rfl).trans ?_
    refine (diag_dcq t (blkLater x0 x1 x2 x3 x5 x6 y12) (fun c' d => load_v harg5 x2 c' d) (fun x d => load_dy harg6 x3 t x d) (fun x c' => load_p harg3 harg4 harg8 harg9 x0 x1 x2 x3 x5 x6 t _ x c') (fun x => (load_dl t _ x).trans ((fun r => congrFun (harg15.read_unread (Val := Elt Ideal) y12) (ix2 r 0)) (diagRow t x))) _ x).trans ?_
    exact congrArg (· + (blkLater x0 x1 x2 x3 x5 x6 y12).dcq (t.val % 11) (diagRow t x)) ((load_dcq t _ x).trans (congrFun (harg14.read_unread (Val := Elt Ideal) y11) (ix4 0 0 (diagRow t x) 0)))
  · rw [(blkLater x0 x1 x2 x3 x5 x6 y12).dcq_before _ (by omega), add_zero]
    refine (read_store_col_other arg14.view _ (off2_at t) _ _ _ r (.inl (by omega))).trans ?_
    exact congrFun (harg14.read_unread (Val := Elt Ideal) y11) (ix4 0 0 r 0)

/-- The keys' gradient. -/
theorem runLater_dk (x : Fin 384) (d : Fin 128) :
    arg11.view.read (Elt Ideal) (runLater (F := Ideal) c (grid0.coords t) arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 y7 y8 y9 y10 y11 y12).1.2.1 (ix2 x d)
      = (blkLater x0 x1 x2 x3 x5 x6 y12).dk (t.val % 11) (384 * (t.val % 11)) 4224 x d * scale := by
  unfold runLater
  dsimp only
  refine (read_store_rows arg11.view _ (a := 0) rfl inb_S384x128_S384x128_0_0 _ _ x d x (Nat.zero_add _).symm).trans ?_
  refine (scaled_at _ x d).trans (congrArg (· * scale) ?_)
  apply Eq.trans
  case h₁ =>
    apply loops_dk t (B := (blkLater x0 x1 x2 x3 x5 x6 y12))
    case hs4 => with_reducible exact rfl
    case hs3 => with_reducible exact rfl
    case hs2 => with_reducible exact rfl
    case hs1 => with_reducible exact rfl
    case hn4 => with_reducible exact rfl
    case hn3 => with_reducible exact rfl
    case hn2 => with_reducible exact rfl
    case hn1 => with_reducible exact rfl
    case hk => exact fun c' d => load_k harg4 x1 c' d
    case hv => exact fun c' d => load_v harg5 x2 c' d
    case hck => exact fun c' => load_ck harg9 x6 c'
    case hq => exact fun r d => congrFun (harg3.read_unread (Val := Elt Ideal) x0) (ix2 r d)
    case hdy => exact fun r d => congrFun (harg6.read_unread (Val := Elt Ideal) x3) (ix2 r d)
    case hl => exact fun r => congrFun (harg8.read_unread (Val := Elt Ideal) x5) (ix4 0 0 r 0)
    case hd => exact fun r => congrFun (harg15.read_unread (Val := Elt Ideal) y12) (ix2 r 0)
    case hi => exact fun c' => diag_dck t (blkLater x0 x1 x2 x3 x5 x6 y12) (fun c' d => load_v harg5 x2 c' d) (fun x d => load_dy harg6 x3 t x d) (fun x c' => load_p harg3 harg4 harg8 harg9 x0 x1 x2 x3 x5 x6 t _ x c') (fun x => (load_dl t _ x).trans ((fun r => congrFun (harg15.read_unread (Val := Elt Ideal) y12) (ix2 r 0)) (diagRow t x))) c'
  rw [← (blkLater x0 x1 x2 x3 x5 x6 y12).dk_add (t.val % 11) x d (a := 384 * (t.val % 11)) (b := 384 * (t.val % 11 + 1)) (by omega) (by have := Nat.mod_lt t.val (show 0 < 11 by decide); omega)]
  exact congrArg (· + (blkLater x0 x1 x2 x3 x5 x6 y12).dk (t.val % 11) (384 * (t.val % 11 + 1)) 4224 x d)
    (diag_dk t (blkLater x0 x1 x2 x3 x5 x6 y12) (fun c' d => load_v harg5 x2 c' d) (fun x d => load_q harg3 x0 t x d) (fun x d => load_dy harg6 x3 t x d) (fun x c' => load_p harg3 harg4 harg8 harg9 x0 x1 x2 x3 x5 x6 t _ x c') (fun x => (load_dl t _ x).trans ((fun r => congrFun (harg15.read_unread (Val := Elt Ideal) y12) (ix2 r 0)) (diagRow t x))) x d)

/-- The values' gradient. -/
theorem runLater_dv (x : Fin 384) (d : Fin 128) :
    arg12.view.read (Elt Ideal) (runLater (F := Ideal) c (grid0.coords t) arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 y7 y8 y9 y10 y11 y12).1.2.2.1 (ix2 x d)
      = (blkLater x0 x1 x2 x3 x5 x6 y12).dv (t.val % 11) (384 * (t.val % 11)) 4224 x d := by
  unfold runLater
  dsimp only
  refine (read_store_rows arg12.view _ (a := 0) rfl inb_S384x128_S384x128_0_0 _ _ x d x (Nat.zero_add _).symm).trans ?_
  refine (cast_at _ x d).trans ?_
  apply Eq.trans
  case h₁ =>
    apply loops_dv t (B := (blkLater x0 x1 x2 x3 x5 x6 y12))
    case hs4 => with_reducible exact rfl
    case hs3 => with_reducible exact rfl
    case hs2 => with_reducible exact rfl
    case hs1 => with_reducible exact rfl
    case hn4 => with_reducible exact rfl
    case hn3 => with_reducible exact rfl
    case hn2 => with_reducible exact rfl
    case hn1 => with_reducible exact rfl
    case hk => exact fun c' d => load_k harg4 x1 c' d
    case hv => exact fun c' d => load_v harg5 x2 c' d
    case hck => exact fun c' => load_ck harg9 x6 c'
    case hq => exact fun r d => congrFun (harg3.read_unread (Val := Elt Ideal) x0) (ix2 r d)
    case hdy => exact fun r d => congrFun (harg6.read_unread (Val := Elt Ideal) x3) (ix2 r d)
    case hl => exact fun r => congrFun (harg8.read_unread (Val := Elt Ideal) x5) (ix4 0 0 r 0)
    case hd => exact fun r => congrFun (harg15.read_unread (Val := Elt Ideal) y12) (ix2 r 0)
    case hi => exact fun c' => diag_dck t (blkLater x0 x1 x2 x3 x5 x6 y12) (fun c' d => load_v harg5 x2 c' d) (fun x d => load_dy harg6 x3 t x d) (fun x c' => load_p harg3 harg4 harg8 harg9 x0 x1 x2 x3 x5 x6 t _ x c') (fun x => (load_dl t _ x).trans ((fun r => congrFun (harg15.read_unread (Val := Elt Ideal) y12) (ix2 r 0)) (diagRow t x))) c'
  rw [← (blkLater x0 x1 x2 x3 x5 x6 y12).dv_add (t.val % 11) x d (a := 384 * (t.val % 11)) (b := 384 * (t.val % 11 + 1)) (by omega) (by have := Nat.mod_lt t.val (show 0 < 11 by decide); omega)]
  exact congrArg (· + (blkLater x0 x1 x2 x3 x5 x6 y12).dv (t.val % 11) (384 * (t.val % 11 + 1)) 4224 x d)
    (diag_dv t (blkLater x0 x1 x2 x3 x5 x6 y12) (fun x d => load_dy harg6 x3 t x d) (fun x c' => load_p harg3 harg4 harg8 harg9 x0 x1 x2 x3 x5 x6 t _ x c') _ (fun x c' => cast_p x c') x d)

/-- The gradient of the keys' biases. -/
theorem runLater_dck (x : Fin 384) :
    arg13.view.read (Elt Ideal) (runLater (F := Ideal) c (grid0.coords t) arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 y7 y8 y9 y10 y11 y12).1.2.2.2.1 (ix3 0 0 x) = (blkLater x0 x1 x2 x3 x5 x6 y12).dckAll (t.val % 11) x := by
  unfold runLater
  dsimp only
  refine (read_store_lane arg13.view _ inb_S1x1x384_S1x1x384_0_0_0 _ _ x).trans ?_
  refine (lane_at _ x).trans ?_
  apply loops_dck t (B := (blkLater x0 x1 x2 x3 x5 x6 y12))
  case hs4 => with_reducible exact rfl
  case hs3 => with_reducible exact rfl
  case hs2 => with_reducible exact rfl
  case hs1 => with_reducible exact rfl
  case hn4 => with_reducible exact rfl
  case hn3 => with_reducible exact rfl
  case hn2 => with_reducible exact rfl
  case hn1 => with_reducible exact rfl
  case hk => exact fun c' d => load_k harg4 x1 c' d
  case hv => exact fun c' d => load_v harg5 x2 c' d
  case hck => exact fun c' => load_ck harg9 x6 c'
  case hq => exact fun r d => congrFun (harg3.read_unread (Val := Elt Ideal) x0) (ix2 r d)
  case hdy => exact fun r d => congrFun (harg6.read_unread (Val := Elt Ideal) x3) (ix2 r d)
  case hl => exact fun r => congrFun (harg8.read_unread (Val := Elt Ideal) x5) (ix4 0 0 r 0)
  case hd => exact fun r => congrFun (harg15.read_unread (Val := Elt Ideal) y12) (ix2 r 0)
  case hi => exact fun c' => diag_dck t (blkLater x0 x1 x2 x3 x5 x6 y12) (fun c' d => load_v harg5 x2 c' d) (fun x d => load_dy harg6 x3 t x d) (fun x c' => load_p harg3 harg4 harg8 harg9 x0 x1 x2 x3 x5 x6 t _ x c') (fun x => (load_dl t _ x).trans ((fun r => congrFun (harg15.read_unread (Val := Elt Ideal) y12) (ix2 r 0)) (diagRow t x))) c'

end

end Cert.KernelIdeal.Gen

end
-- ==== Proof.PointValues.lean ====
/- What every point leaves: each output as a sum over the key blocks so far, in the buffers the launch uses. -/
module

public import proofs.«01_k».proof.Proof.FirstValue
public import proofs.«01_k».proof.Proof.LaterValue

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Fox

local notation "𝕄" => MT nD τ sig Unit (Elt Ideal) ℕ (UR sig nD τ) ℕ

variable (m : (ℓ : Loc nD τ sig) → Buf (Elt Ideal) ℓ) (ρ : Dev nD → PrngReg)

/-! ## What the points leave -/

/-- The point of `t`'s head on key block `k`. -/
def pt (t : Fin cfg0.N) (k : ℕ) : Fin cfg0.N := ⟨(t.val / 11 * 11 + k) % 176, Nat.lt_of_lt_of_eq (Nat.mod_lt _ (by decide)) N_0.symm⟩

theorem pt_self (t : Fin cfg0.N) : pt t (t.val % 11) = t :=
  Fin.ext (by have : t.val < 176 := Nat.lt_of_lt_of_eq t.isLt N_0; show (t.val / 11 * 11 + t.val % 11) % 176 = t.val; omega)

theorem pt_first (t : Fin cfg0.N) (h0 : t.val % 11 = 0) : pt t 0 = t :=
  (congrArg (pt t) h0.symm).trans (pt_self t)

theorem pt_congr (t u : Fin cfg0.N) (h : u.val / 11 = t.val / 11) (k : ℕ) : pt u k = pt t k :=
  Fin.ext (by show (u.val / 11 * 11 + k) % 176 = (t.val / 11 * 11 + k) % 176; rw [h])

/-- The head's `delta`, from the point on its first key block. -/
def deltaAt (c : Dev nD) (t : Fin cfg0.N) : Fin 4224 → EReal := deltaOf (iblk m c 3 (pt t 0)) (iblk m c 4 (pt t 0))

/-- The blocks point `t` computes on. -/
def blkAt (c : Dev nD) (t : Fin cfg0.N) : Blk :=
  Blk.of (iblk m c 0 t) (iblk m c 1 t) (iblk m c 2 t) (iblk m c 3 t) (iblk m c 5 t) (iblk m c 6 t) (deltaAt m c t)

/-- What the outputs' buffers hold after point `t`. -/
def dqAt (c : Dev nD) (t : Fin cfg0.N) : Vec Ideal S4224x128 .f32 :=
  fun i => ∑ k ∈ Finset.range (t.val % 11 + 1), (blkAt m c (pt t k)).dq k (i 0) (i 1)
def dkAt (c : Dev nD) (t : Fin cfg0.N) : Vec Ideal S384x128 .bf16 :=
  fun i => (blkAt m c t).dk (t.val % 11) (384 * (t.val % 11)) 4224 (i 0) (i 1) * scale
def dvAt (c : Dev nD) (t : Fin cfg0.N) : Vec Ideal S384x128 .bf16 :=
  fun i => (blkAt m c t).dv (t.val % 11) (384 * (t.val % 11)) 4224 (i 0) (i 1)
def dckAt (c : Dev nD) (t : Fin cfg0.N) : Vec Ideal S1x1x384 .f32 :=
  fun i => (blkAt m c t).dckAll (t.val % 11) (i 2)
def dcqAt (c : Dev nD) (t : Fin cfg0.N) : Vec Ideal S1x1x4224x1 .f32 :=
  fun i => ∑ k ∈ Finset.range (t.val % 11 + 1), (blkAt m c (pt t k)).dcq k (i 2)

/-- What the buffer that keeps `delta` holds after point `t`. -/
def keptAt (c : Dev nD) (t : Fin cfg0.N) : Vec Ideal S4224x1 .f32 := fun i => deltaAt m c t (i 0)

theorem blk_first (c : Dev nD) (t : Fin cfg0.N) (h0 : t.val % 11 = 0) :
    blkFirst (iblk m c 0 t) (iblk m c 1 t) (iblk m c 2 t) (iblk m c 3 t) (iblk m c 4 t) (iblk m c 5 t) (iblk m c 6 t) = blkAt m c t := by
  unfold blkFirst blkAt deltaAt; rw [pt_first t h0]

/-- The point before, on the same head. -/
abbrev prev (t : Fin cfg0.N) : Fin cfg0.N := ⟨t.val - 1, Nat.lt_of_le_of_lt (Nat.sub_le _ _) t.isLt⟩

theorem pt_prev (t : Fin cfg0.N) (h0 : ¬ t.val % 11 = 0) (k : ℕ) : pt (prev t) k = pt t k :=
  pt_congr _ _ (by show (t.val - 1) / 11 = t.val / 11; omega) k

theorem deltaAt_prev (c : Dev nD) (t : Fin cfg0.N) (h0 : ¬ t.val % 11 = 0) : deltaAt m c (prev t) = deltaAt m c t := by
  unfold deltaAt; rw [pt_prev t h0]

theorem keptAt_prev (c : Dev nD) (t : Fin cfg0.N) (h0 : ¬ t.val % 11 = 0) : keptAt m c (prev t) = keptAt m c t := by
  unfold keptAt; rw [deltaAt_prev m c t h0]

theorem blk_later (c : Dev nD) (t : Fin cfg0.N) :
    blkLater (iblk m c 0 t) (iblk m c 1 t) (iblk m c 2 t) (iblk m c 3 t) (iblk m c 5 t) (iblk m c 6 t) (keptAt m c t) = blkAt m c t := rfl

theorem range_first {f : ℕ → EReal} {n : ℕ} (h0 : n = 0) : ∑ k ∈ Finset.range (n + 1), f k = 0 + f n := by
  subst h0; rw [Finset.sum_range_succ, Finset.sum_range_zero]

theorem dqAt_first (c : Dev nD) (t : Fin cfg0.N) (h0 : t.val % 11 = 0) (r : Fin 4224) (d : Fin 128) :
    dqAt m c t (ix2 r d) = 0 + (blkAt m c t).dq (t.val % 11) r d :=
  (range_first (f := fun k => (blkAt m c (pt t k)).dq k r d) h0).trans (by rw [pt_self t])

theorem dqAt_later (c : Dev nD) (t : Fin cfg0.N) (h0 : ¬ t.val % 11 = 0) (r : Fin 4224) (d : Fin 128) :
    dqAt m c t (ix2 r d) = dqAt m c (prev t) (ix2 r d) + (blkAt m c t).dq (t.val % 11) r d := by
  refine (Finset.sum_range_succ (fun k => (blkAt m c (pt t k)).dq k r d) (t.val % 11)).trans ?_
  rw [pt_self t]
  refine congrArg (fun z : EReal => z + (blkAt m c t).dq (t.val % 11) r d) ?_
  show _ = ∑ k ∈ Finset.range ((t.val - 1) % 11 + 1), (blkAt m c (pt (prev t) k)).dq k r d
  rw [show (t.val - 1) % 11 + 1 = t.val % 11 by omega]
  exact Finset.sum_congr rfl fun k _ => by rw [pt_prev t h0]

theorem dcqAt_first (c : Dev nD) (t : Fin cfg0.N) (h0 : t.val % 11 = 0) (r : Fin 4224) :
    dcqAt m c t (ix4 0 0 r 0) = 0 + (blkAt m c t).dcq (t.val % 11) r :=
  (range_first (f := fun k => (blkAt m c (pt t k)).dcq k r) h0).trans (by rw [pt_self t])

theorem dcqAt_later (c : Dev nD) (t : Fin cfg0.N) (h0 : ¬ t.val % 11 = 0) (r : Fin 4224) :
    dcqAt m c t (ix4 0 0 r 0) = dcqAt m c (prev t) (ix4 0 0 r 0) + (blkAt m c t).dcq (t.val % 11) r := by
  refine (Finset.sum_range_succ (fun k => (blkAt m c (pt t k)).dcq k r) (t.val % 11)).trans ?_
  rw [pt_self t]
  refine congrArg (fun z : EReal => z + (blkAt m c t).dcq (t.val % 11) r) ?_
  show _ = ∑ k ∈ Finset.range ((t.val - 1) % 11 + 1), (blkAt m c (pt (prev t) k)).dcq k r
  rw [show (t.val - 1) % 11 + 1 = t.val % 11 by omega]
  exact Finset.sum_congr rfl fun k _ => by rw [pt_prev t h0]

/-! Indices with axes of one, written out. -/

theorem idx_rows {N D : ℕ} (i : (⟨2, ![N, D]⟩ : Shape).Idx) : i = ix2 (i 0) (i 1) := eq_ix2 i
theorem idx_col (i : S4224x1.Idx) : i = ix2 (i 0) 0 := by
  refine (eq_ix2 i).trans (congrArg (ix2 (i 0)) (Subsingleton.elim (α := Fin 1) _ _))
theorem idx_lane (i : S1x1x384.Idx) : i = ix3 0 0 (i 2) := funext fun x =>
  match x with
  | ⟨0, _⟩ => Subsingleton.elim (α := Fin 1) _ _
  | ⟨1, _⟩ => Subsingleton.elim (α := Fin 1) _ _
  | ⟨2, _⟩ => rfl
theorem idx_col4 (i : S1x1x4224x1.Idx) : i = ix4 0 0 (i 2) 0 := funext fun x =>
  match x with
  | ⟨0, _⟩ => Subsingleton.elim (α := Fin 1) _ _
  | ⟨1, _⟩ => Subsingleton.elim (α := Fin 1) _ _
  | ⟨2, _⟩ => rfl
  | ⟨3, _⟩ => Subsingleton.elim (α := Fin 1) _ _

/-! The buffers after the body, read. -/

section

variable (c : Dev nD) (t : Fin cfg0.N) (y7 : Vec Ideal S4224x128 .f32) (y8 y9 : Vec Ideal S384x128 .bf16) (y10 : Vec Ideal S1x1x384 .f32) (y11 : Vec Ideal S1x1x4224x1 .f32) (y12 : Vec Ideal S4224x1 .f32)

theorem first_dq (h0 : t.val % 11 = 0) :
    (ms0_7 t).view.read (Elt Ideal) (runFirst (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((firstBlock_iff t).mpr h0) (iblk m c 0 t) (iblk m c 1 t) (iblk m c 2 t) (iblk m c 3 t) (iblk m c 4 t) (iblk m c 5 t) (iblk m c 6 t) y7 y8 y9 y10 y11 y12).1.1 = dqAt m c t :=
  funext fun i => by
    rw [idx_rows i]
    exact (runFirst_dq t c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((firstBlock_iff t).mpr h0) (iblk m c 0 t) (iblk m c 1 t) (iblk m c 2 t) (iblk m c 3 t) (iblk m c 4 t) (iblk m c 5 t) (iblk m c 6 t) y7 y8 y9 y10 y11 y12 (i 0) (i 1)).trans ((show _ = 0 + (blkAt m c t).dq (t.val % 11) (i 0) (i 1) by rw [blk_first m c t h0]).trans (dqAt_first m c t h0 (i 0) (i 1)).symm)

theorem first_dk (h0 : t.val % 11 = 0) :
    (ms0_8 t).view.read (Elt Ideal) (runFirst (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((firstBlock_iff t).mpr h0) (iblk m c 0 t) (iblk m c 1 t) (iblk m c 2 t) (iblk m c 3 t) (iblk m c 4 t) (iblk m c 5 t) (iblk m c 6 t) y7 y8 y9 y10 y11 y12).1.2.1 = dkAt m c t :=
  funext fun i => by
    rw [idx_rows i]
    exact (runFirst_dk t c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((firstBlock_iff t).mpr h0) (iblk m c 0 t) (iblk m c 1 t) (iblk m c 2 t) (iblk m c 3 t) (iblk m c 4 t) (iblk m c 5 t) (iblk m c 6 t) y7 y8 y9 y10 y11 y12 (i 0) (i 1)).trans (by rw [blk_first m c t h0]; rfl)

theorem first_dv (h0 : t.val % 11 = 0) :
    (ms0_9 t).view.read (Elt Ideal) (runFirst (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((firstBlock_iff t).mpr h0) (iblk m c 0 t) (iblk m c 1 t) (iblk m c 2 t) (iblk m c 3 t) (iblk m c 4 t) (iblk m c 5 t) (iblk m c 6 t) y7 y8 y9 y10 y11 y12).1.2.2.1 = dvAt m c t :=
  funext fun i => by
    rw [idx_rows i]
    exact (runFirst_dv t c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((firstBlock_iff t).mpr h0) (iblk m c 0 t) (iblk m c 1 t) (iblk m c 2 t) (iblk m c 3 t) (iblk m c 4 t) (iblk m c 5 t) (iblk m c 6 t) y7 y8 y9 y10 y11 y12 (i 0) (i 1)).trans (by rw [blk_first m c t h0]; rfl)

theorem first_dck (h0 : t.val % 11 = 0) :
    (ms0_10 t).view.read (Elt Ideal) (runFirst (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((firstBlock_iff t).mpr h0) (iblk m c 0 t) (iblk m c 1 t) (iblk m c 2 t) (iblk m c 3 t) (iblk m c 4 t) (iblk m c 5 t) (iblk m c 6 t) y7 y8 y9 y10 y11 y12).1.2.2.2.1 = dckAt m c t :=
  funext fun i => by
    rw [idx_lane i]
    exact (runFirst_dck t c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((firstBlock_iff t).mpr h0) (iblk m c 0 t) (iblk m c 1 t) (iblk m c 2 t) (iblk m c 3 t) (iblk m c 4 t) (iblk m c 5 t) (iblk m c 6 t) y7 y8 y9 y10 y11 y12 (i 2)).trans (by rw [blk_first m c t h0]; rfl)

theorem first_dcq (h0 : t.val % 11 = 0) :
    (ms0_11 t).view.read (Elt Ideal) (runFirst (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((firstBlock_iff t).mpr h0) (iblk m c 0 t) (iblk m c 1 t) (iblk m c 2 t) (iblk m c 3 t) (iblk m c 4 t) (iblk m c 5 t) (iblk m c 6 t) y7 y8 y9 y10 y11 y12).1.2.2.2.2.1 = dcqAt m c t :=
  funext fun i => by
    rw [idx_col4 i]
    exact (runFirst_dcq t c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((firstBlock_iff t).mpr h0) (iblk m c 0 t) (iblk m c 1 t) (iblk m c 2 t) (iblk m c 3 t) (iblk m c 4 t) (iblk m c 5 t) (iblk m c 6 t) y7 y8 y9 y10 y11 y12 (i 2)).trans ((show _ = 0 + (blkAt m c t).dcq (t.val % 11) (i 2) by rw [blk_first m c t h0]).trans (dcqAt_first m c t h0 (i 2)).symm)

theorem first_kept (h0 : t.val % 11 = 0) :
    scM0_0.view.read (Elt Ideal) (runFirst (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((firstBlock_iff t).mpr h0) (iblk m c 0 t) (iblk m c 1 t) (iblk m c 2 t) (iblk m c 3 t) (iblk m c 4 t) (iblk m c 5 t) (iblk m c 6 t) y7 y8 y9 y10 y11 y12).1.2.2.2.2.2 = keptAt m c t :=
  funext fun i => by
    rw [idx_col i]
    exact (runFirst_delta t c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((firstBlock_iff t).mpr h0) (iblk m c 0 t) (iblk m c 1 t) (iblk m c 2 t) (iblk m c 3 t) (iblk m c 4 t) (iblk m c 5 t) (iblk m c 6 t) y7 y8 y9 y10 y11 y12 (i 0)).trans (by show _ = deltaOf (iblk m c 3 (pt t 0)) (iblk m c 4 (pt t 0)) (i 0); rw [pt_first t h0])

theorem later_dq (h0 : ¬ t.val % 11 = 0) :
    (ms0_7 t).view.read (Elt Ideal) (runLater (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((firstBlock_iff t).mp h)) (iblk m c 0 t) (iblk m c 1 t) (iblk m c 2 t) (iblk m c 3 t) (iblk m c 4 t) (iblk m c 5 t) (iblk m c 6 t) (dqAt m c (prev t)) y8 y9 y10 (dcqAt m c (prev t)) (keptAt m c t)).1.1 = dqAt m c t :=
  funext fun i => by
    rw [idx_rows i]
    exact (runLater_dq t c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((firstBlock_iff t).mp h)) (iblk m c 0 t) (iblk m c 1 t) (iblk m c 2 t) (iblk m c 3 t) (iblk m c 4 t) (iblk m c 5 t) (iblk m c 6 t) (dqAt m c (prev t)) y8 y9 y10 (dcqAt m c (prev t)) (keptAt m c t) (i 0) (i 1)).trans ((dqAt_later m c t h0 (i 0) (i 1)).symm)

theorem later_dk (h0 : ¬ t.val % 11 = 0) :
    (ms0_8 t).view.read (Elt Ideal) (runLater (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((firstBlock_iff t).mp h)) (iblk m c 0 t) (iblk m c 1 t) (iblk m c 2 t) (iblk m c 3 t) (iblk m c 4 t) (iblk m c 5 t) (iblk m c 6 t) (dqAt m c (prev t)) y8 y9 y10 (dcqAt m c (prev t)) (keptAt m c t)).1.2.1 = dkAt m c t :=
  funext fun i => by
    rw [idx_rows i]
    exact (runLater_dk t c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((firstBlock_iff t).mp h)) (iblk m c 0 t) (iblk m c 1 t) (iblk m c 2 t) (iblk m c 3 t) (iblk m c 4 t) (iblk m c 5 t) (iblk m c 6 t) (dqAt m c (prev t)) y8 y9 y10 (dcqAt m c (prev t)) (keptAt m c t) (i 0) (i 1)).trans (rfl)

theorem later_dv (h0 : ¬ t.val % 11 = 0) :
    (ms0_9 t).view.read (Elt Ideal) (runLater (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((firstBlock_iff t).mp h)) (iblk m c 0 t) (iblk m c 1 t) (iblk m c 2 t) (iblk m c 3 t) (iblk m c 4 t) (iblk m c 5 t) (iblk m c 6 t) (dqAt m c (prev t)) y8 y9 y10 (dcqAt m c (prev t)) (keptAt m c t)).1.2.2.1 = dvAt m c t :=
  funext fun i => by
    rw [idx_rows i]
    exact (runLater_dv t c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((firstBlock_iff t).mp h)) (iblk m c 0 t) (iblk m c 1 t) (iblk m c 2 t) (iblk m c 3 t) (iblk m c 4 t) (iblk m c 5 t) (iblk m c 6 t) (dqAt m c (prev t)) y8 y9 y10 (dcqAt m c (prev t)) (keptAt m c t) (i 0) (i 1)).trans (rfl)

theorem later_dck (h0 : ¬ t.val % 11 = 0) :
    (ms0_10 t).view.read (Elt Ideal) (runLater (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((firstBlock_iff t).mp h)) (iblk m c 0 t) (iblk m c 1 t) (iblk m c 2 t) (iblk m c 3 t) (iblk m c 4 t) (iblk m c 5 t) (iblk m c 6 t) (dqAt m c (prev t)) y8 y9 y10 (dcqAt m c (prev t)) (keptAt m c t)).1.2.2.2.1 = dckAt m c t :=
  funext fun i => by
    rw [idx_lane i]
    exact (runLater_dck t c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((firstBlock_iff t).mp h)) (iblk m c 0 t) (iblk m c 1 t) (iblk m c 2 t) (iblk m c 3 t) (iblk m c 4 t) (iblk m c 5 t) (iblk m c 6 t) (dqAt m c (prev t)) y8 y9 y10 (dcqAt m c (prev t)) (keptAt m c t) (i 2)).trans (rfl)

theorem later_dcq (h0 : ¬ t.val % 11 = 0) :
    (ms0_11 t).view.read (Elt Ideal) (runLater (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((firstBlock_iff t).mp h)) (iblk m c 0 t) (iblk m c 1 t) (iblk m c 2 t) (iblk m c 3 t) (iblk m c 4 t) (iblk m c 5 t) (iblk m c 6 t) (dqAt m c (prev t)) y8 y9 y10 (dcqAt m c (prev t)) (keptAt m c t)).1.2.2.2.2 = dcqAt m c t :=
  funext fun i => by
    rw [idx_col4 i]
    exact (runLater_dcq t c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((firstBlock_iff t).mp h)) (iblk m c 0 t) (iblk m c 1 t) (iblk m c 2 t) (iblk m c 3 t) (iblk m c 4 t) (iblk m c 5 t) (iblk m c 6 t) (dqAt m c (prev t)) y8 y9 y10 (dcqAt m c (prev t)) (keptAt m c t) (i 2)).trans ((dcqAt_later m c t h0 (i 2)).symm)

end

end Cert.KernelIdeal.Gen

end
-- ==== Proof.Launch.lean ====
/- The launch's run: every point's results named, every buffer at what the points leave, every counter at zero. -/
module

public import proofs.«01_k».proof.Proof.PointValues

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Fox

local notation "𝕄" => MT nD τ sig Unit (Elt Ideal) ℕ (UR sig nD τ) ℕ

variable (m : (ℓ : Loc nD τ sig) → Buf (Elt Ideal) ℓ) (ρ : Dev nD → PrngReg)

/-- Before point `n`: at the first, `delta`'s buffer at anything; after it, at the head's `delta`. -/
def PhiS (c : Dev nD) : (n : ℕ) → n ≤ cfg0.N → sProp 𝕄
  | 0, _ => Pipeline.ΦA spec0 c
  | n + 1, hn => iprop(iprop(owns (c : Thread nD τ) scM0_0 fullShare (keptAt m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop(iprop(owns (c : Thread nD τ) scM0_0 fullShare (keptAt m c t)) ∗ (∃ r, prngReg c r)) := rfl

theorem PhiS_pos (c : Dev nD) (n : ℕ) (h : n ≤ cfg0.N) (hz : n ≠ 0) :
    PhiS m c n h = iprop(iprop(owns (c : Thread nD τ) scM0_0 fullShare (keptAt m c ⟨n - 1, by omega⟩)) ∗ (∃ r, prngReg c r)) := by
  cases n with
  | zero => exact absurd rfl hz
  | succ n => rfl

/-- At any point the buffer holds something. -/
theorem PhiS_any (c : Dev nD) (n : ℕ) (h : n ≤ cfg0.N) :
    PhiS m c n h ⊢ iprop(iprop((∃ d, owns (c : Thread nD τ) scM0_0 fullShare d)) ∗ (∃ r, prngReg c r)) := by
  cases n with
  | zero => rw [PhiS_zero m c 0 h rfl, PhiA0_eq]
  | succ n =>
    rw [PhiS_pos m c (n + 1) h (Nat.succ_ne_zero n)]
    iintro ⟨HS, Hg⟩
    isplitl [HS]
    · iexists _; iexact HS
    iexact Hg

/-- The launch's data: the arrays as the launch finds them, the inputs' buffers left as they are, the outputs' at
    what the points leave. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqAt m c t
    | ⟨8, _⟩ => dkAt m c t
    | ⟨9, _⟩ => dvAt m c t
    | ⟨10, _⟩ => dckAt m c t
    | ⟨11, _⟩ => dcqAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = dqAt m c t := by dsimp only [dats]
theorem after0_8 (c : Dev nD) (t : Fin cfg0.N) : (dats m 0 c).after 8 t = dkAt m c t := by dsimp only [dats]
theorem after0_9 (c : Dev nD) (t : Fin cfg0.N) : (dats m 0 c).after 9 t = dvAt m c t := by dsimp only [dats]
theorem after0_10 (c : Dev nD) (t : Fin cfg0.N) : (dats m 0 c).after 10 t = dckAt m c t := by dsimp only [dats]
theorem after0_11 (c : Dev nD) (t : Fin cfg0.N) : (dats m 0 c).after 11 t = dcqAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- The running sum a later key block finds is what the key block before left. -/
theorem before0_7 (c : Dev nD) (t : Fin cfg0.N) (h0 : ¬ t.val % 11 = 0) (d) : (dats m 0 c).before 7 t d = dqAt m c (prev t) :=
  (Pipeline.Dat.before_out_kept (dats m 0 c) 7 rfl t (fun h => h0 (by rw [h])) (Bool.eq_false_iff.mpr fun h => h0 (by
    have := (flush0_7 _).mp h; dsimp only at this; omega)) (fun _ => rfl) (fun _ _ => rfl) d).trans (after0_7 m c (prev t))
/-- The running sum a later key block finds is what the key block before left. -/
theorem before0_11 (c : Dev nD) (t : Fin cfg0.N) (h0 : ¬ t.val % 11 = 0) (d) : (dats m 0 c).before 11 t d = dcqAt m c (prev t) :=
  (Pipeline.Dat.before_out_kept (dats m 0 c) 11 rfl t (fun h => h0 (by rw [h])) (Bool.eq_false_iff.mpr fun h => h0 (by
    have := (flush0_11 _).mp h; dsimp only at this; omega)) (fun _ => rfl) (fun _ _ => rfl) d).trans (after0_11 m c (prev t))

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 9600000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) t.isLt from rfl, PhiS_succ, PhiS_castSucc m c t]
  by_cases h0 : t.val % 11 = 0
  · refine (sep_mono_left (PhiS_any m c _ _)).trans ?_
    iintro ⟨⟨⟨%d12, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runFirst (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((firstBlock_iff t).mpr h0) (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) ((dats m 0 c).before 10 t d10) ((dats m 0 c).before 11 t d11) d12).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS]; · iexact HS
    iintro ⟨H0, H1, H2, H3, H4, H5, H6, H7, H8, H9, H10, H11, HS⟩
    isplitl [HS Hg]
    · isplitl [HS]
      · unfold owns; iexists _; isplitr
        swap; · iexact HS
        ipureintro; exact first_kept m c t _ _ _ _ _ _ h0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact first_dq m c t _ _ _ _ _ _ h0
    isplitl [H8]
    · unfold owns; iexists _; isplitr
      swap; · iexact H8
      ipureintro; exact first_dk m c t _ _ _ _ _ _ h0
    isplitl [H9]
    · unfold owns; iexists _; isplitr
      swap; · iexact H9
      ipureintro; exact first_dv m c t _ _ _ _ _ _ h0
    isplitl [H10]
    · unfold owns; iexists _; isplitr
      swap; · iexact H10
      ipureintro; exact first_dck m c t _ _ _ _ _ _ h0
    · unfold owns; iexists _; isplitr
      swap; · iexact H11
      ipureintro; exact first_dcq m c t _ _ _ _ _ _ h0
  · have hz : t.val ≠ 0 := fun h => h0 (by rw [h])
    simp only [before0_7 m c t h0, before0_11 m c t h0]
    rw [PhiS_pos m c _ _ hz, show keptAt m c ⟨t.val - 1, _⟩ = keptAt m c t from keptAt_prev m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runLater (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((firstBlock_iff t).mp h)) (iblk m c 0 t) (iblk m c 1 t) (iblk m c 2 t) (iblk m c 3 t) (iblk m c 4 t) (iblk m c 5 t) (iblk m c 6 t) (dqAt m c (prev t)) ((dats m 0 c).before 8 t d8) ((dats m 0 c).before 9 t d9) ((dats m 0 c).before 10 t d10) (dcqAt m c (prev t)) (keptAt m c t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS]; · iexact HS
    iintro ⟨H0, H1, H2, H3, H4, H5, H6, H7, H8, H9, H10, H11, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact later_dq m c t _ _ _ h0
    isplitl [H8]
    · unfold owns; iexists _; isplitr
      swap; · iexact H8
      ipureintro; exact later_dk m c t _ _ _ h0
    isplitl [H9]
    · unfold owns; iexists _; isplitr
      swap; · iexact H9
      ipureintro; exact later_dv m c t _ _ _ h0
    isplitl [H10]
    · unfold owns; iexists _; isplitr
      swap; · iexact H10
      ipureintro; exact later_dck m c t _ _ _ h0
    · unfold owns; iexists _; isplitr
      swap; · iexact H11
      ipureintro; exact later_dcq m c t _ _ _ h0

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_any m c _ _

set_option backward.isDefEq.respectTransparency.types false in
/-- The launch: every array ends at what the points leave, every counter at zero. -/
theorem run_main_quiescent : θ_run defs (onTc (τ := τ) (main (F := Ideal))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The argument arrays end unchanged, and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main_quiescent m ρ))) ((θ_run defs _ _).mono (fun _ h => h.2) (run_main_quiescent m ρ))

end Cert.KernelIdeal.Gen

end
-- ==== Proof.RunPosts.lean ====
/- What a run leaves, restated: its results under another name, and its arguments kept with no semaphore raised. -/
module

public import Idealize.ShloMosaic.Lib.Pipeline.Value
public import Idealize.ShloMosaic.Lib.Quiescent
public import Idealize.ShloMosaic.PureOps.Ideal.Laws

@[expose] public section

namespace Cert.Products

open Idealize.ShloMosaic Idealize.SL.Sem

variable {nD : ℕ} {τ : Topo} {sig : RefSig} {Val : EltTy → Type} {Λ : Labels} {D : Defs nD τ sig Val Λ}
  {p : (c : Thread nD τ) → Prog (TpuEff nD τ sig Val Λ c.2) PUnit} {s : MemSt nD τ sig Val}
  {β : Dev nD → Type} {f : PUnit × MemSt nD τ sig Val → (c : Dev nD) → β c} {v w : (c : Dev nD) → β c}
  {K : PUnit × MemSt nD τ sig Val → Dev nD → Prop}

/-- The result by an equal name. -/
theorem renamed (h : θ_run D p s fun r => ∀ c, f r c = v c ∧ K r c) (e : ∀ c, v c = w c) :
    θ_run D p s fun r => ∀ c, f r c = w c ∧ K r c :=
  (θ_run _ _ _).mono (fun _ h c => ⟨(h c).1.trans (e c), (h c).2⟩) h

/-- What is kept, where the program has no semaphore. -/
theorem kept (h : θ_run D p s fun r => ∀ c, f r c = v c ∧ K r c) (hs : sig.nSem + sig.nDmaSem = 0) :
    θ_run D p s fun r => (∀ c, K r c) ∧ r.2.sem = fun _ => 0 :=
  (θ_run _ _ _).mono (fun r h => ⟨fun c => (h c).2, sem_eq_zero_of_no_sems hs r.2⟩) h

/-- The factors of a sum's terms change places. -/
theorem swap {K : ℕ} (f g : Fin K → EReal) : ∑ x, f x * g x = ∑ x, g x * f x := Finset.sum_congr rfl fun _ _ => mul_comm _ _

end Cert.Products
-- ==== Proof.Products.lean ====
/- Products of two arrays and their blocks: a product accumulated block by block along its inner axis is the product. -/
module

public import Idealize.ShloMosaic.Lib.Pipeline.Value
public import Idealize.ShloMosaic.PureOps.Ideal.Laws
public import Idealize.ShloMosaic.Lib.Pipeline.ValueKit

@[expose] public section

noncomputable section

namespace Cert.Products

open Idealize.ShloMosaic

/-- An array of numbers of two axes. -/
abbrev Arr (M K : ℕ) := (⟨2, ![M, K]⟩ : Shape).Idx → EReal

/-- The product, the product by a transpose, and the product of a transpose. -/
def nn {M K N : ℕ} (A : Arr M K) (B : Arr K N) : Arr M N := fun i => ∑ x : Fin K, A (ix2 (i 0) x) * B (ix2 x (i 1))
def nt {M K N : ℕ} (A : Arr M K) (B : Arr N K) : Arr M N := fun i => ∑ x : Fin K, A (ix2 (i 0) x) * B (ix2 (i 1) x)
def tn {M K N : ℕ} (A : Arr K M) (B : Arr K N) : Arr M N := fun i => ∑ x : Fin K, A (ix2 x (i 0)) * B (ix2 x (i 1))

/-- The columns from `o` on. -/
def cols {K L : ℕ} (N o : ℕ) (h : o + N ≤ L) (B : Arr K L) : Arr K N := fun i =>
  B (ix2 (i 0) ⟨o + (i 1).val, Nat.lt_of_lt_of_le (Nat.add_lt_add_left (i 1).isLt o) h⟩)

/-- Where the `s`-th block of `k` indices has its `r`-th. -/
def place {N : ℕ} (k s : ℕ) (h : s * k + k ≤ N) (r : Fin k) : Fin N :=
  ⟨s * k + r.val, Nat.lt_of_lt_of_le (Nat.add_lt_add_left r.isLt _) h⟩

/-- A row of one block by a column of another is an element of the product, when the blocks hold a row and a column of
    its operands. -/
theorem nn_of {M K N : ℕ} (A : Arr M K) (B : Arr K N) (r : Fin M) (j : Fin N) (f g : Fin K → EReal)
    (hf : ∀ k, f k = A (ix2 r k)) (hg : ∀ k, g k = B (ix2 k j)) : ∑ k, f k * g k = nn A B (ix2 r j) :=
  Finset.sum_congr rfl fun k _ => congrArg₂ (fun a b : EReal => a * b) (hf k) (hg k)

theorem nt_of {M K N : ℕ} (A : Arr M K) (B : Arr N K) (r : Fin M) (j : Fin N) (f g : Fin K → EReal)
    (hf : ∀ k, f k = A (ix2 r k)) (hg : ∀ k, g k = B (ix2 j k)) : ∑ k, f k * g k = nt A B (ix2 r j) :=
  Finset.sum_congr rfl fun k _ => congrArg₂ (fun a b : EReal => a * b) (hf k) (hg k)

/-- Two tables of one body each are equal when the bodies are. -/
theorem one_body {nD : ℕ} {τ : Topo} {sig : RefSig} {Val : EltTy → Type} {A R : Fin 1 → Type}
    {f g : (ℓ : Fin 1) → A ℓ → Idealize.SL.Sem.Prog (TpuEff nD τ sig Val ⟨Fin 1, A, R⟩ .tc) (R ℓ)} (h : ∀ a, f 0 a = g 0 a) :
    Defs.onTc (Λ := ⟨Fin 1, A, R⟩) f = Defs.onTc (Λ := ⟨Fin 1, A, R⟩) g :=
  congrArg _ (funext fun ℓ => funext fun a => match ℓ, a with | ⟨0, _⟩, a => h a)

/-- The `s`-th block of `k` terms of a sum; nothing past its end. -/
def block {K : ℕ} (f : Fin K → EReal) (k s : ℕ) (c : Fin k) : EReal :=
  if h : s * k + c.val < K then f ⟨s * k + c.val, h⟩ else 0

theorem block_of_lt {K : ℕ} (f : Fin K → EReal) {k s : ℕ} {c : Fin k} (h : s * k + c.val < K) :
    block f k s c = f ⟨s * k + c.val, h⟩ := dif_pos h

/-- The blocks' sums add up to the sum. -/
theorem sum_blocks {n k K : ℕ} (hK : n * k = K) (f : Fin K → EReal) :
    ∑ s ∈ Finset.range n, ∑ c : Fin k, block f k s c = ∑ x, f x := by
  have key : ∀ (g : ℕ → EReal) (n : ℕ), ∑ s ∈ Finset.range n, ∑ c ∈ Finset.range k, g (s * k + c) = ∑ x ∈ Finset.range (n * k), g x := by
    intro g n
    induction n with
    | zero => simp
    | succ n ih => rw [Finset.sum_range_succ, ih, Nat.succ_mul, Finset.sum_range_add]
  subst hK
  have e := key (fun x => if h : x < n * k then f ⟨x, h⟩ else 0) n
  simp only [← Fin.sum_univ_eq_sum_range] at e
  refine Eq.trans ?_ (e.trans (Finset.sum_congr rfl fun x _ => dif_pos x.isLt))
  rw [Fin.sum_univ_eq_sum_range (fun s => ∑ c : Fin k, if h : s * k + c.val < n * k then f ⟨s * k + c.val, h⟩ else 0)]
  rfl

/-- What is held after the last of a tile's `J` points, where the first of them leaves its product and each later one
    adds its own, is the whole sum. -/
theorem held {ι : Type*} {N J k K : ℕ} (hK : J * k = K) (f pay : Fin N → ι → EReal) (T : Fin N → ι → Fin K → EReal)
    (hT : ∀ t t' : Fin N, t.val / J = t'.val / J → T t = T t')
    (hp : ∀ t y, pay t y = ∑ c : Fin k, block (T t y) k (t.val % J) c)
    (h0 : ∀ (t : Fin N) y, t.val % J = 0 → f t y = pay t y)
    (hs : ∀ (t : Fin N) y, ¬t.val % J = 0 → f t y = f ⟨t.val - 1, Nat.lt_of_le_of_lt (Nat.sub_le _ _) t.isLt⟩ y + pay t y)
    (t : Fin N) (ht : t.val % J + 1 = J) (y : ι) : f t y = ∑ x, T t y x := by
  have key : ∀ (j : ℕ) (t : Fin N), t.val % J = j → f t y = ∑ s ∈ Finset.range (j + 1), ∑ c : Fin k, block (T t y) k s c := by
    intro j
    induction j with
    | zero => intro t h; rw [h0 t y h, hp, h, Finset.sum_range_one]
    | succ j ih =>
      intro t h
      have hd := Nat.div_add_mod t.val J
      have hJ : j + 1 < J := h ▸ Nat.mod_lt _ (Nat.pos_of_ne_zero fun e => by subst e; omega)
      have e : t.val - 1 = J * (t.val / J) + j := by omega
      have em : (t.val - 1) % J = j := by rw [e, Nat.mul_add_mod, Nat.mod_eq_of_lt (by omega)]
      have ed : (t.val - 1) / J = t.val / J := by
        rw [e, Nat.mul_add_div (by omega), Nat.div_eq_of_lt (show j < J by omega), Nat.add_zero]
      rw [hs t y (by omega), ih ⟨t.val - 1, _⟩ em, hT ⟨t.val - 1, _⟩ t ed, hp, h, ← Finset.sum_range_succ]
  rw [key _ t rfl, ht, sum_blocks hK]

end Cert.Products

end
-- ==== Proof.FfnValue.lean ====
/- The feed-forward's two projections and their gradients, `ffn_in`, `ffn_in_dx`, `ffn_in_dw`, `ffn_out` (added to what goes
   around it), `ffn_out_dx` and `ffn_out_dw`: what their ideal programs leave. -/
module

public import proofs.«01_k».proof.Proof.Gen.FfnInIdeal.Value
public import proofs.«01_k».proof.Proof.Gen.FfnInDxIdeal.Value
public import proofs.«01_k».proof.Proof.Gen.FfnInDwIdeal.Value
public import proofs.«01_k».proof.Proof.Gen.FfnOutIdeal.Value
public import proofs.«01_k».proof.Proof.Gen.FfnOutDxIdeal.Value
public import proofs.«01_k».proof.Proof.Gen.FfnOutDwIdeal.Value
public import proofs.«01_k».proof.Proof.Products

@[expose] public section

set_option maxRecDepth 16384

noncomputable section

open Cert.Products Idealize.ShloMosaic Idealize.ShloMosaic.TcCoe Idealize.SL.Sem

/-! ## One point to a tile -/

namespace Cert.FfnInIdeal.Value

open Cert.FfnInIdeal Cert.FfnInIdeal.Gen

variable (m : (ℓ : Loc nD τ sig) → Buf (Elt Ideal) ℓ) (c : Dev nD)

theorem pay_at (x0 : Vec Ideal S1408x1024 .bf16) (x1 : Vec Ideal S1024x1408 .bf16) (y : S1408x1408.Idx) :
    k0_pay2 x0 x1 y = ∑ k : Fin 1024, x0 (ix2 (y 0) k) * x1 (ix2 k (y 1)) := by
  rw [k0_pay2, shapeCast_self]
  pointwise [k0_pay1]

theorem idx : ∀ t : Fin cfg0.N, win0_0.index t = ![t.val / 4, 0] ∧ win0_1.index t = ![0, t.val % 4]
    ∧ win0_2.index t = ![t.val / 4, t.val % 4] :=
  (by decide +kernel : ∀ t : Fin grid0.N, _)

abbrev A0 : Arr 8448 1024 := m ((c : Thread nD τ).loc main_arg0)
abbrev A1 : Arr 1024 5632 := m ((c : Thread nD τ).loc main_arg1)

/-- The array index of a tile's element. -/
def at2 (t : Fin cfg0.N) (y : S1408x1408.Idx) : S8448x5632.Idx :=
  ix2 (place 1408 (t.val / 4) (by have := lt_of_lt_of_eq t.isLt N_0; omega) (y 0)) (place 1408 (t.val % 4) (by omega) (y 1))

theorem stored (t : Fin cfg0.N) (y : S1408x1408.Idx) : outsAt0 m c t y = nn (A0 m c) (A1 m c) (at2 t y) := by
  refine Eq.trans (b := k0_pay2 (iblk m c 0 t) (iblk m c 1 t) y) (by unfold outsAt0; frame_out; rfl)
    ((pay_at _ _ _).trans (nn_of _ _ _ _ _ _ (fun k => ?_) fun k => ?_))
  · blk_point [iblk, V, place, idx t]
  · blk_point [iblk, V, place, idx t]

theorem left : (dats m 0 c).arrAt 2 cfg0.N = nn (A0 m c) (A1 m c) :=
  (dats m 0 c).arrAt_eq_of_covers 2 _ (by decide +kernel) fun t _ y => by
    blk_simp
    rw [after0_2, stored m c t y]
    exact (congrArg (nn (A0 m c) (A1 m c)) (by blk_ext [at2, place, idx t] : (win0_2.blk t).view.emb y = at2 t y)).symm

end Cert.FfnInIdeal.Value

namespace Cert.FfnOutDxIdeal.Value

open Cert.FfnOutDxIdeal Cert.FfnOutDxIdeal.Gen

variable (m : (ℓ : Loc nD τ sig) → Buf (Elt Ideal) ℓ) (c : Dev nD)

theorem pay_at (x0 : Vec Ideal S1408x1024 .f32) (x1 : Vec Ideal S1408x1024 .bf16) (y : S1408x1408.Idx) :
    k0_pay2 x0 x1 y = ∑ k : Fin 1024, x0 (ix2 (y 0) k) * x1 (ix2 (y 1) k) := by
  rw [k0_pay2, shapeCast_self]
  pointwise [k0_pay1]

theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

abbrev A0 : Arr 8448 1024 := m ((c : Thread nD τ).loc main_arg0)
abbrev A1 : Arr 2816 1024 := m ((c : Thread nD τ).loc main_arg1)

def at2 (t : Fin cfg0.N) (y : S1408x1408.Idx) : S8448x2816.Idx :=
  ix2 (place 1408 (t.val / 2) (by have := lt_of_lt_of_eq t.isLt N_0; omega) (y 0)) (place 1408 (t.val % 2) (by omega) (y 1))

theorem stored (t : Fin cfg0.N) (y : S1408x1408.Idx) : outsAt0 m c t y = nt (A0 m c) (A1 m c) (at2 t y) := by
  refine Eq.trans (b := k0_pay2 (iblk m c 0 t) (iblk m c 1 t) y) (by unfold outsAt0; frame_out; rfl)
    ((pay_at _ _ _).trans (nt_of _ _ _ _ _ _ (fun k => ?_) fun k => ?_))
  · blk_point [iblk, V, place, idx t]
  · blk_point [iblk, V, place, idx t]

theorem left : (dats m 0 c).arrAt 2 cfg0.N = nt (A0 m c) (A1 m c) :=
  (dats m 0 c).arrAt_eq_of_covers 2 _ (by decide +kernel) fun t _ y => by
    blk_simp
    rw [after0_2, stored m c t y]
    exact (congrArg (nt (A0 m c) (A1 m c)) (by blk_ext [at2, place, idx t] : (win0_2.blk t).view.emb y = at2 t y)).symm

end Cert.FfnOutDxIdeal.Value

/-! ## Several points to a tile -/

namespace Cert.FfnInDxIdeal.Value

open Cert.FfnInDxIdeal Cert.FfnInDxIdeal.Gen

variable (m : (ℓ : Loc nD τ sig) → Buf (Elt Ideal) ℓ) (c : Dev nD)

theorem pay_at (x0 : Vec Ideal S1408x1408 .bf16) (x1 : Vec Ideal S1024x1408 .bf16) (y : S1408x1024.Idx) :
    k0_pay1 x0 x1 y = ∑ k : Fin 1408, x0 (ix2 (y 0) k) * x1 (ix2 (y 1) k) := by
  pointwise [k0_pay1]

theorem idx : ∀ t : Fin cfg0.N, win0_0.index t = ![t.val / 4, t.val % 4] ∧ win0_1.index t = ![0, t.val % 4]
    ∧ win0_2.index t = ![t.val / 4, 0] :=
  (by decide +kernel : ∀ t : Fin grid0.N, _)

abbrev A0 : Arr 8448 5632 := m ((c : Thread nD τ).loc main_arg0)
abbrev A1 : Arr 1024 5632 := m ((c : Thread nD τ).loc main_arg1)

/-- The row of a tile's element. -/
def row (t : Fin cfg0.N) : Fin 1408 → Fin 8448 := place 1408 (t.val / 4) (by have := lt_of_lt_of_eq t.isLt N_0; omega)

/-- The terms of one element of the tile that a point works on. -/
def terms (t : Fin cfg0.N) (y : S1408x1024.Idx) (x : Fin 5632) : EReal := A0 m c (ix2 (row t (y 0)) x) * A1 m c (ix2 (y 1) x)

/-- Each point adds its block of them. -/
theorem adds (t : Fin cfg0.N) (y : S1408x1024.Idx) :
    k0_pay1 (iblk m c 0 t) (iblk m c 1 t) y = ∑ k : Fin 1408, block (terms m c t y) 1408 (t.val % 4) k := by
  refine (pay_at _ _ _).trans (Finset.sum_congr rfl fun k _ => ?_)
  rw [block_of_lt _ (by omega), terms]
  blk_point [iblk, V, A0, A1, row, place, idx t]

theorem left : (dats m 0 c).arrAt 2 cfg0.N = nt (A0 m c) (A1 m c) :=
  (dats m 0 c).arrAt_eq_of_covers 2 _ (by decide +kernel) fun t hf y => by
    have h : t.val % 4 = 3 := (flush0_2 t).mp hf
    have e : (outsAt0 m c t.val t.isLt).1 y = (outsAt0 m c t.val t.isLt).2 y := by
      rw [outsAt0_C m c t (by omega) (by omega) h]
      frame_out
    blk_simp
    rw [after0_2, e, held (J := 4) (k := 1408) rfl (fun t y => (outsAt0 m c t.val t.isLt).2 y) _ (terms m c)
      (fun t t' e => by unfold terms row; simp only [e]) (adds m c) (fun t y h => ?_) (fun t y h => ?_) t (by omega) y]
    · exact (congrArg (nt (A0 m c) (A1 m c)) (by blk_ext [row, place, idx t] : (win0_2.blk t).view.emb y = ix2 (row t (y 0)) (y 1))).symm
    · rw [outsAt0_A m c t h (by omega) (by omega)]
      frame_out
      rw [k0_pay2, shapeCast_self]
    · by_cases h3 : t.val % 4 = 3
      all_goals
        first | rw [outsAt0_C m c t h (by omega) h3] | rw [outsAt0_B m c t h (by omega) h3]
        frame_out
        rw [k0_pay3, shapeCast_self, (Memref.isWhole_whole _).read_unread]
        rfl

end Cert.FfnInDxIdeal.Value

namespace Cert.FfnInDwIdeal.Value

open Cert.FfnInDwIdeal Cert.FfnInDwIdeal.Gen

variable (m : (ℓ : Loc nD τ sig) → Buf (Elt Ideal) ℓ) (c : Dev nD)

theorem pay_at (x0 : Vec Ideal S1408x1024 .bf16) (x1 : Vec Ideal S1408x1408 .bf16) (y : S1024x1408.Idx) :
    k0_pay1 x0 x1 y = ∑ k : Fin 1408, x0 (ix2 k (y 0)) * x1 (ix2 k (y 1)) := by
  pointwise [k0_pay1]

theorem idx : ∀ t : Fin cfg0.N, win0_0.index t = ![t.val % 6, 0] ∧ win0_1.index t = ![t.val % 6, t.val / 6]
    ∧ win0_2.index t = ![0, t.val / 6] :=
  (by decide +kernel : ∀ t : Fin grid0.N, _)

abbrev A0 : Arr 8448 1024 := m ((c : Thread nD τ).loc main_arg0)
abbrev A1 : Arr 8448 5632 := m ((c : Thread nD τ).loc main_arg1)

/-- The column of a tile's element. -/
def col (t : Fin cfg0.N) : Fin 1408 → Fin 5632 := place 1408 (t.val / 6) (by have := lt_of_lt_of_eq t.isLt N_0; omega)

def terms (t : Fin cfg0.N) (y : S1024x1408.Idx) (x : Fin 8448) : EReal := A0 m c (ix2 x (y 0)) * A1 m c (ix2 x (col t (y 1)))

theorem adds (t : Fin cfg0.N) (y : S1024x1408.Idx) :
    k0_pay1 (iblk m c 0 t) (iblk m c 1 t) y = ∑ k : Fin 1408, block (terms m c t y) 1408 (t.val % 6) k := by
  refine (pay_at _ _ _).trans (Finset.sum_congr rfl fun k _ => ?_)
  rw [block_of_lt _ (by omega), terms]
  blk_point [iblk, V, A0, A1, col, place, idx t]

theorem left : (dats m 0 c).arrAt 2 cfg0.N = tn (A0 m c) (A1 m c) :=
  (dats m 0 c).arrAt_eq_of_covers 2 _ (by decide +kernel) fun t hf y => by
    have h : t.val % 6 = 5 := (flush0_2 t).mp hf
    have e : (outsAt0 m c t.val t.isLt).1 y = (outsAt0 m c t.val t.isLt).2 y := by
      rw [outsAt0_C m c t (by omega) (by omega) h]
      frame_out
    blk_simp
    rw [after0_2, e, held (J := 6) (k := 1408) rfl (fun t y => (outsAt0 m c t.val t.isLt).2 y) _ (terms m c)
      (fun t t' e => by unfold terms col; simp only [e]) (adds m c) (fun t y h => ?_) (fun t y h => ?_) t (by omega) y]
    · exact (congrArg (tn (A0 m c) (A1 m c)) (by blk_ext [col, place, idx t] : (win0_2.blk t).view.emb y = ix2 (y 0) (col t (y 1)))).symm
    · rw [outsAt0_A m c t h (by omega) (by omega)]
      frame_out
      rw [k0_pay2, shapeCast_self]
    · by_cases h3 : t.val % 6 = 5
      all_goals
        first | rw [outsAt0_C m c t h (by omega) h3] | rw [outsAt0_B m c t h (by omega) h3]
        frame_out
        rw [k0_pay3, shapeCast_self, (Memref.isWhole_whole _).read_unread]
        rfl

end Cert.FfnInDwIdeal.Value

namespace Cert.FfnOutDwIdeal.Value

open Cert.FfnOutDwIdeal Cert.FfnOutDwIdeal.Gen

variable (m : (ℓ : Loc nD τ sig) → Buf (Elt Ideal) ℓ) (c : Dev nD)

theorem pay_at (x0 : Vec Ideal S1408x1408 .bf16) (x1 : Vec Ideal S1408x1024 .f32) (y : S1408x1024.Idx) :
    k0_pay1 x0 x1 y = ∑ k : Fin 1408, x0 (ix2 k (y 0)) * x1 (ix2 k (y 1)) := by
  pointwise [k0_pay1]

theorem idx : ∀ t : Fin cfg0.N, win0_0.index t = ![t.val % 6, t.val / 6] ∧ win0_1.index t = ![t.val % 6, 0]
    ∧ win0_2.index t = ![t.val / 6, 0] :=
  (by decide +kernel : ∀ t : Fin grid0.N, _)

abbrev A0 : Arr 8448 2816 := m ((c : Thread nD τ).loc main_arg0)
abbrev A1 : Arr 8448 1024 := m ((c : Thread nD τ).loc main_arg1)

def row (t : Fin cfg0.N) : Fin 1408 → Fin 2816 := place 1408 (t.val / 6) (by have := lt_of_lt_of_eq t.isLt N_0; omega)

def terms (t : Fin cfg0.N) (y : S1408x1024.Idx) (x : Fin 8448) : EReal := A0 m c (ix2 x (row t (y 0))) * A1 m c (ix2 x (y 1))

theorem adds (t : Fin cfg0.N) (y : S1408x1024.Idx) :
    k0_pay1 (iblk m c 0 t) (iblk m c 1 t) y = ∑ k : Fin 1408, block (terms m c t y) 1408 (t.val % 6) k := by
  refine (pay_at _ _ _).trans (Finset.sum_congr rfl fun k _ => ?_)
  rw [block_of_lt _ (by omega), terms]
  blk_point [iblk, V, A0, A1, row, place, idx t]

theorem left : (dats m 0 c).arrAt 2 cfg0.N = tn (A0 m c) (A1 m c) :=
  (dats m 0 c).arrAt_eq_of_covers 2 _ (by decide +kernel) fun t hf y => by
    have h : t.val % 6 = 5 := (flush0_2 t).mp hf
    have e : (outsAt0 m c t.val t.isLt).1 y = (outsAt0 m c t.val t.isLt).2 y := by
      rw [outsAt0_C m c t (by omega) (by omega) h]
      frame_out
    blk_simp
    rw [after0_2, e, held (J := 6) (k := 1408) rfl (fun t y => (outsAt0 m c t.val t.isLt).2 y) _ (terms m c)
      (fun t t' e => by unfold terms row; simp only [e]) (adds m c) (fun t y h => ?_) (fun t y h => ?_) t (by omega) y]
    · exact (congrArg (tn (A0 m c) (A1 m c)) (by blk_ext [row, place, idx t] : (win0_2.blk t).view.emb y = ix2 (row t (y 0)) (y 1))).symm
    · rw [outsAt0_A m c t h (by omega) (by omega)]
      frame_out
      rw [k0_pay2, shapeCast_self]
    · by_cases h3 : t.val % 6 = 5
      all_goals
        first | rw [outsAt0_C m c t h (by omega) h3] | rw [outsAt0_B m c t h (by omega) h3]
        frame_out
        rw [k0_pay3, shapeCast_self, (Memref.isWhole_whole _).read_unread]
        rfl

end Cert.FfnOutDwIdeal.Value

namespace Cert.FfnOutIdeal.Value

open Cert.FfnOutIdeal Cert.FfnOutIdeal.Gen

variable (m : (ℓ : Loc nD τ sig) → Buf (Elt Ideal) ℓ) (c : Dev nD)

theorem pay_at (x0 : Vec Ideal S1408x1408 .bf16) (x1 : Vec Ideal S1408x1024 .bf16) (y : S1408x1024.Idx) :
    k0_pay1 x0 x1 y = ∑ k : Fin 1408, x0 (ix2 (y 0) k) * x1 (ix2 k (y 1)) := by
  pointwise [k0_pay1]

theorem idx : ∀ t : Fin cfg0.N, win0_0.index t = ![t.val / 2, t.val % 2] ∧ win0_1.index t = ![t.val % 2, 0]
    ∧ win0_2.index t = ![t.val / 2, 0] ∧ win0_3.index t = ![t.val / 2, 0] :=
  (by decide +kernel : ∀ t : Fin grid0.N, _)

abbrev A0 : Arr 8448 2816 := m ((c : Thread nD τ).loc main_arg0)
abbrev A1 : Arr 2816 1024 := m ((c : Thread nD τ).loc main_arg1)
abbrev A2 : Arr 8448 1024 := m ((c : Thread nD τ).loc main_arg2)

/-- The product and the third operand. -/
def sum : Arr 8448 1024 := fun i => nn (A0 m c) (A1 m c) i + A2 m c i

def row (t : Fin cfg0.N) : Fin 1408 → Fin 8448 := place 1408 (t.val / 2) (by have := lt_of_lt_of_eq t.isLt N_0; omega)

def terms (t : Fin cfg0.N) (y : S1408x1024.Idx) (x : Fin 2816) : EReal := A0 m c (ix2 (row t (y 0)) x) * A1 m c (ix2 x (y 1))

theorem adds (t : Fin cfg0.N) (y : S1408x1024.Idx) :
    k0_pay1 (iblk m c 0 t) (iblk m c 1 t) y = ∑ k : Fin 1408, block (terms m c t y) 1408 (t.val % 2) k := by
  refine (pay_at _ _ _).trans (Finset.sum_congr rfl fun k _ => ?_)
  rw [block_of_lt _ (by omega), terms]
  blk_point [iblk, V, A0, A1, row, place, idx t]

/-- The tile's second point is its last; it adds the third operand's tile to what it writes out. -/
theorem left : (dats m 0 c).arrAt 3 cfg0.N = sum m c :=
  (dats m 0 c).arrAt_eq_of_covers 3 _ (by decide +kernel) fun t hf y => by
    have h : t.val % 2 = 1 := (flush0_3 t).mp hf
    have e : (outsAt0 m c t.val t.isLt).1 y = (outsAt0 m c t.val t.isLt).2 y + iblk m c 2 t y := by
      rw [outsAt0_B m c t (by omega) h h]
      frame_out
      rfl
    have e2 : iblk m c 2 t y = A2 m c (ix2 (row t (y 0)) (y 1)) := by blk_point [iblk, V, A2, row, place, idx t]
    blk_simp
    rw [after0_3, e, e2, held (J := 2) (k := 1408) rfl (fun t y => (outsAt0 m c t.val t.isLt).2 y) _ (terms m c)
      (fun t t' e => by unfold terms row; simp only [e]) (adds m c) (fun t y h => ?_) (fun t y h => ?_) t (by omega) y]
    · exact (congrArg (sum m c) (by blk_ext [row, place, idx t] : (win0_3.blk t).view.emb y = ix2 (row t (y 0)) (y 1))).symm
    · rw [outsAt0_A m c t h (by omega) (by omega)]
      frame_out
      rw [k0_pay2, shapeCast_self]
    · rw [outsAt0_B m c t h (by omega) (by omega)]
      frame_out
      rw [k0_pay3, shapeCast_self, (Memref.isWhole_whole _).read_unread]
      rfl

end Cert.FfnOutIdeal.Value

end
-- ==== Proof.InGradValue.lean ====
/- The gradients of the combined input projection, `in_dx` and `in_dw`: what their ideal programs leave. -/
module

public import proofs.«01_k».proof.Proof.Gen.InDxIdeal.Value
public import proofs.«01_k».proof.Proof.Gen.InDwIdeal.Value
public import proofs.«01_k».proof.Proof.FfnValue

@[expose] public section

set_option maxRecDepth 16384

noncomputable section

open Cert.Products Idealize.ShloMosaic Idealize.ShloMosaic.TcCoe Idealize.SL.Sem

namespace Cert.InDxIdeal.Value

open Cert.InDxIdeal Cert.InDxIdeal.Gen

variable (m : (ℓ : Loc nD τ sig) → Buf (Elt Ideal) ℓ) (c : Dev nD)

theorem idx : ∀ t : Fin cfg0.N, win0_0.index t = ![t.val / 7, t.val % 7] ∧ win0_1.index t = ![0, t.val % 7]
    ∧ win0_2.index t = ![t.val / 7, 0] :=
  (by decide +kernel : ∀ t : Fin grid0.N, _)

abbrev A0 : Arr 8448 9856 := m ((c : Thread nD τ).loc main_arg0)
abbrev A1 : Arr 1024 9856 := m ((c : Thread nD τ).loc main_arg1)

/-- The row of a tile's element. -/
def row (t : Fin cfg0.N) : Fin 1408 → Fin 8448 := place 1408 (t.val / 7) (by have := lt_of_lt_of_eq t.isLt N_0; omega)

/-- The terms of one element of the tile that a point works on. -/
def terms (t : Fin cfg0.N) (y : S1408x1024.Idx) (x : Fin 9856) : EReal := A0 m c (ix2 (row t (y 0)) x) * A1 m c (ix2 (y 1) x)

/-- Each point adds its block of them, with the blocks of `ffn_in_dx`. -/
theorem adds (t : Fin cfg0.N) (y : S1408x1024.Idx) :
    k0_pay1 (iblk m c 0 t) (iblk m c 1 t) y = ∑ k : Fin 1408, block (terms m c t y) 1408 (t.val % 7) k := by
  refine (Cert.FfnInDxIdeal.Value.pay_at _ _ _).trans (Finset.sum_congr rfl fun k _ => ?_)
  rw [block_of_lt _ (by omega), terms]
  blk_point [iblk, V, A0, A1, row, place, idx t]

theorem left : (dats m 0 c).arrAt 2 cfg0.N = nt (A0 m c) (A1 m c) :=
  (dats m 0 c).arrAt_eq_of_covers 2 _ (by decide +kernel) fun t hf y => by
    have h : t.val % 7 = 6 := (flush0_2 t).mp hf
    have e : (outsAt0 m c t.val t.isLt).1 y = (outsAt0 m c t.val t.isLt).2 y := by
      rw [outsAt0_C m c t (by omega) (by omega) h]
      frame_out
    blk_simp
    rw [after0_2, e, held (J := 7) (k := 1408) rfl (fun t y => (outsAt0 m c t.val t.isLt).2 y) _ (terms m c)
      (fun t t' e => by unfold terms row; simp only [e]) (adds m c) (fun t y h => ?_) (fun t y h => ?_) t (by omega) y]
    · exact (congrArg (nt (A0 m c) (A1 m c)) (by blk_ext [row, place, idx t] : (win0_2.blk t).view.emb y = ix2 (row t (y 0)) (y 1))).symm
    · rw [outsAt0_A m c t h (by omega) (by omega)]
      frame_out
      rw [k0_pay2, shapeCast_self]
    · by_cases h3 : t.val % 7 = 6
      all_goals
        first | rw [outsAt0_C m c t h (by omega) h3] | rw [outsAt0_B m c t h (by omega) h3]
        frame_out
        rw [k0_pay3, shapeCast_self, (Memref.isWhole_whole _).read_unread]
        rfl

end Cert.InDxIdeal.Value

namespace Cert.InDwIdeal.Value

open Cert.InDwIdeal Cert.InDwIdeal.Gen

variable (m : (ℓ : Loc nD τ sig) → Buf (Elt Ideal) ℓ) (c : Dev nD)

theorem idx : ∀ t : Fin cfg0.N, win0_0.index t = ![t.val % 6, 0] ∧ win0_1.index t = ![t.val % 6, t.val / 6]
    ∧ win0_2.index t = ![0, t.val / 6] :=
  (by decide +kernel : ∀ t : Fin grid0.N, _)

abbrev A0 : Arr 8448 1024 := m ((c : Thread nD τ).loc main_arg0)
abbrev A1 : Arr 8448 9856 := m ((c : Thread nD τ).loc main_arg1)

/-- The column of a tile's element. -/
def col (t : Fin cfg0.N) : Fin 1408 → Fin 9856 := place 1408 (t.val / 6) (by have := lt_of_lt_of_eq t.isLt N_0; omega)

def terms (t : Fin cfg0.N) (y : S1024x1408.Idx) (x : Fin 8448) : EReal := A0 m c (ix2 x (y 0)) * A1 m c (ix2 x (col t (y 1)))

/-- Each point adds its block of them, with the blocks of `ffn_in_dw`. -/
theorem adds (t : Fin cfg0.N) (y : S1024x1408.Idx) :
    k0_pay1 (iblk m c 0 t) (iblk m c 1 t) y = ∑ k : Fin 1408, block (terms m c t y) 1408 (t.val % 6) k := by
  refine (Cert.FfnInDwIdeal.Value.pay_at _ _ _).trans (Finset.sum_congr rfl fun k _ => ?_)
  rw [block_of_lt _ (by omega), terms]
  blk_point [iblk, V, A0, A1, col, place, idx t]

theorem left : (dats m 0 c).arrAt 2 cfg0.N = tn (A0 m c) (A1 m c) :=
  (dats m 0 c).arrAt_eq_of_covers 2 _ (by decide +kernel) fun t hf y => by
    have h : t.val % 6 = 5 := (flush0_2 t).mp hf
    have e : (outsAt0 m c t.val t.isLt).1 y = (outsAt0 m c t.val t.isLt).2 y := by
      rw [outsAt0_C m c t (by omega) (by omega) h]
      frame_out
    blk_simp
    rw [after0_2, e, held (J := 6) (k := 1408) rfl (fun t y => (outsAt0 m c t.val t.isLt).2 y) _ (terms m c)
      (fun t t' e => by unfold terms col; simp only [e]) (adds m c) (fun t y h => ?_) (fun t y h => ?_) t (by omega) y]
    · exact (congrArg (tn (A0 m c) (A1 m c)) (by blk_ext [col, place, idx t] : (win0_2.blk t).view.emb y = ix2 (y 0) (col t (y 1)))).symm
    · rw [outsAt0_A m c t h (by omega) (by omega)]
      frame_out
      rw [k0_pay2, shapeCast_self]
    · by_cases h3 : t.val % 6 = 5
      all_goals
        first | rw [outsAt0_C m c t h (by omega) h3] | rw [outsAt0_B m c t h (by omega) h3]
        frame_out
        rw [k0_pay3, shapeCast_self, (Memref.isWhole_whole _).read_unread]
        rfl

end Cert.InDwIdeal.Value

end
-- ==== Proof.ProductClaims.lean ====
/- The claims on the feed-forward's products and the input projection's gradients: each program's frame, and its result
   equal to its reference's. A program and its ideal program have the same text, so the run is written once, for the ideal
   one, at any number format. -/
module

public import proofs.«01_k».proof.Defs
public import proofs.«01_k».proof.Proof.RunPosts
public import proofs.«01_k».proof.Proof.FfnValue
public import proofs.«01_k».proof.Proof.InGradValue
public import proofs.«01_k».proof.Proof.Gen.FfnInDx
public import proofs.«01_k».proof.Proof.Gen.FfnInDxRefIdeal.Run
public import proofs.«01_k».proof.Proof.Gen.FfnInDw
public import proofs.«01_k».proof.Proof.Gen.FfnInDwRefIdeal.Run
public import proofs.«01_k».proof.Proof.Gen.InDx
public import proofs.«01_k».proof.Proof.Gen.InDxRefIdeal.Run
public import proofs.«01_k».proof.Proof.Gen.InDw
public import proofs.«01_k».proof.Proof.Gen.InDwRefIdeal.Run
public import proofs.«01_k».proof.Proof.Gen.FfnOutDw
public import proofs.«01_k».proof.Proof.Gen.FfnOutDwRefIdeal.Run
public import proofs.«01_k».proof.Proof.Gen.FfnOutDx
public import proofs.«01_k».proof.Proof.Gen.FfnOutDxRefIdeal.Run
public import proofs.«01_k».proof.Proof.Gen.FfnIn
public import proofs.«01_k».proof.Proof.Gen.FfnInRefIdeal.Run
public import proofs.«01_k».proof.Proof.Gen.FfnOut
public import proofs.«01_k».proof.Proof.Gen.FfnOutRefIdeal.Run

@[expose] public section

noncomputable section

namespace Cert.Products

open Idealize.ShloMosaic Idealize.SL.Sem

/-! ## Frames -/

theorem ffn_in_dx_frame : Cert.quiescent_FfnInDx := fun m g _ => by
  unfold Cert.FfnInDx.defs
  rw [show Cert.FfnInDx.defs₀ (F := Bits) = Cert.FfnInDxIdeal.defs₀ from one_body fun _ => rfl]
  exact Cert.FfnInDxIdeal.Gen.frame m g

theorem ffn_in_dw_frame : Cert.quiescent_FfnInDw := fun m g _ => by
  unfold Cert.FfnInDw.defs
  rw [show Cert.FfnInDw.defs₀ (F := Bits) = Cert.FfnInDwIdeal.defs₀ from one_body fun _ => rfl]
  exact Cert.FfnInDwIdeal.Gen.frame m g

theorem in_dx_frame : Cert.quiescent_InDx := fun m g _ => by
  unfold Cert.InDx.defs
  rw [show Cert.InDx.defs₀ (F := Bits) = Cert.InDxIdeal.defs₀ from one_body fun _ => rfl]
  exact Cert.InDxIdeal.Gen.frame m g

theorem in_dw_frame : Cert.quiescent_InDw := fun m g _ => by
  unfold Cert.InDw.defs
  rw [show Cert.InDw.defs₀ (F := Bits) = Cert.InDwIdeal.defs₀ from one_body fun _ => rfl]
  exact Cert.InDwIdeal.Gen.frame m g

theorem ffn_out_dw_frame : Cert.quiescent_FfnOutDw := fun m g _ => by
  unfold Cert.FfnOutDw.defs
  rw [show Cert.FfnOutDw.defs₀ (F := Bits) = Cert.FfnOutDwIdeal.defs₀ from one_body fun _ => rfl]
  exact Cert.FfnOutDwIdeal.Gen.frame m g

theorem ffn_out_dx_frame : Cert.quiescent_FfnOutDx := fun m g _ => by
  unfold Cert.FfnOutDx.defs
  rw [show Cert.FfnOutDx.defs₀ (F := Bits) = Cert.FfnOutDxIdeal.defs₀ from one_body fun _ => rfl]
  exact Cert.FfnOutDxIdeal.Gen.frame m g

theorem ffn_in_frame : Cert.quiescent_FfnIn := fun m g _ => by
  unfold Cert.FfnIn.defs
  rw [show Cert.FfnIn.defs₀ (F := Bits) = Cert.FfnInIdeal.defs₀ from one_body fun _ => rfl]
  exact Cert.FfnInIdeal.Gen.frame m g

theorem ffn_out_frame : Cert.quiescent_FfnOut := fun m g _ => by
  unfold Cert.FfnOut.defs
  rw [show Cert.FfnOut.defs₀ (F := Bits) = Cert.FfnOutIdeal.defs₀ from one_body fun _ => rfl]
  exact Cert.FfnOutIdeal.Gen.frame m g

/-! ## Results -/

theorem ffn_in_dx_algebraic : Cert.algebraic_FfnInDxIdeal_FfnInDxRefIdeal := fun m g m' g' _ hag =>
  ⟨_, renamed (Cert.FfnInDxIdeal.Value.run_blocks m g) (Cert.FfnInDxIdeal.Value.left m), renamed (Cert.FfnInDxRefIdeal.Value.run m' g') fun c => by
    rw [(hag c).1, (hag c).2]
    funext i
    pointwise [nt]⟩

/-- The reference takes the product the other way round and transposes it. -/
theorem ffn_in_dw_algebraic : Cert.algebraic_FfnInDwIdeal_FfnInDwRefIdeal := fun m g m' g' _ hag =>
  ⟨_, renamed (Cert.FfnInDwIdeal.Value.run_blocks m g) (Cert.FfnInDwIdeal.Value.left m), renamed (Cert.FfnInDwRefIdeal.Value.run m' g') fun c => by
    rw [(hag c).1, (hag c).2]
    funext i
    pointwise [tn]
    exact swap _ _⟩

theorem in_dx_algebraic : Cert.algebraic_InDxIdeal_InDxRefIdeal := fun m g m' g' _ hag =>
  ⟨_, renamed (Cert.InDxIdeal.Value.run_blocks m g) (Cert.InDxIdeal.Value.left m), renamed (Cert.InDxRefIdeal.Value.run m' g') fun c => by
    rw [(hag c).1, (hag c).2]
    funext i
    pointwise [nt]⟩

theorem in_dw_algebraic : Cert.algebraic_InDwIdeal_InDwRefIdeal := fun m g m' g' _ hag =>
  ⟨_, renamed (Cert.InDwIdeal.Value.run_blocks m g) (Cert.InDwIdeal.Value.left m), renamed (Cert.InDwRefIdeal.Value.run m' g') fun c => by
    rw [(hag c).1, (hag c).2]
    funext i
    pointwise [tn]
    exact swap _ _⟩

theorem ffn_out_dw_algebraic : Cert.algebraic_FfnOutDwIdeal_FfnOutDwRefIdeal := fun m g m' g' _ hag =>
  ⟨_, renamed (Cert.FfnOutDwIdeal.Value.run_blocks m g) (Cert.FfnOutDwIdeal.Value.left m), renamed (Cert.FfnOutDwRefIdeal.Value.run m' g') fun c => by
    rw [(hag c).1, (hag c).2]
    funext i
    pointwise [tn]
    exact swap _ _⟩

theorem ffn_out_dx_algebraic : Cert.algebraic_FfnOutDxIdeal_FfnOutDxRefIdeal := fun m g m' g' _ hag =>
  ⟨_, renamed (Cert.FfnOutDxIdeal.Value.run_blocks m g) (Cert.FfnOutDxIdeal.Value.left m), renamed (Cert.FfnOutDxRefIdeal.Value.run m' g') fun c => by
    rw [(hag c).1, (hag c).2]
    funext i
    pointwise [nt]⟩

theorem ffn_in_algebraic : Cert.algebraic_FfnInIdeal_FfnInRefIdeal := fun m g m' g' _ hag =>
  ⟨_, renamed (Cert.FfnInIdeal.Value.run_blocks m g) (Cert.FfnInIdeal.Value.left m), renamed (Cert.FfnInRefIdeal.Value.run m' g') fun c => by
    rw [(hag c).1, (hag c).2]
    funext i
    pointwise [nn]⟩

theorem ffn_out_algebraic : Cert.algebraic_FfnOutIdeal_FfnOutRefIdeal := fun m g m' g' _ hag =>
  ⟨_, renamed (Cert.FfnOutIdeal.Value.run_blocks m g) (Cert.FfnOutIdeal.Value.left m), renamed (Cert.FfnOutRefIdeal.Value.run m' g') fun c => by
    rw [(hag c).1, (hag c).2.1, (hag c).2.2]
    funext i
    pointwise [Cert.FfnOutIdeal.Value.sum, nn]
    exact add_comm (Cert.FfnOutIdeal.Value.A2 m c i) (nn (Cert.FfnOutIdeal.Value.A0 m c) (Cert.FfnOutIdeal.Value.A1 m c) i)⟩

end Cert.Products

end
-- ==== Proof.BranchValue.lean ====
/- The branch projections and their two gradients, `branch0`, `branch0_dx` and `branch0_dw`: what their ideal programs
   leave. -/
module

public import proofs.«01_k».proof.Proof.Gen.BranchIdeal.Value
public import proofs.«01_k».proof.Proof.Gen.BranchDxIdeal.Value
public import proofs.«01_k».proof.Proof.Gen.BranchDwIdeal.Value
public import proofs.«01_k».proof.Proof.Products

@[expose] public section

set_option maxRecDepth 16384

noncomputable section

open Cert.Products Idealize.ShloMosaic Idealize.ShloMosaic.TcCoe Idealize.SL.Sem

namespace Cert.BranchIdeal.Value

open Cert.BranchIdeal Cert.BranchIdeal.Gen

variable (m : (ℓ : Loc nD τ sig) → Buf (Elt Ideal) ℓ) (c : Dev nD)

theorem pay_at (x0 : Vec Ideal S1408x1024 .bf16) (x1 : Vec Ideal S1024x1024 .bf16) (y : S1408x1024.Idx) :
    k0_pay2 x0 x1 y = ∑ k : Fin 1024, x0 (ix2 (y 0) k) * x1 (ix2 k (y 1)) := by
  rw [k0_pay2, shapeCast_self]
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

abbrev A0 : Arr 8448 1024 := m ((c : Thread nD τ).loc main_arg0)
abbrev A1 : Arr 1024 1024 := m ((c : Thread nD τ).loc main_arg1)

/-- The row of a tile's element. -/
def row (t : Fin cfg0.N) : Fin 1408 → Fin 8448 := place 1408 t.val (by have := lt_of_lt_of_eq t.isLt N_0; omega)

theorem stored (t : Fin cfg0.N) (y : S1408x1024.Idx) : outsAt0 m c t y = nn (A0 m c) (A1 m c) (ix2 (row t (y 0)) (y 1)) := by
  refine Eq.trans (b := k0_pay2 (iblk m c 0 t) (iblk m c 1 t) y) (by unfold outsAt0; frame_out; rfl) ((pay_at _ _ _).trans (nn_of _ _ _ _ _ _ (fun k => ?_) fun k => ?_))
  · blk_point [iblk, V, row, place, idx t]
  · blk_point [iblk, V, idx t]

theorem left : (dats m 0 c).arrAt 2 cfg0.N = nn (A0 m c) (A1 m c) :=
  (dats m 0 c).arrAt_eq_of_covers 2 _ (by decide +kernel) fun t _ y => by
    blk_simp
    rw [after0_2, stored m c t y]
    exact (congrArg (nn (A0 m c) (A1 m c)) (by blk_ext [row, place, idx t] : (win0_2.blk t).view.emb y = _)).symm

end Cert.BranchIdeal.Value

namespace Cert.BranchDxIdeal.Value

open Cert.BranchDxIdeal Cert.BranchDxIdeal.Gen

variable (m : (ℓ : Loc nD τ sig) → Buf (Elt Ideal) ℓ) (c : Dev nD)

theorem pay_at (x0 : Vec Ideal S1408x1024 .bf16) (x1 : Vec Ideal S1024x1024 .bf16) (y : S1408x1024.Idx) :
    k0_pay2 x0 x1 y = ∑ k : Fin 1024, x0 (ix2 (y 0) k) * x1 (ix2 (y 1) k) := by
  rw [k0_pay2, shapeCast_self]
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

abbrev A0 : Arr 8448 1024 := m ((c : Thread nD τ).loc main_arg0)
abbrev A1 : Arr 1024 1024 := m ((c : Thread nD τ).loc main_arg1)

theorem stored (t : Fin cfg0.N) (y : S1408x1024.Idx) :
    outsAt0 m c t y = nt (A0 m c) (A1 m c) (ix2 (Cert.BranchIdeal.Value.row t (y 0)) (y 1)) := by
  refine Eq.trans (b := k0_pay2 (iblk m c 0 t) (iblk m c 1 t) y) (by unfold outsAt0; frame_out; rfl) ((pay_at _ _ _).trans (nt_of _ _ _ _ _ _ (fun k => ?_) fun k => ?_))
  · blk_point [iblk, V, Cert.BranchIdeal.Value.row, place, idx t]
  · blk_point [iblk, V, idx t]

theorem left : (dats m 0 c).arrAt 2 cfg0.N = nt (A0 m c) (A1 m c) :=
  (dats m 0 c).arrAt_eq_of_covers 2 _ (by decide +kernel) fun t _ y => by
    blk_simp
    rw [after0_2, stored m c t y]
    exact (congrArg (nt (A0 m c) (A1 m c)) (by blk_ext [Cert.BranchIdeal.Value.row, place, idx t] : (win0_2.blk t).view.emb y = _)).symm

end Cert.BranchDxIdeal.Value

namespace Cert.BranchDwIdeal.Value

open Cert.BranchDwIdeal Cert.BranchDwIdeal.Gen

variable (m : (ℓ : Loc nD τ sig) → Buf (Elt Ideal) ℓ) (c : Dev nD)

theorem pay_at (x0 x1 : Vec Ideal S1408x1024 .bf16) (y : S1024x1024.Idx) :
    k0_pay1 x0 x1 y = ∑ k : Fin 1408, x0 (ix2 k (y 0)) * x1 (ix2 k (y 1)) := by
  pointwise [k0_pay1]

theorem idx : ∀ t : Fin cfg0.N, win0_0.index t = ![t.val % 6, 0] ∧ win0_1.index t = ![t.val % 6, 0] ∧ win0_2.index t = ![0, 0] :=
  (by decide +kernel : ∀ t : Fin grid0.N, _)

abbrev A0 : Arr 8448 1024 := m ((c : Thread nD τ).loc main_arg0)
abbrev A1 : Arr 8448 1024 := m ((c : Thread nD τ).loc main_arg1)

/-- Each point adds its block of an element's terms. -/
theorem adds (t : Fin cfg0.N) (y : S1024x1024.Idx) : k0_pay1 (iblk m c 0 t) (iblk m c 1 t) y
    = ∑ k : Fin 1408, block (fun x : Fin 8448 => A0 m c (ix2 x (y 0)) * A1 m c (ix2 x (y 1))) 1408 (t.val % 6) k := by
  refine (pay_at _ _ _).trans (Finset.sum_congr rfl fun k _ => ?_)
  rw [block_of_lt _ (by omega)]
  blk_point [iblk, V, A0, A1, idx t]

theorem first (t : Fin cfg0.N) (y : S1024x1024.Idx) (h : t.val % 6 = 0) :
    (outsAt0 m c t.val t.isLt).2 y = k0_pay1 (iblk m c 0 t) (iblk m c 1 t) y := by
  have := lt_of_lt_of_eq t.isLt N_0
  rw [outsAt0_A m c t h (by omega) (by omega)]
  frame_out
  rw [k0_pay2, shapeCast_self]

theorem later (t : Fin cfg0.N) (y : S1024x1024.Idx) (h : ¬t.val % 6 = 0) : (outsAt0 m c t.val t.isLt).2 y
    = (outsAt0 m c (t.val - 1) (Nat.lt_of_le_of_lt (Nat.sub_le _ _) t.isLt)).2 y + k0_pay1 (iblk m c 0 t) (iblk m c 1 t) y := by
  have := lt_of_lt_of_eq t.isLt N_0
  by_cases h3 : t.val % 6 = 5
  all_goals
    first | rw [outsAt0_C m c t h (by omega) h3] | rw [outsAt0_B m c t h (by omega) h3]
    frame_out
    rw [k0_pay3, shapeCast_self, (Memref.isWhole_whole _).read_unread]
    rfl

theorem last (t : Fin cfg0.N) (y : S1024x1024.Idx) (h : t.val % 6 = 5) :
    (outsAt0 m c t.val t.isLt).1 y = (outsAt0 m c t.val t.isLt).2 y := by
  have := lt_of_lt_of_eq t.isLt N_0
  rw [outsAt0_C m c t (by omega) (by omega) h]
  frame_out

theorem left : (dats m 0 c).arrAt 2 cfg0.N = tn (A0 m c) (A1 m c) :=
  (dats m 0 c).arrAt_eq_of_covers 2 _ (by decide +kernel) fun t hf y => by
    have h : t.val % 6 = 5 := (flush0_2 t).mp hf
    blk_simp
    rw [after0_2, last m c t y h, held (J := 6) (k := 1408) rfl (fun t y => (outsAt0 m c t.val t.isLt).2 y) _ _
      (fun _ _ _ => rfl) (adds m c) (first m c) (later m c) t (by omega) y]
    exact (congrArg (tn (A0 m c) (A1 m c)) (by blk_ext [idx t] : (win0_2.blk t).view.emb y = ix2 (y 0) (y 1))).symm

end Cert.BranchDwIdeal.Value

end
-- ==== Proof.OutProjValue.lean ====
/- The output projection, added to what goes around it, and its two gradients, `out_proj`, `out_proj_dx` and
   `out_proj_dw`: what their ideal programs leave. -/
module

public import proofs.«01_k».proof.Proof.Gen.OutProjIdeal.Value
public import proofs.«01_k».proof.Proof.Gen.OutProjDxIdeal.Value
public import proofs.«01_k».proof.Proof.Gen.OutProjDwIdeal.Value
public import proofs.«01_k».proof.Proof.BranchValue

@[expose] public section

set_option maxRecDepth 16384

noncomputable section

open Cert.Products Idealize.ShloMosaic Idealize.ShloMosaic.TcCoe Idealize.SL.Sem

namespace Cert.OutProjIdeal.Value

open Cert.OutProjIdeal Cert.OutProjIdeal.Gen
open Cert.BranchIdeal.Value (row)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

abbrev A0 : Arr 8448 1024 := m ((c : Thread nD τ).loc main_arg0)
abbrev A1 : Arr 1024 1024 := m ((c : Thread nD τ).loc main_arg1)
abbrev A2 : Arr 8448 1024 := m ((c : Thread nD τ).loc main_arg2)

/-- The product and the third operand. -/
def sum : Arr 8448 1024 := fun i => nn (A0 m c) (A1 m c) i + A2 m c i

theorem stored (t : Fin cfg0.N) (y : S1408x1024.Idx) : outsAt0 m c t y = sum m c (ix2 (row t (y 0)) (y 1)) := by
  refine Eq.trans (b := k0_pay2 (iblk m c 0 t) (iblk m c 1 t) y + iblk m c 2 t y) (by unfold outsAt0; frame_out; rfl)
    (congrArg₂ (fun a b : EReal => a + b)
      ((Cert.BranchIdeal.Value.pay_at _ _ _).trans (nn_of _ _ _ _ _ _ (fun k => ?_) fun k => ?_)) ?_)
  · blk_point [iblk, V, row, place, idx t]
  · blk_point [iblk, V, idx t]
  · blk_point [iblk, V, A2, row, place, idx t]

theorem left : (dats m 0 c).arrAt 3 cfg0.N = sum m c :=
  (dats m 0 c).arrAt_eq_of_covers 3 _ (by decide +kernel) fun t _ y => by
    blk_simp
    rw [after0_3, stored m c t y]
    exact (congrArg (sum m c) (by blk_ext [row, place, idx t] : (win0_3.blk t).view.emb y = _)).symm

end Cert.OutProjIdeal.Value

namespace Cert.OutProjDxIdeal.Value

open Cert.OutProjDxIdeal Cert.OutProjDxIdeal.Gen
open Cert.BranchIdeal.Value (row)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

abbrev A0 : Arr 8448 1024 := m ((c : Thread nD τ).loc main_arg0)
abbrev A1 : Arr 1024 1024 := m ((c : Thread nD τ).loc main_arg1)

/-- Rounding the first operand to the other format changes no number, so the product is the branches'. -/
theorem stored (t : Fin cfg0.N) (y : S1408x1024.Idx) : outsAt0 m c t y = nt (A0 m c) (A1 m c) (ix2 (row t (y 0)) (y 1)) := by
  refine Eq.trans (b := k0_pay2 (iblk m c 0 t) (iblk m c 1 t) y) (by unfold outsAt0; frame_out; rfl)
    ((Cert.BranchDxIdeal.Value.pay_at _ _ _).trans (nt_of _ _ _ _ _ _ (fun k => ?_) fun k => ?_))
  · blk_point [iblk, V, row, place, idx t]
  · blk_point [iblk, V, idx t]

theorem left : (dats m 0 c).arrAt 2 cfg0.N = nt (A0 m c) (A1 m c) :=
  (dats m 0 c).arrAt_eq_of_covers 2 _ (by decide +kernel) fun t _ y => by
    blk_simp
    rw [after0_2, stored m c t y]
    exact (congrArg (nt (A0 m c) (A1 m c)) (by blk_ext [row, place, idx t] : (win0_2.blk t).view.emb y = _)).symm

end Cert.OutProjDxIdeal.Value

namespace Cert.OutProjDwIdeal.Value

open Cert.OutProjDwIdeal Cert.OutProjDwIdeal.Gen

variable (m : (ℓ : Loc nD τ sig) → Buf (Elt Ideal) ℓ) (c : Dev nD)

theorem idx : ∀ t : Fin cfg0.N, win0_0.index t = ![t.val % 6, 0] ∧ win0_1.index t = ![t.val % 6, 0] ∧ win0_2.index t = ![0, 0] :=
  (by decide +kernel : ∀ t : Fin grid0.N, _)

abbrev A0 : Arr 8448 1024 := m ((c : Thread nD τ).loc main_arg0)
abbrev A1 : Arr 8448 1024 := m ((c : Thread nD τ).loc main_arg1)

/-- Each point adds its block of an element's terms, as for the branches. -/
theorem adds (t : Fin cfg0.N) (y : S1024x1024.Idx) : k0_pay1 (iblk m c 0 t) (iblk m c 1 t) y
    = ∑ k : Fin 1408, block (fun x : Fin 8448 => A0 m c (ix2 x (y 0)) * A1 m c (ix2 x (y 1))) 1408 (t.val % 6) k := by
  refine (Cert.BranchDwIdeal.Value.pay_at _ _ _).trans (Finset.sum_congr rfl fun k _ => ?_)
  rw [block_of_lt _ (by omega)]
  blk_point [iblk, V, A0, A1, idx t]

theorem left : (dats m 0 c).arrAt 2 cfg0.N = tn (A0 m c) (A1 m c) :=
  (dats m 0 c).arrAt_eq_of_covers 2 _ (by decide +kernel) fun t hf y => by
    have h : t.val % 6 = 5 := (flush0_2 t).mp hf
    have ht := lt_of_lt_of_eq t.isLt N_0
    have e : (outsAt0 m c t.val t.isLt).1 y = (outsAt0 m c t.val t.isLt).2 y := by
      rw [outsAt0_C m c t (by omega) (by omega) h]
      frame_out
    blk_simp
    rw [after0_2, e, held (J := 6) (k := 1408) rfl (fun t y => (outsAt0 m c t.val t.isLt).2 y) _ _ (fun _ _ _ => rfl)
      (adds m c) (fun t y h => ?_) (fun t y h => ?_) t (by omega) y]
    · exact (congrArg (tn (A0 m c) (A1 m c)) (by blk_ext [idx t] : (win0_2.blk t).view.emb y = ix2 (y 0) (y 1))).symm
    · have := lt_of_lt_of_eq t.isLt N_0
      rw [outsAt0_A m c t h (by omega) (by omega)]
      frame_out
      rw [k0_pay2, shapeCast_self]
    · have := lt_of_lt_of_eq t.isLt N_0
      by_cases h3 : t.val % 6 = 5
      all_goals
        first | rw [outsAt0_C m c t h (by omega) h3] | rw [outsAt0_B m c t h (by omega) h3]
        frame_out
        rw [k0_pay3, shapeCast_self, (Memref.isWhole_whole _).read_unread]
        rfl

end Cert.OutProjDwIdeal.Value

end
-- ==== Proof.InPartsValue.lean ====
/- The input projection's forward pass, six products of 8448 × 1024 by columns of 1024 × 9856 (`in_z`, `in_xbc`,
   `in_qkv`, `in_u`, `in_g`, `in_sm`): what their ideal programs leave. -/
module

public import proofs.«01_k».proof.Proof.Gen.InZIdeal.Value
public import proofs.«01_k».proof.Proof.Gen.InXbcIdeal.Value
public import proofs.«01_k».proof.Proof.Gen.InQkvIdeal.Value
public import proofs.«01_k».proof.Proof.Gen.InUIdeal.Value
public import proofs.«01_k».proof.Proof.Gen.InGIdeal.Value
public import proofs.«01_k».proof.Proof.Gen.InSmIdeal.Value
public import proofs.«01_k».proof.Proof.BranchValue

@[expose] public section

set_option maxRecDepth 16384

noncomputable section

open Cert.Products Idealize.ShloMosaic Idealize.ShloMosaic.TcCoe Idealize.SL.Sem

/-- The rows' tiles of all six products. -/
def Cert.Products.rowAt (s : ℕ) (h : s < 6) : Fin 1408 → Fin 8448 := place 1408 s (by omega)

namespace Cert.InQkvIdeal.Value

open Cert.InQkvIdeal Cert.InQkvIdeal.Gen

variable (m : (ℓ : Loc nD τ sig) → Buf (Elt Ideal) ℓ) (c : Dev nD)

/-- The product of two blocks; the same for all parts cut 512 columns wide. -/
theorem pay_at (x0 : Vec Ideal S1408x1024 .bf16) (x1 : Vec Ideal S1024x512 .bf16) (y : S1408x512.Idx) :
    k0_pay2 x0 x1 y = ∑ k : Fin 1024, x0 (ix2 (y 0) k) * x1 (ix2 k (y 1)) := by
  rw [k0_pay2, shapeCast_self]
  pointwise [k0_pay1]

theorem idx : ∀ t : Fin cfg0.N, win0_0.index t = ![t.val / 6, 0] ∧ win0_1.index t = ![0, t.val % 6 + 5]
    ∧ win0_2.index t = ![t.val / 6, t.val % 6] :=
  (by decide +kernel : ∀ t : Fin grid0.N, _)

abbrev A0 : Arr 8448 1024 := m ((c : Thread nD τ).loc main_arg0)
abbrev A1 : Arr 1024 9856 := m ((c : Thread nD τ).loc main_arg1)

/-- The columns that this part takes of the weights. -/
abbrev B1 : Arr 1024 3072 := cols 3072 2560 (by decide) (A1 m c)

/-- The array index of a tile's element. -/
def at2 (t : Fin cfg0.N) (y : S1408x512.Idx) : S8448x3072.Idx :=
  ix2 (rowAt (t.val / 6) (by have := lt_of_lt_of_eq t.isLt N_0; omega) (y 0)) (place 512 (t.val % 6) (by omega) (y 1))

/-- The weights' window is filled whole at every point. -/
theorem stored (t : Fin cfg0.N) (y : S1408x512.Idx) : outsAt0 m c t y = nn (A0 m c) (B1 m c) (at2 t y) := by
  refine Eq.trans (b := k0_pay2 (iblk m c 0 t) (X0_1 m c t) y) (by unfold outsAt0; frame_out; rfl)
    ((pay_at _ _ _).trans (nn_of _ _ _ _ _ _ (fun k => ?_) fun k => (dif_pos (moved0_1 t _)).trans ?_))
  · blk_point [iblk, V, rowAt, place, idx t]
  · blk_point [iblk, V, cols, place, idx t]

theorem left : (dats m 0 c).arrAt 2 cfg0.N = nn (A0 m c) (B1 m c) :=
  (dats m 0 c).arrAt_eq_of_covers 2 _ (by decide +kernel) fun t _ y => by
    blk_simp
    rw [after0_2, stored m c t y]
    exact (congrArg (nn (A0 m c) (B1 m c)) (by blk_ext [at2, rowAt, place, idx t] : (win0_2.blk t).view.emb y = at2 t y)).symm

end Cert.InQkvIdeal.Value

namespace Cert.InXbcIdeal.Value

open Cert.InXbcIdeal Cert.InXbcIdeal.Gen

variable (m : (ℓ : Loc nD τ sig) → Buf (Elt Ideal) ℓ) (c : Dev nD)

theorem idx : ∀ t : Fin cfg0.N, win0_0.index t = ![t.val / 3, 0] ∧ win0_1.index t = ![0, t.val % 3 + 2]
    ∧ win0_2.index t = ![t.val / 3, t.val % 3] :=
  (by decide +kernel : ∀ t : Fin grid0.N, _)

abbrev A0 : Arr 8448 1024 := m ((c : Thread nD τ).loc main_arg0)
abbrev A1 : Arr 1024 9856 := m ((c : Thread nD τ).loc main_arg1)
abbrev B1 : Arr 1024 1536 := cols 1536 1024 (by decide) (A1 m c)

def at2 (t : Fin cfg0.N) (y : S1408x512.Idx) : S8448x1536.Idx :=
  ix2 (rowAt (t.val / 3) (by have := lt_of_lt_of_eq t.isLt N_0; omega) (y 0)) (place 512 (t.val % 3) (by omega) (y 1))

/-- This part stays in the sums' format. -/
theorem stored (t : Fin cfg0.N) (y : S1408x512.Idx) : outsAt0 m c t y = nn (A0 m c) (B1 m c) (at2 t y) := by
  refine Eq.trans (b := k0_pay2 (iblk m c 0 t) (X0_1 m c t) y) (by unfold outsAt0; frame_out)
    ((Cert.InQkvIdeal.Value.pay_at _ _ _).trans (nn_of _ _ _ _ _ _ (fun k => ?_) fun k => (dif_pos (moved0_1 t _)).trans ?_))
  · blk_point [iblk, V, rowAt, place, idx t]
  · blk_point [iblk, V, cols, place, idx t]

theorem left : (dats m 0 c).arrAt 2 cfg0.N = nn (A0 m c) (B1 m c) :=
  (dats m 0 c).arrAt_eq_of_covers 2 _ (by decide +kernel) fun t _ y => by
    blk_simp
    rw [after0_2, stored m c t y]
    exact (congrArg (nn (A0 m c) (B1 m c)) (by blk_ext [at2, rowAt, place, idx t] : (win0_2.blk t).view.emb y = at2 t y)).symm

end Cert.InXbcIdeal.Value

namespace Cert.InUIdeal.Value

open Cert.InUIdeal Cert.InUIdeal.Gen

variable (m : (ℓ : Loc nD τ sig) → Buf (Elt Ideal) ℓ) (c : Dev nD)

theorem idx : ∀ t : Fin cfg0.N, win0_0.index t = ![t.val / 2, 0] ∧ win0_1.index t = ![0, t.val % 2 + 11]
    ∧ win0_2.index t = ![t.val / 2, t.val % 2] :=
  (by decide +kernel : ∀ t : Fin grid0.N, _)

abbrev A0 : Arr 8448 1024 := m ((c : Thread nD τ).loc main_arg0)
abbrev A1 : Arr 1024 9856 := m ((c : Thread nD τ).loc main_arg1)
abbrev B1 : Arr 1024 1024 := cols 1024 5632 (by decide) (A1 m c)

def at2 (t : Fin cfg0.N) (y : S1408x512.Idx) : S8448x1024.Idx :=
  ix2 (rowAt (t.val / 2) (by have := lt_of_lt_of_eq t.isLt N_0; omega) (y 0)) (place 512 (t.val % 2) (by omega) (y 1))

theorem stored (t : Fin cfg0.N) (y : S1408x512.Idx) : outsAt0 m c t y = nn (A0 m c) (B1 m c) (at2 t y) := by
  refine Eq.trans (b := k0_pay2 (iblk m c 0 t) (X0_1 m c t) y) (by unfold outsAt0; frame_out; rfl)
    ((Cert.InQkvIdeal.Value.pay_at _ _ _).trans (nn_of _ _ _ _ _ _ (fun k => ?_) fun k => (dif_pos (moved0_1 t _)).trans ?_))
  · blk_point [iblk, V, rowAt, place, idx t]
  · blk_point [iblk, V, cols, place, idx t]

theorem left : (dats m 0 c).arrAt 2 cfg0.N = nn (A0 m c) (B1 m c) :=
  (dats m 0 c).arrAt_eq_of_covers 2 _ (by decide +kernel) fun t _ y => by
    blk_simp
    rw [after0_2, stored m c t y]
    exact (congrArg (nn (A0 m c) (B1 m c)) (by blk_ext [at2, rowAt, place, idx t] : (win0_2.blk t).view.emb y = at2 t y)).symm

end Cert.InUIdeal.Value

namespace Cert.InGIdeal.Value

open Cert.InGIdeal Cert.InGIdeal.Gen

variable (m : (ℓ : Loc nD τ sig) → Buf (Elt Ideal) ℓ) (c : Dev nD)

theorem idx : ∀ t : Fin cfg0.N, win0_0.index t = ![t.val / 6, 0] ∧ win0_1.index t = ![0, t.val % 6 + 13]
    ∧ win0_2.index t = ![t.val / 6, t.val % 6] :=
  (by decide +kernel : ∀ t : Fin grid0.N, _)

abbrev A0 : Arr 8448 1024 := m ((c : Thread nD τ).loc main_arg0)
abbrev A1 : Arr 1024 9856 := m ((c : Thread nD τ).loc main_arg1)
abbrev B1 : Arr 1024 3072 := cols 3072 6656 (by decide) (A1 m c)

theorem stored (t : Fin cfg0.N) (y : S1408x512.Idx) : outsAt0 m c t y = nn (A0 m c) (B1 m c) (Cert.InQkvIdeal.Value.at2 t y) := by
  refine Eq.trans (b := k0_pay2 (iblk m c 0 t) (X0_1 m c t) y) (by unfold outsAt0; frame_out; rfl)
    ((Cert.InQkvIdeal.Value.pay_at _ _ _).trans (nn_of _ _ _ _ _ _ (fun k => ?_) fun k => (dif_pos (moved0_1 t _)).trans ?_))
  · blk_point [iblk, V, rowAt, place, idx t]
  · blk_point [iblk, V, cols, place, idx t]

theorem left : (dats m 0 c).arrAt 2 cfg0.N = nn (A0 m c) (B1 m c) :=
  (dats m 0 c).arrAt_eq_of_covers 2 _ (by decide +kernel) fun t _ y => by
    blk_simp
    rw [after0_2, stored m c t y]
    exact (congrArg (nn (A0 m c) (B1 m c)) (by blk_ext [Cert.InQkvIdeal.Value.at2, rowAt, place, idx t] : (win0_2.blk t).view.emb y = _)).symm

end Cert.InGIdeal.Value

namespace Cert.InZIdeal.Value

open Cert.InZIdeal Cert.InZIdeal.Gen
open Cert.BranchIdeal.Value (row)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

abbrev A0 : Arr 8448 1024 := m ((c : Thread nD τ).loc main_arg0)
abbrev A1 : Arr 1024 9856 := m ((c : Thread nD τ).loc main_arg1)
abbrev B1 : Arr 1024 1024 := cols 1024 0 (by decide) (A1 m c)

/-- The first part is one block wide, as a branch is. -/
theorem stored (t : Fin cfg0.N) (y : S1408x1024.Idx) : outsAt0 m c t y = nn (A0 m c) (B1 m c) (ix2 (row t (y 0)) (y 1)) := by
  refine Eq.trans (b := k0_pay2 (iblk m c 0 t) (X0_1 m c t) y) (by unfold outsAt0; frame_out; rfl)
    ((Cert.BranchIdeal.Value.pay_at _ _ _).trans (nn_of _ _ _ _ _ _ (fun k => ?_) fun k => (dif_pos (moved0_1 t _)).trans ?_))
  · blk_point [iblk, V, row, place, idx t]
  · blk_point [iblk, V, cols, idx t]

theorem left : (dats m 0 c).arrAt 2 cfg0.N = nn (A0 m c) (B1 m c) :=
  (dats m 0 c).arrAt_eq_of_covers 2 _ (by decide +kernel) fun t _ y => by
    blk_simp
    rw [after0_2, stored m c t y]
    exact (congrArg (nn (A0 m c) (B1 m c)) (by blk_ext [row, place, idx t] : (win0_2.blk t).view.emb y = _)).symm

end Cert.InZIdeal.Value

namespace Cert.InSmIdeal.Value

open Cert.InSmIdeal Cert.InSmIdeal.Gen

variable (m : (ℓ : Loc nD τ sig) → Buf (Elt Ideal) ℓ) (c : Dev nD)

theorem pay_at (x0 : Vec Ideal S1408x1024 .bf16) (x1 : Vec Ideal S1024x128 .bf16) (y : S1408x128.Idx) :
    k0_pay2 x0 x1 y = ∑ k : Fin 1024, x0 (ix2 (y 0) k) * x1 (ix2 k (y 1)) := by
  rw [k0_pay2, shapeCast_self]
  pointwise [k0_pay1]

theorem idx : ∀ t : Fin cfg0.N, win0_0.index t = ![t.val, 0] ∧ win0_1.index t = ![0, 76] ∧ win0_2.index t = ![t.val, 0] :=
  (by decide +kernel : ∀ t : Fin grid0.N, _)

abbrev A0 : Arr 8448 1024 := m ((c : Thread nD τ).loc main_arg0)
abbrev A1 : Arr 1024 9856 := m ((c : Thread nD τ).loc main_arg1)
abbrev B1 : Arr 1024 128 := cols 128 9728 (by decide) (A1 m c)

theorem stored (t : Fin cfg0.N) (y : S1408x128.Idx) :
    outsAt0 m c t y = nn (A0 m c) (B1 m c) (ix2 (Cert.BranchIdeal.Value.row t (y 0)) (y 1)) := by
  refine Eq.trans (b := k0_pay2 (iblk m c 0 t) (iblk m c 1 t) y) (by unfold outsAt0; frame_out)
    ((pay_at _ _ _).trans (nn_of _ _ _ _ _ _ (fun k => ?_) fun k => ?_))
  · blk_point [iblk, V, Cert.BranchIdeal.Value.row, place, idx t]
  · blk_point [iblk, V, cols, idx t]

theorem left : (dats m 0 c).arrAt 2 cfg0.N = nn (A0 m c) (B1 m c) :=
  (dats m 0 c).arrAt_eq_of_covers 2 _ (by decide +kernel) fun t _ y => by
    blk_simp
    rw [after0_2, stored m c t y]
    exact (congrArg (nn (A0 m c) (B1 m c)) (by blk_ext [Cert.BranchIdeal.Value.row, place, idx t] : (win0_2.blk t).view.emb y = _)).symm

end Cert.InSmIdeal.Value

end
-- ==== Proof.ProjectionClaims.lean ====
/- The claims on the branch projections, the output projection and the input projection's forward pass: each program's
   frame, and its result equal to its reference's. A program and its ideal program have the same text, so the run is
   written once, for the ideal one, at any number format. -/
module

public import proofs.«01_k».proof.Defs
public import proofs.«01_k».proof.Proof.RunPosts
public import proofs.«01_k».proof.Proof.BranchValue
public import proofs.«01_k».proof.Proof.OutProjValue
public import proofs.«01_k».proof.Proof.InPartsValue
public import proofs.«01_k».proof.Proof.Gen.Branch
public import proofs.«01_k».proof.Proof.Gen.BranchRefIdeal.Run
public import proofs.«01_k».proof.Proof.Gen.BranchDx
public import proofs.«01_k».proof.Proof.Gen.BranchDxRefIdeal.Run
public import proofs.«01_k».proof.Proof.Gen.BranchDw
public import proofs.«01_k».proof.Proof.Gen.BranchDwRefIdeal.Run
public import proofs.«01_k».proof.Proof.Gen.OutProj
public import proofs.«01_k».proof.Proof.Gen.OutProjRefIdeal.Run
public import proofs.«01_k».proof.Proof.Gen.OutProjDx
public import proofs.«01_k».proof.Proof.Gen.OutProjDxRefIdeal.Run
public import proofs.«01_k».proof.Proof.Gen.OutProjDw
public import proofs.«01_k».proof.Proof.Gen.OutProjDwRefIdeal.Run
public import proofs.«01_k».proof.Proof.Gen.InZ
public import proofs.«01_k».proof.Proof.Gen.InZRefIdeal.Run
public import proofs.«01_k».proof.Proof.Gen.InXbc
public import proofs.«01_k».proof.Proof.Gen.InXbcRefIdeal.Run
public import proofs.«01_k».proof.Proof.Gen.InQkv
public import proofs.«01_k».proof.Proof.Gen.InQkvRefIdeal.Run
public import proofs.«01_k».proof.Proof.Gen.InU
public import proofs.«01_k».proof.Proof.Gen.InURefIdeal.Run
public import proofs.«01_k».proof.Proof.Gen.InG
public import proofs.«01_k».proof.Proof.Gen.InGRefIdeal.Run
public import proofs.«01_k».proof.Proof.Gen.InSm
public import proofs.«01_k».proof.Proof.Gen.InSmRefIdeal.Run

@[expose] public section

noncomputable section

namespace Cert.Products

open Idealize.ShloMosaic Idealize.SL.Sem

/-! ## Frames -/

theorem branch_frame : Cert.quiescent_Branch := fun m g _ => by
  unfold Cert.Branch.defs
  rw [show Cert.Branch.defs₀ (F := Bits) = Cert.BranchIdeal.defs₀ from one_body fun _ => rfl]
  exact Cert.BranchIdeal.Gen.frame m g

theorem branch_dx_frame : Cert.quiescent_BranchDx := fun m g _ => by
  unfold Cert.BranchDx.defs
  rw [show Cert.BranchDx.defs₀ (F := Bits) = Cert.BranchDxIdeal.defs₀ from one_body fun _ => rfl]
  exact Cert.BranchDxIdeal.Gen.frame m g

theorem branch_dw_frame : Cert.quiescent_BranchDw := fun m g _ => by
  unfold Cert.BranchDw.defs
  rw [show Cert.BranchDw.defs₀ (F := Bits) = Cert.BranchDwIdeal.defs₀ from one_body fun _ => rfl]
  exact Cert.BranchDwIdeal.Gen.frame m g

theorem out_proj_frame : Cert.quiescent_OutProj := fun m g _ => by
  unfold Cert.OutProj.defs
  rw [show Cert.OutProj.defs₀ (F := Bits) = Cert.OutProjIdeal.defs₀ from one_body fun _ => rfl]
  exact Cert.OutProjIdeal.Gen.frame m g

theorem out_proj_dx_frame : Cert.quiescent_OutProjDx := fun m g _ => by
  unfold Cert.OutProjDx.defs
  rw [show Cert.OutProjDx.defs₀ (F := Bits) = Cert.OutProjDxIdeal.defs₀ from one_body fun _ => rfl]
  exact Cert.OutProjDxIdeal.Gen.frame m g

theorem out_proj_dw_frame : Cert.quiescent_OutProjDw := fun m g _ => by
  unfold Cert.OutProjDw.defs
  rw [show Cert.OutProjDw.defs₀ (F := Bits) = Cert.OutProjDwIdeal.defs₀ from one_body fun _ => rfl]
  exact Cert.OutProjDwIdeal.Gen.frame m g

theorem in_z_frame : Cert.quiescent_InZ := fun m g _ => by
  unfold Cert.InZ.defs
  rw [show Cert.InZ.defs₀ (F := Bits) = Cert.InZIdeal.defs₀ from one_body fun _ => rfl]
  exact Cert.InZIdeal.Gen.frame m g

theorem in_xbc_frame : Cert.quiescent_InXbc := fun m g _ => by
  unfold Cert.InXbc.defs
  rw [show Cert.InXbc.defs₀ (F := Bits) = Cert.InXbcIdeal.defs₀ from one_body fun _ => rfl]
  exact Cert.InXbcIdeal.Gen.frame m g

theorem in_qkv_frame : Cert.quiescent_InQkv := fun m g _ => by
  unfold Cert.InQkv.defs
  rw [show Cert.InQkv.defs₀ (F := Bits) = Cert.InQkvIdeal.defs₀ from one_body fun _ => rfl]
  exact Cert.InQkvIdeal.Gen.frame m g

theorem in_u_frame : Cert.quiescent_InU := fun m g _ => by
  unfold Cert.InU.defs
  rw [show Cert.InU.defs₀ (F := Bits) = Cert.InUIdeal.defs₀ from one_body fun _ => rfl]
  exact Cert.InUIdeal.Gen.frame m g

theorem in_g_frame : Cert.quiescent_InG := fun m g _ => by
  unfold Cert.InG.defs
  rw [show Cert.InG.defs₀ (F := Bits) = Cert.InGIdeal.defs₀ from one_body fun _ => rfl]
  exact Cert.InGIdeal.Gen.frame m g

theorem in_sm_frame : Cert.quiescent_InSm := fun m g _ => by
  unfold Cert.InSm.defs
  rw [show Cert.InSm.defs₀ (F := Bits) = Cert.InSmIdeal.defs₀ from one_body fun _ => rfl]
  exact Cert.InSmIdeal.Gen.frame m g

/-! ## Results -/

theorem branch_algebraic : Cert.algebraic_BranchIdeal_BranchRefIdeal := fun m g m' g' _ hag =>
  ⟨_, renamed (Cert.BranchIdeal.Value.run_blocks m g) (Cert.BranchIdeal.Value.left m), renamed (Cert.BranchRefIdeal.Value.run m' g') fun c => by
    rw [(hag c).1, (hag c).2]
    funext i
    pointwise [nn]⟩

theorem branch_dx_algebraic : Cert.algebraic_BranchDxIdeal_BranchDxRefIdeal := fun m g m' g' _ hag =>
  ⟨_, renamed (Cert.BranchDxIdeal.Value.run_blocks m g) (Cert.BranchDxIdeal.Value.left m), renamed (Cert.BranchDxRefIdeal.Value.run m' g') fun c => by
    rw [(hag c).1, (hag c).2]
    funext i
    pointwise [nt]⟩

/-- The reference takes the product the other way round and transposes it. -/
theorem branch_dw_algebraic : Cert.algebraic_BranchDwIdeal_BranchDwRefIdeal := fun m g m' g' _ hag =>
  ⟨_, renamed (Cert.BranchDwIdeal.Value.run_blocks m g) (Cert.BranchDwIdeal.Value.left m), renamed (Cert.BranchDwRefIdeal.Value.run m' g') fun c => by
    rw [(hag c).1, (hag c).2]
    funext i
    pointwise [tn]
    exact swap _ _⟩

theorem out_proj_algebraic : Cert.algebraic_OutProjIdeal_OutProjRefIdeal := fun m g m' g' _ hag =>
  ⟨_, renamed (Cert.OutProjIdeal.Value.run_blocks m g) (Cert.OutProjIdeal.Value.left m), renamed (Cert.OutProjRefIdeal.Value.run m' g') fun c => by
    rw [(hag c).1, (hag c).2.1, (hag c).2.2]
    funext i
    pointwise [Cert.OutProjIdeal.Value.sum, nn]
    exact add_comm (Cert.OutProjIdeal.Value.A2 m c i) (nn (Cert.OutProjIdeal.Value.A0 m c) (Cert.OutProjIdeal.Value.A1 m c) i)⟩

theorem out_proj_dx_algebraic : Cert.algebraic_OutProjDxIdeal_OutProjDxRefIdeal := fun m g m' g' _ hag =>
  ⟨_, renamed (Cert.OutProjDxIdeal.Value.run_blocks m g) (Cert.OutProjDxIdeal.Value.left m), renamed (Cert.OutProjDxRefIdeal.Value.run m' g') fun c => by
    rw [(hag c).1, (hag c).2]
    funext i
    pointwise [nt]⟩

theorem out_proj_dw_algebraic : Cert.algebraic_OutProjDwIdeal_OutProjDwRefIdeal := fun m g m' g' _ hag =>
  ⟨_, renamed (Cert.OutProjDwIdeal.Value.run_blocks m g) (Cert.OutProjDwIdeal.Value.left m), renamed (Cert.OutProjDwRefIdeal.Value.run m' g') fun c => by
    rw [(hag c).1, (hag c).2]
    funext i
    pointwise [tn]
    exact swap _ _⟩

theorem in_z_algebraic : Cert.algebraic_InZIdeal_InZRefIdeal := fun m g m' g' _ hag =>
  ⟨_, renamed (Cert.InZIdeal.Value.run_blocks m g) (Cert.InZIdeal.Value.left m), renamed (Cert.InZRefIdeal.Value.run m' g') fun c => by
    rw [(hag c).1, (hag c).2]
    funext i
    pointwise [nn, cols]⟩

theorem in_xbc_algebraic : Cert.algebraic_InXbcIdeal_InXbcRefIdeal := fun m g m' g' _ hag =>
  ⟨_, renamed (Cert.InXbcIdeal.Value.run_blocks m g) (Cert.InXbcIdeal.Value.left m), renamed (Cert.InXbcRefIdeal.Value.run m' g') fun c => by
    rw [(hag c).1, (hag c).2]
    funext i
    pointwise [nn, cols]⟩

theorem in_qkv_algebraic : Cert.algebraic_InQkvIdeal_InQkvRefIdeal := fun m g m' g' _ hag =>
  ⟨_, renamed (Cert.InQkvIdeal.Value.run_blocks m g) (Cert.InQkvIdeal.Value.left m), renamed (Cert.InQkvRefIdeal.Value.run m' g') fun c => by
    rw [(hag c).1, (hag c).2]
    funext i
    pointwise [nn, cols]⟩

theorem in_u_algebraic : Cert.algebraic_InUIdeal_InURefIdeal := fun m g m' g' _ hag =>
  ⟨_, renamed (Cert.InUIdeal.Value.run_blocks m g) (Cert.InUIdeal.Value.left m), renamed (Cert.InURefIdeal.Value.run m' g') fun c => by
    rw [(hag c).1, (hag c).2]
    funext i
    pointwise [nn, cols]⟩

theorem in_g_algebraic : Cert.algebraic_InGIdeal_InGRefIdeal := fun m g m' g' _ hag =>
  ⟨_, renamed (Cert.InGIdeal.Value.run_blocks m g) (Cert.InGIdeal.Value.left m), renamed (Cert.InGRefIdeal.Value.run m' g') fun c => by
    rw [(hag c).1, (hag c).2]
    funext i
    pointwise [nn, cols]⟩

theorem in_sm_algebraic : Cert.algebraic_InSmIdeal_InSmRefIdeal := fun m g m' g' _ hag =>
  ⟨_, renamed (Cert.InSmIdeal.Value.run_blocks m g) (Cert.InSmIdeal.Value.left m), renamed (Cert.InSmRefIdeal.Value.run m' g') fun c => by
    rw [(hag c).1, (hag c).2]
    funext i
    pointwise [nn, cols]⟩

end Cert.Products

end
-- ==== Proof.RealModel.lean ====
/- One head of the attention over the reals: the weights, the gradients, and how a masked row of scores becomes its
   weights, whatever number the row was shifted by. -/
module

public import Mathlib.Analysis.SpecialFunctions.Log.Basic
public import Mathlib.Data.EReal.Operations
public import Idealize.ShloMosaic.Lib.Pointwise

@[expose] public section

noncomputable section

namespace Cert.Fox

open Idealize.ShloMosaic

/-! ## Sums and functions of reals, seen as extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp_coe (x : ℝ) : Ideal.exp (x : EReal) = ((Real.exp x : ℝ) : EReal) := rfl

theorem log_coe {x : ℝ} (h : 0 < x) : Ideal.log (x : EReal) = ((Real.log x : ℝ) : EReal) := by
  show (if x ≤ 0 then (⊥ : EReal) else _) = _
  rw [if_neg (not_le.mpr h)]

theorem div_coe (x : ℝ) {y : ℝ} (h : 0 < y) : Ideal.div (x : EReal) (y : EReal) = ((x / y : ℝ) : EReal) := by
  unfold Ideal.div
  have hy : (y : EReal) ≠ 0 := by exact_mod_cast h.ne'
  rw [if_neg hy, EReal.coe_div, EReal.div_eq_inv_mul, mul_comm]

/-! ## One head -/

/-- What a head of one sequence is given: its queries, keys and values, the gradient of its result, the keys' biases and
    the scale of the scores. -/
structure Head where
  q : Fin 4112 → Fin 128 → ℝ
  k : Fin 4112 → Fin 128 → ℝ
  v : Fin 4112 → Fin 128 → ℝ
  g : Fin 4112 → Fin 128 → ℝ
  c : Fin 4112 → ℝ
  s : ℝ

namespace Head

variable (H : Head)

/-- The score of a key for a query. -/
def score (r x : Fin 4112) : ℝ := (∑ d, H.q r d * H.k x d) * H.s - H.c x

/-- Its exponential, nothing past the query's own row, and the row's sum. -/
def w (r x : Fin 4112) : ℝ := if x.val ≤ r.val then Real.exp (H.score r x) else 0
def z (r : Fin 4112) : ℝ := ∑ x, H.w r x

/-- The attention's weights and its result. -/
def p (r x : Fin 4112) : ℝ := H.w r x / H.z r
def o (r : Fin 4112) (d : Fin 128) : ℝ := ∑ x, H.v x d * H.p r x

/-- The gradient of the weights, its mean, and the gradient of the scores. -/
def gv (r x : Fin 4112) : ℝ := ∑ d, H.g r d * H.v x d
def dl (r : Fin 4112) : ℝ := ∑ x, H.p r x * H.gv r x
def ds (r x : Fin 4112) : ℝ := H.p r x * (H.gv r x - H.dl r)

/-- The gradients of the queries, the keys, the values, the keys' biases and the queries' biases. -/
def dq (r : Fin 4112) (d : Fin 128) : ℝ := (∑ x, H.ds r x * H.k x d) * H.s
def dk (x : Fin 4112) (d : Fin 128) : ℝ := (∑ r, H.ds r x * H.q r d) * H.s
def dv (x : Fin 4112) (d : Fin 128) : ℝ := ∑ r, H.p r x * H.g r d
def dck (x : Fin 4112) : ℝ := -∑ r, H.ds r x
def dcq (r : Fin 4112) : ℝ := ∑ x, H.ds r x

theorem w_nonneg (r x : Fin 4112) : 0 ≤ H.w r x := by
  unfold w; split
  · exact (Real.exp_pos _).le
  · exact le_rfl

theorem z_pos (r : Fin 4112) : 0 < H.z r := by
  refine Finset.sum_pos' (fun x _ => H.w_nonneg r x) ⟨r, Finset.mem_univ _, ?_⟩
  rw [w, if_pos le_rfl]; exact Real.exp_pos _

theorem p_after {r x : Fin 4112} (h : ¬ x.val ≤ r.val) : H.p r x = 0 := by rw [p, w, if_neg h, zero_div]

theorem ds_after {r x : Fin 4112} (h : ¬ x.val ≤ r.val) : H.ds r x = 0 := by rw [ds, H.p_after h, zero_mul]

/-- The mean of the weights' gradient is the result's gradient against the result. -/
theorem dl_eq (r : Fin 4112) : ∑ d, H.g r d * H.o r d = H.dl r := by
  simp only [o, dl, gv, Finset.mul_sum]
  rw [Finset.sum_comm]
  exact Finset.sum_congr rfl fun x _ => Finset.sum_congr rfl fun d _ => by ring

/-! ## A masked row -/

/-- The row of scores, each moved by `a`, no score past the query's own row. -/
def row (a : ℝ) (r x : Fin 4112) : EReal := if x.val ≤ r.val then ((H.score r x + a : ℝ) : EReal) else ⊥

/-- The row's greatest is a number. -/
theorem max_row (a : ℝ) (r : Fin 4112) : ∃ μ : ℝ, Finset.univ.fold max (⊥ : EReal) (H.row a r) = (μ : EReal) := by
  have h : Finset.univ.fold max (⊥ : EReal) (H.row a r) = Finset.univ.sup (H.row a r) := rfl
  rw [h]
  obtain ⟨x, _, hx⟩ := Finset.exists_mem_eq_sup Finset.univ ⟨r, Finset.mem_univ r⟩ (H.row a r)
  rw [hx]
  by_cases hxr : x.val ≤ r.val
  · exact ⟨_, by rw [row, if_pos hxr]⟩
  · exfalso
    have hle : H.row a r r ≤ Finset.univ.sup (H.row a r) := Finset.le_sup (Finset.mem_univ r)
    rw [hx, row, row, if_pos le_rfl, if_neg hxr] at hle
    exact absurd hle (by simp)

/-- The exponentials of the row moved down by `μ`. -/
def e (a μ : ℝ) (r x : Fin 4112) : ℝ := H.w r x * Real.exp (a - μ)

theorem exp_row (a μ : ℝ) (r x : Fin 4112) : Ideal.exp (H.row a r x - (μ : EReal)) = ((H.e a μ r x : ℝ) : EReal) := by
  unfold row e w
  by_cases h : x.val ≤ r.val
  · rw [if_pos h, if_pos h, ← EReal.coe_sub, exp_coe, ← Real.exp_add, add_sub_assoc]
  · rw [if_neg h, if_neg h, zero_mul, EReal.bot_sub]; exact Ideal.exp_bot

theorem sum_e (a μ : ℝ) (r : Fin 4112) : ∑ x, H.e a μ r x = H.z r * Real.exp (a - μ) := by
  simp only [e, z, Finset.sum_mul]

theorem sum_e_pos (a μ : ℝ) (r : Fin 4112) : 0 < ∑ x, H.e a μ r x := by
  rw [H.sum_e]; exact mul_pos (H.z_pos r) (Real.exp_pos _)

theorem e_div (a μ : ℝ) (r x : Fin 4112) : H.e a μ r x / ∑ y, H.e a μ r y = H.p r x := by
  rw [H.sum_e, e, p]; exact mul_div_mul_right _ _ (Real.exp_pos _).ne'

/-- The row's log-sum, and a weight read off it. -/
def lse (r : Fin 4112) : ℝ := Real.log (H.z r)

theorem lse_eq (μ : ℝ) (r : Fin 4112) : μ + Real.log (∑ x, H.e 0 μ r x) = H.lse r := by
  rw [H.sum_e, Real.log_mul (H.z_pos r).ne' (Real.exp_pos _).ne', Real.log_exp, lse]; ring

theorem p_eq {r x : Fin 4112} (h : x.val ≤ r.val) : Real.exp (H.score r x - H.lse r) = H.p r x := by
  rw [Real.exp_sub, lse, Real.exp_log (H.z_pos r), p, w, if_pos h]

/-- The scores' gradient as the derivative of a quotient of sums has it. -/
theorem ds_eq (a μ : ℝ) (r x : Fin 4112) :
    (H.gv r x / (∑ y, H.e a μ r y) + -∑ y, H.gv r y * (1 / ((∑ i, H.e a μ r i) * ∑ i, H.e a μ r i)) * H.e a μ r y) * H.e a μ r x
      = H.ds r x := by
  have hz := (H.sum_e_pos a μ r).ne'
  have h : ∑ y, H.gv r y * (1 / ((∑ i, H.e a μ r i) * ∑ i, H.e a μ r i)) * H.e a μ r y = H.dl r / ∑ i, H.e a μ r i := by
    rw [dl, Finset.sum_div]
    refine Finset.sum_congr rfl fun y _ => ?_
    rw [← H.e_div a μ r y]; field_simp
  rw [h, ds, ← H.e_div a μ r x]; field_simp; ring

end Head

end Cert.Fox

end
-- ==== Proof.Heads.lean ====
/- The heads of the attention over the arguments' reals, and the numbers that the two programs write out. -/
module

public import proofs.«01_k».proof.Proof.RealModel
public import proofs.«01_k».proof.Proof.Model

@[expose] public section

noncomputable section

namespace Cert.Fox

open Idealize.ShloMosaic

/-- The scale of the scores is a number. -/
theorem scale_number : scale ≠ ⊤ ∧ scale ≠ ⊥ := by
  constructor <;> simp [scale, Ideal.ofBits, Ideal.ieee, -EReal.coe_mul]

def scaleR : ℝ := scale.toReal
theorem scale_eq : scale = (scaleR : EReal) := (EReal.coe_toReal scale_number.1 scale_number.2).symm

theorem ofBits_bot : Ideal.ofBits .f32 0xFF800000#32 = (⊥ : EReal) := by simp [Ideal.ofBits, Ideal.ieee]

theorem ofBits_top : Ideal.ofBits .f32 0x7F800000#32 = (⊤ : EReal) := by simp [Ideal.ofBits, Ideal.ieee]

/-- Head `h` of sequence `b`: its rows begin after the 112 in front of the sequence. -/
def head (x0 : (⟨2, ![8448, 3072]⟩ : Shape).Idx → ℝ) (x1 : (⟨3, ![2, 8, 4224]⟩ : Shape).Idx → ℝ)
    (x2 : (⟨3, ![2, 4112, 1024]⟩ : Shape).Idx → ℝ) (b : Fin 2) (h : Fin 8) : Head where
  q r d := x0 (ix2 ⟨b.val * 4224 + (112 + r.val), by omega⟩ ⟨h.val * 128 + d.val, by omega⟩)
  k r d := x0 (ix2 ⟨b.val * 4224 + (112 + r.val), by omega⟩ ⟨1024 + (h.val * 128 + d.val), by omega⟩)
  v r d := x0 (ix2 ⟨b.val * 4224 + (112 + r.val), by omega⟩ ⟨2048 + (h.val * 128 + d.val), by omega⟩)
  g r d := x2 (ix3 b r ⟨h.val * 128 + d.val, by omega⟩)
  c r := x1 (ix3 b h ⟨112 + r.val, by omega⟩)
  s := scaleR

/-- A sequence's own rows put after 112 rows of zero. -/
def padded (f : Fin 4112 → ℝ) (R : ℕ) : ℝ := if h : 112 ≤ R ∧ R - 112 < 4112 then f ⟨R - 112, h.2⟩ else 0

theorem padded_own (f : Fin 4112 → ℝ) {R : ℕ} (h : 112 ≤ R ∧ R - 112 < 4112) : padded f R = f ⟨R - 112, h.2⟩ := dif_pos h

theorem padded_front (f : Fin 4112 → ℝ) {R : ℕ} (h : ¬ (112 ≤ R ∧ R - 112 < 4112)) : padded f R = 0 := dif_neg h

end Cert.Fox

end
-- ==== Proof.Finite.lean ====
/- An argument the precondition holds of is an array of numbers. -/
module

public import proofs.«01_k».proof.Pre_finite
public import proofs.«01_k».proof.Proof.Heads

@[expose] public section

noncomputable section

namespace Cert.Fox

open Idealize.ShloMosaic

instance facts_finite : Cert.Pre_finite.Facts where
  bcast_S_S8448x3072 := by decide
  bcast_S_S2x8x4224 := by decide
  bcast_S_S2x4112x1024 := by decide

theorem number_of_olt (x : EReal) (h : Ideal.cmp .olt (max x (-x)) (⊤ : EReal) = 1#1) : ((x.toReal : ℝ) : EReal) = x := by
  have hx : max x (-x) < ⊤ := by
    by_contra hn
    rw [Ideal.cmp, decide_eq_false hn] at h
    exact absurd h (by decide)
  have h1 := lt_of_le_of_lt (le_max_left _ _) hx
  have h2 := lt_of_le_of_lt (le_max_right _ _) hx
  refine EReal.coe_toReal h1.ne fun hb => ?_
  rw [hb] at h2
  exact absurd h2 (by simp)

variable (y0 : FVec Ideal Cert.Pre_finite.S8448x3072 .f32) (y1 : FVec Ideal Cert.Pre_finite.S2x8x4224 .f32)
  (y2 : FVec Ideal Cert.Pre_finite.S2x4112x1024 .f32)

theorem numbers0 (h : (Cert.Pre_finite.fn (F := Ideal) y0 y1 y2).1 = fun _ => 1#1) : y0 = fun i => ((EReal.toReal (y0 i) : ℝ) : EReal) :=
  funext fun i => (number_of_olt (y0 i) ((congrArg (Ideal.cmp .olt (max (y0 i) (-(y0 i)))) ofBits_top.symm).trans (congrFun h i))).symm

theorem numbers1 (h : (Cert.Pre_finite.fn (F := Ideal) y0 y1 y2).2.1 = fun _ => 1#1) : y1 = fun i => ((EReal.toReal (y1 i) : ℝ) : EReal) :=
  funext fun i => (number_of_olt (y1 i) ((congrArg (Ideal.cmp .olt (max (y1 i) (-(y1 i)))) ofBits_top.symm).trans (congrFun h i))).symm

theorem numbers2 (h : (Cert.Pre_finite.fn (F := Ideal) y0 y1 y2).2.2 = fun _ => 1#1) : y2 = fun i => ((EReal.toReal (y2 i) : ℝ) : EReal) :=
  funext fun i => (number_of_olt (y2 i) ((congrArg (Ideal.cmp .olt (max (y2 i) (-(y2 i)))) ofBits_top.symm).trans (congrFun h i))).symm

end Cert.Fox
end
-- ==== Proof.RefSteps.lean ====
/- The reference's results in steps: each step a name for a part of the term its run leaves, the terms being long and
   sharing most of their parts. -/
module

public import proofs.«01_k».proof.Proof.Gen.ReferenceIdeal.Run

@[expose] public section

noncomputable section

namespace Cert.ReferenceIdeal.Steps

open Cert.ReferenceIdeal Cert.ReferenceIdeal.Gen Idealize.ShloMosaic Idealize.ShloMosaic.TcCoe Idealize.SL.Sem

variable {F : FTy → Type} [FloatOps F]
variable (A0 : (⟨S8448x3072, .f32⟩ : BufTy).Contents (Elt F)) (A1 : (⟨S2x8x4224, .f32⟩ : BufTy).Contents (Elt F)) (A2 : (⟨S2x4112x1024, .f32⟩ : BufTy).Contents (Elt F))

/-- The keys no later than the query. -/
def keep : (⟨S2x8x4112x4112, .i1⟩ : BufTy).Contents (Elt F) :=
  (broadcastInDim S2x8x4112x4112 ![2, 3] bcast_S4112x4112_S2x8x4112x4112_2_3 (cmpi .sle (broadcastInDim S4112x4112 ![0, 1] bcast_S1x4112_S4112x4112_0_1 (broadcastInDim S1x4112 ![1] bcast_S4112_S1x4112_1 (iotaInDim S4112 32 0))) (broadcastInDim S4112x4112 ![0, 1] bcast_S4112x1_S4112x4112_0_1 (broadcastInDim S4112x1 ![0] bcast_S4112_S4112x1_0 (iotaInDim S4112 32 0)))))

/-- The sequences' own queries, keys and values. -/
def qs : (⟨S2x4112x8x128, .f32⟩ : BufTy).Contents (Elt F) :=
  (extractStridedSlice S2x4112x8x128 ![0, 112, 0, 0] (shapeCast _ (extractStridedSlice S8448x1024 ![0, 0] A0 slices_S8448x3072_S8448x1024_0_0) shapeCasts_S8448x1024_S2x4224x8x128) slices_S2x4224x8x128_S2x4112x8x128_0_112_0_0)

def ks : (⟨S2x4112x8x128, .f32⟩ : BufTy).Contents (Elt F) :=
  (extractStridedSlice S2x4112x8x128 ![0, 112, 0, 0] (shapeCast _ (extractStridedSlice S8448x1024 ![0, 1024] A0 slices_S8448x3072_S8448x1024_0_1024) shapeCasts_S8448x1024_S2x4224x8x128) slices_S2x4224x8x128_S2x4112x8x128_0_112_0_0)

def vs : (⟨S2x4112x8x128, .f32⟩ : BufTy).Contents (Elt F) :=
  (extractStridedSlice S2x4112x8x128 ![0, 112, 0, 0] (shapeCast _ (extractStridedSlice S8448x1024 ![0, 2048] A0 slices_S8448x3072_S8448x1024_0_2048) shapeCasts_S8448x1024_S2x4224x8x128) slices_S2x4224x8x128_S2x4112x8x128_0_112_0_0)

/-- The masked scores. -/
def scores : (⟨S2x8x4112x4112, .f32⟩ : BufTy).Contents (Elt F) :=
  (select (keep (F := F)) (subf (addf (mulf (Host.dotGeneral dot_S2x4112x8x128_S2x4112x8x128_S2x8x4112x4112_3_3_1_1_02_02 none (qs A0) (ks A0)) (broadcastInDim S2x8x4112x4112 ![] bcast_S_S2x8x4112x4112 (constant S_ .f32 0x3DB504F3#32))) (broadcastInDim S2x8x4112x4112 ![0, 1, 2, 3] bcast_S2x8x4112x1_S2x8x4112x4112_0_1_2_3 (broadcastInDim S2x8x4112x1 ![0, 1, 2] bcast_S2x8x4112_S2x8x4112x1_0_1_2 (extractStridedSlice S2x8x4112 ![0, 0, 112] A1 slices_S2x8x4224_S2x8x4112_0_0_112)))) (broadcastInDim S2x8x4112x4112 ![0, 1, 2, 3] bcast_S2x8x1x4112_S2x8x4112x4112_0_1_2_3 (broadcastInDim S2x8x1x4112 ![0, 1, 3] bcast_S2x8x4112_S2x8x1x4112_0_1_3 (extractStridedSlice S2x8x4112 ![0, 0, 112] A1 slices_S2x8x4224_S2x8x4112_0_0_112)))) (broadcastInDim S2x8x4112x4112 ![] bcast_S_S2x8x4112x4112 (id (constant S_ .f32 0xFF800000#32))))

/-- A row's greatest score. -/
def most : (⟨S2x8x4112, .f32⟩ : BufTy).Contents (Elt F) :=
  (maximumf (broadcastInDim S2x8x4112 ![] bcast_S_S2x8x4112 (constant S_ .f32 0xFF800000#32)) (Host.reduce FloatOps.maximumf (scores A0 A1) (constant S_ .f32 0xFF800000#32) reducesTo_S2x8x4112x4112_S2x8x4112_d3 h_S_))

/-- The exponentials of the row moved down by it, and their sum. -/
def exps : (⟨S2x8x4112x4112, .f32⟩ : BufTy).Contents (Elt F) :=
  (Host.exp (subf (scores A0 A1) (broadcastInDim S2x8x4112x4112 ![0, 1, 2, 3] bcast_S2x8x4112x1_S2x8x4112x4112_0_1_2_3 (broadcastInDim S2x8x4112x1 ![0, 1, 2] bcast_S2x8x4112_S2x8x4112x1_0_1_2 (most A0 A1)))))

def total : (⟨S2x8x4112, .f32⟩ : BufTy).Contents (Elt F) :=
  (Host.reduceAdd (exps A0 A1) (constant S_ .f32 0x00000000#32) reducesTo_S2x8x4112x4112_S2x8x4112_d3 h_S_)

def total1 : (⟨S2x8x4112x1, .f32⟩ : BufTy).Contents (Elt F) :=
  (broadcastInDim S2x8x4112x1 ![0, 1, 2] bcast_S2x8x4112_S2x8x4112x1_0_1_2 (total A0 A1))

/-- The result's gradient, laid out by head. -/
def dyT : (⟨S2x8x128x4112, .f32⟩ : BufTy).Contents (Elt F) :=
  (transpose S2x8x128x4112 [0, 2, 3, 1] (shapeCast _ A2 shapeCasts_S2x4112x1024_S2x4112x8x128) transposes_S2x4112x8x128_S2x8x128x4112_0_2_3_1)

/-- The weights' gradient. -/
def dp : (⟨S2x8x4112x4112, .f32⟩ : BufTy).Contents (Elt F) :=
  (Host.dotGeneral dot_S2x8x128x4112_S2x4112x8x128_S2x8x4112x4112_2_3_3_1_01_02 none (dyT A2) (vs A0))

/-- The part of the scores' gradient that is one number per row. -/
def mean : (⟨S2x8x4112, .f32⟩ : BufTy).Contents (Elt F) :=
  (Host.reduceAdd (Host.negf (shapeCast _ (Host.reduceAdd (mulf (mulf (dp A0 A2) (broadcastInDim S2x8x4112x4112 ![0, 1, 2, 3] bcast_S2x8x4112x1_S2x8x4112x4112_0_1_2_3 (Host.divf (broadcastInDim S2x8x4112x1 ![] bcast_S_S2x8x4112x1 (constant S_ .f32 0x3F800000#32)) (mulf (total1 A0 A1) (total1 A0 A1))))) (exps A0 A1)) (constant S_ .f32 0x00000000#32) reducesTo_S2x8x4112x4112_S2x8x4112_d3 h_S_) shapeCasts_S2x8x4112_S2x8x4112x1)) (constant S_ .f32 0x00000000#32) reducesTo_S2x8x4112x1_S2x8x4112_d3 h_S_)

/-- The scores' gradient. -/
def dscores : (⟨S2x8x4112x4112, .f32⟩ : BufTy).Contents (Elt F) :=
  (select (keep (F := F)) (mulf (addf (Host.divf (dp A0 A2) (broadcastInDim S2x8x4112x4112 ![0, 1, 2, 3] bcast_S2x8x4112x1_S2x8x4112x4112_0_1_2_3 (total1 A0 A1))) (broadcastInDim S2x8x4112x4112 ![0, 1, 2] bcast_S2x8x4112_S2x8x4112x4112_0_1_2 (mean A0 A1 A2))) (exps A0 A1)) (broadcastInDim S2x8x4112x4112 ![] bcast_S_S2x8x4112x4112 (constant S_ .f32 0x00000000#32)))

/-- The weights. -/
def weights : (⟨S2x8x4112x4112, .f32⟩ : BufTy).Contents (Elt F) :=
  (Host.divf (exps A0 A1) (broadcastInDim S2x8x4112x4112 ![0, 1, 2, 3] bcast_S2x8x4112x1_S2x8x4112x4112_0_1_2_3 (total1 A0 A1)))

/-- The gradient of the products of queries and keys. -/
def scaled : (⟨S2x8x4112x4112, .f32⟩ : BufTy).Contents (Elt F) :=
  (mulf (dscores A0 A1 A2) (broadcastInDim S2x8x4112x4112 ![] bcast_S_S2x8x4112x4112 (constant S_ .f32 0x3DB504F3#32)))

/-- The gradients of the queries, the keys and the values. -/
def dqs : (⟨S2x4112x8x128, .f32⟩ : BufTy).Contents (Elt F) :=
  (transpose S2x4112x8x128 [0, 2, 1, 3] (Host.dotGeneral dot_S2x8x4112x4112_S2x4112x8x128_S2x8x4112x128_3_1_2_3_01_02 none (scaled A0 A1 A2) (ks A0)) transposes_S2x8x4112x128_S2x4112x8x128_0_2_1_3)

def dks : (⟨S2x4112x8x128, .f32⟩ : BufTy).Contents (Elt F) :=
  (transpose S2x4112x8x128 [0, 2, 1, 3] (Host.dotGeneral dot_S2x8x4112x4112_S2x4112x8x128_S2x8x4112x128_2_1_3_3_01_02 none (scaled A0 A1 A2) (qs A0)) transposes_S2x8x4112x128_S2x4112x8x128_0_2_1_3)

def dvs : (⟨S2x4112x8x128, .f32⟩ : BufTy).Contents (Elt F) :=
  (transpose S2x4112x8x128 [0, 3, 1, 2] (Host.dotGeneral dot_S2x8x128x4112_S2x8x4112x4112_S2x8x128x4112_3_2_2_3_01_01 none (dyT A2) (weights A0 A1)) transposes_S2x8x128x4112_S2x4112x8x128_0_3_1_2)

/-- The three side by side, nothing on the rows in front of a sequence. -/
def all : (⟨S8448x3072, .f32⟩ : BufTy).Contents (Elt F) :=
  (concatenate S8448x3072 1 [⟨S8448x1024, ((shapeCast _ (pad S2x4224x8x128 ![0, 112, 0, 0] ![0, 0, 0, 0] ![0, 0, 0, 0] (dqs A0 A1 A2) (constant S_ .f32 0x00000000#32) pads_S2x4112x8x128_S2x4224x8x128_000_11200_000_000 h_S_) shapeCasts_S2x4224x8x128_S8448x1024) : (⟨S8448x1024, .f32⟩ : BufTy).Contents (Elt F))⟩, ⟨S8448x1024, ((shapeCast _ (pad S2x4224x8x128 ![0, 112, 0, 0] ![0, 0, 0, 0] ![0, 0, 0, 0] (dks A0 A1 A2) (constant S_ .f32 0x00000000#32) pads_S2x4112x8x128_S2x4224x8x128_000_11200_000_000 h_S_) shapeCasts_S2x4224x8x128_S8448x1024) : (⟨S8448x1024, .f32⟩ : BufTy).Contents (Elt F))⟩, ⟨S8448x1024, ((shapeCast _ (pad S2x4224x8x128 ![0, 112, 0, 0] ![0, 0, 0, 0] ![0, 0, 0, 0] (dvs A0 A1 A2) (constant S_ .f32 0x00000000#32) pads_S2x4112x8x128_S2x4224x8x128_000_11200_000_000 h_S_) shapeCasts_S2x4224x8x128_S8448x1024) : (⟨S8448x1024, .f32⟩ : BufTy).Contents (Elt F))⟩] concatenates_S8448x1024_S8448x1024_S8448x1024_S8448x3072_d1 : (⟨S8448x3072, .f32⟩ : BufTy).Contents (Elt F))

/-! ## The results -/

variable (m : (ℓ : Loc nD τ sig) → Buf (Elt F) ℓ) (c : Dev nD)

/-- The arguments as the run finds them. -/
abbrev a0 : (⟨S8448x3072, .f32⟩ : BufTy).Contents (Elt F) := m ((c.tc : Thread nD τ).loc main_arg0)
abbrev a1 : (⟨S2x8x4224, .f32⟩ : BufTy).Contents (Elt F) := m ((c.tc : Thread nD τ).loc main_arg1)
abbrev a2 : (⟨S2x4112x1024, .f32⟩ : BufTy).Contents (Elt F) := m ((c.tc : Thread nD τ).loc main_arg2)

def out0 : (⟨S8448x1024, .f32⟩ : BufTy).Contents (Elt F) :=
  extractStridedSlice S8448x1024 ![0, 0] ((all A0 A1 A2)) slices_S8448x3072_S8448x1024_0_0

def out1 : (⟨S8448x1024, .bf16⟩ : BufTy).Contents (Elt F) :=
  truncf .bf16 (extractStridedSlice S8448x1024 ![0, 1024] ((all A0 A1 A2)) slices_S8448x3072_S8448x1024_0_1024) bitsLt_bf16_f32

def out2 : (⟨S8448x1024, .bf16⟩ : BufTy).Contents (Elt F) :=
  truncf .bf16 (extractStridedSlice S8448x1024 ![0, 2048] ((all A0 A1 A2)) slices_S8448x3072_S8448x1024_0_2048) bitsLt_bf16_f32

def out3 : (⟨S16x1x4224, .f32⟩ : BufTy).Contents (Elt F) :=
  shapeCast _ (pad S2x8x4224 ![0, 0, 112] ![0, 0, 0] ![0, 0, 0] (Host.reduceAdd (shapeCast _ (Host.reduceAdd (Host.negf (dscores A0 A1 A2)) (constant S_ .f32 0x00000000#32) reducesTo_S2x8x4112x4112_S2x8x4112_d2 h_S_) shapeCasts_S2x8x4112_S2x8x1x4112) (constant S_ .f32 0x00000000#32) reducesTo_S2x8x1x4112_S2x8x4112_d2 h_S_) (constant S_ .f32 0x00000000#32) pads_S2x8x4112_S2x8x4224_000_000_11200 h_S_) shapeCasts_S2x8x4224_S16x1x4224

def out4 : (⟨S2x8x4224x1, .f32⟩ : BufTy).Contents (Elt F) :=
  shapeCast _ (pad S2x8x4224 ![0, 0, 112] ![0, 0, 0] ![0, 0, 0] (Host.reduceAdd (shapeCast _ (Host.reduceAdd (dscores A0 A1 A2) (constant S_ .f32 0x00000000#32) reducesTo_S2x8x4112x4112_S2x8x4112_d3 h_S_) shapeCasts_S2x8x4112_S2x8x4112x1) (constant S_ .f32 0x00000000#32) reducesTo_S2x8x4112x1_S2x8x4112_d3 h_S_) (constant S_ .f32 0x00000000#32) pads_S2x8x4112_S2x8x4224_000_000_11200 h_S_) shapeCasts_S2x8x4224_S2x8x4224x1

set_option maxRecDepth 16384 in
theorem out0_eq : Value.res_out0 m c = out0 (a0 m c) (a1 m c) (a2 m c) := by
  unfold Value.res_out0 Value.res_main_v98; rfl

set_option maxRecDepth 16384 in
theorem out1_eq : Value.res_out1 m c = out1 (a0 m c) (a1 m c) (a2 m c) := by
  unfold Value.res_out1 Value.res_main_v101; rfl

set_option maxRecDepth 16384 in
theorem out2_eq : Value.res_out2 m c = out2 (a0 m c) (a1 m c) (a2 m c) := by
  unfold Value.res_out2 Value.res_main_v102; rfl

set_option maxRecDepth 16384 in
theorem out3_eq : Value.res_out3 m c = out3 (a0 m c) (a1 m c) (a2 m c) := by
  unfold Value.res_out3 Value.res_main_v103; rfl

set_option maxRecDepth 16384 in
theorem out4_eq : Value.res_out4 m c = out4 (a0 m c) (a1 m c) (a2 m c) := by
  unfold Value.res_out4 Value.res_main_v104; rfl

end Cert.ReferenceIdeal.Steps

end
-- ==== Proof.Blocks.lean ====
/- The blocks a point of the kernel is on, where they sit in the operands. -/
module

public import proofs.«01_k».proof.Proof.PointValues
public import Idealize.ShloMosaic.Lib.Pipeline.ValueKit

@[expose] public section

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem lt_N (t : Fin cfg0.N) : t.val < 176 := Nat.lt_of_lt_of_eq t.isLt N_0

/-- The sequence, the head and the key block of a point. -/
def bt (t : Fin cfg0.N) : Fin 2 := ⟨t.val / 88, by have := lt_N t; omega⟩
def ht (t : Fin cfg0.N) : Fin 8 := ⟨t.val / 11 % 8, by omega⟩
def jt (t : Fin cfg0.N) : Fin 11 := ⟨t.val % 11, by omega⟩

theorem bt_val (t : Fin cfg0.N) : (bt t).val = t.val / 88 := rfl
theorem ht_val (t : Fin cfg0.N) : (ht t).val = t.val / 11 % 8 := rfl
theorem jt_val (t : Fin cfg0.N) : (jt t).val = t.val % 11 := rfl

theorem idx : ∀ t : Fin cfg0.N, win0_0.index t = ![t.val / 88, t.val / 11 % 8]
    ∧ win0_1.index t = ![t.val / 88 * 11 + t.val % 11, 8 + t.val / 11 % 8]
    ∧ win0_2.index t = ![t.val / 88 * 11 + t.val % 11, 16 + t.val / 11 % 8]
    ∧ win0_3.index t = ![t.val / 88, t.val / 11 % 8]
    ∧ win0_4.index t = ![t.val / 88, t.val / 11 % 8]
    ∧ win0_5.index t = ![t.val / 88, t.val / 11 % 8, 0, 0]
    ∧ win0_6.index t = ![t.val / 88 * 8 + t.val / 11 % 8, 0, t.val % 11]
    ∧ win0_7.index t = ![t.val / 88, t.val / 11 % 8]
    ∧ win0_8.index t = ![t.val / 88 * 11 + t.val % 11, t.val / 11 % 8]
    ∧ win0_9.index t = ![t.val / 88 * 11 + t.val % 11, t.val / 11 % 8]
    ∧ win0_10.index t = ![t.val / 88 * 8 + t.val / 11 % 8, 0, t.val % 11]
    ∧ win0_11.index t = ![t.val / 88, t.val / 11 % 8, 0, 0] :=
  (by decide +kernel : ∀ t : Fin grid0.N, _)

variable (t : Fin cfg0.N)

theorem blk0 (R : Fin 4224) (d : Fin 128) : iblk m c 0 t (ix2 R d)
    = V m c main_v56 (ix2 (⟨(bt t).val * 4224 + R.val, by omega⟩ : Fin 8448) (⟨(ht t).val * 128 + d.val, by omega⟩ : Fin 3072)) := by
  blk_ext [iblk, idx t, bt_val, ht_val]

theorem blk1 (x : Fin 384) (d : Fin 128) : iblk m c 1 t (ix2 x d)
    = V m c main_v56 (ix2 (⟨(bt t).val * 4224 + (384 * (jt t).val + x.val), by omega⟩ : Fin 8448) (⟨1024 + ((ht t).val * 128 + d.val), by omega⟩ : Fin 3072)) := by
  blk_ext [iblk, idx t, bt_val, ht_val, jt_val]

theorem blk2 (x : Fin 384) (d : Fin 128) : iblk m c 2 t (ix2 x d)
    = V m c main_v56 (ix2 (⟨(bt t).val * 4224 + (384 * (jt t).val + x.val), by omega⟩ : Fin 8448) (⟨2048 + ((ht t).val * 128 + d.val), by omega⟩ : Fin 3072)) := by
  blk_ext [iblk, idx t, bt_val, ht_val, jt_val]

theorem blk3 (R : Fin 4224) (d : Fin 128) : iblk m c 3 t (ix2 R d)
    = V m c main_v59 (ix2 (⟨(bt t).val * 4224 + R.val, by omega⟩ : Fin 8448) (⟨(ht t).val * 128 + d.val, by omega⟩ : Fin 1024)) := by
  blk_ext [iblk, idx t, bt_val, ht_val]

theorem blk4 (R : Fin 4224) (d : Fin 128) : iblk m c 4 t (ix2 R d)
    = V m c main_v62 (ix2 (⟨(bt t).val * 4224 + R.val, by omega⟩ : Fin 8448) (⟨(ht t).val * 128 + d.val, by omega⟩ : Fin 1024)) := by
  blk_ext [iblk, idx t, bt_val, ht_val]

theorem blk5 (R : Fin 4224) : iblk m c 5 t (ix4 (0 : Fin 1) (0 : Fin 1) R (0 : Fin 1))
    = V m c main_v63 (ix4 (bt t) (ht t) R (0 : Fin 1)) := by
  blk_ext [iblk, idx t, bt_val, ht_val]

theorem blk6 (x : Fin 384) : iblk m c 6 t (ix3 (0 : Fin 1) (0 : Fin 1) x)
    = V m c main_v55 (ix3 (⟨(bt t).val * 8 + (ht t).val, by omega⟩ : Fin 16) (0 : Fin 1) (⟨384 * (jt t).val + x.val, by omega⟩ : Fin 4224)) := by
  blk_ext [iblk, idx t, bt_val, ht_val, jt_val]

end Cert.KernelIdeal.Blocks
end
-- ==== Proof.HostSteps.lean ====
/- What the kernel's operands hold when it is launched, in steps. -/
module

public import proofs.«01_k».proof.Proof.Gen.KernelIdeal.Frame
public import proofs.«01_k».proof.Proof.RefSteps
public import Idealize.ShloMosaic.Lib.StableHlo.ReadAt

@[expose] public section

set_option maxRecDepth 16384

noncomputable section

namespace Cert.KernelIdeal.Host

open Cert.ReferenceIdeal.Steps (keep qs ks vs)
open Cert.KernelIdeal Cert.KernelIdeal.Gen Idealize.ShloMosaic Idealize.ShloMosaic.TcCoe Idealize.SL.Sem

variable {F : FTy → Type} [FloatOps F]
variable (A0 : (⟨S8448x3072, .f32⟩ : BufTy).Contents (Elt F)) (A1 : (⟨S2x8x4224, .f32⟩ : BufTy).Contents (Elt F)) (A2 : (⟨S2x4112x1024, .f32⟩ : BufTy).Contents (Elt F))
variable (m : (ℓ : Loc nD τ sig) → Buf (Elt F) ℓ) (c : Dev nD)

/-- The masked scores, each key's number taken off. -/
def scores : (⟨S2x8x4112x4112, .f32⟩ : BufTy).Contents (Elt F) :=
  select (keep (F := F)) (subf (addf (mulf (Host.dotGeneral dot_S2x4112x8x128_S2x4112x8x128_S2x8x4112x4112_3_3_1_1_02_02 none
      (qs A0) (ks A0)) (broadcastInDim S2x8x4112x4112 ![] bcast_S_S2x8x4112x4112 (constant S_ .f32 0x3DB504F3#32)))
    (broadcastInDim S2x8x4112x4112 ![0, 1, 2, 3] bcast_S2x8x4112x1_S2x8x4112x4112_0_1_2_3
      (broadcastInDim S2x8x4112x1 ![0, 1, 2] bcast_S2x8x4112_S2x8x4112x1_0_1_2
        (extractStridedSlice S2x8x4112 ![0, 0, 112] (broadcastInDim S2x8x4224 ![] bcast_S_S2x8x4224 (constant S_ .f32 0x00000000#32))
          slices_S2x8x4224_S2x8x4112_0_0_112))))
    (broadcastInDim S2x8x4112x4112 ![0, 1, 2, 3] bcast_S2x8x1x4112_S2x8x4112x4112_0_1_2_3
      (broadcastInDim S2x8x1x4112 ![0, 1, 3] bcast_S2x8x4112_S2x8x1x4112_0_1_3
        (extractStridedSlice S2x8x4112 ![0, 0, 112] A1 slices_S2x8x4224_S2x8x4112_0_0_112))))
    (broadcastInDim S2x8x4112x4112 ![] bcast_S_S2x8x4112x4112 (id (constant S_ .f32 0xFF800000#32)))

/-- A row's greatest score. -/
def most : (⟨S2x8x4112, .f32⟩ : BufTy).Contents (Elt F) :=
  Host.reduce FloatOps.maximumf (scores A0 A1) (constant S_ .f32 0xFF800000#32) reducesTo_S2x8x4112x4112_S2x8x4112_d3 h_S_

def most1 : (⟨S2x8x4112x1, .f32⟩ : BufTy).Contents (Elt F) :=
  broadcastInDim S2x8x4112x1 ![0, 1, 2] bcast_S2x8x4112_S2x8x4112x1_0_1_2 (most A0 A1)

/-- The same with the least number below it. -/
def mostB : (⟨S2x8x4112, .f32⟩ : BufTy).Contents (Elt F) :=
  maximumf (broadcastInDim S2x8x4112 ![] bcast_S_S2x8x4112 (constant S_ .f32 0xFF800000#32)) (most A0 A1)

def mostB1 : (⟨S2x8x4112x1, .f32⟩ : BufTy).Contents (Elt F) :=
  broadcastInDim S2x8x4112x1 ![0, 1, 2] bcast_S2x8x4112_S2x8x4112x1_0_1_2 (mostB A0 A1)

/-- The exponentials of a row moved down by its greatest, and their sum. -/
def exps (M : (⟨S2x8x4112x1, .f32⟩ : BufTy).Contents (Elt F)) : (⟨S2x8x4112x4112, .f32⟩ : BufTy).Contents (Elt F) :=
  Host.exp (subf (scores A0 A1) (broadcastInDim S2x8x4112x4112 ![0, 1, 2, 3] bcast_S2x8x4112x1_S2x8x4112x4112_0_1_2_3 M))

def total1 (M : (⟨S2x8x4112x1, .f32⟩ : BufTy).Contents (Elt F)) : (⟨S2x8x4112x1, .f32⟩ : BufTy).Contents (Elt F) :=
  broadcastInDim S2x8x4112x1 ![0, 1, 2] bcast_S2x8x4112_S2x8x4112x1_0_1_2
    (Host.reduceAdd (exps A0 A1 M) (constant S_ .f32 0x00000000#32) reducesTo_S2x8x4112x4112_S2x8x4112_d3 h_S_)

/-- The log of a row's sum. -/
def logs : (⟨S2x8x4112x1, .f32⟩ : BufTy).Contents (Elt F) := addf (most1 A0 A1) (Host.log (total1 A0 A1 (most1 A0 A1)))

/-- The weights. -/
def weights : (⟨S2x8x4112x4112, .f32⟩ : BufTy).Contents (Elt F) :=
  Host.divf (exps A0 A1 (mostB1 A0 A1))
    (broadcastInDim S2x8x4112x4112 ![0, 1, 2, 3] bcast_S2x8x4112x1_S2x8x4112x4112_0_1_2_3 (total1 A0 A1 (mostB1 A0 A1)))

/-- The weighted values. -/
def outs : (⟨S2x4112x1024, .f32⟩ : BufTy).Contents (Elt F) :=
  shapeCast _ (transpose S2x4112x8x128 [0, 3, 1, 2]
    (Host.dotGeneral dot_S2x4112x8x128_S2x8x4112x4112_S2x8x128x4112_1_3_3_2_02_01 none (vs A0) (weights A0 A1))
    transposes_S2x8x128x4112_S2x4112x8x128_0_3_1_2) shapeCasts_S2x4112x8x128_S2x4112x1024

/-- Rows of a sequence put after 112 rows of zero. -/
def padRows (x : (⟨S2x4112x1024, .f32⟩ : BufTy).Contents (Elt F)) : (⟨S8448x1024, .bf16⟩ : BufTy).Contents (Elt F) :=
  truncf .bf16 (shapeCast S8448x1024 (pad S2x4224x1024 ![0, 112, 0] ![0, 0, 0] ![0, 0, 0] x (sitofp .f32 (constantI S_ 32 0#32))
    pads_S2x4112x1024_S2x4224x1024_000_11200_000 h_S_) shapeCasts_S2x4224x1024_S8448x1024) bitsLt_bf16_f32

/-- The keys' numbers, the 112 in front of a sequence out of reach. -/
def cums : (⟨S16x1x4224, .f32⟩ : BufTy).Contents (Elt F) :=
  shapeCast _ (select (cmpi .slt (iotaInDim S2x8x4224 32 2) (broadcastInDim S2x8x4224 ![] bcast_S_S2x8x4224 (constantI S_ 32 112#32)))
    (broadcastInDim S2x8x4224 ![] bcast_S_S2x8x4224 (id (constant S_ .f32 0x7F800000#32))) A1) shapeCasts_S2x8x4224_S16x1x4224

def logsPad : (⟨S2x8x4224x1, .f32⟩ : BufTy).Contents (Elt F) :=
  pad S2x8x4224x1 ![0, 0, 112, 0] ![0, 0, 0, 0] ![0, 0, 0, 0] (logs A0 A1) (sitofp .f32 (constantI S_ 32 0#32))
    pads_S2x8x4112x1_S2x8x4224x1_000_000_11200_000 h_S_

def heads : (⟨S8448x3072, .bf16⟩ : BufTy).Contents (Elt F) := truncf .bf16 A0 bitsLt_bf16_f32

theorem v56_eq : V m c main_v56 = heads (m (c, Proc.devRef .tc main_arg0)) := by
  unfold V
  after_reads_simp
  rfl

theorem v55_eq : V m c main_v55 = cums (m (c, Proc.devRef .tc main_arg1)) := by
  unfold V
  after_reads_simp
  simp -implicitDefEqProofs only [StableHlo.TRef.toBuf, StableHlo.TRef.ofBuf, cast_cast, cast_eq]
  rfl

theorem v59_eq : V m c main_v59 = padRows (m (c, Proc.devRef .tc main_arg2)) := by
  unfold V
  after_reads_simp
  simp -implicitDefEqProofs only [StableHlo.TRef.toBuf, StableHlo.TRef.ofBuf, cast_cast, cast_eq]
  rfl

theorem v62_eq : V m c main_v62 = padRows (outs (m (c, Proc.devRef .tc main_arg0)) (m (c, Proc.devRef .tc main_arg1))) := by
  unfold V
  after_reads_simp
  simp -implicitDefEqProofs only [StableHlo.TRef.toBuf, StableHlo.TRef.ofBuf, cast_cast, cast_eq]
  rfl

theorem v63_eq : V m c main_v63 = logsPad (m (c, Proc.devRef .tc main_arg0)) (m (c, Proc.devRef .tc main_arg1)) := by
  unfold V
  after_reads_simp
  simp -implicitDefEqProofs only [StableHlo.TRef.toBuf, StableHlo.TRef.ofBuf, cast_cast, cast_eq]
  rfl

end Cert.KernelIdeal.Host
end
-- ==== Proof.RefValue.lean ====
/- The reference's steps read at an index, the arguments' elements being numbers: each is the head's own. -/
module

public import proofs.«01_k».proof.Proof.RefSteps
public import proofs.«01_k».proof.Proof.Heads
public import Idealize.ShloMosaic.Lib.WordCmp

@[expose] public section

set_option maxRecDepth 16384

noncomputable section

namespace Cert.ReferenceIdeal.Steps

open Idealize.ShloMosaic.WordCmp (select_one select_zero)
open Cert.ReferenceIdeal Cert.ReferenceIdeal.Gen Idealize.ShloMosaic Cert.Fox

variable (x0 : (⟨2, ![8448, 3072]⟩ : Shape).Idx → ℝ) (x1 : (⟨3, ![2, 8, 4224]⟩ : Shape).Idx → ℝ)
  (x2 : (⟨3, ![2, 4112, 1024]⟩ : Shape).Idx → ℝ)

/-- The arguments with these elements. -/
abbrev c0 : (⟨S8448x3072, .f32⟩ : BufTy).Contents (Elt Ideal) := fun i => ((x0 i : ℝ) : EReal)
abbrev c1 : (⟨S2x8x4224, .f32⟩ : BufTy).Contents (Elt Ideal) := fun i => ((x1 i : ℝ) : EReal)
abbrev c2 : (⟨S2x4112x1024, .f32⟩ : BufTy).Contents (Elt Ideal) := fun i => ((x2 i : ℝ) : EReal)

variable (b : Fin 2) (h : Fin 8)
theorem keep_at (r x : Fin 4112) : keep (F := Ideal) (ix4 b h r x) = if x.val ≤ r.val then 1#1 else 0#1 := by
  pointwise [keep]
  rw [WordCmp.cmpi_sle_ofNat (by have := x.isLt; omega) (by have := r.isLt; omega)]
  by_cases hx : x.val ≤ r.val <;> simp [hx]

theorem qs_at (r : Fin 4112) (d : Fin 128) : qs (c0 x0) (ix4 b r h d) = (((head x0 x1 x2 b h).q r d : ℝ) : EReal) := by
  pointwise [qs]; rfl

theorem ks_at (r : Fin 4112) (d : Fin 128) : ks (c0 x0) (ix4 b r h d) = (((head x0 x1 x2 b h).k r d : ℝ) : EReal) := by
  pointwise [ks]; rfl

theorem vs_at (r : Fin 4112) (d : Fin 128) : vs (c0 x0) (ix4 b r h d) = (((head x0 x1 x2 b h).v r d : ℝ) : EReal) := by
  pointwise [vs]; rfl

theorem dyT_at (r : Fin 4112) (d : Fin 128) : dyT (c2 x2) (ix4 b h d r) = (((head x0 x1 x2 b h).g r d : ℝ) : EReal) := by
  pointwise [dyT]; rfl

theorem scores_at (r x : Fin 4112) :
    scores (c0 x0) (c1 x1) (ix4 b h r x) = (head x0 x1 x2 b h).row ((head x0 x1 x2 b h).c r) r x := by
  pointwise [scores]
  rw [keep_at, Head.row]
  by_cases hx : x.val ≤ r.val
  · rw [if_pos hx, if_pos hx, select_one]
    simp only [qs_at x0 x1 x2 b h, ks_at x0 x1 x2 b h, ← EReal.coe_mul]
    rw [← coe_sum]
    change _ * scale + ((head x0 x1 x2 b h).c r : EReal) - ((head x0 x1 x2 b h).c x : EReal) = _
    rw [scale_eq, ← EReal.coe_mul, ← EReal.coe_add, ← EReal.coe_sub]
    refine congrArg (fun y : ℝ => (y : EReal)) ?_
    unfold Head.score
    change _ * scaleR + _ - _ = _ * scaleR - _ + _
    ring
  · rw [if_neg hx, if_neg hx, select_zero]
    exact ofBits_bot

theorem row_max (s : S2x8x4112x4112.Idx → EReal) (h' : S2x8x4112x4112.ReducesTo [3] S2x8x4112) (hu : 0 < S_.numel)
    (b : Fin 2) (h : Fin 8) (r : Fin 4112) :
    Host.reduce (α := Ideal .f32) FloatOps.maximumf s (constant (F := Ideal) S_ .f32 0xFF800000#32) h' hu
      (ix3 b h r) = Finset.univ.fold max ⊥ fun x : Fin 4112 => s (ix4 b h r x) := by
  rw [Host.reduce_eq_fold_single (α := Ideal .f32) _ _ _ _ (show S2x8x4112x4112.Reduces [3] S2x8x4112 by decide)]
  change Finset.univ.fold max (Ideal.ofBits .f32 0xFF800000#32) _ = _
  rw [ofBits_bot]
  refine congrArg (fun f : Fin 4112 → EReal => Finset.univ.fold max ⊥ f) (funext fun x => ?_)
  refine congrArg s (funext fun a => ?_)
  match a with
  | 0 => rfl
  | 1 => rfl
  | 2 => rfl
  | 3 => rfl

theorem maximumf_at {t : Shape} (x y : t.Idx → Elt Ideal .f32) (j : t.Idx) :
    maximumf (F := Ideal) (φ := .f32) x y j = max (x j : EReal) (y j) := rfl

theorem most_apply (A0 : (⟨S8448x3072, .f32⟩ : BufTy).Contents (Elt Ideal)) (A1 : (⟨S2x8x4224, .f32⟩ : BufTy).Contents (Elt Ideal))
    (j : S2x8x4112.Idx) : most A0 A1 j = max (Ideal.ofBits .f32 0xFF800000#32)
      (Host.reduce (α := Ideal .f32) FloatOps.maximumf (scores A0 A1) (constant (F := Ideal) S_ .f32 0xFF800000#32)
        reducesTo_S2x8x4112x4112_S2x8x4112_d3 h_S_ j) := by
  unfold most
  generalize Host.reduce (α := Ideal .f32) FloatOps.maximumf (scores A0 A1) _ _ _ = y
  exact maximumf_at _ y j

include x2 in
/-- A row's greatest score is a number. -/
theorem most_at (r : Fin 4112) : ∃ μ : ℝ, most (c0 x0) (c1 x1) (ix3 b h r) = (μ : EReal) := by
  obtain ⟨μ, hμ⟩ := (head x0 x1 x2 b h).max_row ((head x0 x1 x2 b h).c r) r
  refine ⟨μ, ?_⟩
  rw [most_apply, row_max, ofBits_bot, max_eq_right bot_le, ← hμ]
  exact congrArg (fun f : Fin 4112 → EReal => Finset.univ.fold max ⊥ f) (funext fun x => scores_at x0 x1 x2 b h r x)

/-- A row's greatest score, as a number. -/
def mu (r : Fin 4112) : ℝ := (most_at x0 x1 x2 b h r).choose

theorem most_eq (r : Fin 4112) : most (c0 x0) (c1 x1) (ix3 b h r) = ((mu x0 x1 x2 b h r : ℝ) : EReal) :=
  (most_at x0 x1 x2 b h r).choose_spec

/-- A row's exponentials. -/
abbrev ee (r x : Fin 4112) : ℝ := (head x0 x1 x2 b h).e ((head x0 x1 x2 b h).c r) (mu x0 x1 x2 b h r) r x

theorem exps_at (r x : Fin 4112) : exps (c0 x0) (c1 x1) (ix4 b h r x) = ((ee x0 x1 x2 b h r x : ℝ) : EReal) := by
  pointwise [exps]
  rw [scores_at x0 x1 x2, most_eq x0 x1 x2, Head.exp_row]

theorem total_at (r : Fin 4112) : total (c0 x0) (c1 x1) (ix3 b h r) = ((∑ x, ee x0 x1 x2 b h r x : ℝ) : EReal) := by
  pointwise [total]
  rw [coe_sum]
  exact Finset.sum_congr rfl fun x _ => exps_at x0 x1 x2 b h r x

theorem total1_at (r : Fin 4112) (z : Fin 1) :
    total1 (c0 x0) (c1 x1) (ix4 b h r z) = ((∑ x, ee x0 x1 x2 b h r x : ℝ) : EReal) := by
  pointwise [total1]
  exact total_at x0 x1 x2 b h r

theorem weights_at (r x : Fin 4112) :
    weights (c0 x0) (c1 x1) (ix4 b h r x) = (((head x0 x1 x2 b h).p r x : ℝ) : EReal) := by
  pointwise [weights]
  rw [exps_at x0 x1 x2, total1_at x0 x1 x2, div_coe _ (Head.sum_e_pos _ _ _ _), Head.e_div]

theorem dp_at (r x : Fin 4112) : dp (c0 x0) (c2 x2) (ix4 b h r x) = (((head x0 x1 x2 b h).gv r x : ℝ) : EReal) := by
  pointwise [dp]
  rw [Head.gv, coe_sum]
  refine Finset.sum_congr rfl fun d _ => ?_
  rw [dyT_at x0 x1 x2, vs_at x0 x1 x2, EReal.coe_mul]

/-- The number of a row. -/
abbrev mm (r : Fin 4112) : ℝ :=
  -∑ y, (head x0 x1 x2 b h).gv r y * (1 / ((∑ i, ee x0 x1 x2 b h r i) * ∑ i, ee x0 x1 x2 b h r i)) * ee x0 x1 x2 b h r y

theorem mean_at (r : Fin 4112) : mean (c0 x0) (c1 x1) (c2 x2) (ix3 b h r) = ((mm x0 x1 x2 b h r : ℝ) : EReal) := by
  pointwise [mean]
  simp only [exps_at x0 x1 x2 b h, total1_at x0 x1 x2 b h, dp_at x0 x1 x2 b h, ← EReal.coe_mul, ← EReal.coe_one]
  rw [div_coe _ (mul_pos (Head.sum_e_pos _ _ _ _) (Head.sum_e_pos _ _ _ _))]
  simp only [← EReal.coe_mul]
  rw [← coe_sum, ← EReal.coe_neg]
  exact Fin.sum_univ_one _

theorem dscores_at (r x : Fin 4112) :
    dscores (c0 x0) (c1 x1) (c2 x2) (ix4 b h r x) = (((head x0 x1 x2 b h).ds r x : ℝ) : EReal) := by
  pointwise [dscores]
  rw [keep_at]
  by_cases hx : x.val ≤ r.val
  · rw [if_pos hx, select_one, exps_at x0 x1 x2, total1_at x0 x1 x2, dp_at x0 x1 x2, mean_at,
      div_coe _ (Head.sum_e_pos _ _ _ _), ← EReal.coe_add, ← EReal.coe_mul, Head.ds_eq]
  · rw [if_neg hx, select_zero, Head.ds_after _ hx, EReal.coe_zero]

theorem scaled_at (r x : Fin 4112) :
    scaled (c0 x0) (c1 x1) (c2 x2) (ix4 b h r x) = (((head x0 x1 x2 b h).ds r x * scaleR : ℝ) : EReal) := by
  pointwise [scaled]
  change _ * scale = _
  rw [dscores_at, scale_eq, EReal.coe_mul]

theorem dqs_at (r : Fin 4112) (d : Fin 128) :
    dqs (c0 x0) (c1 x1) (c2 x2) (ix4 b r h d) = (((head x0 x1 x2 b h).dq r d : ℝ) : EReal) := by
  pointwise [dqs]
  simp only [scaled_at, ks_at x0 x1 x2 b h, ← EReal.coe_mul]
  rw [← coe_sum]
  refine congrArg (fun y : ℝ => (y : EReal)) ?_
  rw [Head.dq, Finset.sum_mul]
  exact Finset.sum_congr rfl fun x _ => mul_right_comm _ _ _

theorem dks_at (x : Fin 4112) (d : Fin 128) :
    dks (c0 x0) (c1 x1) (c2 x2) (ix4 b x h d) = (((head x0 x1 x2 b h).dk x d : ℝ) : EReal) := by
  pointwise [dks]
  simp only [scaled_at, qs_at x0 x1 x2 b h, ← EReal.coe_mul]
  rw [← coe_sum]
  refine congrArg (fun y : ℝ => (y : EReal)) ?_
  rw [Head.dk, Finset.sum_mul]
  exact Finset.sum_congr rfl fun r _ => mul_right_comm _ _ _

theorem dvs_at (x : Fin 4112) (d : Fin 128) :
    dvs (c0 x0) (c1 x1) (c2 x2) (ix4 b x h d) = (((head x0 x1 x2 b h).dv x d : ℝ) : EReal) := by
  pointwise [dvs]
  simp only [weights_at x0 x1 x2 b h, dyT_at x0 x1 x2 b h, ← EReal.coe_mul]
  rw [← coe_sum]
  refine congrArg (fun y : ℝ => (y : EReal)) ?_
  rw [Head.dv]
  exact Finset.sum_congr rfl fun r _ => mul_comm _ _

end Cert.ReferenceIdeal.Steps
end
-- ==== Proof.HostValue.lean ====
/- The kernel's operands at an index, the arguments' elements being numbers. -/
module

public import proofs.«01_k».proof.Proof.HostSteps
public import proofs.«01_k».proof.Proof.RefValue

@[expose] public section

set_option maxRecDepth 16384

noncomputable section

namespace Cert.KernelIdeal.Host

open Idealize.ShloMosaic.WordCmp (select_one select_zero)
open Cert.ReferenceIdeal.Steps (keep qs ks vs keep_at qs_at ks_at vs_at row_max maximumf_at c0 c1 c2)
open Cert.KernelIdeal Cert.KernelIdeal.Gen Idealize.ShloMosaic Cert.Fox

variable (x0 : (⟨2, ![8448, 3072]⟩ : Shape).Idx → ℝ) (x1 : (⟨3, ![2, 8, 4224]⟩ : Shape).Idx → ℝ)
  (x2 : (⟨3, ![2, 4112, 1024]⟩ : Shape).Idx → ℝ)

variable (b : Fin 2) (h : Fin 8)

theorem scores_at (r x : Fin 4112) : scores (c0 x0) (c1 x1) (ix4 b h r x) = (head x0 x1 x2 b h).row 0 r x := by
  pointwise [scores]
  rw [keep_at, Head.row]
  by_cases hx : x.val ≤ r.val
  · rw [if_pos hx, if_pos hx, select_one]
    simp only [qs_at x0 x1 x2 b h, ks_at x0 x1 x2 b h, ← EReal.coe_mul]
    rw [← coe_sum]
    change _ * scale - ((head x0 x1 x2 b h).c x : EReal) = _
    rw [scale_eq, ← EReal.coe_mul, ← EReal.coe_sub, add_zero]
    rfl
  · rw [if_neg hx, if_neg hx, select_zero]
    exact ofBits_bot

theorem most_fold (A0 : (⟨S8448x3072, .f32⟩ : BufTy).Contents (Elt Ideal)) (A1 : (⟨S2x8x4224, .f32⟩ : BufTy).Contents (Elt Ideal))
    (r : Fin 4112) : most A0 A1 (ix3 b h r) = Finset.univ.fold max ⊥ fun x : Fin 4112 => scores A0 A1 (ix4 b h r x) := by
  unfold most
  exact row_max _ _ _ b h r

include x2 in
/-- A row's greatest score is a number. -/
theorem most_at (r : Fin 4112) : ∃ μ : ℝ, most (c0 x0) (c1 x1) (ix3 b h r) = (μ : EReal) := by
  obtain ⟨μ, hμ⟩ := (head x0 x1 x2 b h).max_row 0 r
  refine ⟨μ, ?_⟩
  rw [most_fold, ← hμ]
  exact congrArg (fun f : Fin 4112 → EReal => Finset.univ.fold max ⊥ f) (funext fun x => scores_at x0 x1 x2 b h r x)

/-- A row's greatest score, as a number. -/
def mu (r : Fin 4112) : ℝ := (most_at x0 x1 x2 b h r).choose

theorem most_eq (r : Fin 4112) : most (c0 x0) (c1 x1) (ix3 b h r) = ((mu x0 x1 x2 b h r : ℝ) : EReal) :=
  (most_at x0 x1 x2 b h r).choose_spec

theorem most1_at (r : Fin 4112) (z : Fin 1) : most1 (c0 x0) (c1 x1) (ix4 b h r z) = ((mu x0 x1 x2 b h r : ℝ) : EReal) := by
  pointwise [most1]
  exact most_eq x0 x1 x2 b h r

theorem mostB_apply (A0 : (⟨S8448x3072, .f32⟩ : BufTy).Contents (Elt Ideal)) (A1 : (⟨S2x8x4224, .f32⟩ : BufTy).Contents (Elt Ideal))
    (j : S2x8x4112.Idx) : mostB A0 A1 j = max (Ideal.ofBits .f32 0xFF800000#32) (most A0 A1 j) := by
  unfold mostB
  generalize most A0 A1 = y
  exact maximumf_at _ y j

theorem mostB1_at (r : Fin 4112) (z : Fin 1) : mostB1 (c0 x0) (c1 x1) (ix4 b h r z) = ((mu x0 x1 x2 b h r : ℝ) : EReal) := by
  pointwise [mostB1]
  rw [mostB_apply, ofBits_bot, max_eq_right bot_le]
  exact most_eq x0 x1 x2 b h r

variable (M : (⟨S2x8x4112x1, .f32⟩ : BufTy).Contents (Elt Ideal))
  (hM : ∀ r : Fin 4112, M (ix4 b h r (0 : Fin 1)) = ((mu x0 x1 x2 b h r : ℝ) : EReal))

/-- A row's exponentials. -/
abbrev ee (r x : Fin 4112) : ℝ := (head x0 x1 x2 b h).e 0 (mu x0 x1 x2 b h r) r x

include hM in
theorem exps_at (r x : Fin 4112) : exps (c0 x0) (c1 x1) M (ix4 b h r x) = ((ee x0 x1 x2 b h r x : ℝ) : EReal) := by
  pointwise [exps]
  rw [scores_at x0 x1 x2, hM, Head.exp_row]

include hM in
theorem total1_at (r : Fin 4112) (z : Fin 1) :
    total1 (c0 x0) (c1 x1) M (ix4 b h r z) = ((∑ x, ee x0 x1 x2 b h r x : ℝ) : EReal) := by
  pointwise [total1]
  rw [coe_sum]
  exact Finset.sum_congr rfl fun x _ => exps_at x0 x1 x2 b h M hM r x

theorem addf_log_at {t : Shape} (x y : t.Idx → Elt Ideal .f32) (j : t.Idx) (u v : ℝ) (hx : x j = (u : EReal))
    (hy : y j = (v : EReal)) (hv : 0 < v) :
    addf (F := Ideal) (φ := .f32) x (Host.log (F := Ideal) (φ := .f32) y) j = ((u + Real.log v : ℝ) : EReal) := by
  change (x j : EReal) + Ideal.log (y j : EReal) = _
  rw [hx, hy, log_coe hv, EReal.coe_add]

theorem logs_def (A0 : (⟨S8448x3072, .f32⟩ : BufTy).Contents (Elt Ideal)) (A1 : (⟨S2x8x4224, .f32⟩ : BufTy).Contents (Elt Ideal)) :
    logs A0 A1 = addf (F := Ideal) (φ := .f32) (most1 A0 A1) (Host.log (F := Ideal) (φ := .f32) (total1 A0 A1 (most1 A0 A1))) := rfl

theorem logs_at (r : Fin 4112) (z : Fin 1) :
    logs (c0 x0) (c1 x1) (ix4 b h r z) = (((head x0 x1 x2 b h).lse r : ℝ) : EReal) := by
  rw [logs_def]
  refine (addf_log_at _ _ _ _ _ (most1_at x0 x1 x2 b h r z)
    (total1_at x0 x1 x2 b h _ (fun r => most1_at x0 x1 x2 b h r 0) r z) (Head.sum_e_pos _ _ _ _)).trans ?_
  rw [Head.lse_eq]

theorem weights_at (r x : Fin 4112) :
    weights (c0 x0) (c1 x1) (ix4 b h r x) = (((head x0 x1 x2 b h).p r x : ℝ) : EReal) := by
  pointwise [weights]
  rw [exps_at x0 x1 x2 b h _ fun r => mostB1_at x0 x1 x2 b h r 0, total1_at x0 x1 x2 b h _ fun r => mostB1_at x0 x1 x2 b h r 0,
    div_coe _ (Head.sum_e_pos _ _ _ _), Head.e_div]

theorem outs_at (r : Fin 4112) (d : Fin 128) :
    outs (c0 x0) (c1 x1) (ix3 b r (⟨h.val * 128 + d.val, by omega⟩ : Fin 1024)) = (((head x0 x1 x2 b h).o r d : ℝ) : EReal) := by
  pointwise [outs]
  rw [Head.o, coe_sum]
  refine Finset.sum_congr rfl fun x _ => ?_
  rw [weights_at x0 x1 x2, vs_at x0 x1 x2, EReal.coe_mul]

theorem sitofp_zero : FloatOps.sitofp (F := Ideal) .f32 (0#32) = (0 : EReal) := by
  change (((0#32 : BitVec 32).toInt : ℝ) : EReal) = 0
  simp

theorem padRows_at (y : (⟨S2x4112x1024, .f32⟩ : BufTy).Contents (Elt Ideal)) (f : Fin 4112 → ℝ) (d : Fin 128)
    (hy : ∀ r : Fin 4112, y (ix3 b r (⟨h.val * 128 + d.val, by omega⟩ : Fin 1024)) = ((f r : ℝ) : EReal)) (R : Fin 4224) :
    padRows y (ix2 (⟨b.val * 4224 + R.val, by omega⟩ : Fin 8448) (⟨h.val * 128 + d.val, by omega⟩ : Fin 1024))
      = ((padded f R.val : ℝ) : EReal) := by
  pointwise [padRows]
  by_cases hR : 112 ≤ R.val ∧ R.val - 112 < 4112
  · rw [dif_pos ⟨hR, by omega⟩, padded_own _ hR]
    exact hy _
  · rw [dif_neg fun hh => hR hh.1, padded_front _ hR, EReal.coe_zero]
    exact sitofp_zero

theorem logsPad_at (R : Fin 4224) :
    logsPad (c0 x0) (c1 x1) (ix4 b h R (0 : Fin 1)) = ((padded (head x0 x1 x2 b h).lse R.val : ℝ) : EReal) := by
  pointwise [logsPad]
  by_cases hR : 112 ≤ R.val ∧ R.val - 112 < 4112
  · rw [dif_pos hR, padded_own _ hR, logs_at x0 x1 x2]
  · rw [dif_neg hR, padded_front _ hR, EReal.coe_zero]
    exact sitofp_zero

theorem cums_at (K : Fin 4224) :
    cums (c1 x1) (ix3 (⟨b.val * 8 + h.val, by omega⟩ : Fin 16) (0 : Fin 1) K)
      = if K.val < 112 then (⊤ : EReal) else ((x1 (ix3 b h K) : ℝ) : EReal) := by
  pointwise [cums]
  rw [WordCmp.cmpi_slt_ofNat (by have := K.isLt; omega) (by omega)]
  by_cases hK : K.val < 112
  · simp only [hK, decide_true, if_true]
    exact ofBits_top
  · simp [hK, select_zero]

theorem heads_at (j : (⟨2, ![8448, 3072]⟩ : Shape).Idx) : heads (c0 x0) j = ((x0 j : ℝ) : EReal) := by
  pointwise [heads]

end Cert.KernelIdeal.Host
end
-- ==== Proof.BlockSums.lean ====
/- What a point of the kernel computes on a head's blocks, the 112 rows in front of the sequence giving nothing. -/
module

public import proofs.«01_k».proof.Proof.Heads

@[expose] public section

noncomputable section

namespace Cert.Fox

open Idealize.ShloMosaic

/-- Both of a query's and a key's row put after 112 of zero. -/
def padded2 (f : Fin 4112 → Fin 4112 → ℝ) (R K : ℕ) : ℝ := padded (fun r => padded (f r) K) R

theorem padded_at (f : Fin 4112 → ℝ) (r : Fin 4112) : padded f (112 + r.val) = f r := by
  rw [padded_own f ⟨by omega, by omega⟩]
  exact congrArg f (Fin.ext (by show 112 + r.val - 112 = r.val; omega))

theorem padded_before (f : Fin 4112 → ℝ) {R : ℕ} (h : R < 112) : padded f R = 0 := padded_front f (by omega)

theorem padded_zero (R : ℕ) : padded (fun _ => 0) R = 0 := by
  unfold padded; split <;> rfl

theorem own_or (R : Fin 4224) : R.val < 112 ∨ ∃ r : Fin 4112, R = ⟨112 + r.val, by omega⟩ := by
  by_cases h : R.val < 112
  · exact .inl h
  · exact .inr ⟨⟨R.val - 112, by omega⟩, Fin.ext (by show R.val = 112 + (R.val - 112); omega)⟩

/-- A sum over all rows of what is nothing in front of the sequence is one over the sequence's own. -/
theorem sum_own (G : Fin 4224 → ℝ) (h : ∀ R : Fin 4224, R.val < 112 → G R = 0) :
    ∑ R, G R = ∑ r : Fin 4112, G ⟨112 + r.val, by omega⟩ := by
  have e := Fin.sum_univ_add (a := 112) (b := 4112) (fun i => G i)
  refine e.trans ?_
  rw [Finset.sum_eq_zero fun i _ => h _ (by show i.val < 112; omega), zero_add]
  rfl

/-- What the blocks of a point hold: the queries', keys' and values' numbers on every row, the sequence's own being the
    head's; the gradient, the log-sum and `delta` nothing in front of the sequence; the keys there out of reach. -/
structure Reads (H : Head) (Q K V : Fin 4224 → Fin 128 → ℝ) (j : Fin 11) (B : Blk) : Prop where
  ownQ : ∀ (r : Fin 4112) (d : Fin 128), Q ⟨112 + r.val, by omega⟩ d = H.q r d
  ownK : ∀ (r : Fin 4112) (d : Fin 128), K ⟨112 + r.val, by omega⟩ d = H.k r d
  ownV : ∀ (r : Fin 4112) (d : Fin 128), V ⟨112 + r.val, by omega⟩ d = H.v r d
  q : ∀ R d, B.q R d = ((Q R d : ℝ) : EReal)
  k : ∀ (c : Fin 384) d, B.k c d = ((K ⟨384 * j.val + c.val, by omega⟩ d : ℝ) : EReal)
  v : ∀ (c : Fin 384) d, B.v c d = ((V ⟨384 * j.val + c.val, by omega⟩ d : ℝ) : EReal)
  dy : ∀ R d, B.dy R d = ((padded (fun r => H.g r d) R.val : ℝ) : EReal)
  lse : ∀ R, B.lse R = ((padded H.lse R.val : ℝ) : EReal)
  dl : ∀ R, B.dl R = ((padded H.dl R.val : ℝ) : EReal)
  front : ∀ c : Fin 384, 384 * j.val + c.val < 112 → B.ck c = ⊤
  ck : ∀ (c : Fin 384) (x : Fin 4112), 384 * j.val + c.val = 112 + x.val → B.ck c = ((H.c x : ℝ) : EReal)

variable {H : Head} {Q K V : Fin 4224 → Fin 128 → ℝ} {j : Fin 11} {B : Blk}

theorem Reads.dot (S : Reads H Q K V j B) (R : Fin 4224) (c : Fin 384) :
    (∑ d, B.q R d * B.k c d) * scale = (((∑ d, Q R d * K ⟨384 * j.val + c.val, by omega⟩ d) * scaleR : ℝ) : EReal) := by
  simp only [S.q, S.k, ← EReal.coe_mul]
  rw [← coe_sum, scale_eq, ← EReal.coe_mul]

theorem Reads.p_at (S : Reads H Q K V j B) (hs : H.s = scaleR) (R : Fin 4224) (c : Fin 384) :
    B.p j.val R c = ((padded2 H.p R.val (384 * j.val + c.val) : ℝ) : EReal) := by
  rw [Blk.p]
  by_cases hc : 384 * j.val + c.val ≤ R.val
  · rw [if_pos hc, Blk.score, S.dot, S.lse]
    by_cases hK : 384 * j.val + c.val < 112
    · have e : padded2 H.p R.val (384 * j.val + c.val) = 0 := by
        unfold padded2
        rw [show (fun r => padded (H.p r) (384 * j.val + c.val)) = fun _ => 0 from funext fun r => padded_before _ hK]
        exact padded_zero _
      rw [S.front c hK, EReal.sub_top, EReal.bot_sub, e, EReal.coe_zero]
      exact Ideal.exp_bot
    · obtain ⟨x, hx⟩ : ∃ x : Fin 4112, 384 * j.val + c.val = 112 + x.val :=
        ⟨⟨384 * j.val + c.val - 112, by omega⟩, by show _ = 112 + (384 * j.val + c.val - 112); omega⟩
      obtain ⟨r, rfl⟩ := (own_or R).resolve_left (by omega)
      have hxr : x.val ≤ r.val := by have : 384 * j.val + c.val ≤ 112 + r.val := hc; omega
      rw [S.ck c x hx]
      simp only [hx, padded2, padded_at, S.ownQ, S.ownK]
      rw [← EReal.coe_sub, ← EReal.coe_sub, exp_coe, ← H.p_eq hxr, Head.score, hs]
  · rw [if_neg hc]
    have e : padded2 H.p R.val (384 * j.val + c.val) = 0 := by
      unfold padded2
      rcases own_or R with hR | ⟨r, rfl⟩
      · exact padded_before _ hR
      · rw [padded_at]
        by_cases hK : 112 ≤ 384 * j.val + c.val ∧ 384 * j.val + c.val - 112 < 4112
        · rw [padded_own _ hK]
          refine H.p_after ?_
          have : ¬ 384 * j.val + c.val ≤ 112 + r.val := hc
          show ¬ 384 * j.val + c.val - 112 ≤ r.val
          omega
        · exact padded_front _ hK
    rw [e, EReal.coe_zero]
    exact Ideal.exp_bot

theorem Reads.ds_at (S : Reads H Q K V j B) (hs : H.s = scaleR) (R : Fin 4224) (c : Fin 384) :
    B.ds j.val R c = ((padded2 H.ds R.val (384 * j.val + c.val) : ℝ) : EReal) := by
  rw [Blk.ds, S.p_at hs, S.dl]
  simp only [S.dy, S.v, ← EReal.coe_mul]
  rw [← coe_sum, ← EReal.coe_sub, ← EReal.coe_mul]
  refine congrArg (fun y : ℝ => (y : EReal)) ?_
  unfold padded2
  rcases own_or R with hR | ⟨r, rfl⟩
  · simp only [padded_before _ hR, zero_mul]
  · simp only [padded_at]
    by_cases hK : 384 * j.val + c.val < 112
    · rw [padded_before _ hK, padded_before _ hK, zero_mul]
    · obtain ⟨x, hx⟩ : ∃ x : Fin 4112, 384 * j.val + c.val = 112 + x.val :=
        ⟨⟨384 * j.val + c.val - 112, by omega⟩, by show _ = 112 + (384 * j.val + c.val - 112); omega⟩
      simp only [hx, padded_at, S.ownV]
      rfl

/-! ## The sums over a head's rows -/

theorem sum_queries (f : Fin 4112 → Fin 4112 → ℝ) (G : Fin 4224 → ℝ) (g : Fin 4112 → ℝ)
    (hG : ∀ r : Fin 4112, G ⟨112 + r.val, by omega⟩ = g r) (X : ℕ) :
    ∑ R : Fin 4224, padded2 f R.val X * G R = padded (fun x => ∑ r, f r x * g r) X := by
  rw [sum_own _ fun R hR => by rw [padded2, padded_before _ hR, zero_mul]]
  simp only [padded2, padded_at, hG]
  by_cases hX : 112 ≤ X ∧ X - 112 < 4112
  · simp only [padded_own _ hX]
  · simp only [padded_front _ hX, zero_mul, Finset.sum_const_zero]

theorem sum_keys (f : Fin 4112 → Fin 4112 → ℝ) (G : Fin 4224 → ℝ) (g : Fin 4112 → ℝ)
    (hG : ∀ r : Fin 4112, G ⟨112 + r.val, by omega⟩ = g r) (R : ℕ) :
    ∑ X : Fin 4224, padded2 f R X.val * G X = padded (fun r => ∑ x, f r x * g x) R := by
  unfold padded2
  by_cases hR : 112 ≤ R ∧ R - 112 < 4112
  · simp only [padded_own _ hR]
    rw [sum_own _ fun X hX => by rw [padded_before _ hX, zero_mul]]
    simp only [padded_at, hG]
  · simp only [padded_front _ hR, zero_mul, Finset.sum_const_zero]

/-- The sums over the eleven blocks of keys are one over the keys. -/
theorem sum_blocks (f : Fin 4224 → ℝ) (n : ℕ) (hn : n ≤ 11) (g : ℕ → Fin 384 → ℝ)
    (hg : ∀ k, (hk : k < 11) → ∀ c : Fin 384, g k c = f ⟨384 * k + c.val, by omega⟩) :
    ∑ k ∈ Finset.range n, ∑ c, g k c = ∑ r ∈ rows 0 (384 * n), f r := by
  induction n with
  | zero => rw [Finset.range_zero, Finset.sum_empty, Nat.mul_zero, rows_empty, Finset.sum_empty]
  | succ n ih =>
    rw [Finset.sum_range_succ, ih (by omega) hg, show 384 * (n + 1) = 384 * n + 384 from rfl,
      ← sum_rows_add f (Nat.zero_le (384 * n)) (Nat.le_add_right (384 * n) 384), ← sum_block f (by omega : 384 * n + 384 ≤ 4224)]
    exact congrArg (fun y : ℝ => _ + y) (Finset.sum_congr rfl fun c _ => hg n (by omega) c)

theorem sum_blocks_all (f : Fin 4224 → ℝ) (g : ℕ → Fin 384 → ℝ)
    (hg : ∀ k, (hk : k < 11) → ∀ c : Fin 384, g k c = f ⟨384 * k + c.val, by omega⟩) :
    ∑ k ∈ Finset.range 11, ∑ c, g k c = ∑ r, f r := by
  rw [sum_blocks f 11 le_rfl g hg]
  exact sum_rows_all f 0 fun r h => absurd h (Nat.not_lt_zero _)

theorem Reads.dk_at (S : Reads H Q K V j B) (hs : H.s = scaleR) (c : Fin 384) (d : Fin 128) :
    B.dk j.val (384 * j.val) 4224 c d * scale = ((padded (fun x => H.dk x d) (384 * j.val + c.val) : ℝ) : EReal) := by
  rw [Blk.dk_all]
  simp only [S.ds_at hs, S.q, ← EReal.coe_mul]
  rw [← coe_sum, sum_queries H.ds (fun R => Q R d) (fun r => H.q r d) (fun r => S.ownQ r d), scale_eq, ← EReal.coe_mul]
  refine congrArg (fun y : ℝ => (y : EReal)) ?_
  by_cases hX : 112 ≤ 384 * j.val + c.val ∧ 384 * j.val + c.val - 112 < 4112
  · rw [padded_own _ hX, padded_own _ hX, Head.dk, hs]
  · rw [padded_front _ hX, padded_front _ hX, zero_mul]

theorem Reads.dv_at (S : Reads H Q K V j B) (hs : H.s = scaleR) (c : Fin 384) (d : Fin 128) :
    B.dv j.val (384 * j.val) 4224 c d = ((padded (fun x => H.dv x d) (384 * j.val + c.val) : ℝ) : EReal) := by
  rw [Blk.dv_all]
  simp only [S.p_at hs, S.dy, ← EReal.coe_mul]
  rw [← coe_sum, sum_queries H.p (fun R => padded (fun r => H.g r d) R.val) (fun r => H.g r d) (fun r => padded_at _ r)]
  rfl

theorem Reads.dsum_at (S : Reads H Q K V j B) (hs : H.s = scaleR) (a b : ℕ) (c : Fin 384) :
    B.dsum j.val a b c = ((∑ R ∈ rows a b, padded2 H.ds R.val (384 * j.val + c.val) : ℝ) : EReal) := by
  rw [Blk.dsum, coe_sum]
  exact Finset.sum_congr rfl fun R _ => S.ds_at hs R c

theorem Reads.dck_step (S : Reads H Q K V j B) (hs : H.s = scaleR) (c : Fin 384) (n : ℕ) :
    B.dck j.val c n
      = ((-∑ R ∈ rows (384 * j.val) (384 * (j.val + 1 + 2 * n)), padded2 H.ds R.val (384 * j.val + c.val) : ℝ) : EReal) := by
  induction n with
  | zero => rw [Blk.dck, S.dsum_at hs, ← EReal.coe_zero, ← EReal.coe_sub, zero_sub]
  | succ n ih =>
    rw [Blk.dck, ih, S.dsum_at hs, ← EReal.coe_sub,
      ← sum_rows_add (fun R => padded2 H.ds R.val (384 * j.val + c.val))
        (by omega : 384 * j.val ≤ 384 * (j.val + 1 + 2 * n)) (by omega : 384 * (j.val + 1 + 2 * n) ≤ 384 * (j.val + 1 + 2 * (n + 1))),
      neg_add, sub_eq_add_neg]

theorem Reads.dck_at (S : Reads H Q K V j B) (hs : H.s = scaleR) (c : Fin 384) :
    B.dckAll j.val c = ((padded H.dck (384 * j.val + c.val) : ℝ) : EReal) := by
  have e : B.dckAll j.val c
      = ((-∑ R ∈ rows (384 * j.val) 4224, padded2 H.ds R.val (384 * j.val + c.val) : ℝ) : EReal) := by
    rw [Blk.dckAll]
    have hj := j.isLt
    by_cases h : (10 - j.val) % 2 = 0
    · rw [if_pos h, S.dck_step hs, show 384 * (j.val + 1 + 2 * ((10 - j.val) / 2)) = 4224 by omega]
    · rw [if_neg h, S.dck_step hs, S.dsum_at hs, show 384 * (j.val + 1 + 2 * ((10 - j.val) / 2)) = 3840 by omega, ← EReal.coe_sub,
        ← sum_rows_add (fun R => padded2 H.ds R.val (384 * j.val + c.val)) (by omega : 384 * j.val ≤ 3840) (by omega : 3840 ≤ 4224),
        neg_add, sub_eq_add_neg]
  rw [e, sum_rows_all _ _ fun R hR => ?_]
  · have e2 := sum_queries H.ds (fun _ => 1) (fun _ => 1) (fun _ => rfl) (384 * j.val + c.val)
    simp only [mul_one] at e2
    rw [e2]
    refine congrArg (fun y : ℝ => (y : EReal)) ?_
    by_cases hX : 112 ≤ 384 * j.val + c.val ∧ 384 * j.val + c.val - 112 < 4112
    · rw [padded_own _ hX, padded_own _ hX, Head.dck]
    · rw [padded_front _ hX, padded_front _ hX, neg_zero]
  · have e3 := B.ds_before j.val hR c
    rw [S.ds_at hs] at e3
    exact_mod_cast e3

theorem Reads.dq_block (S : Reads H Q K V j B) (hs : H.s = scaleR) (R : Fin 4224) (d : Fin 128) :
    B.dq j.val R d = (((∑ c : Fin 384, padded2 H.ds R.val (384 * j.val + c.val) * K ⟨384 * j.val + c.val, by omega⟩ d) * scaleR : ℝ) : EReal) := by
  rw [Blk.dq]
  simp only [S.ds_at hs, S.k, ← EReal.coe_mul]
  rw [← coe_sum, scale_eq, ← EReal.coe_mul]

theorem Reads.dcq_block (S : Reads H Q K V j B) (hs : H.s = scaleR) (R : Fin 4224) :
    B.dcq j.val R = ((∑ c : Fin 384, padded2 H.ds R.val (384 * j.val + c.val) : ℝ) : EReal) := by
  rw [Blk.dcq, coe_sum]
  exact Finset.sum_congr rfl fun c _ => S.ds_at hs R c

theorem dq_at (Bs : ℕ → Blk) (S : ∀ k, (hk : k < 11) → Reads H Q K V ⟨k, hk⟩ (Bs k)) (hs : H.s = scaleR) (R : Fin 4224) (d : Fin 128) :
    ∑ k ∈ Finset.range 11, (Bs k).dq k R d = ((padded (fun r => H.dq r d) R.val : ℝ) : EReal) := by
  have e : ∀ k ∈ Finset.range 11, (Bs k).dq k R d
      = (((∑ c : Fin 384, padded2 H.ds R.val (384 * k + c.val) * (if h : 384 * k + c.val < 4224 then K ⟨384 * k + c.val, h⟩ d else 0)) * scaleR : ℝ) : EReal) := by
    intro k hk
    have hk' := Finset.mem_range.mp hk
    refine ((S k hk').dq_block hs R d).trans ?_
    refine congrArg (fun y : ℝ => ((y * scaleR : ℝ) : EReal)) (Finset.sum_congr rfl fun c _ => ?_)
    rw [dif_pos (by omega)]
  rw [Finset.sum_congr rfl e, ← coe_sum, ← Finset.sum_mul,
    sum_blocks_all (fun X => padded2 H.ds R.val X.val * K X d) _ fun k hk c => by rw [dif_pos (by omega)],
    sum_keys H.ds (fun X => K X d) (fun x => H.k x d) (fun x => (S 0 (by omega)).ownK x d)]
  refine congrArg (fun y : ℝ => (y : EReal)) ?_
  by_cases hX : 112 ≤ R.val ∧ R.val - 112 < 4112
  · rw [padded_own _ hX, padded_own _ hX, Head.dq, hs]
  · rw [padded_front _ hX, padded_front _ hX, zero_mul]

theorem dcq_at (Bs : ℕ → Blk) (S : ∀ k, (hk : k < 11) → Reads H Q K V ⟨k, hk⟩ (Bs k)) (hs : H.s = scaleR) (R : Fin 4224) :
    ∑ k ∈ Finset.range 11, (Bs k).dcq k R = ((padded H.dcq R.val : ℝ) : EReal) := by
  have e : ∀ k ∈ Finset.range 11, (Bs k).dcq k R = ((∑ c : Fin 384, padded2 H.ds R.val (384 * k + c.val) : ℝ) : EReal) :=
    fun k hk => (S k (Finset.mem_range.mp hk)).dcq_block hs R
  rw [Finset.sum_congr rfl e, ← coe_sum]
  refine congrArg (fun y : ℝ => (y : EReal)) ?_
  refine (sum_blocks_all (fun X => padded2 H.ds R.val X.val) _ fun k hk c => rfl).trans ?_
  have e2 := sum_keys H.ds (fun _ => 1) (fun _ => 1) (fun _ => rfl) R.val
  simp only [mul_one] at e2
  exact e2

end Cert.Fox
end
-- ==== Proof.BlockReads.lean ====
/- The blocks of a point as numbers: the head's rows. -/
module

public import proofs.«01_k».proof.Proof.Blocks
public import proofs.«01_k».proof.Proof.HostValue
public import proofs.«01_k».proof.Proof.BlockSums

@[expose] public section

set_option maxRecDepth 16384

noncomputable section

namespace Cert.KernelIdeal.Blocks

open Cert.KernelIdeal Cert.KernelIdeal.Gen Cert.KernelIdeal.Host Cert.Fox Idealize.ShloMosaic Idealize.ShloMosaic.TcCoe Idealize.SL.Sem
open Cert.ReferenceIdeal.Steps (c0 c1 c2)

variable (m : (ℓ : Loc nD τ sig) → Buf (Elt Ideal) ℓ) (c : Dev nD)
variable (x0 : (⟨2, ![8448, 3072]⟩ : Shape).Idx → ℝ) (x1 : (⟨3, ![2, 8, 4224]⟩ : Shape).Idx → ℝ)
  (x2 : (⟨3, ![2, 4112, 1024]⟩ : Shape).Idx → ℝ)
variable (h0 : m (c, Proc.devRef .tc main_arg0) = c0 x0) (h1 : m (c, Proc.devRef .tc main_arg1) = c1 x1)
  (h2 : m (c, Proc.devRef .tc main_arg2) = c2 x2) (t : Fin cfg0.N)

/-- The head's queries, keys and values on all 4224 rows. -/
def rowsQ (b : Fin 2) (h : Fin 8) (R : Fin 4224) (d : Fin 128) : ℝ :=
  x0 (ix2 (⟨b.val * 4224 + R.val, by omega⟩ : Fin 8448) (⟨h.val * 128 + d.val, by omega⟩ : Fin 3072))
def rowsK (b : Fin 2) (h : Fin 8) (R : Fin 4224) (d : Fin 128) : ℝ :=
  x0 (ix2 (⟨b.val * 4224 + R.val, by omega⟩ : Fin 8448) (⟨1024 + (h.val * 128 + d.val), by omega⟩ : Fin 3072))
def rowsV (b : Fin 2) (h : Fin 8) (R : Fin 4224) (d : Fin 128) : ℝ :=
  x0 (ix2 (⟨b.val * 4224 + R.val, by omega⟩ : Fin 8448) (⟨2048 + (h.val * 128 + d.val), by omega⟩ : Fin 3072))

include h0 in
theorem q_at (R : Fin 4224) (d : Fin 128) : (blkAt m c t).q R d = ((rowsQ x0 (bt t) (ht t) R d : ℝ) : EReal) := by
  refine (blk0 m c t R d).trans ?_
  rw [v56_eq, h0]
  exact heads_at x0 _

include h0 in
theorem k_at (x : Fin 384) (d : Fin 128) : (blkAt m c t).k x d = ((rowsK x0 (bt t) (ht t) ⟨384 * (jt t).val + x.val, by omega⟩ d : ℝ) : EReal) := by
  refine (blk1 m c t x d).trans ?_
  rw [v56_eq, h0]
  exact heads_at x0 _

include h0 in
theorem v_at (x : Fin 384) (d : Fin 128) : (blkAt m c t).v x d = ((rowsV x0 (bt t) (ht t) ⟨384 * (jt t).val + x.val, by omega⟩ d : ℝ) : EReal) := by
  refine (blk2 m c t x d).trans ?_
  rw [v56_eq, h0]
  exact heads_at x0 _

include h2 in
theorem in3_at (R : Fin 4224) (d : Fin 128) : iblk m c 3 t (ix2 R d)
    = ((padded (fun r => (head x0 x1 x2 (bt t) (ht t)).g r d) R.val : ℝ) : EReal) := by
  refine (blk3 m c t R d).trans ?_
  rw [v59_eq, h2]
  exact padRows_at (bt t) (ht t) (c2 x2) (fun r => (head x0 x1 x2 (bt t) (ht t)).g r d) d (fun r => rfl) R

include h0 h1 in
theorem in4_at (R : Fin 4224) (d : Fin 128) : iblk m c 4 t (ix2 R d)
    = ((padded (fun r => (head x0 x1 x2 (bt t) (ht t)).o r d) R.val : ℝ) : EReal) := by
  refine (blk4 m c t R d).trans ?_
  rw [v62_eq, h0, h1]
  exact padRows_at (bt t) (ht t) (outs (c0 x0) (c1 x1)) (fun r => (head x0 x1 x2 (bt t) (ht t)).o r d) d
    (fun r => outs_at x0 x1 x2 (bt t) (ht t) r d) R

include h0 h1 in
theorem lse_at (R : Fin 4224) : (blkAt m c t).lse R = ((padded (head x0 x1 x2 (bt t) (ht t)).lse R.val : ℝ) : EReal) := by
  refine (blk5 m c t R).trans ?_
  rw [v63_eq, h0, h1]
  exact logsPad_at x0 x1 x2 (bt t) (ht t) R

include h1 in
theorem ck_at (x : Fin 384) : (blkAt m c t).ck x = if 384 * (jt t).val + x.val < 112 then ⊤
    else ((x1 (ix3 (bt t) (ht t) (⟨384 * (jt t).val + x.val, by omega⟩ : Fin 4224)) : ℝ) : EReal) := by
  refine (blk6 m c t x).trans ?_
  rw [v55_eq, h1]
  exact cums_at x1 (bt t) (ht t) _

theorem bt_pt (k : ℕ) (hk : k < 11) : bt (pt t k) = bt t :=
  Fin.ext (by have := lt_N t; show (t.val / 11 * 11 + k) % 176 / 88 = t.val / 88; omega)

theorem ht_pt (k : ℕ) (hk : k < 11) : ht (pt t k) = ht t :=
  Fin.ext (by have := lt_N t; show (t.val / 11 * 11 + k) % 176 / 11 % 8 = t.val / 11 % 8; omega)

theorem jt_pt (k : ℕ) (hk : k < 11) : jt (pt t k) = ⟨k, hk⟩ :=
  Fin.ext (by have := lt_N t; show (t.val / 11 * 11 + k) % 176 % 11 = k; omega)

include h0 h1 h2 in
theorem dl_at (R : Fin 4224) : deltaAt m c t R = ((padded (head x0 x1 x2 (bt t) (ht t)).dl R.val : ℝ) : EReal) := by
  rw [deltaAt, deltaOf]
  simp only [in3_at m c x0 x1 x2 h2, in4_at m c x0 x1 x2 h0 h1, bt_pt t 0 (by omega), ht_pt t 0 (by omega), ← EReal.coe_mul]
  rw [← coe_sum]
  refine congrArg (fun y : ℝ => (y : EReal)) ?_
  rcases own_or R with hR | ⟨r, hr⟩
  · simp only [padded_before _ hR, mul_zero, Finset.sum_const_zero]
  · rw [hr]
    simp only [padded_at]
    exact (head x0 x1 x2 (bt t) (ht t)).dl_eq r

include h0 h1 h2 in
theorem reads : Reads (head x0 x1 x2 (bt t) (ht t)) (rowsQ x0 (bt t) (ht t)) (rowsK x0 (bt t) (ht t)) (rowsV x0 (bt t) (ht t))
    (jt t) (blkAt m c t) where
  ownQ _ _ := rfl
  ownK _ _ := rfl
  ownV _ _ := rfl
  q := q_at m c x0 h0 t
  k := k_at m c x0 h0 t
  v := v_at m c x0 h0 t
  dy := in3_at m c x0 x1 x2 h2 t
  lse := lse_at m c x0 x1 x2 h0 h1 t
  dl := dl_at m c x0 x1 x2 h0 h1 h2 t
  front x hx := (ck_at m c x1 h1 t x).trans (if_pos hx)
  ck x r hx := ((ck_at m c x1 h1 t x).trans (if_neg (by omega))).trans
    (congrArg (fun K : Fin 4224 => ((x1 (ix3 (bt t) (ht t) K) : ℝ) : EReal)) (Fin.ext hx))

include h0 h1 h2 in
theorem reads_pt (k : ℕ) (hk : k < 11) : Reads (head x0 x1 x2 (bt t) (ht t)) (rowsQ x0 (bt t) (ht t)) (rowsK x0 (bt t) (ht t))
    (rowsV x0 (bt t) (ht t)) ⟨k, hk⟩ (blkAt m c (pt t k)) := by
  have e := reads m c x0 x1 x2 h0 h1 h2 (pt t k)
  rwa [bt_pt t k hk, ht_pt t k hk, jt_pt t k hk] at e

end Cert.KernelIdeal.Blocks
end
-- ==== Proof.RefOut.lean ====
/- The reference's steps read at an index, the arguments' elements being numbers: each is the head's own. -/
module

public import proofs.«01_k».proof.Proof.RefValue
public import proofs.«01_k».proof.Proof.Heads
public import Idealize.ShloMosaic.Lib.WordCmp

@[expose] public section

set_option maxRecDepth 16384

noncomputable section

namespace Cert.ReferenceIdeal.Steps

open Idealize.ShloMosaic.WordCmp (select_one select_zero)
open Cert.ReferenceIdeal Cert.ReferenceIdeal.Gen Idealize.ShloMosaic Cert.Fox

variable (x0 : (⟨2, ![8448, 3072]⟩ : Shape).Idx → ℝ) (x1 : (⟨3, ![2, 8, 4224]⟩ : Shape).Idx → ℝ)
  (x2 : (⟨3, ![2, 4112, 1024]⟩ : Shape).Idx → ℝ)

variable (b : Fin 2) (h : Fin 8)

theorem dvs_column (r : Fin 4112) (d : Fin 128) (n : ℕ) (h1 : n / 128 < 8) (h2 : n % 128 < 128) (hn : n = h.val * 128 + d.val) :
    dvs (c0 x0) (c1 x1) (c2 x2) (ix4 b r ⟨n / 128, h1⟩ ⟨n % 128, h2⟩) = dvs (c0 x0) (c1 x1) (c2 x2) (ix4 b r h d) := by
  have e1 : (⟨n / 128, h1⟩ : Fin 8) = h := Fin.ext (by show n / 128 = h.val; omega)
  have e2 : (⟨n % 128, h2⟩ : Fin 128) = d := Fin.ext (by show n % 128 = d.val; omega)
  rw [e1, e2]

theorem out0_at (R : Fin 4224) (d : Fin 128) :
    out0 (c0 x0) (c1 x1) (c2 x2) (ix2 (⟨b.val * 4224 + R.val, by omega⟩ : Fin 8448) (⟨h.val * 128 + d.val, by omega⟩ : Fin 1024)) = ((padded (fun r => (head x0 x1 x2 b h).dq r d) R.val : ℝ) : EReal) := by
  pointwise [out0, all]
  rw [dif_pos (by omega : h.val * 128 + d.val < 1024)]
  by_cases hR : 112 ≤ R.val ∧ R.val - 112 < 4112
  · rw [dif_pos hR, padded_own _ hR, dqs_at]
  · rw [dif_neg hR, padded_front _ hR, EReal.coe_zero]

theorem out1_at (R : Fin 4224) (d : Fin 128) :
    out1 (c0 x0) (c1 x1) (c2 x2) (ix2 (⟨b.val * 4224 + R.val, by omega⟩ : Fin 8448) (⟨h.val * 128 + d.val, by omega⟩ : Fin 1024)) = ((padded (fun r => (head x0 x1 x2 b h).dk r d) R.val : ℝ) : EReal) := by
  pointwise [out1, all]
  by_cases hR : 112 ≤ R.val ∧ R.val - 112 < 4112
  · rw [dif_pos (by omega : h.val * 128 + d.val < 1024), dif_pos hR, padded_own _ hR, dks_at]
  · rw [dif_pos (by omega : h.val * 128 + d.val < 1024), dif_neg hR, padded_front _ hR, EReal.coe_zero]

theorem out2_at (R : Fin 4224) (d : Fin 128) :
    out2 (c0 x0) (c1 x1) (c2 x2) (ix2 (⟨b.val * 4224 + R.val, by omega⟩ : Fin 8448) (⟨h.val * 128 + d.val, by omega⟩ : Fin 1024)) = ((padded (fun r => (head x0 x1 x2 b h).dv r d) R.val : ℝ) : EReal) := by
  pointwise [out2, all]
  rw [dif_neg (by omega), dif_neg (by omega)]
  by_cases hR : 112 ≤ R.val ∧ R.val - 112 < 4112
  · have hc : (112 ≤ R.val ∧ R.val - 112 < 4112) ∧ (2048 + (h.val * 128 + d.val) - 1024 - 1024) / 128 < 8 ∧
        (2048 + (h.val * 128 + d.val) - 1024 - 1024) % 128 < 128 := ⟨hR, by omega, by omega⟩
    have e := padded_own (fun r => (head x0 x1 x2 b h).dv r d) hR
    refine Eq.trans ?_ (congrArg (fun y : ℝ => (y : EReal)) e).symm
    refine (dif_pos hc).trans ((dvs_column x0 x1 x2 b h _ d _ _ _ (by omega)).trans (dvs_at x0 x1 x2 b h _ d))
  · rw [dif_neg fun hh => hR hh.1, padded_front _ hR, EReal.coe_zero]

theorem out3_at (R : Fin 4224) :
    out3 (c0 x0) (c1 x1) (c2 x2) (ix3 (⟨b.val * 8 + h.val, by omega⟩ : Fin 16) (0 : Fin 1) R)
      = ((padded (head x0 x1 x2 b h).dck R.val : ℝ) : EReal) := by
  pointwise [out3]
  by_cases hR : 112 ≤ R.val ∧ R.val - 112 < 4112
  · rw [dif_pos hR, padded_own _ hR]
    simp only [dscores_at, ← EReal.coe_neg]
    rw [← coe_sum, Finset.sum_neg_distrib]
    exact Fin.sum_univ_one _
  · rw [dif_neg hR, padded_front _ hR, EReal.coe_zero]

theorem out4_at (R : Fin 4224) :
    out4 (c0 x0) (c1 x1) (c2 x2) (ix4 b h R (0 : Fin 1)) = ((padded (head x0 x1 x2 b h).dcq R.val : ℝ) : EReal) := by
  pointwise [out4]
  by_cases hR : 112 ≤ R.val ∧ R.val - 112 < 4112
  · rw [dif_pos hR, padded_own _ hR]
    simp only [dscores_at]
    rw [← coe_sum]
    exact Fin.sum_univ_one _
  · rw [dif_neg hR, padded_front _ hR, EReal.coe_zero]

end Cert.ReferenceIdeal.Steps
end
-- ==== Proof.Results.lean ====
/- The launch's results: what the points leave covers each of them, and is the reference's. -/
module

public import proofs.«01_k».proof.Proof.BlockReads
public import proofs.«01_k».proof.Proof.Launch
public import proofs.«01_k».proof.Proof.RefOut

@[expose] public section

set_option maxRecDepth 16384

noncomputable section

namespace Cert.KernelIdeal.Blocks

open Cert.KernelIdeal Cert.KernelIdeal.Gen Cert.KernelIdeal.Host Cert.Fox Idealize.ShloMosaic Idealize.ShloMosaic.TcCoe Idealize.SL.Sem
open Idealize.ShloMosaic.Pipeline (Dat)
open Cert.ReferenceIdeal.Steps (c0 c1 c2 out0 out1 out2 out3 out4 out0_at out1_at out2_at out3_at out4_at)

variable (m : (ℓ : Loc nD τ sig) → Buf (Elt Ideal) ℓ) (c : Dev nD)
variable (x0 : (⟨2, ![8448, 3072]⟩ : Shape).Idx → ℝ) (x1 : (⟨3, ![2, 8, 4224]⟩ : Shape).Idx → ℝ)
  (x2 : (⟨3, ![2, 4112, 1024]⟩ : Shape).Idx → ℝ)
variable (h0 : m (c, Proc.devRef .tc main_arg0) = c0 x0) (h1 : m (c, Proc.devRef .tc main_arg1) = c1 x1)
  (h2 : m (c, Proc.devRef .tc main_arg2) = c2 x2)

theorem emb7 (t : Fin cfg0.N) (y : S4224x128.Idx) : (win0_7.blk t).view.emb y
    = ix2 (⟨(bt t).val * 4224 + (y 0).val, by have := (y 0).isLt; change _ < 4224 at this; omega⟩ : Fin 8448)
        (⟨(ht t).val * 128 + (y 1).val, by have := (y 1).isLt; change _ < 128 at this; omega⟩ : Fin 1024) := by
  blk_ext [idx t, bt_val, ht_val]

theorem emb8 (t : Fin cfg0.N) (y : S384x128.Idx) : (win0_8.blk t).view.emb y
    = ix2 (⟨(bt t).val * 4224 + (384 * (jt t).val + (y 0).val), by have := (y 0).isLt; change _ < 384 at this; omega⟩ : Fin 8448)
        (⟨(ht t).val * 128 + (y 1).val, by have := (y 1).isLt; change _ < 128 at this; omega⟩ : Fin 1024) := by
  blk_ext [idx t, bt_val, ht_val, jt_val]

theorem emb9 (t : Fin cfg0.N) (y : S384x128.Idx) : (win0_9.blk t).view.emb y
    = ix2 (⟨(bt t).val * 4224 + (384 * (jt t).val + (y 0).val), by have := (y 0).isLt; change _ < 384 at this; omega⟩ : Fin 8448)
        (⟨(ht t).val * 128 + (y 1).val, by have := (y 1).isLt; change _ < 128 at this; omega⟩ : Fin 1024) := by
  blk_ext [idx t, bt_val, ht_val, jt_val]

theorem emb10 (t : Fin cfg0.N) (y : S1x1x384.Idx) : (win0_10.blk t).view.emb y
    = ix3 (⟨(bt t).val * 8 + (ht t).val, by omega⟩ : Fin 16) (0 : Fin 1)
        (⟨384 * (jt t).val + (y 2).val, by have := (y 2).isLt; change _ < 384 at this; omega⟩ : Fin 4224) := by
  blk_ext [idx t, bt_val, ht_val, jt_val]

theorem emb11 (t : Fin cfg0.N) (y : S1x1x4224x1.Idx) : (win0_11.blk t).view.emb y
    = ix4 (bt t) (ht t) (y 2 : Fin 4224) (0 : Fin 1) := by
  blk_ext [idx t, bt_val, ht_val]

include h0 h1 h2 in
theorem res0 : (dats m 0 c).arrAt 7 cfg0.N = out0 (c0 x0) (c1 x1) (c2 x2) :=
  (dats m 0 c).arrAt_eq_of_covers 7 _ (by decide +kernel) fun t hf y => by
    have hj : t.val % 11 = 10 := (flush0_7 t).mp hf
    blk_simp
    rw [after0_7]
    refine Eq.trans ?_ (congrArg (out0 (c0 x0) (c1 x1) (c2 x2)) (emb7 t y)).symm
    refine Eq.trans ?_ (out0_at x0 x1 x2 (bt t) (ht t) (y 0) (y 1)).symm
    show ∑ k ∈ Finset.range (t.val % 11 + 1), (blkAt m c (pt t k)).dq k (y 0) (y 1) = _
    rw [hj]
    exact dq_at (fun k => blkAt m c (pt t k)) (reads_pt m c x0 x1 x2 h0 h1 h2 t) rfl (y 0) (y 1)

include h0 h1 h2 in
theorem res1 : (dats m 0 c).arrAt 8 cfg0.N = out1 (c0 x0) (c1 x1) (c2 x2) :=
  (dats m 0 c).arrAt_eq_of_covers 8 _ (by decide +kernel) fun t hf y => by
    blk_simp
    rw [after0_8]
    refine Eq.trans ?_ (congrArg (out1 (c0 x0) (c1 x1) (c2 x2)) (emb8 t y)).symm
    exact ((reads m c x0 x1 x2 h0 h1 h2 t).dk_at rfl (y 0) (y 1)).trans
      (out1_at x0 x1 x2 (bt t) (ht t) ⟨384 * (jt t).val + (y 0).val, by have := (y 0).isLt; change _ < 384 at this; omega⟩ (y 1)).symm

include h0 h1 h2 in
theorem res2 : (dats m 0 c).arrAt 9 cfg0.N = out2 (c0 x0) (c1 x1) (c2 x2) :=
  (dats m 0 c).arrAt_eq_of_covers 9 _ (by decide +kernel) fun t hf y => by
    blk_simp
    rw [after0_9]
    refine Eq.trans ?_ (congrArg (out2 (c0 x0) (c1 x1) (c2 x2)) (emb9 t y)).symm
    exact ((reads m c x0 x1 x2 h0 h1 h2 t).dv_at rfl (y 0) (y 1)).trans
      (out2_at x0 x1 x2 (bt t) (ht t) ⟨384 * (jt t).val + (y 0).val, by have := (y 0).isLt; change _ < 384 at this; omega⟩ (y 1)).symm

include h0 h1 h2 in
theorem res3 : (dats m 0 c).arrAt 10 cfg0.N = out3 (c0 x0) (c1 x1) (c2 x2) :=
  (dats m 0 c).arrAt_eq_of_covers 10 _ (by decide +kernel) fun t hf y => by
    blk_simp
    rw [after0_10]
    refine Eq.trans ?_ (congrArg (out3 (c0 x0) (c1 x1) (c2 x2)) (emb10 t y)).symm
    exact ((reads m c x0 x1 x2 h0 h1 h2 t).dck_at rfl (y 2)).trans
      (out3_at x0 x1 x2 (bt t) (ht t) ⟨384 * (jt t).val + (y 2).val, by have := (y 2).isLt; change _ < 384 at this; omega⟩).symm

include h0 h1 h2 in
theorem res4 : (dats m 0 c).arrAt 11 cfg0.N = out4 (c0 x0) (c1 x1) (c2 x2) :=
  (dats m 0 c).arrAt_eq_of_covers 11 _ (by decide +kernel) fun t hf y => by
    have hj : t.val % 11 = 10 := (flush0_11 t).mp hf
    blk_simp
    rw [after0_11]
    refine Eq.trans ?_ (congrArg (out4 (c0 x0) (c1 x1) (c2 x2)) (emb11 t y)).symm
    refine Eq.trans ?_ (out4_at x0 x1 x2 (bt t) (ht t) (y 2)).symm
    show ∑ k ∈ Finset.range (t.val % 11 + 1), (blkAt m c (pt t k)).dcq k (y 2) = _
    rw [hj]
    exact dcq_at (fun k => blkAt m c (pt t k)) (reads_pt m c x0 x1 x2 h0 h1 h2 t) rfl (y 2)

end Cert.KernelIdeal.Blocks
end
-- ==== Proof.lean ====
module

public import proofs.«01_k».proof.Defs
public import proofs.«01_k».proof.Proof.Gen.Kernel
public import proofs.«01_k».proof.Proof.BitsFrame
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.ProductClaims
public import proofs.«01_k».proof.Proof.ProjectionClaims
public import proofs.«01_k».proof.Proof.Finite
public import proofs.«01_k».proof.Proof.RefSteps
public import proofs.«01_k».proof.Proof.Results

@[expose] public section

set_option maxRecDepth 16384

noncomputable section

namespace Cert.Proof

open Idealize.ShloMosaic Idealize.SL.Sem

/-- The reference's run read at its arguments; it has no semaphore. -/
theorem frame_reference : Cert.quiescent_ReferenceIdeal := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

/-- The one rewrite: the mask's name stands for minus infinity. -/
theorem preserves : Cert.preserves_Kernel_KernelIdeal :=
  IdealRules.named_const.statement Cert.KernelIdeal.κ "masked" .f32 0xF149F2CA#32 ⊥ rfl

section Values

open Cert.KernelIdeal Cert.KernelIdeal.Gen Idealize.ShloMosaic.TcCoe

variable (m : (ℓ : Loc Cert.KernelIdeal.nD Cert.KernelIdeal.τ Cert.KernelIdeal.sig) → Buf (Elt Ideal) ℓ)
  (ρ : Dev Cert.KernelIdeal.nD → PrngReg)

/-- An argument as an array of numbers. -/
def num0 (c : Dev Cert.KernelIdeal.nD) (i : (⟨2, ![8448, 3072]⟩ : Shape).Idx) : ℝ :=
  EReal.toReal (m (c, Proc.devRef .tc Cert.KernelIdeal.main_arg0) i)
def num1 (c : Dev Cert.KernelIdeal.nD) (i : (⟨3, ![2, 8, 4224]⟩ : Shape).Idx) : ℝ :=
  EReal.toReal (m (c, Proc.devRef .tc Cert.KernelIdeal.main_arg1) i)
def num2 (c : Dev Cert.KernelIdeal.nD) (i : (⟨3, ![2, 4112, 1024]⟩ : Shape).Idx) : ℝ :=
  EReal.toReal (m (c, Proc.devRef .tc Cert.KernelIdeal.main_arg2) i)

variable (hp : Cert.Pre_KernelIdeal_finite m)

include hp in
theorem arg0_num (c : Dev Cert.KernelIdeal.nD) :
    m (c, Proc.devRef .tc Cert.KernelIdeal.main_arg0) = Cert.ReferenceIdeal.Steps.c0 (num0 m c) :=
  Cert.Fox.numbers0 _ _ _ (hp c).1

include hp in
theorem arg1_num (c : Dev Cert.KernelIdeal.nD) :
    m (c, Proc.devRef .tc Cert.KernelIdeal.main_arg1) = Cert.ReferenceIdeal.Steps.c1 (num1 m c) :=
  Cert.Fox.numbers1 _ _ _ (hp c).2.1

include hp in
theorem arg2_num (c : Dev Cert.KernelIdeal.nD) :
    m (c, Proc.devRef .tc Cert.KernelIdeal.main_arg2) = Cert.ReferenceIdeal.Steps.c2 (num2 m c) :=
  Cert.Fox.numbers2 _ _ _ (hp c).2.2

/-- What the five results hold. -/
def val0 (c : Dev Cert.KernelIdeal.nD) := Cert.ReferenceIdeal.Steps.out0 (Cert.ReferenceIdeal.Steps.c0 (num0 m c)) (Cert.ReferenceIdeal.Steps.c1 (num1 m c)) (Cert.ReferenceIdeal.Steps.c2 (num2 m c))
def val1 (c : Dev Cert.KernelIdeal.nD) := Cert.ReferenceIdeal.Steps.out1 (Cert.ReferenceIdeal.Steps.c0 (num0 m c)) (Cert.ReferenceIdeal.Steps.c1 (num1 m c)) (Cert.ReferenceIdeal.Steps.c2 (num2 m c))
def val2 (c : Dev Cert.KernelIdeal.nD) := Cert.ReferenceIdeal.Steps.out2 (Cert.ReferenceIdeal.Steps.c0 (num0 m c)) (Cert.ReferenceIdeal.Steps.c1 (num1 m c)) (Cert.ReferenceIdeal.Steps.c2 (num2 m c))
def val3 (c : Dev Cert.KernelIdeal.nD) := Cert.ReferenceIdeal.Steps.out3 (Cert.ReferenceIdeal.Steps.c0 (num0 m c)) (Cert.ReferenceIdeal.Steps.c1 (num1 m c)) (Cert.ReferenceIdeal.Steps.c2 (num2 m c))
def val4 (c : Dev Cert.KernelIdeal.nD) := Cert.ReferenceIdeal.Steps.out4 (Cert.ReferenceIdeal.Steps.c0 (num0 m c)) (Cert.ReferenceIdeal.Steps.c1 (num1 m c)) (Cert.ReferenceIdeal.Steps.c2 (num2 m c))

include hp in
theorem res_val0 (c : Dev Cert.KernelIdeal.nD) : (dats m 0 c).arrAt 7 cfg0.N = val0 m c :=
  Cert.KernelIdeal.Blocks.res0 m c (num0 m c) (num1 m c) (num2 m c) (arg0_num m hp c) (arg1_num m hp c) (arg2_num m hp c)

theorem end0 (r : PUnit × MemSt Cert.KernelIdeal.nD Cert.KernelIdeal.τ Cert.KernelIdeal.sig (Elt Ideal)) (h : Pipeline.FramePost cfgs (dats m) 0 (V m) r) (c : Dev Cert.KernelIdeal.nD) :
    r.2.mem ((c.tc : Thread Cert.KernelIdeal.nD Cert.KernelIdeal.τ).loc Cert.KernelIdeal.main_v64_0) = (dats m 0 c).arrAt 7 cfg0.N := (h c).1 7

include hp in
theorem res_val1 (c : Dev Cert.KernelIdeal.nD) : (dats m 0 c).arrAt 8 cfg0.N = val1 m c :=
  Cert.KernelIdeal.Blocks.res1 m c (num0 m c) (num1 m c) (num2 m c) (arg0_num m hp c) (arg1_num m hp c) (arg2_num m hp c)

theorem end1 (r : PUnit × MemSt Cert.KernelIdeal.nD Cert.KernelIdeal.τ Cert.KernelIdeal.sig (Elt Ideal)) (h : Pipeline.FramePost cfgs (dats m) 0 (V m) r) (c : Dev Cert.KernelIdeal.nD) :
    r.2.mem ((c.tc : Thread Cert.KernelIdeal.nD Cert.KernelIdeal.τ).loc Cert.KernelIdeal.main_v64_1) = (dats m 0 c).arrAt 8 cfg0.N := (h c).1 8

include hp in
theorem res_val2 (c : Dev Cert.KernelIdeal.nD) : (dats m 0 c).arrAt 9 cfg0.N = val2 m c :=
  Cert.KernelIdeal.Blocks.res2 m c (num0 m c) (num1 m c) (num2 m c) (arg0_num m hp c) (arg1_num m hp c) (arg2_num m hp c)

theorem end2 (r : PUnit × MemSt Cert.KernelIdeal.nD Cert.KernelIdeal.τ Cert.KernelIdeal.sig (Elt Ideal)) (h : Pipeline.FramePost cfgs (dats m) 0 (V m) r) (c : Dev Cert.KernelIdeal.nD) :
    r.2.mem ((c.tc : Thread Cert.KernelIdeal.nD Cert.KernelIdeal.τ).loc Cert.KernelIdeal.main_v64_2) = (dats m 0 c).arrAt 9 cfg0.N := (h c).1 9

include hp in
theorem res_val3 (c : Dev Cert.KernelIdeal.nD) : (dats m 0 c).arrAt 10 cfg0.N = val3 m c :=
  Cert.KernelIdeal.Blocks.res3 m c (num0 m c) (num1 m c) (num2 m c) (arg0_num m hp c) (arg1_num m hp c) (arg2_num m hp c)

theorem end3 (r : PUnit × MemSt Cert.KernelIdeal.nD Cert.KernelIdeal.τ Cert.KernelIdeal.sig (Elt Ideal)) (h : Pipeline.FramePost cfgs (dats m) 0 (V m) r) (c : Dev Cert.KernelIdeal.nD) :
    r.2.mem ((c.tc : Thread Cert.KernelIdeal.nD Cert.KernelIdeal.τ).loc Cert.KernelIdeal.main_v64_3) = (dats m 0 c).arrAt 10 cfg0.N := (h c).1 10

include hp in
theorem res_val4 (c : Dev Cert.KernelIdeal.nD) : (dats m 0 c).arrAt 11 cfg0.N = val4 m c :=
  Cert.KernelIdeal.Blocks.res4 m c (num0 m c) (num1 m c) (num2 m c) (arg0_num m hp c) (arg1_num m hp c) (arg2_num m hp c)

theorem end4 (r : PUnit × MemSt Cert.KernelIdeal.nD Cert.KernelIdeal.τ Cert.KernelIdeal.sig (Elt Ideal)) (h : Pipeline.FramePost cfgs (dats m) 0 (V m) r) (c : Dev Cert.KernelIdeal.nD) :
    r.2.mem ((c.tc : Thread Cert.KernelIdeal.nD Cert.KernelIdeal.τ).loc Cert.KernelIdeal.main_v64_4) = (dats m 0 c).arrAt 11 cfg0.N := (h c).1 11

include hp in
theorem run_kernel : θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v64_0) = val0 m c
      ∧ r.2.mem ((c.tc : Thread Cert.KernelIdeal.nD Cert.KernelIdeal.τ).loc Cert.KernelIdeal.main_v64_1) = val1 m c
      ∧ r.2.mem ((c.tc : Thread Cert.KernelIdeal.nD Cert.KernelIdeal.τ).loc Cert.KernelIdeal.main_v64_2) = val2 m c
      ∧ r.2.mem ((c.tc : Thread Cert.KernelIdeal.nD Cert.KernelIdeal.τ).loc Cert.KernelIdeal.main_v64_3) = val3 m c
      ∧ r.2.mem ((c.tc : Thread Cert.KernelIdeal.nD Cert.KernelIdeal.τ).loc Cert.KernelIdeal.main_v64_4) = val4 m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) := by
  refine (θ_run Cert.KernelIdeal.defs _ _).mono ?_ (θ_run_and (Cert.KernelIdeal.Gen.run_main_quiescent m ρ) (Cert.KernelIdeal.Gen.frame m ρ))
  exact fun r h c => ⟨(end0 m r h.1.1 c).trans (res_val0 m hp c), (end1 m r h.1.1 c).trans (res_val1 m hp c),
    (end2 m r h.1.1 c).trans (res_val2 m hp c), (end3 m r h.1.1 c).trans (res_val3 m hp c),
    (end4 m r h.1.1 c).trans (res_val4 m hp c), h.2.1 c⟩

end Values

/-- The reference's five results at arguments of numbers are the kernel's. -/
theorem algebraic : Cert.algebraic_KernelIdeal_ReferenceIdeal_pre_finite := fun m ρ m' ρ' hp hag => by
  refine ⟨val0 m, val1 m, val2 m, val3 m, val4 m, run_kernel m ρ hp, ?_⟩
  refine (θ_run Cert.ReferenceIdeal.defs _ _).mono ?_ (Cert.ReferenceIdeal.Value.run (F := Ideal) m' ρ')
  intro r h c
  have e0 : Cert.ReferenceIdeal.Steps.a0 m' c = Cert.ReferenceIdeal.Steps.c0 (num0 m c) := (hag c).1.trans (arg0_num m hp c)
  have e1 : Cert.ReferenceIdeal.Steps.a1 m' c = Cert.ReferenceIdeal.Steps.c1 (num1 m c) := (hag c).2.1.trans (arg1_num m hp c)
  have e2 : Cert.ReferenceIdeal.Steps.a2 m' c = Cert.ReferenceIdeal.Steps.c2 (num2 m c) := (hag c).2.2.trans (arg2_num m hp c)
  have f0 := Cert.ReferenceIdeal.Steps.out0_eq m' c
  have f1 := Cert.ReferenceIdeal.Steps.out1_eq m' c
  have f2 := Cert.ReferenceIdeal.Steps.out2_eq m' c
  have f3 := Cert.ReferenceIdeal.Steps.out3_eq m' c
  have f4 := Cert.ReferenceIdeal.Steps.out4_eq m' c
  rw [e0, e1, e2] at f0 f1 f2 f3 f4
  obtain ⟨g0, g1, g2, g3, g4, g⟩ := h c
  exact ⟨g0.trans f0, g1.trans f1, g2.trans f2, g3.trans f3, g4.trans f4, g⟩

theorem claim : Cert.Claim := ⟨Cert.Kernel.Gen.facts, Cert.KernelIdeal.Gen.facts, Cert.ReferenceIdeal.Gen.facts,
  Cert.FfnInDx.Gen.facts, Cert.FfnInDxIdeal.Gen.facts, Cert.FfnInDxRefIdeal.Gen.facts,
  Cert.FfnInDw.Gen.facts, Cert.FfnInDwIdeal.Gen.facts, Cert.FfnInDwRefIdeal.Gen.facts,
  Cert.InDx.Gen.facts, Cert.InDxIdeal.Gen.facts, Cert.InDxRefIdeal.Gen.facts,
  Cert.InDw.Gen.facts, Cert.InDwIdeal.Gen.facts, Cert.InDwRefIdeal.Gen.facts,
  Cert.FfnOutDw.Gen.facts, Cert.FfnOutDwIdeal.Gen.facts, Cert.FfnOutDwRefIdeal.Gen.facts,
  Cert.FfnOutDx.Gen.facts, Cert.FfnOutDxIdeal.Gen.facts, Cert.FfnOutDxRefIdeal.Gen.facts,
  Cert.FfnIn.Gen.facts, Cert.FfnInIdeal.Gen.facts, Cert.FfnInRefIdeal.Gen.facts,
  Cert.FfnOut.Gen.facts, Cert.FfnOutIdeal.Gen.facts, Cert.FfnOutRefIdeal.Gen.facts,
  Cert.InZ.Gen.facts, Cert.InZIdeal.Gen.facts, Cert.InZRefIdeal.Gen.facts,
  Cert.InXbc.Gen.facts, Cert.InXbcIdeal.Gen.facts, Cert.InXbcRefIdeal.Gen.facts,
  Cert.InQkv.Gen.facts, Cert.InQkvIdeal.Gen.facts, Cert.InQkvRefIdeal.Gen.facts,
  Cert.InU.Gen.facts, Cert.InUIdeal.Gen.facts, Cert.InURefIdeal.Gen.facts,
  Cert.InG.Gen.facts, Cert.InGIdeal.Gen.facts, Cert.InGRefIdeal.Gen.facts,
  Cert.InSm.Gen.facts, Cert.InSmIdeal.Gen.facts, Cert.InSmRefIdeal.Gen.facts,
  Cert.Branch.Gen.facts, Cert.BranchIdeal.Gen.facts, Cert.BranchRefIdeal.Gen.facts,
  Cert.BranchDx.Gen.facts, Cert.BranchDxIdeal.Gen.facts, Cert.BranchDxRefIdeal.Gen.facts,
  Cert.BranchDw.Gen.facts, Cert.BranchDwIdeal.Gen.facts, Cert.BranchDwRefIdeal.Gen.facts,
  Cert.OutProj.Gen.facts, Cert.OutProjIdeal.Gen.facts, Cert.OutProjRefIdeal.Gen.facts,
  Cert.OutProjDx.Gen.facts, Cert.OutProjDxIdeal.Gen.facts, Cert.OutProjDxRefIdeal.Gen.facts,
  Cert.OutProjDw.Gen.facts, Cert.OutProjDwIdeal.Gen.facts, Cert.OutProjDwRefIdeal.Gen.facts,
  Cert.Fox.facts_finite, fun m ρ _ => Cert.Kernel.Gen.frame m ρ, fun m ρ _ => Cert.KernelIdeal.Gen.frame m ρ,
  fun m ρ _ => Cert.KernelIdeal.Gen.frame m ρ, frame_reference, fun m ρ _ => frame_reference m ρ trivial,
  Cert.Products.ffn_in_dx_frame, fun m g _ => Cert.FfnInDxIdeal.Gen.frame m g, fun m g _ => Cert.Products.kept (Cert.FfnInDxRefIdeal.Value.run m g) (by decide),
  Cert.Products.ffn_in_dw_frame, fun m g _ => Cert.FfnInDwIdeal.Gen.frame m g, fun m g _ => Cert.Products.kept (Cert.FfnInDwRefIdeal.Value.run m g) (by decide),
  Cert.Products.in_dx_frame, fun m g _ => Cert.InDxIdeal.Gen.frame m g, fun m g _ => Cert.Products.kept (Cert.InDxRefIdeal.Value.run m g) (by decide),
  Cert.Products.in_dw_frame, fun m g _ => Cert.InDwIdeal.Gen.frame m g, fun m g _ => Cert.Products.kept (Cert.InDwRefIdeal.Value.run m g) (by decide),
  Cert.Products.ffn_out_dw_frame, fun m g _ => Cert.FfnOutDwIdeal.Gen.frame m g, fun m g _ => Cert.Products.kept (Cert.FfnOutDwRefIdeal.Value.run m g) (by decide),
  Cert.Products.ffn_out_dx_frame, fun m g _ => Cert.FfnOutDxIdeal.Gen.frame m g, fun m g _ => Cert.Products.kept (Cert.FfnOutDxRefIdeal.Value.run m g) (by decide),
  Cert.Products.ffn_in_frame, fun m g _ => Cert.FfnInIdeal.Gen.frame m g, fun m g _ => Cert.Products.kept (Cert.FfnInRefIdeal.Value.run m g) (by decide),
  Cert.Products.ffn_out_frame, fun m g _ => Cert.FfnOutIdeal.Gen.frame m g, fun m g _ => Cert.Products.kept (Cert.FfnOutRefIdeal.Value.run m g) (by decide),
  Cert.Products.in_z_frame, fun m g _ => Cert.InZIdeal.Gen.frame m g, fun m g _ => Cert.Products.kept (Cert.InZRefIdeal.Value.run m g) (by decide),
  Cert.Products.in_xbc_frame, fun m g _ => Cert.InXbcIdeal.Gen.frame m g, fun m g _ => Cert.Products.kept (Cert.InXbcRefIdeal.Value.run m g) (by decide),
  Cert.Products.in_qkv_frame, fun m g _ => Cert.InQkvIdeal.Gen.frame m g, fun m g _ => Cert.Products.kept (Cert.InQkvRefIdeal.Value.run m g) (by decide),
  Cert.Products.in_u_frame, fun m g _ => Cert.InUIdeal.Gen.frame m g, fun m g _ => Cert.Products.kept (Cert.InURefIdeal.Value.run m g) (by decide),
  Cert.Products.in_g_frame, fun m g _ => Cert.InGIdeal.Gen.frame m g, fun m g _ => Cert.Products.kept (Cert.InGRefIdeal.Value.run m g) (by decide),
  Cert.Products.in_sm_frame, fun m g _ => Cert.InSmIdeal.Gen.frame m g, fun m g _ => Cert.Products.kept (Cert.InSmRefIdeal.Value.run m g) (by decide),
  Cert.Products.branch_frame, fun m g _ => Cert.BranchIdeal.Gen.frame m g, fun m g _ => Cert.Products.kept (Cert.BranchRefIdeal.Value.run m g) (by decide),
  Cert.Products.branch_dx_frame, fun m g _ => Cert.BranchDxIdeal.Gen.frame m g, fun m g _ => Cert.Products.kept (Cert.BranchDxRefIdeal.Value.run m g) (by decide),
  Cert.Products.branch_dw_frame, fun m g _ => Cert.BranchDwIdeal.Gen.frame m g, fun m g _ => Cert.Products.kept (Cert.BranchDwRefIdeal.Value.run m g) (by decide),
  Cert.Products.out_proj_frame, fun m g _ => Cert.OutProjIdeal.Gen.frame m g, fun m g _ => Cert.Products.kept (Cert.OutProjRefIdeal.Value.run m g) (by decide),
  Cert.Products.out_proj_dx_frame, fun m g _ => Cert.OutProjDxIdeal.Gen.frame m g, fun m g _ => Cert.Products.kept (Cert.OutProjDxRefIdeal.Value.run m g) (by decide),
  Cert.Products.out_proj_dw_frame, fun m g _ => Cert.OutProjDwIdeal.Gen.frame m g, fun m g _ => Cert.Products.kept (Cert.OutProjDwRefIdeal.Value.run m g) (by decide),
  preserves, algebraic,
  trivial, Cert.Products.ffn_in_dx_algebraic,
  trivial, Cert.Products.ffn_in_dw_algebraic,
  trivial, Cert.Products.in_dx_algebraic,
  trivial, Cert.Products.in_dw_algebraic,
  trivial, Cert.Products.ffn_out_dw_algebraic,
  trivial, Cert.Products.ffn_out_dx_algebraic,
  trivial, Cert.Products.ffn_in_algebraic,
  trivial, Cert.Products.ffn_out_algebraic,
  trivial, Cert.Products.in_z_algebraic,
  trivial, Cert.Products.in_xbc_algebraic,
  trivial, Cert.Products.in_qkv_algebraic,
  trivial, Cert.Products.in_u_algebraic,
  trivial, Cert.Products.in_g_algebraic,
  trivial, Cert.Products.in_sm_algebraic,
  trivial, Cert.Products.branch_algebraic,
  trivial, Cert.Products.branch_dx_algebraic,
  trivial, Cert.Products.branch_dw_algebraic,
  trivial, Cert.Products.out_proj_algebraic,
  trivial, Cert.Products.out_proj_dx_algebraic,
  trivial, Cert.Products.out_proj_dw_algebraic⟩

end Cert.Proof

end
